-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  IdealRules.named_const.Statement Cert.Kernel2Ideal.κ "mask" .f32 0xF149F2CA#32 ⊥

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v46)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v46) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "base2" .f32 0x3E38AA3B#32 (((1 / 8) * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v16)) (v1 : (c : Dev Cert.Kernel3Ideal.nD) → Buf (Elt Ideal) ((c.tc : Thread Cert.Kernel3Ideal.nD Cert.Kernel3Ideal.τ).loc Cert.Kernel3Ideal.main_v18)) (v2 : (c : Dev Cert.Kernel3Ideal.nD) → Buf (Elt Ideal) ((c.tc : Thread Cert.Kernel3Ideal.nD Cert.Kernel3Ideal.τ).loc Cert.Kernel3Ideal.main_v20)) (v3 : (c : Dev Cert.Kernel3Ideal.nD) → Buf (Elt Ideal) ((c.tc : Thread Cert.Kernel3Ideal.nD Cert.Kernel3Ideal.τ).loc Cert.Kernel3Ideal.main_v21)) (v4 : (c : Dev Cert.Kernel3Ideal.nD) → Buf (Elt Ideal) ((c.tc : Thread Cert.Kernel3Ideal.nD Cert.Kernel3Ideal.τ).loc Cert.Kernel3Ideal.main_v11_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_v18) = v1 c
          ∧ r.2.mem ((c.tc : Thread Cert.Kernel3Ideal.nD Cert.Kernel3Ideal.τ).loc Cert.Kernel3Ideal.main_v20) = v2 c
          ∧ r.2.mem ((c.tc : Thread Cert.Kernel3Ideal.nD Cert.Kernel3Ideal.τ).loc Cert.Kernel3Ideal.main_v21) = v3 c
          ∧ r.2.mem ((c.tc : Thread Cert.Kernel3Ideal.nD Cert.Kernel3Ideal.τ).loc Cert.Kernel3Ideal.main_v11_6) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v29) = v1 c
          ∧ r.2.mem ((c.tc : Thread Cert.Reference3Ideal.nD Cert.Reference3Ideal.τ).loc Cert.Reference3Ideal.main_v30) = v2 c
          ∧ r.2.mem ((c.tc : Thread Cert.Reference3Ideal.nD Cert.Reference3Ideal.τ).loc Cert.Reference3Ideal.main_v28) = v3 c
          ∧ r.2.mem ((c.tc : Thread Cert.Reference3Ideal.nD Cert.Reference3Ideal.τ).loc Cert.Reference3Ideal.main_v31) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.named_const.Statement Cert.Kernel4Ideal.κ "base2" .f32 0x3E38AA3B#32 (((1 / 8) * (Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7)) (v1 : (c : Dev Cert.Kernel4Ideal.nD) → Buf (Elt Ideal) ((c.tc : Thread Cert.Kernel4Ideal.nD Cert.Kernel4Ideal.τ).loc Cert.Kernel4Ideal.main_v10)) (v2 : (c : Dev Cert.Kernel4Ideal.nD) → Buf (Elt Ideal) ((c.tc : Thread Cert.Kernel4Ideal.nD Cert.Kernel4Ideal.τ).loc Cert.Kernel4Ideal.main_v13)) (v3 : (c : Dev Cert.Kernel4Ideal.nD) → Buf (Elt Ideal) ((c.tc : Thread Cert.Kernel4Ideal.nD Cert.Kernel4Ideal.τ).loc Cert.Kernel4Ideal.main_v3_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_v10) = v1 c
          ∧ r.2.mem ((c.tc : Thread Cert.Kernel4Ideal.nD Cert.Kernel4Ideal.τ).loc Cert.Kernel4Ideal.main_v13) = v2 c
          ∧ r.2.mem ((c.tc : Thread Cert.Kernel4Ideal.nD Cert.Kernel4Ideal.τ).loc Cert.Kernel4Ideal.main_v3_5) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_v27) = v2 c
          ∧ r.2.mem ((c.tc : Thread Cert.Reference4Ideal.nD Cert.Reference4Ideal.τ).loc Cert.Reference4Ideal.main_v28) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v13)) (v1 : (c : Dev Cert.Kernel5Ideal.nD) → Buf (Elt Ideal) ((c.tc : Thread Cert.Kernel5Ideal.nD Cert.Kernel5Ideal.τ).loc Cert.Kernel5Ideal.main_v17)) (v2 : (c : Dev Cert.Kernel5Ideal.nD) → Buf (Elt Ideal) ((c.tc : Thread Cert.Kernel5Ideal.nD Cert.Kernel5Ideal.τ).loc Cert.Kernel5Ideal.main_v21)) (v3 : (c : Dev Cert.Kernel5Ideal.nD) → Buf (Elt Ideal) ((c.tc : Thread Cert.Kernel5Ideal.nD Cert.Kernel5Ideal.τ).loc Cert.Kernel5Ideal.main_v24)) (v4 : (c : Dev Cert.Kernel5Ideal.nD) → Buf (Elt Ideal) ((c.tc : Thread Cert.Kernel5Ideal.nD Cert.Kernel5Ideal.τ).loc Cert.Kernel5Ideal.main_v11_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_v17) = v1 c
          ∧ r.2.mem ((c.tc : Thread Cert.Kernel5Ideal.nD Cert.Kernel5Ideal.τ).loc Cert.Kernel5Ideal.main_v21) = v2 c
          ∧ r.2.mem ((c.tc : Thread Cert.Kernel5Ideal.nD Cert.Kernel5Ideal.τ).loc Cert.Kernel5Ideal.main_v24) = v3 c
          ∧ r.2.mem ((c.tc : Thread Cert.Kernel5Ideal.nD Cert.Kernel5Ideal.τ).loc Cert.Kernel5Ideal.main_v11_7) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_v26) = v1 c
          ∧ r.2.mem ((c.tc : Thread Cert.Reference5Ideal.nD Cert.Reference5Ideal.τ).loc Cert.Reference5Ideal.main_v27) = v2 c
          ∧ r.2.mem ((c.tc : Thread Cert.Reference5Ideal.nD Cert.Reference5Ideal.τ).loc Cert.Reference5Ideal.main_v25) = v3 c
          ∧ r.2.mem ((c.tc : Thread Cert.Reference5Ideal.nD Cert.Reference5Ideal.τ).loc Cert.Reference5Ideal.main_v28) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v9) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v63) = v0 c
          ∧ r.2.mem ((c.tc : Thread Cert.Reference6Ideal.nD Cert.Reference6Ideal.τ).loc Cert.Reference6Ideal.main_v64) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v39_0)) (v1 : (c : Dev Cert.Kernel7Ideal.nD) → Buf (Elt Ideal) ((c.tc : Thread Cert.Kernel7Ideal.nD Cert.Kernel7Ideal.τ).loc Cert.Kernel7Ideal.main_v41)) (v2 : (c : Dev Cert.Kernel7Ideal.nD) → Buf (Elt Ideal) ((c.tc : Thread Cert.Kernel7Ideal.nD Cert.Kernel7Ideal.τ).loc Cert.Kernel7Ideal.main_v43)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v39_0) = v0 c
          ∧ r.2.mem ((c.tc : Thread Cert.Kernel7Ideal.nD Cert.Kernel7Ideal.τ).loc Cert.Kernel7Ideal.main_v41) = v1 c
          ∧ r.2.mem ((c.tc : Thread Cert.Kernel7Ideal.nD Cert.Kernel7Ideal.τ).loc Cert.Kernel7Ideal.main_v43) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v63) = v0 c
          ∧ r.2.mem ((c.tc : Thread Cert.Reference7Ideal.nD Cert.Reference7Ideal.τ).loc Cert.Reference7Ideal.main_v64) = v1 c
          ∧ r.2.mem ((c.tc : Thread Cert.Reference7Ideal.nD Cert.Reference7Ideal.τ).loc Cert.Reference7Ideal.main_v65) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S2x8192x16x64 : Shape := ⟨4, ![2, 8192, 16, 64]⟩
abbrev S2x8192x4x64 : Shape := ⟨4, ![2, 8192, 4, 64]⟩
abbrev S2x8192x16 : Shape := ⟨3, ![2, 8192, 16]⟩
abbrev S_ : Shape := ⟨0, ![]⟩

class Facts : Prop where
  bcast_S_S2x8192x16x64 : S_.BroadcastsInDim S2x8192x16x64 (![] : Fin 0 → Fin S2x8192x16x64.rank)
  reducesTo_S2x8192x16x64_S_d0_1_2_3 : S2x8192x16x64.ReducesTo [0, 1, 2, 3] S_
  h_S_ : 0 < S_.numel
  bcast_S_S2x8192x4x64 : S_.BroadcastsInDim S2x8192x4x64 (![] : Fin 0 → Fin S2x8192x4x64.rank)
  reducesTo_S2x8192x4x64_S_d0_1_2_3 : S2x8192x4x64.ReducesTo [0, 1, 2, 3] S_
  bcast_S_S2x8192x16 : S_.BroadcastsInDim S2x8192x16 (![] : Fin 0 → Fin S2x8192x16.rank)
  reducesTo_S2x8192x16_S_d0_1_2 : S2x8192x16.ReducesTo [0, 1, 2] S_

variable [Facts]

def fn {F : FTy → Type} [FloatOps F] (main_arg0 : FVec F S2x8192x16x64 .f32) (main_arg1 : FVec F S2x8192x4x64 .f32) (main_arg2 : FVec F S2x8192x4x64 .f32) (main_arg3 : FVec F S2x8192x16 .f32) : IVec S_ 1 :=
  let main_v0 : FVec F S2x8192x16x64 .f32 := Host.absf main_arg0
  let main_cst : FVec F S_ .f32 := constant S_ .f32 0x7F800000#32
  let main_v1 : FVec F S2x8192x16x64 .f32 := broadcastInDim S2x8192x16x64 ![] bcast_S_S2x8192x16x64 main_cst
  let main_v2 : IVec S2x8192x16x64 1 := cmpf .olt main_v0 main_v1
  let main_c : IVec S_ 1 := constantI S_ 1 1#1
  let main_v3 : IVec S_ 1 := (fun x v => Host.reduce IntOp.andi x v reducesTo_S2x8192x16x64_S_d0_1_2_3 h_S_) main_v2 main_c
  let main_v4 : FVec F S2x8192x4x64 .f32 := Host.absf main_arg1
  let main_cst_0 : FVec F S_ .f32 := constant S_ .f32 0x7F800000#32
  let main_v5 : FVec F S2x8192x4x64 .f32 := broadcastInDim S2x8192x4x64 ![] bcast_S_S2x8192x4x64 main_cst_0
  let main_v6 : IVec S2x8192x4x64 1 := cmpf .olt main_v4 main_v5
  let main_c_1 : IVec S_ 1 := constantI S_ 1 1#1
  let main_v7 : IVec S_ 1 := (fun x v => Host.reduce IntOp.andi x v reducesTo_S2x8192x4x64_S_d0_1_2_3 h_S_) main_v6 main_c_1
  let main_v8 : IVec S_ 1 := andi main_v3 main_v7
  let main_v9 : FVec F S2x8192x16 .f32 := Host.absf main_arg3
  let main_cst_2 : FVec F S_ .f32 := constant S_ .f32 0x7F800000#32
  let main_v10 : FVec F S2x8192x16 .f32 := broadcastInDim S2x8192x16 ![] bcast_S_S2x8192x16 main_cst_2
  let main_v11 : IVec S2x8192x16 1 := cmpf .olt main_v9 main_v10
  let main_c_3 : IVec S_ 1 := constantI S_ 1 1#1
  let main_v12 : IVec S_ 1 := (fun x v => Host.reduce IntOp.andi x v reducesTo_S2x8192x16_S_d0_1_2 h_S_) main_v11 main_c_3
  let main_v13 : IVec S_ 1 := andi main_v8 main_v12
  main_v13
-- ==== Kernel.lean ====
abbrev S2x8192x1024 : Shape := ⟨3, ![2, 8192, 1024]⟩
abbrev S1024x1024 : Shape := ⟨2, ![1024, 1024]⟩
abbrev S1024 : Shape := ⟨1, ![1024]⟩
abbrev S1024x2048 : Shape := ⟨2, ![1024, 2048]⟩
abbrev S4x256x256 : Shape := ⟨3, ![4, 256, 256]⟩
abbrev S16384x1024 : Shape := ⟨2, ![16384, 1024]⟩
abbrev S1x1024 : Shape := ⟨2, ![1, 1024]⟩
abbrev S2x16x1024 : Shape := ⟨3, ![2, 16, 1024]⟩
abbrev S512x1024 : Shape := ⟨2, ![512, 1024]⟩
abbrev S1x16x1024 : Shape := ⟨3, ![1, 16, 1024]⟩
abbrev S536x1024 : Shape := ⟨2, ![536, 1024]⟩
abbrev S536x768 : Shape := ⟨2, ![536, 768]⟩
abbrev S536x512 : Shape := ⟨2, ![536, 512]⟩
abbrev S536x256 : Shape := ⟨2, ![536, 256]⟩
abbrev S24x1024 : Shape := ⟨2, ![24, 1024]⟩
abbrev S24x768 : Shape := ⟨2, ![24, 768]⟩
abbrev S24x512 : Shape := ⟨2, ![24, 512]⟩
abbrev S24x256 : Shape := ⟨2, ![24, 256]⟩
abbrev S512 : Shape := ⟨1, ![512]⟩
abbrev S512x1 : Shape := ⟨2, ![512, 1]⟩
abbrev S528x768 : Shape := ⟨2, ![528, 768]⟩
abbrev S512x256 : Shape := ⟨2, ![512, 256]⟩
abbrev S528x512 : Shape := ⟨2, ![528, 512]⟩
abbrev S528x256 : Shape := ⟨2, ![528, 256]⟩
abbrev S1x256x256 : Shape := ⟨3, ![1, 256, 256]⟩
abbrev S256x256 : Shape := ⟨2, ![256, 256]⟩
abbrev S16x1024 : Shape := ⟨2, ![16, 1024]⟩

abbrev nBuf : Space → Nat
  | .hbm => 22
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S4x256x256, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S16384x1024, .f32⟩
  | .hbm, ⟨11, _⟩ => ⟨S16384x1024, .f32⟩
  | .hbm, ⟨12, _⟩ => ⟨S1024x1024, .bf16⟩
  | .hbm, ⟨13, _⟩ => ⟨S16384x1024, .f32⟩
  | .hbm, ⟨14, _⟩ => ⟨S1x1024, .f32⟩
  | .hbm, ⟨15, _⟩ => ⟨S1024x2048, .bf16⟩
  | .hbm, ⟨16, _⟩ => ⟨S4x256x256, .bf16⟩
  | .hbm, ⟨17, _⟩ => ⟨S1x1024, .f32⟩
  | .hbm, ⟨18, _⟩ => ⟨S1024x1024, .bf16⟩
  | .hbm, ⟨19, _⟩ => ⟨S1x1024, .f32⟩
  | .hbm, ⟨20, _⟩ => ⟨S16384x1024, .f32⟩
  | .hbm, ⟨21, _⟩ => ⟨S2x16x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x2048, .bf16⟩
  | .local _ .vmem, ⟨9, _⟩ => ⟨S4x256x256, .bf16⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1x16x1024, .f32⟩
  | .local _ .vmem, ⟨16, _⟩ => ⟨S1x16x1024, .f32⟩
  | .local _ .vmem, ⟨17, _⟩ => ⟨S536x1024, .f32⟩
  | .local _ .vmem, ⟨18, _⟩ => ⟨S536x768, .f32⟩
  | .local _ .vmem, ⟨19, _⟩ => ⟨S536x512, .f32⟩
  | .local _ .vmem, ⟨20, _⟩ => ⟨S536x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v167 : BitVec 1 := Scalar.cmpi .eq arg1 c15_i32
  let v168 : BitVec 32 := Scalar.extui v167
  let c0_i32_78 : BitVec 32 := 0#32
  let v169 : BitVec 1 := Scalar.cmpi .ne v168 c0_i32_78
  v169

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S2x8192x1024 : Shape := ⟨3, ![2, 8192, 1024]⟩
abbrev S1024x1024 : Shape := ⟨2, ![1024, 1024]⟩
abbrev S1024 : Shape := ⟨1, ![1024]⟩
abbrev S1024x2048 : Shape := ⟨2, ![1024, 2048]⟩
abbrev S4x256x256 : Shape := ⟨3, ![4, 256, 256]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2048 : Shape := ⟨3, ![2, 8192, 2048]⟩
abbrev S8192 : Shape := ⟨1, ![8192]⟩
abbrev S1x8192x1 : Shape := ⟨3, ![1, 8192, 1]⟩
abbrev S2x8192x256 : Shape := ⟨3, ![2, 8192, 256]⟩
abbrev S2x8192x4x256 : Shape := ⟨4, ![2, 8192, 4, 256]⟩
abbrev S4x256x2x8192 : Shape := ⟨4, ![4, 256, 2, 8192]⟩
abbrev S16384x1024 : Shape := ⟨2, ![16384, 1024]⟩
abbrev S2x16x1024 : Shape := ⟨3, ![2, 16, 1024]⟩

abbrev nBuf : Space → Nat
  | .hbm => 137
  | .vmem => 0
  | .smem => 0
  | _ => 0

abbrev hbmTy0_0 (i : Nat) : BufTy := match i % 128 with
  | 0 => ⟨S2x8192x1024, .f32⟩
  | 1 => ⟨S2x8192x1024, .f32⟩
  | 2 => ⟨S2x8192x1024, .f32⟩
  | 3 => ⟨S1024x1024, .f32⟩
  | 4 => ⟨S1024, .f32⟩
  | 5 => ⟨S1024x2048, .f32⟩
  | 6 => ⟨S4x256x256, .f32⟩
  | 7 => ⟨S1024, .f32⟩
  | 8 => ⟨S1024x1024, .f32⟩
  | 9 => ⟨S1024, .f32⟩
  | 10 => ⟨S2x8192x1024, .f32⟩
  | 11 => ⟨S2x8192x1024, .f32⟩
  | 12 => ⟨S_, .f32⟩
  | 13 => ⟨S2x8192x1024, .f32⟩
  | 14 => ⟨S2x8192x1024, .f32⟩
  | 15 => ⟨S_, .f32⟩
  | 16 => ⟨S2x8192x1024, .f32⟩
  | 17 => ⟨S2x8192x1024, .f32⟩
  | 18 => ⟨S2x8192x1024, .f32⟩
  | 19 => ⟨S2x8192x1024, .f32⟩
  | 20 => ⟨S2x8192x1024, .f32⟩
  | 21 => ⟨S2x8192x1024, .f32⟩
  | 22 => ⟨S2x8192x1024, .f32⟩
  | 23 => ⟨S_, .f32⟩
  | 24 => ⟨S2x8192, .f32⟩
  | 25 => ⟨S2x8192x1, .f32⟩
  | 26 => ⟨S_, .f32⟩
  | 27 => ⟨S2x8192x1, .f32⟩
  | 28 => ⟨S2x8192x1, .f32⟩
  | 29 => ⟨S_, .f32⟩
  | 30 => ⟨S2x8192x1, .f32⟩
  | 31 => ⟨S2x8192x1, .f32⟩
  | 32 => ⟨S2x8192x1, .f32⟩
  | 33 => ⟨S2x8192x1024, .f32⟩
  | 34 => ⟨S2x8192x1024, .f32⟩
  | 35 => ⟨S1x1x1024, .f32⟩
  | 36 => ⟨S2x8192x1024, .f32⟩
  | 37 => ⟨S2x8192x1024, .f32⟩
  | 38 => ⟨S2x8192x2048, .f32⟩
  | 39 => ⟨S2x8192x1024, .f32⟩
  | 40 => ⟨S2x8192x1024, .f32⟩
  | 41 => ⟨S8192, .i32⟩
  | 42 => ⟨S_, .i32⟩
  | 43 => ⟨S8192, .i32⟩
  | 44 => ⟨S8192, .i32⟩
  | 45 => ⟨S_, .i32⟩
  | 46 => ⟨S8192, .i32⟩
  | 47 => ⟨S8192, .i32⟩
  | 48 => ⟨S8192, .f32⟩
  | 49 => ⟨S1x8192x1, .f32⟩
  | 50 => ⟨S2x8192x256, .f32⟩
  | 51 => ⟨S_, .f32⟩
  | 52 => ⟨S_, .f32⟩
  | 53 => ⟨S2x8192x256, .f32⟩
  | 54 => ⟨S2x8192x256, .f32⟩
  | 55 => ⟨S2x8192x256, .f32⟩
  | 56 => ⟨S_, .i32⟩
  | 57 => ⟨S8192, .i32⟩
  | 58 => ⟨S8192, .i32⟩
  | 59 => ⟨S_, .i32⟩
  | 60 => ⟨S8192, .i32⟩
  | 61 => ⟨S8192, .i32⟩
  | 62 => ⟨S8192, .f32⟩
  | 63 => ⟨S1x8192x1, .f32⟩
  | 64 => ⟨S2x8192x256, .f32⟩
  | 65 => ⟨S_, .f32⟩
  | 66 => ⟨S_, .f32⟩
  | 67 => ⟨S2x8192x256, .f32⟩
  | 68 => ⟨S2x8192x256, .f32⟩
  | 69 => ⟨S2x8192x256, .f32⟩
  | 70 => ⟨S_, .i32⟩
  | 71 => ⟨S8192, .i32⟩
  | 72 => ⟨S8192, .i32⟩
  | 73 => ⟨S_, .i32⟩
  | 74 => ⟨S8192, .i32⟩
  | 75 => ⟨S8192, .i32⟩
  | 76 => ⟨S8192, .f32⟩
  | 77 => ⟨S1x8192x1, .f32⟩
  | 78 => ⟨S2x8192x256, .f32⟩
  | 79 => ⟨S_, .f32⟩
  | 80 => ⟨S_, .f32⟩
  | 81 => ⟨S2x8192x256, .f32⟩
  | 82 => ⟨S2x8192x256, .f32⟩
  | 83 => ⟨S2x8192x256, .f32⟩
  | 84 => ⟨S_, .i32⟩
  | 85 => ⟨S8192, .i32⟩
  | 86 => ⟨S8192, .i32⟩
  | 87 => ⟨S_, .i32⟩
  | 88 => ⟨S8192, .i32⟩
  | 89 => ⟨S8192, .i32⟩
  | 90 => ⟨S8192, .f32⟩
  | 91 => ⟨S1x8192x1, .f32⟩
  | 92 => ⟨S2x8192x256, .f32⟩
  | 93 => ⟨S_, .f32⟩
  | 94 => ⟨S_, .f32⟩
  | 95 => ⟨S2x8192x256, .f32⟩
  | 96 => ⟨S2x8192x256, .f32⟩
  | 97 => ⟨S2x8192x256, .f32⟩
  | 98 => ⟨S2x8192x1024, .f32⟩
  | 99 => ⟨S2x8192x1024, .f32⟩
  | 100 => ⟨S2x8192x4x256, .f32⟩
  | 101 => ⟨S4x256x2x8192, .f32⟩
  | 102 => ⟨S2x8192x4x256, .f32⟩
  | 103 => ⟨S2x8192x1024, .f32⟩
  | 104 => ⟨S1x1x1024, .f32⟩
  | 105 => ⟨S2x8192x1024, .f32⟩
  | 106 => ⟨S2x8192x1024, .f32⟩
  | 107 => ⟨S2x8192x1024, .f32⟩
  | 108 => ⟨S2x8192x1024, .f32⟩
  | 109 => ⟨S_, .f32⟩
  | 110 => ⟨S2x8192x1024, .f32⟩
  | 111 => ⟨S2x8192x1024, .f32⟩
  | 112 => ⟨S_, .f32⟩
  | 113 => ⟨S2x8192x1024, .f32⟩
  | 114 => ⟨S2x8192x1024, .f32⟩
  | 115 => ⟨S2x8192x1024, .f32⟩
  | 116 => ⟨S2x8192x1024, .f32⟩
  | 117 => ⟨S2x8192x1024, .f32⟩
  | 118 => ⟨S2x8192x1024, .f32⟩
  | 119 => ⟨S2x8192x1024, .f32⟩
  | 120 => ⟨S_, .f32⟩
  | 121 => ⟨S2x8192, .f32⟩
  | 122 => ⟨S2x8192x1, .f32⟩
  | 123 => ⟨S_, .f32⟩
  | 124 => ⟨S2x8192x1, .f32⟩
  | 125 => ⟨S2x8192x1, .f32⟩
  | 126 => ⟨S_, .f32⟩
  | 127 => ⟨S2x8192x1, .f32⟩
  | _ => ⟨S2x8192x1024, .f32⟩

abbrev hbmTy0_1 (i : Nat) : BufTy := match i % 128 with
  | 0 => ⟨S2x8192x1, .f32⟩
  | 1 => ⟨S2x8192x1, .f32⟩
  | 2 => ⟨S2x8192x1024, .f32⟩
  | 3 => ⟨S2x8192x1024, .f32⟩
  | 4 => ⟨S1x1x1024, .f32⟩
  | 5 => ⟨S2x8192x1024, .f32⟩
  | 6 => ⟨S2x8192x1024, .f32⟩
  | 7 => ⟨S16384x1024, .f32⟩
  | 8 => ⟨S2x16x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c : Ref sig .tc := ⟨.hbm, 42, rfl⟩
abbrev main_v21 : Ref sig .tc := ⟨.hbm, 43, rfl⟩
abbrev main_v22 : Ref sig .tc := ⟨.hbm, 44, rfl⟩
abbrev main_c_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_4 : Ref sig .tc := ⟨.hbm, 56, rfl⟩
abbrev main_v32 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_7 : Ref sig .tc := ⟨.hbm, 70, rfl⟩
abbrev main_v43 : Ref sig .tc := ⟨.hbm, 71, rfl⟩
abbrev main_v44 : Ref sig .tc := ⟨.hbm, 72, rfl⟩
abbrev main_c_8 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_10 : Ref sig .tc := ⟨.hbm, 84, rfl⟩
abbrev main_v54 : Ref sig .tc := ⟨.hbm, 85, rfl⟩
abbrev main_v55 : Ref sig .tc := ⟨.hbm, 86, rfl⟩
abbrev main_c_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_call1_v0 : Ref sig .tc := ⟨.hbm, 107, rfl⟩
abbrev main_call1_v1 : Ref sig .tc := ⟨.hbm, 108, rfl⟩
abbrev main_call1_cst : Ref sig .tc := ⟨.hbm, 109, rfl⟩
abbrev main_call1_v2 : Ref sig .tc := ⟨.hbm, 110, rfl⟩
abbrev main_call1_v3 : Ref sig .tc := ⟨.hbm, 111, rfl⟩
abbrev main_call1_cst_0 : Ref sig .tc := ⟨.hbm, 112, rfl⟩
abbrev main_call1_v4 : Ref sig .tc := ⟨.hbm, 113, rfl⟩
abbrev main_call1_v5 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_13 : Ref sig .tc := ⟨.hbm, 120, rfl⟩
abbrev main_v79 : Ref sig .tc := ⟨.hbm, 121, rfl⟩
abbrev main_v80 : Ref sig .tc := ⟨.hbm, 122, rfl⟩
abbrev main_cst_14 : Ref sig .tc := ⟨.hbm, 123, rfl⟩
abbrev main_v81 : Ref sig .tc := ⟨.hbm, 124, rfl⟩
abbrev main_v82 : Ref sig .tc := ⟨.hbm, 125, rfl⟩
abbrev main_cst_15 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩

abbrev nD : Nat := 1
abbrev τ : Topo := Topo.v7x

variable {F : FTy → Type} [FloatOps F]
-- ==== Kernel2.lean ====
abbrev S2x8192x16x64 : Shape := ⟨4, ![2, 8192, 16, 64]⟩
abbrev S2x8192x4x64 : Shape := ⟨4, ![2, 8192, 4, 64]⟩
abbrev S2x8192x16 : Shape := ⟨3, ![2, 8192, 16]⟩
abbrev S_ : Shape := ⟨0, ![]⟩
abbrev S2x16x512x4x4x64 : Shape := ⟨6, ![2, 16, 512, 4, 4, 64]⟩
abbrev S2x4x16x64x4x512 : Shape := ⟨6, ![2, 4, 16, 64, 4, 512]⟩
abbrev S2x4x16x64x2048 : Shape := ⟨5, ![2, 4, 16, 64, 2048]⟩
abbrev S64x2048 : Shape := ⟨2, ![64, 2048]⟩
abbrev S2x4x16x128x2048 : Shape := ⟨5, ![2, 4, 16, 128, 2048]⟩
abbrev S2x8192x4x4 : Shape := ⟨4, ![2, 8192, 4, 4]⟩
abbrev S2x8192x4x52 : Shape := ⟨4, ![2, 8192, 4, 52]⟩
abbrev S2x8192x4x128 : Shape := ⟨4, ![2, 8192, 4, 128]⟩
abbrev S16384x4x128 : Shape := ⟨3, ![16384, 4, 128]⟩
abbrev S4x16384x128 : Shape := ⟨3, ![4, 16384, 128]⟩
abbrev S2x16x512x4x64 : Shape := ⟨5, ![2, 16, 512, 4, 64]⟩
abbrev S2x4x16x64x512 : Shape := ⟨5, ![2, 4, 16, 64, 512]⟩
abbrev S2x4x16x1x512 : Shape := ⟨5, ![2, 4, 16, 1, 512]⟩
abbrev S2x4x16x15x512 : Shape := ⟨5, ![2, 4, 16, 15, 512]⟩
abbrev S2x4x16x80x512 : Shape := ⟨5, ![2, 4, 16, 80, 512]⟩
abbrev S16384x1024 : Shape := ⟨2, ![16384, 1024]⟩
abbrev S1x1x2x128x2048 : Shape := ⟨5, ![1, 1, 2, 128, 2048]⟩
abbrev S1x8192x128 : Shape := ⟨3, ![1, 8192, 128]⟩
abbrev S1x1x16x80x512 : Shape := ⟨5, ![1, 1, 16, 80, 512]⟩
abbrev S1024x256 : Shape := ⟨2, ![1024, 256]⟩
abbrev S1x2048 : Shape := ⟨2, ![1, 2048]⟩
abbrev S80x2048 : Shape := ⟨2, ![80, 2048]⟩
abbrev S512x2048 : Shape := ⟨2, ![512, 2048]⟩
abbrev S1x512x128 : Shape := ⟨3, ![1, 512, 128]⟩
abbrev S512x128 : Shape := ⟨2, ![512, 128]⟩
abbrev S1x1x1x128x2048 : Shape := ⟨5, ![1, 1, 1, 128, 2048]⟩
abbrev S128x2048 : Shape := ⟨2, ![128, 2048]⟩
abbrev S2048 : Shape := ⟨1, ![2048]⟩
abbrev S1x1x1x80x512 : Shape := ⟨5, ![1, 1, 1, 80, 512]⟩
abbrev S80x512 : Shape := ⟨2, ![80, 512]⟩
abbrev S64x512 : Shape := ⟨2, ![64, 512]⟩
abbrev S256x512 : Shape := ⟨2, ![256, 512]⟩
abbrev S512x256 : Shape := ⟨2, ![512, 256]⟩

abbrev nBuf : Space → Nat
  | .hbm => 82
  | .vmem => 14
  | .smem => 0
  | _ => 0

abbrev bufTy : (tb : Table) → Fin (tcTables nBuf tb) → BufTy
  | .hbm, ⟨0, _⟩ => ⟨S2x8192x16x64, .f32⟩
  | .hbm, ⟨1, _⟩ => ⟨S2x8192x4x64, .f32⟩
  | .hbm, ⟨2, _⟩ => ⟨S2x8192x4x64, .f32⟩
  | .hbm, ⟨3, _⟩ => ⟨S2x8192x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x8192x16x64, .f32⟩
  | .hbm, ⟨11, _⟩ => ⟨S2x8192x16x64, .f32⟩
  | .hbm, ⟨12, _⟩ => ⟨S2x8192x16x64, .bf16⟩
  | .hbm, ⟨13, _⟩ => ⟨S2x16x512x4x4x64, .bf16⟩
  | .hbm, ⟨14, _⟩ => ⟨S2x4x16x64x4x512, .bf16⟩
  | .hbm, ⟨15, _⟩ => ⟨S2x4x16x64x2048, .bf16⟩
  | .hbm, ⟨16, _⟩ => ⟨S64x2048, .i32⟩
  | .hbm, ⟨17, _⟩ => ⟨S64x2048, .i32⟩
  | .hbm, ⟨18, _⟩ => ⟨S_, .i32⟩
  | .hbm, ⟨19, _⟩ => ⟨S64x2048, .i32⟩
  | .hbm, ⟨20, _⟩ => ⟨S64x2048, .i1⟩
  | .hbm, ⟨21, _⟩ => ⟨S_, .i32⟩
  | .hbm, ⟨22, _⟩ => ⟨S64x2048, .i32⟩
  | .hbm, ⟨23, _⟩ => ⟨S64x2048, .i32⟩
  | .hbm, ⟨24, _⟩ => ⟨S_, .i32⟩
  | .hbm, ⟨25, _⟩ => ⟨S_, .i32⟩
  | .hbm, ⟨26, _⟩ => ⟨S64x2048, .i32⟩
  | .hbm, ⟨27, _⟩ => ⟨S64x2048, .i32⟩
  | .hbm, ⟨28, _⟩ => ⟨S64x2048, .i32⟩
  | .hbm, ⟨29, _⟩ => ⟨S_, .i32⟩
  | .hbm, ⟨30, _⟩ => ⟨S64x2048, .i32⟩
  | .hbm, ⟨31, _⟩ => ⟨S64x2048, .i1⟩
  | .hbm, ⟨32, _⟩ => ⟨S64x2048, .i32⟩
  | .hbm, ⟨33, _⟩ => ⟨S64x2048, .i32⟩
  | .hbm, ⟨34, _⟩ => ⟨S_, .i32⟩
  | .hbm, ⟨35, _⟩ => ⟨S64x2048, .i32⟩
  | .hbm, ⟨36, _⟩ => ⟨S64x2048, .i1⟩
  | .hbm, ⟨37, _⟩ => ⟨S64x2048, .i1⟩
  | .hbm, ⟨38, _⟩ => ⟨S_, .i32⟩
  | .hbm, ⟨39, _⟩ => ⟨S64x2048, .i32⟩
  | .hbm, ⟨40, _⟩ => ⟨S64x2048, .i32⟩
  | .hbm, ⟨41, _⟩ => ⟨S64x2048, .i32⟩
  | .hbm, ⟨42, _⟩ => ⟨S64x2048, .i1⟩
  | .hbm, ⟨43, _⟩ => ⟨S64x2048, .i1⟩
  | .hbm, ⟨44, _⟩ => ⟨S_, .f32⟩
  | .hbm, ⟨45, _⟩ => ⟨S_, .f32⟩
  | .hbm, ⟨46, _⟩ => ⟨S64x2048, .f32⟩
  | .hbm, ⟨47, _⟩ => ⟨S64x2048, .f32⟩
  | .hbm, ⟨48, _⟩ => ⟨S64x2048, .f32⟩
  | .hbm, ⟨49, _⟩ => ⟨S64x2048, .bf16⟩
  | .hbm, ⟨50, _⟩ => ⟨S2x4x16x64x2048, .bf16⟩
  | .hbm, ⟨51, _⟩ => ⟨S2x4x16x128x2048, .bf16⟩
  | .hbm, ⟨52, _⟩ => ⟨S_, .f32⟩
  | .hbm, ⟨53, _⟩ => ⟨S_, .f32⟩
  | .hbm, ⟨54, _⟩ => ⟨S2x8192x16, .f32⟩
  | .hbm, ⟨55, _⟩ => ⟨S2x8192x16, .f32⟩
  | .hbm, ⟨56, _⟩ => ⟨S2x8192x16, .f32⟩
  | .hbm, ⟨57, _⟩ => ⟨S2x8192x16, .bf16⟩
  | .hbm, ⟨58, _⟩ => ⟨S2x8192x16, .f32⟩
  | .hbm, ⟨59, _⟩ => ⟨S2x8192x16, .f32⟩
  | .hbm, ⟨60, _⟩ => ⟨S2x8192x16, .bf16⟩
  | .hbm, ⟨61, _⟩ => ⟨S2x8192x16, .f32⟩
  | .hbm, ⟨62, _⟩ => ⟨S2x8192x16, .f32⟩
  | .hbm, ⟨63, _⟩ => ⟨S2x8192x16, .bf16⟩
  | .hbm, ⟨64, _⟩ => ⟨S2x8192x4x4, .bf16⟩
  | .hbm, ⟨65, _⟩ => ⟨S2x8192x4x4, .bf16⟩
  | .hbm, ⟨66, _⟩ => ⟨S2x8192x4x4, .bf16⟩
  | .hbm, ⟨67, _⟩ => ⟨S_, .bf16⟩
  | .hbm, ⟨68, _⟩ => ⟨S2x8192x4x52, .bf16⟩
  | .hbm, ⟨69, _⟩ => ⟨S2x8192x4x64, .bf16⟩
  | .hbm, ⟨70, _⟩ => ⟨S2x8192x4x128, .bf16⟩
  | .hbm, ⟨71, _⟩ => ⟨S16384x4x128, .bf16⟩
  | .hbm, ⟨72, _⟩ => ⟨S4x16384x128, .bf16⟩
  | .hbm, ⟨73, _⟩ => ⟨S2x8192x4x64, .bf16⟩
  | .hbm, ⟨74, _⟩ => ⟨S2x16x512x4x64, .bf16⟩
  | .hbm, ⟨75, _⟩ => ⟨S2x4x16x64x512, .bf16⟩
  | .hbm, ⟨76, _⟩ => ⟨S_, .bf16⟩
  | .hbm, ⟨77, _⟩ => ⟨S2x4x16x1x512, .bf16⟩
  | .hbm, ⟨78, _⟩ => ⟨S_, .bf16⟩
  | .hbm, ⟨79, _⟩ => ⟨S2x4x16x15x512, .bf16⟩
  | .hbm, ⟨80, _⟩ => ⟨S2x4x16x80x512, .bf16⟩
  | .hbm, ⟨81, _⟩ => ⟨S16384x1024, .f32⟩
  | .local _ .vmem, ⟨0, _⟩ => ⟨S1x1x2x128x2048, .bf16⟩
  | .local _ .vmem, ⟨1, _⟩ => ⟨S1x1x2x128x2048, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x1x16x80x512, .bf16⟩
  | .local _ .vmem, ⟨5, _⟩ => ⟨S1x1x16x80x512, .bf16⟩
  | .local _ .vmem, ⟨6, _⟩ => ⟨S1024x256, .f32⟩
  | .local _ .vmem, ⟨7, _⟩ => ⟨S1024x256, .f32⟩
  | .local _ .vmem, ⟨8, _⟩ => ⟨S1x2048, .f32⟩
  | .local _ .vmem, ⟨9, _⟩ => ⟨S80x2048, .f32⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S1x2048, .f32⟩
  | _, _ => ⟨S2x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_4 : Ref sig .tc := ⟨.hbm, 44, rfl⟩
abbrev main_cst_5 : Ref sig .tc := ⟨.hbm, 45, rfl⟩
abbrev main_call1_v0 : Ref sig .tc := ⟨.hbm, 46, rfl⟩
abbrev main_call1_v1 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_call2_call0_cst : Ref sig .tc := ⟨.hbm, 52, rfl⟩
abbrev main_call2_call0_v0 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_6 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_7 : Ref sig .tc := ⟨.hbm, 76, rfl⟩
abbrev main_v43 : Ref sig .tc := ⟨.hbm, 77, rfl⟩
abbrev main_cst_8 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def k0_mult1 : BitVec 32 :=
  let c0_i32 : BitVec 32 := 0#32
  c0_i32
@[reducible] def k0_t1_loop (i : grid0.Coords) : Scf.Loop 32 :=
  let c0_i32_18 : BitVec 32 := 0#32
  let arg2 : BitVec 32 := BitVec.ofNat 32 (i 2).val
  let v23 : BitVec 32 := Scalar.subi arg2 c0_i32_18
  let c1_i32 : BitVec 32 := 1#32
  let v25 : BitVec 32 := Scalar.divsi v23 c1_i32
  let v26 : BitVec 32 := Scalar.muli v25 c1_i32
  let v27 : BitVec 32 := Scalar.addi c0_i32_18 v26
  let c1_i32_19 : BitVec 32 := 1#32
  ⟨c0_i32_18, v27, c1_i32_19⟩
def k0_mult2 (i : grid0.Coords) (k0_t1 : Fin (k0_t1_loop i).trips) : BitVec 32 :=
  let c2_i32_125 : BitVec 32 := 2#32
  let c0_i32_18 : BitVec 32 := 0#32
  let c1_i32_19 : BitVec 32 := 1#32
  let arg13 : BitVec 32 := Scf.iv c0_i32_18 c1_i32_19 k0_t1
  let v188 : BitVec 32 := Scalar.muli c2_i32_125 arg13
  let c1_i32_126 : BitVec 32 := 1#32
  let v189 : BitVec 32 := Scalar.addi v188 c1_i32_126
  let c512_i32_127 : BitVec 32 := 512#32
  let v190 : BitVec 32 := Scalar.muli v189 c512_i32_127
  v190
def k0_off1 (i : grid0.Coords) (k0_t1 : Fin (k0_t1_loop i).trips) (c1_i32_126 : BitVec 32) : Fin 3 → Nat :=
  let c0_128 : Index := 0#32
  let c2_i32_125 : BitVec 32 := 2#32
  let c0_i32_18 : BitVec 32 := 0#32
  let c1_i32_19 : BitVec 32 := 1#32
  let arg13 : BitVec 32 := Scf.iv c0_i32_18 c1_i32_19 k0_t1
  let v188 : BitVec 32 := Scalar.muli c2_i32_125 arg13
  let v189 : BitVec 32 := Scalar.addi v188 c1_i32_126
  let c512_i32_127 : BitVec 32 := 512#32
  let v190 : BitVec 32 := Scalar.muli v189 c512_i32_127
  let v191 : BitVec 32 := v190
  let v192 : Index := Scalar.indexCast v191
  let c0_129 : Index := 0#32
  ![0, v192.toNat, 0]
def k0_off2 (i : grid0.Coords) (k0_t1 : Fin (k0_t1_loop i).trips) : Fin 5 → Nat :=
  let c0_149 : Index := 0#32
  let c0_150 : Index := 0#32
  let c2_i32_125 : BitVec 32 := 2#32
  let c0_i32_18 : BitVec 32 := 0#32
  let c1_i32_19 : BitVec 32 := 1#32
  let arg13 : BitVec 32 := Scf.iv c0_i32_18 c1_i32_19 k0_t1
  let v188 : BitVec 32 := Scalar.muli c2_i32_125 arg13
  let v218 : Index := Scalar.indexCast v188
  let c0_151 : Index := 0#32
  let c0_152 : Index := 0#32
  ![0, 0, v218.toNat, 0, 0]
def k0_mult3 (i : grid0.Coords) (k0_t1 : Fin (k0_t1_loop i).trips) : BitVec 32 :=
  let c2_i32_125 : BitVec 32 := 2#32
  let c0_i32_18 : BitVec 32 := 0#32
  let c1_i32_19 : BitVec 32 := 1#32
  let arg13 : BitVec 32 := Scf.iv c0_i32_18 c1_i32_19 k0_t1
  let v188 : BitVec 32 := Scalar.muli c2_i32_125 arg13
  let c2_i32_158 : BitVec 32 := 2#32
  let v230 : BitVec 32 := Scalar.addi v188 c2_i32_158
  let c512_i32_159 : BitVec 32 := 512#32
  let v231 : BitVec 32 := Scalar.muli v230 c512_i32_159
  v231
def k0_off3 (i : grid0.Coords) (k0_t1 : Fin (k0_t1_loop i).trips) : Fin 5 → Nat :=
  let c0_182 : Index := 0#32
  let c0_183 : Index := 0#32
  let c2_i32_125 : BitVec 32 := 2#32
  let c0_i32_18 : BitVec 32 := 0#32
  let c1_i32_19 : BitVec 32 := 1#32
  let arg13 : BitVec 32 := Scf.iv c0_i32_18 c1_i32_19 k0_t1
  let v188 : BitVec 32 := Scalar.muli c2_i32_125 arg13
  let c1_i32_173 : BitVec 32 := 1#32
  let v247 : BitVec 32 := Scalar.addi v188 c1_i32_173
  let v260 : Index := Scalar.indexCast v247
  let c0_184 : Index := 0#32
  let c0_185 : Index := 0#32
  ![0, 0, v260.toNat, 0, 0]
@[reducible] def k0_t2_loop (i : grid0.Coords) : Scf.Loop 32 :=
  let c0_i32_18 : BitVec 32 := 0#32
  let arg2 : BitVec 32 := BitVec.ofNat 32 (i 2).val
  let v23 : BitVec 32 := Scalar.subi arg2 c0_i32_18
  let c1_i32 : BitVec 32 := 1#32
  let v25 : BitVec 32 := Scalar.divsi v23 c1_i32
  let v26 : BitVec 32 := Scalar.muli v25 c1_i32
  let v27 : BitVec 32 := Scalar.addi c0_i32_18 v26
  let v24 : BitVec 32 := Scalar.addi c0_i32_18 v23
  let c1_i32_20 : BitVec 32 := 1#32
  ⟨v27, v24, c1_i32_20⟩
def k0_mult4 (i : grid0.Coords) (k0_t2 : Fin (k0_t2_loop i).trips) : BitVec 32 :=
  let c2_i32_125 : BitVec 32 := 2#32
  let c0_i32_18 : BitVec 32 := 0#32
  let arg2 : BitVec 32 := BitVec.ofNat 32 (i 2).val
  let v23 : BitVec 32 := Scalar.subi arg2 c0_i32_18
  let c1_i32 : BitVec 32 := 1#32
  let v25 : BitVec 32 := Scalar.divsi v23 c1_i32
  let v26 : BitVec 32 := Scalar.muli v25 c1_i32
  let v27 : BitVec 32 := Scalar.addi c0_i32_18 v26
  let c1_i32_20 : BitVec 32 := 1#32
  let arg13 : BitVec 32 := Scf.iv v27 c1_i32_20 k0_t2
  let v188 : BitVec 32 := Scalar.muli c2_i32_125 arg13
  let c1_i32_126 : BitVec 32 := 1#32
  let v189 : BitVec 32 := Scalar.addi v188 c1_i32_126
  let c512_i32_127 : BitVec 32 := 512#32
  let v190 : BitVec 32 := Scalar.muli v189 c512_i32_127
  v190
def k0_off4 (i : grid0.Coords) (k0_t2 : Fin (k0_t2_loop i).trips) (c1_i32_126 : BitVec 32) : Fin 3 → Nat :=
  let c0_128 : Index := 0#32
  let c2_i32_125 : BitVec 32 := 2#32
  let c0_i32_18 : BitVec 32 := 0#32
  let arg2 : BitVec 32 := BitVec.ofNat 32 (i 2).val
  let v23 : BitVec 32 := Scalar.subi arg2 c0_i32_18
  let c1_i32 : BitVec 32 := 1#32
  let v25 : BitVec 32 := Scalar.divsi v23 c1_i32
  let v26 : BitVec 32 := Scalar.muli v25 c1_i32
  let v27 : BitVec 32 := Scalar.addi c0_i32_18 v26
  let c1_i32_20 : BitVec 32 := 1#32
  let arg13 : BitVec 32 := Scf.iv v27 c1_i32_20 k0_t2
  let v188 : BitVec 32 := Scalar.muli c2_i32_125 arg13
  let v189 : BitVec 32 := Scalar.addi v188 c1_i32_126
  let c512_i32_127 : BitVec 32 := 512#32
  let v190 : BitVec 32 := Scalar.muli v189 c512_i32_127
  let v191 : BitVec 32 := v190
  let v192 : Index := Scalar.indexCast v191
  let c0_129 : Index := 0#32
  ![0, v192.toNat, 0]
def k0_off5 (i : grid0.Coords) (k0_t2 : Fin (k0_t2_loop i).trips) : Fin 5 → Nat :=
  let c0_149 : Index := 0#32
  let c0_150 : Index := 0#32
  let c2_i32_125 : BitVec 32 := 2#32
  let c0_i32_18 : BitVec 32 := 0#32
  let arg2 : BitVec 32 := BitVec.ofNat 32 (i 2).val
  let v23 : BitVec 32 := Scalar.subi arg2 c0_i32_18
  let c1_i32 : BitVec 32 := 1#32
  let v25 : BitVec 32 := Scalar.divsi v23 c1_i32
  let v26 : BitVec 32 := Scalar.muli v25 c1_i32
  let v27 : BitVec 32 := Scalar.addi c0_i32_18 v26
  let c1_i32_20 : BitVec 32 := 1#32
  let arg13 : BitVec 32 := Scf.iv v27 c1_i32_20 k0_t2
  let v188 : BitVec 32 := Scalar.muli c2_i32_125 arg13
  let v218 : Index := Scalar.indexCast v188
  let c0_151 : Index := 0#32
  let c0_152 : Index := 0#32
  ![0, 0, v218.toNat, 0, 0]
def k0_mult5 (i : grid0.Coords) (k0_t2 : Fin (k0_t2_loop i).trips) : BitVec 32 :=
  let c2_i32_125 : BitVec 32 := 2#32
  let c0_i32_18 : BitVec 32 := 0#32
  let arg2 : BitVec 32 := BitVec.ofNat 32 (i 2).val
  let v23 : BitVec 32 := Scalar.subi arg2 c0_i32_18
  let c1_i32 : BitVec 32 := 1#32
  let v25 : BitVec 32 := Scalar.divsi v23 c1_i32
  let v26 : BitVec 32 := Scalar.muli v25 c1_i32
  let v27 : BitVec 32 := Scalar.addi c0_i32_18 v26
  let c1_i32_20 : BitVec 32 := 1#32
  let arg13 : BitVec 32 := Scf.iv v27 c1_i32_20 k0_t2
  let v188 : BitVec 32 := Scalar.muli c2_i32_125 arg13
  let c2_i32_158 : BitVec 32 := 2#32
  let v230 : BitVec 32 := Scalar.addi v188 c2_i32_158
  let c512_i32_159 : BitVec 32 := 512#32
  let v231 : BitVec 32 := Scalar.muli v230 c512_i32_159
  v231
def k0_off6 (i : grid0.Coords) (k0_t2 : Fin (k0_t2_loop i).trips) : Fin 5 → Nat :=
  let c0_182 : Index := 0#32
  let c0_183 : Index := 0#32
  let c2_i32_125 : BitVec 32 := 2#32
  let c0_i32_18 : BitVec 32 := 0#32
  let arg2 : BitVec 32 := BitVec.ofNat 32 (i 2).val
  let v23 : BitVec 32 := Scalar.subi arg2 c0_i32_18
  let c1_i32 : BitVec 32 := 1#32
  let v25 : BitVec 32 := Scalar.divsi v23 c1_i32
  let v26 : BitVec 32 := Scalar.muli v25 c1_i32
  let v27 : BitVec 32 := Scalar.addi c0_i32_18 v26
  let c1_i32_20 : BitVec 32 := 1#32
  let arg13 : BitVec 32 := Scf.iv v27 c1_i32_20 k0_t2
  let v188 : BitVec 32 := Scalar.muli c2_i32_125 arg13
  let c1_i32_173 : BitVec 32 := 1#32
  let v247 : BitVec 32 := Scalar.addi v188 c1_i32_173
  let v260 : Index := Scalar.indexCast v247
  let c0_184 : Index := 0#32
  let c0_185 : Index := 0#32
  ![0, 0, v260.toNat, 0, 0]
def k0_mult6 : BitVec 32 :=
  let c0_i32_21 : BitVec 32 := 0#32
  c0_i32_21
def k0_off7 (i : grid0.Coords) : Fin 5 → Nat :=
  let c0_42 : Index := 0#32
  let c0_43 : Index := 0#32
  let c2_i32 : BitVec 32 := 2#32
  let arg2 : BitVec 32 := BitVec.ofNat 32 (i 2).val
  let v43 : BitVec 32 := Scalar.muli c2_i32 arg2
  let v64 : Index := Scalar.indexCast v43
  let c0_44 : Index := 0#32
  let c0_45 : Index := 0#32
  ![0, 0, v64.toNat, 0, 0]
@[reducible] def k0_t3_loop (i : grid0.Coords) : Scf.Loop 32 :=
  let c0_i32_63 : BitVec 32 := 0#32
  let arg2 : BitVec 32 := BitVec.ofNat 32 (i 2).val
  let v95 : BitVec 32 := Scalar.subi arg2 c0_i32_63
  let c1_i32_64 : BitVec 32 := 1#32
  let v97 : BitVec 32 := Scalar.divsi v95 c1_i32_64
  let v98 : BitVec 32 := Scalar.muli v97 c1_i32_64
  let v99 : BitVec 32 := Scalar.addi c0_i32_63 v98
  let c1_i32_65 : BitVec 32 := 1#32
  ⟨c0_i32_63, v99, c1_i32_65⟩
def k0_mult7 (i : grid0.Coords) (k0_t3 : Fin (k0_t3_loop i).trips) : BitVec 32 :=
  let c2_i32_125 : BitVec 32 := 2#32
  let c0_i32_63 : BitVec 32 := 0#32
  let c1_i32_65 : BitVec 32 := 1#32
  let arg13 : BitVec 32 := Scf.iv c0_i32_63 c1_i32_65 k0_t3
  let v188 : BitVec 32 := Scalar.muli c2_i32_125 arg13
  let c1_i32_126 : BitVec 32 := 1#32
  let v189 : BitVec 32 := Scalar.addi v188 c1_i32_126
  let c512_i32_127 : BitVec 32 := 512#32
  let v190 : BitVec 32 := Scalar.muli v189 c512_i32_127
  v190
def k0_off8 (i : grid0.Coords) (k0_t3 : Fin (k0_t3_loop i).trips) (c1_i32_126 : BitVec 32) : Fin 3 → Nat :=
  let c0_128 : Index := 0#32
  let c2_i32_125 : BitVec 32 := 2#32
  let c0_i32_63 : BitVec 32 := 0#32
  let c1_i32_65 : BitVec 32 := 1#32
  let arg13 : BitVec 32 := Scf.iv c0_i32_63 c1_i32_65 k0_t3
  let v188 : BitVec 32 := Scalar.muli c2_i32_125 arg13
  let v189 : BitVec 32 := Scalar.addi v188 c1_i32_126
  let c512_i32_127 : BitVec 32 := 512#32
  let v190 : BitVec 32 := Scalar.muli v189 c512_i32_127
  let v191 : BitVec 32 := v190
  let v192 : Index := Scalar.indexCast v191
  let c0_129 : Index := 0#32
  ![0, v192.toNat, 0]
def k0_off9 (i : grid0.Coords) (k0_t3 : Fin (k0_t3_loop i).trips) : Fin 5 → Nat :=
  let c0_149 : Index := 0#32
  let c0_150 : Index := 0#32
  let c2_i32_125 : BitVec 32 := 2#32
  let c0_i32_63 : BitVec 32 := 0#32
  let c1_i32_65 : BitVec 32 := 1#32
  let arg13 : BitVec 32 := Scf.iv c0_i32_63 c1_i32_65 k0_t3
  let v188 : BitVec 32 := Scalar.muli c2_i32_125 arg13
  let v218 : Index := Scalar.indexCast v188
  let c0_151 : Index := 0#32
  let c0_152 : Index := 0#32
  ![0, 0, v218.toNat, 0, 0]
def k0_mult8 (i : grid0.Coords) (k0_t3 : Fin (k0_t3_loop i).trips) : BitVec 32 :=
  let c2_i32_125 : BitVec 32 := 2#32
  let c0_i32_63 : BitVec 32 := 0#32
  let c1_i32_65 : BitVec 32 := 1#32
  let arg13 : BitVec 32 := Scf.iv c0_i32_63 c1_i32_65 k0_t3
  let v188 : BitVec 32 := Scalar.muli c2_i32_125 arg13
  let c2_i32_158 : BitVec 32 := 2#32
  let v230 : BitVec 32 := Scalar.addi v188 c2_i32_158
  let c512_i32_159 : BitVec 32 := 512#32
  let v231 : BitVec 32 := Scalar.muli v230 c512_i32_159
  v231
def k0_off10 (i : grid0.Coords) (k0_t3 : Fin (k0_t3_loop i).trips) : Fin 5 → Nat :=
  let c0_182 : Index := 0#32
  let c0_183 : Index := 0#32
  let c2_i32_125 : BitVec 32 := 2#32
  let c0_i32_63 : BitVec 32 := 0#32
  let c1_i32_65 : BitVec 32 := 1#32
  let arg13 : BitVec 32 := Scf.iv c0_i32_63 c1_i32_65 k0_t3
  let v188 : BitVec 32 := Scalar.muli c2_i32_125 arg13
  let c1_i32_173 : BitVec 32 := 1#32
  let v247 : BitVec 32 := Scalar.addi v188 c1_i32_173
  let v260 : Index := Scalar.indexCast v247
  let c0_184 : Index := 0#32
  let c0_185 : Index := 0#32
  ![0, 0, v260.toNat, 0, 0]
@[reducible] def k0_t4_loop (i : grid0.Coords) : Scf.Loop 32 :=
  let c0_i32_63 : BitVec 32 := 0#32
  let arg2 : BitVec 32 := BitVec.ofNat 32 (i 2).val
  let v95 : BitVec 32 := Scalar.subi arg2 c0_i32_63
  let c1_i32_64 : BitVec 32 := 1#32
  let v97 : BitVec 32 := Scalar.divsi v95 c1_i32_64
  let v98 : BitVec 32 := Scalar.muli v97 c1_i32_64
  let v99 : BitVec 32 := Scalar.addi c0_i32_63 v98
  let v96 : BitVec 32 := Scalar.addi c0_i32_63 v95
  let c1_i32_66 : BitVec 32 := 1#32
  ⟨v99, v96, c1_i32_66⟩
def k0_mult9 (i : grid0.Coords) (k0_t4 : Fin (k0_t4_loop i).trips) : BitVec 32 :=
  let c2_i32_125 : BitVec 32 := 2#32
  let c0_i32_63 : BitVec 32 := 0#32
  let arg2 : BitVec 32 := BitVec.ofNat 32 (i 2).val
  let v95 : BitVec 32 := Scalar.subi arg2 c0_i32_63
  let c1_i32_64 : BitVec 32 := 1#32
  let v97 : BitVec 32 := Scalar.divsi v95 c1_i32_64
  let v98 : BitVec 32 := Scalar.muli v97 c1_i32_64
  let v99 : BitVec 32 := Scalar.addi c0_i32_63 v98
  let c1_i32_66 : BitVec 32 := 1#32
  let arg13 : BitVec 32 := Scf.iv v99 c1_i32_66 k0_t4
  let v188 : BitVec 32 := Scalar.muli c2_i32_125 arg13
  let c1_i32_126 : BitVec 32 := 1#32
  let v189 : BitVec 32 := Scalar.addi v188 c1_i32_126
  let c512_i32_127 : BitVec 32 := 512#32
  let v190 : BitVec 32 := Scalar.muli v189 c512_i32_127
  v190
def k0_off11 (i : grid0.Coords) (k0_t4 : Fin (k0_t4_loop i).trips) (c1_i32_126 : BitVec 32) : Fin 3 → Nat :=
  let c0_128 : Index := 0#32
  let c2_i32_125 : BitVec 32 := 2#32
  let c0_i32_63 : BitVec 32 := 0#32
  let arg2 : BitVec 32 := BitVec.ofNat 32 (i 2).val
  let v95 : BitVec 32 := Scalar.subi arg2 c0_i32_63
  let c1_i32_64 : BitVec 32 := 1#32
  let v97 : BitVec 32 := Scalar.divsi v95 c1_i32_64
  let v98 : BitVec 32 := Scalar.muli v97 c1_i32_64
  let v99 : BitVec 32 := Scalar.addi c0_i32_63 v98
  let c1_i32_66 : BitVec 32 := 1#32
  let arg13 : BitVec 32 := Scf.iv v99 c1_i32_66 k0_t4
  let v188 : BitVec 32 := Scalar.muli c2_i32_125 arg13
  let v189 : BitVec 32 := Scalar.addi v188 c1_i32_126
  let c512_i32_127 : BitVec 32 := 512#32
  let v190 : BitVec 32 := Scalar.muli v189 c512_i32_127
  let v191 : BitVec 32 := v190
  let v192 : Index := Scalar.indexCast v191
  let c0_129 : Index := 0#32
  ![0, v192.toNat, 0]
def k0_off12 (i : grid0.Coords) (k0_t4 : Fin (k0_t4_loop i).trips) : Fin 5 → Nat :=
  let c0_149 : Index := 0#32
  let c0_150 : Index := 0#32
  let c2_i32_125 : BitVec 32 := 2#32
  let c0_i32_63 : BitVec 32 := 0#32
  let arg2 : BitVec 32 := BitVec.ofNat 32 (i 2).val
  let v95 : BitVec 32 := Scalar.subi arg2 c0_i32_63
  let c1_i32_64 : BitVec 32 := 1#32
  let v97 : BitVec 32 := Scalar.divsi v95 c1_i32_64
  let v98 : BitVec 32 := Scalar.muli v97 c1_i32_64
  let v99 : BitVec 32 := Scalar.addi c0_i32_63 v98
  let c1_i32_66 : BitVec 32 := 1#32
  let arg13 : BitVec 32 := Scf.iv v99 c1_i32_66 k0_t4
  let v188 : BitVec 32 := Scalar.muli c2_i32_125 arg13
  let v218 : Index := Scalar.indexCast v188
  let c0_151 : Index := 0#32
  let c0_152 : Index := 0#32
  ![0, 0, v218.toNat, 0, 0]
def k0_mult10 (i : grid0.Coords) (k0_t4 : Fin (k0_t4_loop i).trips) : BitVec 32 :=
  let c2_i32_125 : BitVec 32 := 2#32
  let c0_i32_63 : BitVec 32 := 0#32
  let arg2 : BitVec 32 := BitVec.ofNat 32 (i 2).val
  let v95 : BitVec 32 := Scalar.subi arg2 c0_i32_63
  let c1_i32_64 : BitVec 32 := 1#32
  let v97 : BitVec 32 := Scalar.divsi v95 c1_i32_64
  let v98 : BitVec 32 := Scalar.muli v97 c1_i32_64
  let v99 : BitVec 32 := Scalar.addi c0_i32_63 v98
  let c1_i32_66 : BitVec 32 := 1#32
  let arg13 : BitVec 32 := Scf.iv v99 c1_i32_66 k0_t4
  let v188 : BitVec 32 := Scalar.muli c2_i32_125 arg13
  let c2_i32_158 : BitVec 32 := 2#32
  let v230 : BitVec 32 := Scalar.addi v188 c2_i32_158
  let c512_i32_159 : BitVec 32 := 512#32
  let v231 : BitVec 32 := Scalar.muli v230 c512_i32_159
  v231
def k0_off13 (i : grid0.Coords) (k0_t4 : Fin (k0_t4_loop i).trips) : Fin 5 → Nat :=
  let c0_182 : Index := 0#32
  let c0_183 : Index := 0#32
  let c2_i32_125 : BitVec 32 := 2#32
  let c0_i32_63 : BitVec 32 := 0#32
  let arg2 : BitVec 32 := BitVec.ofNat 32 (i 2).val
  let v95 : BitVec 32 := Scalar.subi arg2 c0_i32_63
  let c1_i32_64 : BitVec 32 := 1#32
  let v97 : BitVec 32 := Scalar.divsi v95 c1_i32_64
  let v98 : BitVec 32 := Scalar.muli v97 c1_i32_64
  let v99 : BitVec 32 := Scalar.addi c0_i32_63 v98
  let c1_i32_66 : BitVec 32 := 1#32
  let arg13 : BitVec 32 := Scf.iv v99 c1_i32_66 k0_t4
  let v188 : BitVec 32 := Scalar.muli c2_i32_125 arg13
  let c1_i32_173 : BitVec 32 := 1#32
  let v247 : BitVec 32 := Scalar.addi v188 c1_i32_173
  let v260 : Index := Scalar.indexCast v247
  let c0_184 : Index := 0#32
  let c0_185 : Index := 0#32
  ![0, 0, v260.toNat, 0, 0]
def k0_mult11 (i : grid0.Coords) : BitVec 32 :=
  let c2_i32_67 : BitVec 32 := 2#32
  let arg2 : BitVec 32 := BitVec.ofNat 32 (i 2).val
  let v100 : BitVec 32 := Scalar.muli c2_i32_67 arg2
  let c1_i32_68 : BitVec 32 := 1#32
  let v101 : BitVec 32 := Scalar.addi v100 c1_i32_68
  let c512_i32 : BitVec 32 := 512#32
  let v102 : BitVec 32 := Scalar.muli v101 c512_i32
  v102
def k0_off14 (i : grid0.Coords) : Fin 3 → Nat :=
  let c0_69 : Index := 0#32
  let c2_i32_67 : BitVec 32 := 2#32
  let arg2 : BitVec 32 := BitVec.ofNat 32 (i 2).val
  let v100 : BitVec 32 := Scalar.muli c2_i32_67 arg2
  let c1_i32_68 : BitVec 32 := 1#32
  let v101 : BitVec 32 := Scalar.addi v100 c1_i32_68
  let c512_i32 : BitVec 32 := 512#32
  let v102 : BitVec 32 := Scalar.muli v101 c512_i32
  let v103 : BitVec 32 := v102
  let v104 : Index := Scalar.indexCast v103
  let c0_70 : Index := 0#32
  ![0, v104.toNat, 0]
def k0_off15 (i : grid0.Coords) : Fin 5 → Nat :=
  let c0_111 : Index := 0#32
  let c0_112 : Index := 0#32
  let c2_i32_100 : BitVec 32 := 2#32
  let arg2 : BitVec 32 := BitVec.ofNat 32 (i 2).val
  let v143 : BitVec 32 := Scalar.muli c2_i32_100 arg2
  let c1_i32_101 : BitVec 32 := 1#32
  let v144 : BitVec 32 := Scalar.addi v143 c1_i32_101
  let v165 : Index := Scalar.indexCast v144
  let c0_113 : Index := 0#32
  let c0_114 : Index := 0#32
  ![0, 0, v165.toNat, 0, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1x1x2x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel2Ideal.lean ====
variable {F : FTy → Type} [FloatOps F] [Named F]
def κ : String → Option EReal := fun
  | "mask" => some ⊥
  | _ => none
-- ==== Reference2Ideal.lean ====
abbrev S2x8192x16x64 : Shape := ⟨4, ![2, 8192, 16, 64]⟩
abbrev S2x8192x4x64 : Shape := ⟨4, ![2, 8192, 4, 64]⟩
abbrev S2x8192x16 : Shape := ⟨3, ![2, 8192, 16]⟩
abbrev S2x8192x4x4x64 : Shape := ⟨5, ![2, 8192, 4, 4, 64]⟩
abbrev S_ : Shape := ⟨0, ![]⟩
abbrev S2x8192x4x4 : Shape := ⟨4, ![2, 8192, 4, 4]⟩
abbrev S2x4x4x8192 : Shape := ⟨4, ![2, 4, 4, 8192]⟩
abbrev S2x4x8192x8192x4 : Shape := ⟨5, ![2, 4, 8192, 8192, 4]⟩
abbrev S2x4x4x8192x8192 : Shape := ⟨5, ![2, 4, 4, 8192, 8192]⟩
abbrev S2x4x4x8192x1 : Shape := ⟨5, ![2, 4, 4, 8192, 1]⟩
abbrev S2x4x4x1x8192 : Shape := ⟨5, ![2, 4, 4, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x4x64x4x8192 : Shape := ⟨5, ![2, 4, 64, 4, 8192]⟩
abbrev S16384x1024 : Shape := ⟨2, ![16384, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x8192x16x64, .f32⟩
  | .hbm, ⟨1, _⟩ => ⟨S2x8192x4x64, .f32⟩
  | .hbm, ⟨2, _⟩ => ⟨S2x8192x4x64, .f32⟩
  | .hbm, ⟨3, _⟩ => ⟨S2x8192x16, .f32⟩
  | .hbm, ⟨4, _⟩ => ⟨S2x8192x4x4x64, .f32⟩
  | .hbm, ⟨5, _⟩ => ⟨S_, .f32⟩
  | .hbm, ⟨6, _⟩ => ⟨S_, .f32⟩
  | .hbm, ⟨7, _⟩ => ⟨S2x8192x16, .f32⟩
  | .hbm, ⟨8, _⟩ => ⟨S2x8192x4x4, .f32⟩
  | .hbm, ⟨9, _⟩ => ⟨S2x4x4x8192, .f32⟩
  | .hbm, ⟨10, _⟩ => ⟨S2x4x8192x8192x4, .f32⟩
  | .hbm, ⟨11, _⟩ => ⟨S2x4x4x8192x8192, .f32⟩
  | .hbm, ⟨12, _⟩ => ⟨S_, .f32⟩
  | .hbm, ⟨13, _⟩ => ⟨S2x4x4x8192x8192, .f32⟩
  | .hbm, ⟨14, _⟩ => ⟨S2x4x4x8192x8192, .f32⟩
  | .hbm, ⟨15, _⟩ => ⟨S2x4x4x8192x1, .f32⟩
  | .hbm, ⟨16, _⟩ => ⟨S2x4x4x8192x8192, .f32⟩
  | .hbm, ⟨17, _⟩ => ⟨S2x4x4x8192x8192, .f32⟩
  | .hbm, ⟨18, _⟩ => ⟨S2x4x4x1x8192, .f32⟩
  | .hbm, ⟨19, _⟩ => ⟨S2x4x4x8192x8192, .f32⟩
  | .hbm, ⟨20, _⟩ => ⟨S2x4x4x8192x8192, .f32⟩
  | .hbm, ⟨21, _⟩ => ⟨S8192, .i32⟩
  | .hbm, ⟨22, _⟩ => ⟨S1x8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .f32⟩
  | .hbm, ⟨28, _⟩ => ⟨S_, .f32⟩
  | .hbm, ⟨29, _⟩ => ⟨S2x4x4x8192x8192, .i1⟩
  | .hbm, ⟨30, _⟩ => ⟨S2x4x4x8192x8192, .f32⟩
  | .hbm, ⟨31, _⟩ => ⟨S2x4x4x8192x8192, .f32⟩
  | .hbm, ⟨32, _⟩ => ⟨S_, .f32⟩
  | .hbm, ⟨33, _⟩ => ⟨S2x4x4x8192, .f32⟩
  | .hbm, ⟨34, _⟩ => ⟨S_, .f32⟩
  | .hbm, ⟨35, _⟩ => ⟨S2x4x4x8192, .f32⟩
  | .hbm, ⟨36, _⟩ => ⟨S2x4x4x8192, .f32⟩
  | .hbm, ⟨37, _⟩ => ⟨S2x4x4x8192x1, .f32⟩
  | .hbm, ⟨38, _⟩ => ⟨S2x4x4x8192x8192, .f32⟩
  | .hbm, ⟨39, _⟩ => ⟨S2x4x4x8192x8192, .f32⟩
  | .hbm, ⟨40, _⟩ => ⟨S2x4x4x8192x8192, .f32⟩
  | .hbm, ⟨41, _⟩ => ⟨S_, .f32⟩
  | .hbm, ⟨42, _⟩ => ⟨S2x4x4x8192, .f32⟩
  | .hbm, ⟨43, _⟩ => ⟨S2x4x4x8192x1, .f32⟩
  | .hbm, ⟨44, _⟩ => ⟨S2x4x4x8192x8192, .f32⟩
  | .hbm, ⟨45, _⟩ => ⟨S2x4x4x8192x8192, .f32⟩
  | .hbm, ⟨46, _⟩ => ⟨S2x4x64x4x8192, .f32⟩
  | .hbm, ⟨47, _⟩ => ⟨S2x8192x4x4x64, .f32⟩
  | .hbm, ⟨48, _⟩ => ⟨S16384x1024, .f32⟩
  | _, _ => ⟨S2x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024 : Shape := ⟨1, ![1024]⟩
abbrev S1024x2576 : Shape := ⟨2, ![1024, 2576]⟩
abbrev S16 : Shape := ⟨1, ![16]⟩
abbrev S1024x1536 : Shape := ⟨2, ![1024, 1536]⟩
abbrev S1024x1024 : Shape := ⟨2, ![1024, 1024]⟩
abbrev S1024x2560 : Shape := ⟨2, ![1024, 2560]⟩
abbrev S1024x16 : Shape := ⟨2, ![1024, 16]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S16384x1024 : Shape := ⟨2, ![16384, 1024]⟩
abbrev S1x1024 : Shape := ⟨2, ![1, 1024]⟩
abbrev S2x4x16x128x2048 : Shape := ⟨5, ![2, 4, 16, 128, 2048]⟩
abbrev S2x256x8192 : Shape := ⟨3, ![2, 256, 8192]⟩
abbrev S4x16384x128 : Shape := ⟨3, ![4, 16384, 128]⟩
abbrev S2x4x16x80x512 : Shape := ⟨5, ![2, 4, 16, 80, 512]⟩
abbrev S2x16x8192 : Shape := ⟨3, ![2, 16, 8192]⟩
abbrev S512x1024 : Shape := ⟨2, ![512, 1024]⟩
abbrev S1x4x1x128x2048 : Shape := ⟨5, ![1, 4, 1, 128, 2048]⟩
abbrev S1x256x512 : Shape := ⟨3, ![1, 256, 512]⟩
abbrev S4x512x128 : Shape := ⟨3, ![4, 512, 128]⟩
abbrev S1x4x1x80x512 : Shape := ⟨5, ![1, 4, 1, 80, 512]⟩
abbrev S1x16x512 : Shape := ⟨3, ![1, 16, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x512 : Shape := ⟨2, ![256, 512]⟩
abbrev S512x128 : Shape := ⟨2, ![512, 128]⟩
abbrev S128x512 : Shape := ⟨2, ![128, 512]⟩
abbrev S16x512 : Shape := ⟨2, ![16, 512]⟩
abbrev S1024x512 : Shape := ⟨2, ![1024, 512]⟩
abbrev S64x512 : Shape := ⟨2, ![64, 512]⟩
abbrev S1x1x1x64x512 : Shape := ⟨5, ![1, 1, 1, 64, 512]⟩
abbrev S512x64 : Shape := ⟨2, ![512, 64]⟩
abbrev S1x512x128 : Shape := ⟨3, ![1, 512, 128]⟩
abbrev S80x512 : Shape := ⟨2, ![80, 512]⟩
abbrev S1x1x1x80x512 : Shape := ⟨5, ![1, 1, 1, 80, 512]⟩
abbrev S2x4x16x64x2048 : Shape := ⟨5, ![2, 4, 16, 64, 2048]⟩
abbrev S2x4x16x64x4x512 : Shape := ⟨6, ![2, 4, 16, 64, 4, 512]⟩
abbrev S2x16x512x4x4x64 : Shape := ⟨6, ![2, 16, 512, 4, 4, 64]⟩
abbrev S2x8192x16x64 : Shape := ⟨4, ![2, 8192, 16, 64]⟩
abbrev S2x4x64x8192 : Shape := ⟨4, ![2, 4, 64, 8192]⟩
abbrev S2x8192x4x64 : Shape := ⟨4, ![2, 8192, 4, 64]⟩
abbrev S2x8192x16 : Shape := ⟨3, ![2, 8192, 16]⟩

abbrev nBuf : Space → Nat
  | .hbm => 36
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2576, .f32⟩
  | .hbm, ⟨3, _⟩ => ⟨S16, .f32⟩
  | .hbm, ⟨4, _⟩ => ⟨S1024x1536, .f32⟩
  | .hbm, ⟨5, _⟩ => ⟨S1024x1024, .f32⟩
  | .hbm, ⟨6, _⟩ => ⟨S1024x2560, .f32⟩
  | .hbm, ⟨7, _⟩ => ⟨S1024x2560, .bf16⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S16384x1024, .f32⟩
  | .hbm, ⟨18, _⟩ => ⟨S1x1024, .f32⟩
  | .hbm, ⟨19, _⟩ => ⟨S2x4x16x128x2048, .bf16⟩
  | .hbm, ⟨20, _⟩ => ⟨S2x256x8192, .f32⟩
  | .hbm, ⟨21, _⟩ => ⟨S2x256x8192, .f32⟩
  | .hbm, ⟨22, _⟩ => ⟨S4x16384x128, .bf16⟩
  | .hbm, ⟨23, _⟩ => ⟨S2x4x16x80x512, .bf16⟩
  | .hbm, ⟨24, _⟩ => ⟨S2x16x8192, .f32⟩
  | .hbm, ⟨25, _⟩ => ⟨S16384x1024, .f32⟩
  | .hbm, ⟨26, _⟩ => ⟨S2x4x16x64x2048, .bf16⟩
  | .hbm, ⟨27, _⟩ => ⟨S2x4x16x64x4x512, .bf16⟩
  | .hbm, ⟨28, _⟩ => ⟨S2x16x512x4x4x64, .bf16⟩
  | .hbm, ⟨29, _⟩ => ⟨S2x8192x16x64, .bf16⟩
  | .hbm, ⟨30, _⟩ => ⟨S2x8192x16x64, .f32⟩
  | .hbm, ⟨31, _⟩ => ⟨S2x4x64x8192, .f32⟩
  | .hbm, ⟨32, _⟩ => ⟨S2x8192x4x64, .f32⟩
  | .hbm, ⟨33, _⟩ => ⟨S2x4x64x8192, .f32⟩
  | .hbm, ⟨34, _⟩ => ⟨S2x8192x4x64, .f32⟩
  | .hbm, ⟨35, _⟩ => ⟨S2x8192x16, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1024x128, .bf16⟩
  | .local _ .vmem, ⟨5, _⟩ => ⟨S1x128, .f32⟩
  | .local _ .vmem, ⟨6, _⟩ => ⟨S1x4x1x128x2048, .bf16⟩
  | .local _ .vmem, ⟨7, _⟩ => ⟨S1x4x1x128x2048, .bf16⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S4x512x128, .bf16⟩
  | .local _ .vmem, ⟨13, _⟩ => ⟨S4x512x128, .bf16⟩
  | .local _ .vmem, ⟨14, _⟩ => ⟨S1x4x1x80x512, .bf16⟩
  | .local _ .vmem, ⟨15, _⟩ => ⟨S1x4x1x80x512, .bf16⟩
  | .local _ .vmem, ⟨16, _⟩ => ⟨S1x16x512, .f32⟩
  | .local _ .vmem, ⟨17, _⟩ => ⟨S1x16x512, .f32⟩
  | .local _ .vmem, ⟨18, _⟩ => ⟨S512x1024, .f32⟩
  | .local _ .vmem, ⟨19, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev main_v11_6 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x1x80x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel3Ideal.lean ====
variable {F : FTy → Type} [FloatOps F] [Named F]
def κ : String → Option EReal := fun
  | "base2" => some (((1 / 8) * (Real.log 2)⁻¹ : ℝ) : EReal)
  | _ => none
-- ==== Reference3Ideal.lean ====
abbrev S2x8192x1024 : Shape := ⟨3, ![2, 8192, 1024]⟩
abbrev S1024 : Shape := ⟨1, ![1024]⟩
abbrev S1024x2576 : Shape := ⟨2, ![1024, 2576]⟩
abbrev S16 : Shape := ⟨1, ![16]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2576 : Shape := ⟨3, ![2, 8192, 2576]⟩
abbrev S2x8192x256 : Shape := ⟨3, ![2, 8192, 256]⟩
abbrev S2x8192x16 : Shape := ⟨3, ![2, 8192, 16]⟩
abbrev S2x8192x16x64 : Shape := ⟨4, ![2, 8192, 16, 64]⟩
abbrev S1x1x16 : Shape := ⟨3, ![1, 1, 16]⟩
abbrev S2x8192x4x64 : Shape := ⟨4, ![2, 8192, 4, 64]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2576, .f32⟩
  | .hbm, ⟨3, _⟩ => ⟨S16, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S2x8192x2576, .f32⟩
  | .hbm, ⟨21, _⟩ => ⟨S2x8192x1024, .f32⟩
  | .hbm, ⟨22, _⟩ => ⟨S2x8192x256, .f32⟩
  | .hbm, ⟨23, _⟩ => ⟨S2x8192x256, .f32⟩
  | .hbm, ⟨24, _⟩ => ⟨S2x8192x16, .f32⟩
  | .hbm, ⟨25, _⟩ => ⟨S2x8192x1024, .f32⟩
  | .hbm, ⟨26, _⟩ => ⟨S2x8192x16x64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2x8192x16x64, .f32⟩
  | .hbm, ⟨33, _⟩ => ⟨S2x8192x16x64, .f32⟩
  | .hbm, ⟨34, _⟩ => ⟨S1x1x16, .f32⟩
  | .hbm, ⟨35, _⟩ => ⟨S2x8192x16, .f32⟩
  | .hbm, ⟨36, _⟩ => ⟨S2x8192x16, .f32⟩
  | .hbm, ⟨37, _⟩ => ⟨S2x8192x16, .f32⟩
  | .hbm, ⟨38, _⟩ => ⟨S_, .f32⟩
  | .hbm, ⟨39, _⟩ => ⟨S2x8192x16, .f32⟩
  | .hbm, ⟨40, _⟩ => ⟨S2x8192x16, .f32⟩
  | .hbm, ⟨41, _⟩ => ⟨S2x8192x16, .f32⟩
  | .hbm, ⟨42, _⟩ => ⟨S2x8192x16, .f32⟩
  | .hbm, ⟨43, _⟩ => ⟨S2x8192x16, .i1⟩
  | .hbm, ⟨44, _⟩ => ⟨S2x8192x16, .f32⟩
  | .hbm, ⟨45, _⟩ => ⟨S2x8192x16, .f32⟩
  | .hbm, ⟨46, _⟩ => ⟨S2x8192x16, .f32⟩
  | .hbm, ⟨47, _⟩ => ⟨S2x8192x16, .f32⟩
  | .hbm, ⟨48, _⟩ => ⟨S2x8192x16, .f32⟩
  | .hbm, ⟨49, _⟩ => ⟨S2x8192x16, .f32⟩
  | .hbm, ⟨50, _⟩ => ⟨S2x8192x16, .f32⟩
  | .hbm, ⟨51, _⟩ => ⟨S2x8192x16, .f32⟩
  | .hbm, ⟨52, _⟩ => ⟨S2x8192x16, .f32⟩
  | .hbm, ⟨53, _⟩ => ⟨S2x8192x4x64, .f32⟩
  | .hbm, ⟨54, _⟩ => ⟨S2x8192x4x64, .f32⟩
  | .hbm, ⟨55, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_call0_cst : Ref sig .tc := ⟨.hbm, 38, rfl⟩
abbrev main_call0_call0_v0 : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_call0_v3 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_v9 : Ref sig .tc := ⟨.hbm, 48, rfl⟩
abbrev main_call0_call0_v10 : Ref sig .tc := ⟨.hbm, 49, rfl⟩
abbrev main_call0_call0_v11 : Ref sig .tc := ⟨.hbm, 50, rfl⟩
abbrev main_call0_v1 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩

abbrev nD : Nat := 1
abbrev τ : Topo := Topo.v7x

variable {F : FTy → Type} [FloatOps F]
-- ==== Kernel4.lean ====
abbrev S2x8192x1024 : Shape := ⟨3, ![2, 8192, 1024]⟩
abbrev S1024 : Shape := ⟨1, ![1024]⟩
abbrev S1024x2560 : Shape := ⟨2, ![1024, 2560]⟩
abbrev S16384x1024 : Shape := ⟨2, ![16384, 1024]⟩
abbrev S1x1024 : Shape := ⟨2, ![1, 1024]⟩
abbrev S2x4x64x64x512 : Shape := ⟨5, ![2, 4, 64, 64, 512]⟩
abbrev S4x16384x64 : Shape := ⟨3, ![4, 16384, 64]⟩
abbrev S2x256x8192 : Shape := ⟨3, ![2, 256, 8192]⟩
abbrev S2x4x64x80x128 : Shape := ⟨5, ![2, 4, 64, 80, 128]⟩
abbrev S512x1024 : Shape := ⟨2, ![512, 1024]⟩
abbrev S1x4x4x64x512 : Shape := ⟨5, ![1, 4, 4, 64, 512]⟩
abbrev S4x512x64 : Shape := ⟨3, ![4, 512, 64]⟩
abbrev S1x256x512 : Shape := ⟨3, ![1, 256, 512]⟩
abbrev S1x4x4x80x128 : Shape := ⟨5, ![1, 4, 4, 80, 128]⟩
abbrev S512 : Shape := ⟨1, ![512]⟩
abbrev S512x1 : Shape := ⟨2, ![512, 1]⟩
abbrev S1024x1024 : Shape := ⟨2, ![1024, 1024]⟩
abbrev S1024x256 : Shape := ⟨2, ![1024, 256]⟩
abbrev S512x256 : Shape := ⟨2, ![512, 256]⟩
abbrev S256x512 : Shape := ⟨2, ![256, 512]⟩
abbrev S1024x512 : Shape := ⟨2, ![1024, 512]⟩
abbrev S64x128 : Shape := ⟨2, ![64, 128]⟩
abbrev S1x1x1x64x128 : Shape := ⟨5, ![1, 1, 1, 64, 128]⟩
abbrev S512x64 : Shape := ⟨2, ![512, 64]⟩
abbrev S1x512x64 : Shape := ⟨3, ![1, 512, 64]⟩
abbrev S16x512 : Shape := ⟨2, ![16, 512]⟩
abbrev S64x512 : Shape := ⟨2, ![64, 512]⟩
abbrev S80x512 : Shape := ⟨2, ![80, 512]⟩
abbrev S80x128 : Shape := ⟨2, ![80, 128]⟩
abbrev S1x1x1x80x128 : Shape := ⟨5, ![1, 1, 1, 80, 128]⟩
abbrev S2x4x64x64x4x128 : Shape := ⟨6, ![2, 4, 64, 64, 4, 128]⟩
abbrev S2x64x128x4x4x64 : Shape := ⟨6, ![2, 64, 128, 4, 4, 64]⟩
abbrev S2x8192x16x64 : Shape := ⟨4, ![2, 8192, 16, 64]⟩
abbrev S2x256x128 : Shape := ⟨3, ![2, 256, 128]⟩
abbrev S2x4x64x128 : Shape := ⟨4, ![2, 4, 64, 128]⟩
abbrev S2x128x4x64 : Shape := ⟨4, ![2, 128, 4, 64]⟩

abbrev nBuf : Space → Nat
  | .hbm => 22
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2560, .f32⟩
  | .hbm, ⟨3, _⟩ => ⟨S16384x1024, .f32⟩
  | .hbm, ⟨4, _⟩ => ⟨S1x1024, .f32⟩
  | .hbm, ⟨5, _⟩ => ⟨S1024x2560, .bf16⟩
  | .hbm, ⟨6, _⟩ => ⟨S2x4x64x64x512, .bf16⟩
  | .hbm, ⟨7, _⟩ => ⟨S4x16384x64, .bf16⟩
  | .hbm, ⟨8, _⟩ => ⟨S2x256x8192, .f32⟩
  | .hbm, ⟨9, _⟩ => ⟨S2x256x8192, .f32⟩
  | .hbm, ⟨10, _⟩ => ⟨S2x4x64x80x128, .bf16⟩
  | .hbm, ⟨11, _⟩ => ⟨S16384x1024, .f32⟩
  | .hbm, ⟨12, _⟩ => ⟨S2x4x64x64x4x128, .bf16⟩
  | .hbm, ⟨13, _⟩ => ⟨S2x64x128x4x4x64, .bf16⟩
  | .hbm, ⟨14, _⟩ => ⟨S2x8192x16x64, .bf16⟩
  | .hbm, ⟨15, _⟩ => ⟨S2x8192x16x64, .f32⟩
  | .hbm, ⟨16, _⟩ => ⟨S2x256x128, .f32⟩
  | .hbm, ⟨17, _⟩ => ⟨S2x4x64x128, .f32⟩
  | .hbm, ⟨18, _⟩ => ⟨S2x128x4x64, .f32⟩
  | .hbm, ⟨19, _⟩ => ⟨S2x256x128, .f32⟩
  | .hbm, ⟨20, _⟩ => ⟨S2x4x64x128, .f32⟩
  | .hbm, ⟨21, _⟩ => ⟨S2x128x4x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1x4x4x64x512, .bf16⟩
  | .local _ .vmem, ⟨5, _⟩ => ⟨S1x4x4x64x512, .bf16⟩
  | .local _ .vmem, ⟨6, _⟩ => ⟨S4x512x64, .bf16⟩
  | .local _ .vmem, ⟨7, _⟩ => ⟨S4x512x64, .bf16⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x4x4x80x128, .bf16⟩
  | .local _ .vmem, ⟨13, _⟩ => ⟨S1x4x4x80x128, .bf16⟩
  | .local _ .vmem, ⟨14, _⟩ => ⟨S512x1024, .f32⟩
  | .local _ .vmem, ⟨15, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4x4x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x4x80x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel4Ideal.lean ====
variable {F : FTy → Type} [FloatOps F] [Named F]
def κ : String → Option EReal := fun
  | "base2" => some (((1 / 8) * (Real.log 2)⁻¹ : ℝ) : EReal)
  | _ => none
-- ==== Reference4Ideal.lean ====
abbrev S2x8192x1024 : Shape := ⟨3, ![2, 8192, 1024]⟩
abbrev S1024 : Shape := ⟨1, ![1024]⟩
abbrev S1024x2560 : Shape := ⟨2, ![1024, 2560]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2560 : Shape := ⟨3, ![2, 8192, 2560]⟩
abbrev S2x8192x256 : Shape := ⟨3, ![2, 8192, 256]⟩
abbrev S2x8192x16x64 : Shape := ⟨4, ![2, 8192, 16, 64]⟩
abbrev S2x8192x4x64 : Shape := ⟨4, ![2, 8192, 4, 64]⟩
abbrev S2x128x4x64 : Shape := ⟨4, ![2, 128, 4, 64]⟩
abbrev S16384x1024 : Shape := ⟨2, ![16384, 1024]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2560, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x2560, .f32⟩
  | .hbm, ⟨20, _⟩ => ⟨S2x8192x1024, .f32⟩
  | .hbm, ⟨21, _⟩ => ⟨S2x8192x256, .f32⟩
  | .hbm, ⟨22, _⟩ => ⟨S2x8192x256, .f32⟩
  | .hbm, ⟨23, _⟩ => ⟨S2x8192x1024, .f32⟩
  | .hbm, ⟨24, _⟩ => ⟨S2x8192x16x64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S2x8192x16x64, .f32⟩
  | .hbm, ⟨31, _⟩ => ⟨S2x8192x16x64, .f32⟩
  | .hbm, ⟨32, _⟩ => ⟨S2x8192x4x64, .f32⟩
  | .hbm, ⟨33, _⟩ => ⟨S2x128x4x64, .f32⟩
  | .hbm, ⟨34, _⟩ => ⟨S2x8192x4x64, .f32⟩
  | .hbm, ⟨35, _⟩ => ⟨S2x128x4x64, .f32⟩
  | .hbm, ⟨36, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel5.lean ====
abbrev S128x1x1024 : Shape := ⟨3, ![128, 1, 1024]⟩
abbrev S1024 : Shape := ⟨1, ![1024]⟩
abbrev S1024x2576 : Shape := ⟨2, ![1024, 2576]⟩
abbrev S16 : Shape := ⟨1, ![16]⟩
abbrev S1024x1536 : Shape := ⟨2, ![1024, 1536]⟩
abbrev S1024x1024 : Shape := ⟨2, ![1024, 1024]⟩
abbrev S1024x2560 : Shape := ⟨2, ![1024, 2560]⟩
abbrev S1024x16 : Shape := ⟨2, ![1024, 16]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S128x1024 : Shape := ⟨2, ![128, 1024]⟩
abbrev S1x1024 : Shape := ⟨2, ![1, 1024]⟩
abbrev S128x256 : Shape := ⟨2, ![128, 256]⟩
abbrev S1x256x128 : Shape := ⟨3, ![1, 256, 128]⟩
abbrev S128x16 : Shape := ⟨2, ![128, 16]⟩
abbrev S1x16x128 : Shape := ⟨3, ![1, 16, 128]⟩
abbrev S128x1 : Shape := ⟨2, ![128, 1]⟩
abbrev S1024x256 : Shape := ⟨2, ![1024, 256]⟩
abbrev S256x128 : Shape := ⟨2, ![256, 128]⟩
abbrev S128x128 : Shape := ⟨2, ![128, 128]⟩
abbrev S16x128 : Shape := ⟨2, ![16, 128]⟩
abbrev S128x1x16x64 : Shape := ⟨4, ![128, 1, 16, 64]⟩
abbrev S4x64x128 : Shape := ⟨3, ![4, 64, 128]⟩
abbrev S128x4x64 : Shape := ⟨3, ![128, 4, 64]⟩
abbrev S128x1x4x64 : Shape := ⟨4, ![128, 1, 4, 64]⟩
abbrev S128x1x16 : Shape := ⟨3, ![128, 1, 16]⟩

abbrev nBuf : Space → Nat
  | .hbm => 40
  | .vmem => 13
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x2576, .f32⟩
  | .hbm, ⟨3, _⟩ => ⟨S16, .f32⟩
  | .hbm, ⟨4, _⟩ => ⟨S1024x1536, .f32⟩
  | .hbm, ⟨5, _⟩ => ⟨S1024x1024, .f32⟩
  | .hbm, ⟨6, _⟩ => ⟨S1024x2560, .f32⟩
  | .hbm, ⟨7, _⟩ => ⟨S1024x2560, .bf16⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S128x1024, .f32⟩
  | .hbm, ⟨18, _⟩ => ⟨S1x1024, .f32⟩
  | .hbm, ⟨19, _⟩ => ⟨S128x1024, .bf16⟩
  | .hbm, ⟨20, _⟩ => ⟨S128x256, .f32⟩
  | .hbm, ⟨21, _⟩ => ⟨S128x256, .f32⟩
  | .hbm, ⟨22, _⟩ => ⟨S1x256x128, .f32⟩
  | .hbm, ⟨23, _⟩ => ⟨S1x256x128, .f32⟩
  | .hbm, ⟨24, _⟩ => ⟨S128x16, .f32⟩
  | .hbm, ⟨25, _⟩ => ⟨S1x16x128, .f32⟩
  | .hbm, ⟨26, _⟩ => ⟨S128x1024, .f32⟩
  | .hbm, ⟨27, _⟩ => ⟨S128x1x16x64, .bf16⟩
  | .hbm, ⟨28, _⟩ => ⟨S128x1x16x64, .f32⟩
  | .hbm, ⟨29, _⟩ => ⟨S256x128, .f32⟩
  | .hbm, ⟨30, _⟩ => ⟨S4x64x128, .f32⟩
  | .hbm, ⟨31, _⟩ => ⟨S128x4x64, .f32⟩
  | .hbm, ⟨32, _⟩ => ⟨S128x1x4x64, .f32⟩
  | .hbm, ⟨33, _⟩ => ⟨S256x128, .f32⟩
  | .hbm, ⟨34, _⟩ => ⟨S4x64x128, .f32⟩
  | .hbm, ⟨35, _⟩ => ⟨S128x4x64, .f32⟩
  | .hbm, ⟨36, _⟩ => ⟨S128x1x4x64, .f32⟩
  | .hbm, ⟨37, _⟩ => ⟨S16x128, .f32⟩
  | .hbm, ⟨38, _⟩ => ⟨S128x16, .f32⟩
  | .hbm, ⟨39, _⟩ => ⟨S128x1x16, .f32⟩
  | .local _ .vmem, ⟨0, _⟩ => ⟨S128x1024, .f32⟩
  | .local _ .vmem, ⟨1, _⟩ => ⟨S1x1024, .f32⟩
  | .local _ .vmem, ⟨2, _⟩ => ⟨S1024x2560, .bf16⟩
  | .local _ .vmem, ⟨3, _⟩ => ⟨S1024x128, .bf16⟩
  | .local _ .vmem, ⟨4, _⟩ => ⟨S1x128, .f32⟩
  | .local _ .vmem, ⟨5, _⟩ => ⟨S128x1024, .bf16⟩
  | .local _ .vmem, ⟨6, _⟩ => ⟨S128x256, .f32⟩
  | .local _ .vmem, ⟨7, _⟩ => ⟨S128x256, .f32⟩
  | .local _ .vmem, ⟨8, _⟩ => ⟨S1x256x128, .f32⟩
  | .local _ .vmem, ⟨9, _⟩ => ⟨S1x256x128, .f32⟩
  | .local _ .vmem, ⟨10, _⟩ => ⟨S128x16, .f32⟩
  | .local _ .vmem, ⟨11, _⟩ => ⟨S1x16x128, .f32⟩
  | .local _ .vmem, ⟨12, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev main_v11_6 : Ref sig .tc := ⟨.hbm, 25, rfl⟩
abbrev main_v11_7 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_9 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1x16x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== Reference5Ideal.lean ====
abbrev S128x1x1024 : Shape := ⟨3, ![128, 1, 1024]⟩
abbrev S1024 : Shape := ⟨1, ![1024]⟩
abbrev S1024x2576 : Shape := ⟨2, ![1024, 2576]⟩
abbrev S16 : Shape := ⟨1, ![16]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x2576 : Shape := ⟨3, ![128, 1, 2576]⟩
abbrev S128x1x256 : Shape := ⟨3, ![128, 1, 256]⟩
abbrev S128x1x16 : Shape := ⟨3, ![128, 1, 16]⟩
abbrev S128x1x16x64 : Shape := ⟨4, ![128, 1, 16, 64]⟩
abbrev S1x1x16 : Shape := ⟨3, ![1, 1, 16]⟩
abbrev S128x1x4x64 : Shape := ⟨4, ![128, 1, 4, 64]⟩
abbrev S128x1024 : Shape := ⟨2, ![128, 1024]⟩

abbrev nBuf : Space → Nat
  | .hbm => 52
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x2576, .f32⟩
  | .hbm, ⟨3, _⟩ => ⟨S16, .f32⟩
  | .hbm, ⟨4, _⟩ => ⟨S128x1x1024, .f32⟩
  | .hbm, ⟨5, _⟩ => ⟨S_, .f32⟩
  | .hbm, ⟨6, _⟩ => ⟨S128x1, .f32⟩
  | .hbm, ⟨7, _⟩ => ⟨S128x1x1, .f32⟩
  | .hbm, ⟨8, _⟩ => ⟨S_, .f32⟩
  | .hbm, ⟨9, _⟩ => ⟨S128x1x1, .f32⟩
  | .hbm, ⟨10, _⟩ => ⟨S128x1x1, .f32⟩
  | .hbm, ⟨11, _⟩ => ⟨S_, .f32⟩
  | .hbm, ⟨12, _⟩ => ⟨S128x1x1, .f32⟩
  | .hbm, ⟨13, _⟩ => ⟨S128x1x1, .f32⟩
  | .hbm, ⟨14, _⟩ => ⟨S128x1x1, .f32⟩
  | .hbm, ⟨15, _⟩ => ⟨S128x1x1024, .f32⟩
  | .hbm, ⟨16, _⟩ => ⟨S128x1x1024, .f32⟩
  | .hbm, ⟨17, _⟩ => ⟨S1x1x1024, .f32⟩
  | .hbm, ⟨18, _⟩ => ⟨S128x1x1024, .f32⟩
  | .hbm, ⟨19, _⟩ => ⟨S128x1x1024, .f32⟩
  | .hbm, ⟨20, _⟩ => ⟨S128x1x2576, .f32⟩
  | .hbm, ⟨21, _⟩ => ⟨S128x1x1024, .f32⟩
  | .hbm, ⟨22, _⟩ => ⟨S128x1x256, .f32⟩
  | .hbm, ⟨23, _⟩ => ⟨S128x1x256, .f32⟩
  | .hbm, ⟨24, _⟩ => ⟨S128x1x16, .f32⟩
  | .hbm, ⟨25, _⟩ => ⟨S128x1x1024, .f32⟩
  | .hbm, ⟨26, _⟩ => ⟨S128x1x16x64, .f32⟩
  | .hbm, ⟨27, _⟩ => ⟨S_, .f32⟩
  | .hbm, ⟨28, _⟩ => ⟨S128x1x16x64, .f32⟩
  | .hbm, ⟨29, _⟩ => ⟨S128x1x16x64, .f32⟩
  | .hbm, ⟨30, _⟩ => ⟨S1x1x16, .f32⟩
  | .hbm, ⟨31, _⟩ => ⟨S128x1x16, .f32⟩
  | .hbm, ⟨32, _⟩ => ⟨S128x1x16, .f32⟩
  | .hbm, ⟨33, _⟩ => ⟨S128x1x16, .f32⟩
  | .hbm, ⟨34, _⟩ => ⟨S_, .f32⟩
  | .hbm, ⟨35, _⟩ => ⟨S128x1x16, .f32⟩
  | .hbm, ⟨36, _⟩ => ⟨S128x1x16, .f32⟩
  | .hbm, ⟨37, _⟩ => ⟨S128x1x16, .f32⟩
  | .hbm, ⟨38, _⟩ => ⟨S128x1x16, .f32⟩
  | .hbm, ⟨39, _⟩ => ⟨S128x1x16, .i1⟩
  | .hbm, ⟨40, _⟩ => ⟨S128x1x16, .f32⟩
  | .hbm, ⟨41, _⟩ => ⟨S128x1x16, .f32⟩
  | .hbm, ⟨42, _⟩ => ⟨S128x1x16, .f32⟩
  | .hbm, ⟨43, _⟩ => ⟨S128x1x16, .f32⟩
  | .hbm, ⟨44, _⟩ => ⟨S128x1x16, .f32⟩
  | .hbm, ⟨45, _⟩ => ⟨S128x1x16, .f32⟩
  | .hbm, ⟨46, _⟩ => ⟨S128x1x16, .f32⟩
  | .hbm, ⟨47, _⟩ => ⟨S128x1x16, .f32⟩
  | .hbm, ⟨48, _⟩ => ⟨S128x1x16, .f32⟩
  | .hbm, ⟨49, _⟩ => ⟨S128x1x4x64, .f32⟩
  | .hbm, ⟨50, _⟩ => ⟨S128x1x4x64, .f32⟩
  | .hbm, ⟨51, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_v1 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩

abbrev nD : Nat := 1
abbrev τ : Topo := Topo.v7x

variable {F : FTy → Type} [FloatOps F]
-- ==== Kernel6.lean ====
abbrev S128x1x1024 : Shape := ⟨3, ![128, 1, 1024]⟩
abbrev S128x15x1024 : Shape := ⟨3, ![128, 15, 1024]⟩
abbrev S1024 : Shape := ⟨1, ![1024]⟩
abbrev S1024x2048 : Shape := ⟨2, ![1024, 2048]⟩
abbrev S4x256x256 : Shape := ⟨3, ![4, 256, 256]⟩
abbrev S1024x1024 : Shape := ⟨2, ![1024, 1024]⟩
abbrev S128x1024 : Shape := ⟨2, ![128, 1024]⟩
abbrev S15x128x1024 : Shape := ⟨3, ![15, 128, 1024]⟩
abbrev S1x1024 : Shape := ⟨2, ![1, 1024]⟩
abbrev S128 : Shape := ⟨1, ![128]⟩
abbrev S128x1 : Shape := ⟨2, ![128, 1]⟩
abbrev S1x128x1024 : Shape := ⟨3, ![1, 128, 1024]⟩
abbrev S128x256 : Shape := ⟨2, ![128, 256]⟩
abbrev S1x128x256 : Shape := ⟨3, ![1, 128, 256]⟩
abbrev S1x256x256 : Shape := ⟨3, ![1, 256, 256]⟩
abbrev S256x256 : Shape := ⟨2, ![256, 256]⟩

abbrev nBuf : Space → Nat
  | .hbm => 19
  | .vmem => 10
  | .smem => 0
  | _ => 0

abbrev bufTy : (tb : Table) → Fin (tcTables nBuf tb) → BufTy
  | .hbm, ⟨0, _⟩ => ⟨S128x1x1024, .f32⟩
  | .hbm, ⟨1, _⟩ => ⟨S128x15x1024, .f32⟩
  | .hbm, ⟨2, _⟩ => ⟨S1024, .f32⟩
  | .hbm, ⟨3, _⟩ => ⟨S1024x2048, .f32⟩
  | .hbm, ⟨4, _⟩ => ⟨S4x256x256, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S128x1024, .f32⟩
  | .hbm, ⟨9, _⟩ => ⟨S15x128x1024, .f32⟩
  | .hbm, ⟨10, _⟩ => ⟨S1x1024, .f32⟩
  | .hbm, ⟨11, _⟩ => ⟨S1024x2048, .bf16⟩
  | .hbm, ⟨12, _⟩ => ⟨S4x256x256, .bf16⟩
  | .hbm, ⟨13, _⟩ => ⟨S1x1024, .f32⟩
  | .hbm, ⟨14, _⟩ => ⟨S1024x1024, .bf16⟩
  | .hbm, ⟨15, _⟩ => ⟨S1x1024, .f32⟩
  | .hbm, ⟨16, _⟩ => ⟨S128x1024, .f32⟩
  | .hbm, ⟨17, _⟩ => ⟨S15x128x1024, .f32⟩
  | .hbm, ⟨18, _⟩ => ⟨S128x15x1024, .f32⟩
  | .local _ .vmem, ⟨0, _⟩ => ⟨S128x1024, .f32⟩
  | .local _ .vmem, ⟨1, _⟩ => ⟨S15x128x1024, .f32⟩
  | .local _ .vmem, ⟨2, _⟩ => ⟨S1x1024, .f32⟩
  | .local _ .vmem, ⟨3, _⟩ => ⟨S1024x2048, .bf16⟩
  | .local _ .vmem, ⟨4, _⟩ => ⟨S4x256x256, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S128x1024, .f32⟩
  | .local _ .vmem, ⟨9, _⟩ => ⟨S15x128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S15x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S15x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference6Ideal.lean ====
abbrev S128x1x1024 : Shape := ⟨3, ![128, 1, 1024]⟩
abbrev S128x15x1024 : Shape := ⟨3, ![128, 15, 1024]⟩
abbrev S1024 : Shape := ⟨1, ![1024]⟩
abbrev S1024x2048 : Shape := ⟨2, ![1024, 2048]⟩
abbrev S4x256x256 : Shape := ⟨3, ![4, 256, 256]⟩
abbrev S1024x1024 : Shape := ⟨2, ![1024, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x2048 : Shape := ⟨3, ![128, 1, 2048]⟩
abbrev S128x16x1024 : Shape := ⟨3, ![128, 16, 1024]⟩
abbrev S128x2x256 : Shape := ⟨3, ![128, 2, 256]⟩
abbrev S128x256 : Shape := ⟨2, ![128, 256]⟩
abbrev S128x1x256 : Shape := ⟨3, ![128, 1, 256]⟩
abbrev S128x4x256 : Shape := ⟨3, ![128, 4, 256]⟩
abbrev S128x8x256 : Shape := ⟨3, ![128, 8, 256]⟩
abbrev S128x16x256 : Shape := ⟨3, ![128, 16, 256]⟩
abbrev S128x1x4x256 : Shape := ⟨4, ![128, 1, 4, 256]⟩
abbrev S4x256x128x1 : Shape := ⟨4, ![4, 256, 128, 1]⟩
abbrev S128x1024 : Shape := ⟨2, ![128, 1024]⟩

abbrev nBuf : Space → Nat
  | .hbm => 95
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x15x1024, .f32⟩
  | .hbm, ⟨2, _⟩ => ⟨S1024, .f32⟩
  | .hbm, ⟨3, _⟩ => ⟨S1024x2048, .f32⟩
  | .hbm, ⟨4, _⟩ => ⟨S4x256x256, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S128x1x1024, .f32⟩
  | .hbm, ⟨9, _⟩ => ⟨S_, .f32⟩
  | .hbm, ⟨10, _⟩ => ⟨S128x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S_, .f32⟩
  | .hbm, ⟨16, _⟩ => ⟨S128x1x1, .f32⟩
  | .hbm, ⟨17, _⟩ => ⟨S128x1x1, .f32⟩
  | .hbm, ⟨18, _⟩ => ⟨S128x1x1, .f32⟩
  | .hbm, ⟨19, _⟩ => ⟨S128x1x1024, .f32⟩
  | .hbm, ⟨20, _⟩ => ⟨S128x1x1024, .f32⟩
  | .hbm, ⟨21, _⟩ => ⟨S1x1x1024, .f32⟩
  | .hbm, ⟨22, _⟩ => ⟨S128x1x1024, .f32⟩
  | .hbm, ⟨23, _⟩ => ⟨S128x1x1024, .f32⟩
  | .hbm, ⟨24, _⟩ => ⟨S128x1x2048, .f32⟩
  | .hbm, ⟨25, _⟩ => ⟨S128x1x1024, .f32⟩
  | .hbm, ⟨26, _⟩ => ⟨S128x1x1024, .f32⟩
  | .hbm, ⟨27, _⟩ => ⟨S128x16x1024, .f32⟩
  | .hbm, ⟨28, _⟩ => ⟨S128x2x256, .f32⟩
  | .hbm, ⟨29, _⟩ => ⟨S_, .f32⟩
  | .hbm, ⟨30, _⟩ => ⟨S128x256, .f32⟩
  | .hbm, ⟨31, _⟩ => ⟨S128x1x256, .f32⟩
  | .hbm, ⟨32, _⟩ => ⟨S_, .f32⟩
  | .hbm, ⟨33, _⟩ => ⟨S128x1x256, .f32⟩
  | .hbm, ⟨34, _⟩ => ⟨S128x1x256, .f32⟩
  | .hbm, ⟨35, _⟩ => ⟨S128x4x256, .f32⟩
  | .hbm, ⟨36, _⟩ => ⟨S_, .f32⟩
  | .hbm, ⟨37, _⟩ => ⟨S128x256, .f32⟩
  | .hbm, ⟨38, _⟩ => ⟨S128x1x256, .f32⟩
  | .hbm, ⟨39, _⟩ => ⟨S_, .f32⟩
  | .hbm, ⟨40, _⟩ => ⟨S128x1x256, .f32⟩
  | .hbm, ⟨41, _⟩ => ⟨S128x1x256, .f32⟩
  | .hbm, ⟨42, _⟩ => ⟨S128x8x256, .f32⟩
  | .hbm, ⟨43, _⟩ => ⟨S_, .f32⟩
  | .hbm, ⟨44, _⟩ => ⟨S128x256, .f32⟩
  | .hbm, ⟨45, _⟩ => ⟨S128x1x256, .f32⟩
  | .hbm, ⟨46, _⟩ => ⟨S_, .f32⟩
  | .hbm, ⟨47, _⟩ => ⟨S128x1x256, .f32⟩
  | .hbm, ⟨48, _⟩ => ⟨S128x1x256, .f32⟩
  | .hbm, ⟨49, _⟩ => ⟨S128x16x256, .f32⟩
  | .hbm, ⟨50, _⟩ => ⟨S_, .f32⟩
  | .hbm, ⟨51, _⟩ => ⟨S128x256, .f32⟩
  | .hbm, ⟨52, _⟩ => ⟨S128x1x256, .f32⟩
  | .hbm, ⟨53, _⟩ => ⟨S_, .f32⟩
  | .hbm, ⟨54, _⟩ => ⟨S128x1x256, .f32⟩
  | .hbm, ⟨55, _⟩ => ⟨S128x1x256, .f32⟩
  | .hbm, ⟨56, _⟩ => ⟨S128x1x1024, .f32⟩
  | .hbm, ⟨57, _⟩ => ⟨S128x1x1024, .f32⟩
  | .hbm, ⟨58, _⟩ => ⟨S128x1x4x256, .f32⟩
  | .hbm, ⟨59, _⟩ => ⟨S4x256x128x1, .f32⟩
  | .hbm, ⟨60, _⟩ => ⟨S128x1x4x256, .f32⟩
  | .hbm, ⟨61, _⟩ => ⟨S128x1x1024, .f32⟩
  | .hbm, ⟨62, _⟩ => ⟨S1x1x1024, .f32⟩
  | .hbm, ⟨63, _⟩ => ⟨S128x1x1024, .f32⟩
  | .hbm, ⟨64, _⟩ => ⟨S128x1x1024, .f32⟩
  | .hbm, ⟨65, _⟩ => ⟨S128x1x1024, .f32⟩
  | .hbm, ⟨66, _⟩ => ⟨S128x1x1024, .f32⟩
  | .hbm, ⟨67, _⟩ => ⟨S_, .f32⟩
  | .hbm, ⟨68, _⟩ => ⟨S128x1x1024, .f32⟩
  | .hbm, ⟨69, _⟩ => ⟨S128x1x1024, .f32⟩
  | .hbm, ⟨70, _⟩ => ⟨S_, .f32⟩
  | .hbm, ⟨71, _⟩ => ⟨S128x1x1024, .f32⟩
  | .hbm, ⟨72, _⟩ => ⟨S128x1x1024, .f32⟩
  | .hbm, ⟨73, _⟩ => ⟨S128x1x1024, .f32⟩
  | .hbm, ⟨74, _⟩ => ⟨S128x1x1024, .f32⟩
  | .hbm, ⟨75, _⟩ => ⟨S128x1x1024, .f32⟩
  | .hbm, ⟨76, _⟩ => ⟨S128x1x1024, .f32⟩
  | .hbm, ⟨77, _⟩ => ⟨S128x1x1024, .f32⟩
  | .hbm, ⟨78, _⟩ => ⟨S_, .f32⟩
  | .hbm, ⟨79, _⟩ => ⟨S128x1, .f32⟩
  | .hbm, ⟨80, _⟩ => ⟨S128x1x1, .f32⟩
  | .hbm, ⟨81, _⟩ => ⟨S_, .f32⟩
  | .hbm, ⟨82, _⟩ => ⟨S128x1x1, .f32⟩
  | .hbm, ⟨83, _⟩ => ⟨S128x1x1, .f32⟩
  | .hbm, ⟨84, _⟩ => ⟨S_, .f32⟩
  | .hbm, ⟨85, _⟩ => ⟨S128x1x1, .f32⟩
  | .hbm, ⟨86, _⟩ => ⟨S128x1x1, .f32⟩
  | .hbm, ⟨87, _⟩ => ⟨S128x1x1, .f32⟩
  | .hbm, ⟨88, _⟩ => ⟨S128x1x1024, .f32⟩
  | .hbm, ⟨89, _⟩ => ⟨S128x1x1024, .f32⟩
  | .hbm, ⟨90, _⟩ => ⟨S1x1x1024, .f32⟩
  | .hbm, ⟨91, _⟩ => ⟨S128x1x1024, .f32⟩
  | .hbm, ⟨92, _⟩ => ⟨S128x1x1024, .f32⟩
  | .hbm, ⟨93, _⟩ => ⟨S128x1024, .f32⟩
  | .hbm, ⟨94, _⟩ => ⟨S128x15x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_cst_12 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]
-- ==== Kernel7.lean ====
abbrev S128x1x16x64 : Shape := ⟨4, ![128, 1, 16, 64]⟩
abbrev S128x1x4x64 : Shape := ⟨4, ![128, 1, 4, 64]⟩
abbrev S128x128x4x64 : Shape := ⟨4, ![128, 128, 4, 64]⟩
abbrev S16 : Shape := ⟨1, ![16]⟩
abbrev S32x16 : Shape := ⟨2, ![32, 16]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x16 : Shape := ⟨2, ![128, 16]⟩
abbrev S16x128 : Shape := ⟨2, ![16, 128]⟩
abbrev S1x16 : Shape := ⟨2, ![1, 16]⟩
abbrev S16x1 : Shape := ⟨2, ![16, 1]⟩
abbrev S128x1024 : Shape := ⟨2, ![128, 1024]⟩
abbrev S128x256 : Shape := ⟨2, ![128, 256]⟩
abbrev S128x4x4x64 : Shape := ⟨4, ![128, 4, 4, 64]⟩
abbrev S4x4 : Shape := ⟨2, ![4, 4]⟩
abbrev S128x4x4x1x64 : Shape := ⟨5, ![128, 4, 4, 1, 64]⟩
abbrev S1x4x1x4x1 : Shape := ⟨5, ![1, 4, 1, 4, 1]⟩
abbrev S128x4x4x4x64 : Shape := ⟨5, ![128, 4, 4, 4, 64]⟩
abbrev S128x16x256 : Shape := ⟨3, ![128, 16, 256]⟩
abbrev S128x4x64x128 : Shape := ⟨4, ![128, 4, 64, 128]⟩
abbrev S128x256x128 : Shape := ⟨3, ![128, 256, 128]⟩
abbrev S128x1x256 : Shape := ⟨3, ![128, 1, 256]⟩
abbrev S256x128 : Shape := ⟨2, ![256, 128]⟩
abbrev S128x16x64 : Shape := ⟨3, ![128, 16, 64]⟩
abbrev S8x16x256 : Shape := ⟨3, ![8, 16, 256]⟩
abbrev S8x256x128 : Shape := ⟨3, ![8, 256, 128]⟩
abbrev S8x1x256 : Shape := ⟨3, ![8, 1, 256]⟩
abbrev S8x16x64 : Shape := ⟨3, ![8, 16, 64]⟩
abbrev S1x256x128 : Shape := ⟨3, ![1, 256, 128]⟩
abbrev S1x16x256 : Shape := ⟨3, ![1, 16, 256]⟩
abbrev S16x256 : Shape := ⟨2, ![16, 256]⟩
abbrev S1x1x256 : Shape := ⟨3, ![1, 1, 256]⟩
abbrev S1x256 : Shape := ⟨2, ![1, 256]⟩
abbrev S16x64 : Shape := ⟨2, ![16, 64]⟩
abbrev S1x16x64 : Shape := ⟨3, ![1, 16, 64]⟩
abbrev S256 : Shape := ⟨1, ![256]⟩
abbrev S256x1 : Shape := ⟨2, ![256, 1]⟩

abbrev nBuf : Space → Nat
  | .hbm => 63
  | .vmem => 21
  | .smem => 0
  | _ => 0

abbrev bufTy : (tb : Table) → Fin (tcTables nBuf tb) → BufTy
  | .hbm, ⟨0, _⟩ => ⟨S128x1x16x64, .f32⟩
  | .hbm, ⟨1, _⟩ => ⟨S128x1x4x64, .f32⟩
  | .hbm, ⟨2, _⟩ => ⟨S128x1x4x64, .f32⟩
  | .hbm, ⟨3, _⟩ => ⟨S128x128x4x64, .f32⟩
  | .hbm, ⟨4, _⟩ => ⟨S128x128x4x64, .f32⟩
  | .hbm, ⟨5, _⟩ => ⟨S16, .f32⟩
  | .hbm, ⟨6, _⟩ => ⟨S32x16, .f32⟩
  | .hbm, ⟨7, _⟩ => ⟨S128, .i32⟩
  | .hbm, ⟨8, _⟩ => ⟨S128, .i1⟩
  | .hbm, ⟨9, _⟩ => ⟨S128, .i1⟩
  | .hbm, ⟨10, _⟩ => ⟨S1x128, .i1⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S128, .i32⟩
  | .hbm, ⟨15, _⟩ => ⟨S128x1, .i32⟩
  | .hbm, ⟨16, _⟩ => ⟨S128x16, .f32⟩
  | .hbm, ⟨17, _⟩ => ⟨S16x128, .f32⟩
  | .hbm, ⟨18, _⟩ => ⟨S_, .f32⟩
  | .hbm, ⟨19, _⟩ => ⟨S_, .f32⟩
  | .hbm, ⟨20, _⟩ => ⟨S16x128, .i1⟩
  | .hbm, ⟨21, _⟩ => ⟨S16x128, .f32⟩
  | .hbm, ⟨22, _⟩ => ⟨S16x128, .f32⟩
  | .hbm, ⟨23, _⟩ => ⟨S1x16, .f32⟩
  | .hbm, ⟨24, _⟩ => ⟨S16, .f32⟩
  | .hbm, ⟨25, _⟩ => ⟨S16x1, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .bf16⟩
  | .hbm, ⟨31, _⟩ => ⟨S128x256, .f32⟩
  | .hbm, ⟨32, _⟩ => ⟨S128x256, .f32⟩
  | .hbm, ⟨33, _⟩ => ⟨S128x4x4x64, .bf16⟩
  | .hbm, ⟨34, _⟩ => ⟨S4x4, .i32⟩
  | .hbm, ⟨35, _⟩ => ⟨S4x4, .i32⟩
  | .hbm, ⟨36, _⟩ => ⟨S_, .i32⟩
  | .hbm, ⟨37, _⟩ => ⟨S4x4, .i32⟩
  | .hbm, ⟨38, _⟩ => ⟨S4x4, .i32⟩
  | .hbm, ⟨39, _⟩ => ⟨S4x4, .i1⟩
  | .hbm, ⟨40, _⟩ => ⟨S4x4, .bf16⟩
  | .hbm, ⟨41, _⟩ => ⟨S128x4x4x1x64, .bf16⟩
  | .hbm, ⟨42, _⟩ => ⟨S1x4x1x4x1, .bf16⟩
  | .hbm, ⟨43, _⟩ => ⟨S128x4x4x4x64, .bf16⟩
  | .hbm, ⟨44, _⟩ => ⟨S128x4x4x4x64, .bf16⟩
  | .hbm, ⟨45, _⟩ => ⟨S128x4x4x4x64, .bf16⟩
  | .hbm, ⟨46, _⟩ => ⟨S128x16x256, .bf16⟩
  | .hbm, ⟨47, _⟩ => ⟨S128x4x64x128, .f32⟩
  | .hbm, ⟨48, _⟩ => ⟨S128x256x128, .f32⟩
  | .hbm, ⟨49, _⟩ => ⟨S128x4x64x128, .f32⟩
  | .hbm, ⟨50, _⟩ => ⟨S128x256x128, .f32⟩
  | .hbm, ⟨51, _⟩ => ⟨S128x1x256, .f32⟩
  | .hbm, ⟨52, _⟩ => ⟨S128x1x256, .f32⟩
  | .hbm, ⟨53, _⟩ => ⟨S256x128, .f32⟩
  | .hbm, ⟨54, _⟩ => ⟨S256x128, .f32⟩
  | .hbm, ⟨55, _⟩ => ⟨S16x1, .f32⟩
  | .hbm, ⟨56, _⟩ => ⟨S128x16x64, .f32⟩
  | .hbm, ⟨57, _⟩ => ⟨S128x256x128, .f32⟩
  | .hbm, ⟨58, _⟩ => ⟨S128x256x128, .f32⟩
  | .hbm, ⟨59, _⟩ => ⟨S128x4x64x128, .f32⟩
  | .hbm, ⟨60, _⟩ => ⟨S128x128x4x64, .f32⟩
  | .hbm, ⟨61, _⟩ => ⟨S128x4x64x128, .f32⟩
  | .hbm, ⟨62, _⟩ => ⟨S128x128x4x64, .f32⟩
  | .local _ .vmem, ⟨0, _⟩ => ⟨S8x16x256, .bf16⟩
  | .local _ .vmem, ⟨1, _⟩ => ⟨S8x16x256, .bf16⟩
  | .local _ .vmem, ⟨2, _⟩ => ⟨S8x256x128, .f32⟩
  | .local _ .vmem, ⟨3, _⟩ => ⟨S8x256x128, .f32⟩
  | .local _ .vmem, ⟨4, _⟩ => ⟨S8x256x128, .f32⟩
  | .local _ .vmem, ⟨5, _⟩ => ⟨S8x256x128, .f32⟩
  | .local _ .vmem, ⟨6, _⟩ => ⟨S8x1x256, .f32⟩
  | .local _ .vmem, ⟨7, _⟩ => ⟨S8x1x256, .f32⟩
  | .local _ .vmem, ⟨8, _⟩ => ⟨S8x1x256, .f32⟩
  | .local _ .vmem, ⟨9, _⟩ => ⟨S8x1x256, .f32⟩
  | .local _ .vmem, ⟨10, _⟩ => ⟨S256x128, .f32⟩
  | .local _ .vmem, ⟨11, _⟩ => ⟨S256x128, .f32⟩
  | .local _ .vmem, ⟨12, _⟩ => ⟨S16x128, .f32⟩
  | .local _ .vmem, ⟨13, _⟩ => ⟨S16x1, .f32⟩
  | .local _ .vmem, ⟨14, _⟩ => ⟨S16x1, .f32⟩
  | .local _ .vmem, ⟨15, _⟩ => ⟨S8x16x64, .f32⟩
  | .local _ .vmem, ⟨16, _⟩ => ⟨S8x16x64, .f32⟩
  | .local _ .vmem, ⟨17, _⟩ => ⟨S8x256x128, .f32⟩
  | .local _ .vmem, ⟨18, _⟩ => ⟨S8x256x128, .f32⟩
  | .local _ .vmem, ⟨19, _⟩ => ⟨S8x256x128, .f32⟩
  | .local _ .vmem, ⟨20, _⟩ => ⟨S8x256x128, .f32⟩
  | _, _ => ⟨S128x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_v0 : Ref sig .tc := ⟨.hbm, 10, rfl⟩
abbrev main_c_2 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39_0 : Ref sig .tc := ⟨.hbm, 56, rfl⟩
abbrev main_v39_1 : Ref sig .tc := ⟨.hbm, 57, rfl⟩
abbrev main_v39_2 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x16x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x16x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference7Ideal.lean ====
abbrev S128x1x16x64 : Shape := ⟨4, ![128, 1, 16, 64]⟩
abbrev S128x1x4x64 : Shape := ⟨4, ![128, 1, 4, 64]⟩
abbrev S128x128x4x64 : Shape := ⟨4, ![128, 128, 4, 64]⟩
abbrev S16 : Shape := ⟨1, ![16]⟩
abbrev S32x16 : Shape := ⟨2, ![32, 16]⟩
abbrev S128x129x4x64 : Shape := ⟨4, ![128, 129, 4, 64]⟩
abbrev S129 : Shape := ⟨1, ![129]⟩
abbrev S_ : Shape := ⟨0, ![]⟩
abbrev S129x1 : Shape := ⟨2, ![129, 1]⟩
abbrev S129x16 : Shape := ⟨2, ![129, 16]⟩
abbrev S16x129 : Shape := ⟨2, ![16, 129]⟩
abbrev S4x4x129 : Shape := ⟨3, ![4, 4, 129]⟩
abbrev S128x4x4x64 : Shape := ⟨4, ![128, 4, 4, 64]⟩
abbrev S128x4x4x129 : Shape := ⟨4, ![128, 4, 4, 129]⟩
abbrev S1x4x4x129 : Shape := ⟨4, ![1, 4, 4, 129]⟩
abbrev S4x4x1 : Shape := ⟨3, ![4, 4, 1]⟩
abbrev S128x4x4 : Shape := ⟨3, ![128, 4, 4]⟩
abbrev S128x4x4x1 : Shape := ⟨4, ![128, 4, 4, 1]⟩
abbrev S1x4x4x1 : Shape := ⟨4, ![1, 4, 4, 1]⟩
abbrev S128x16x64 : Shape := ⟨3, ![128, 16, 64]⟩

abbrev nBuf : Space → Nat
  | .hbm => 92
  | .vmem => 0
  | .smem => 0
  | _ => 0

abbrev bufTy : (tb : Table) → Fin (tcTables nBuf tb) → BufTy
  | .hbm, ⟨0, _⟩ => ⟨S128x1x16x64, .f32⟩
  | .hbm, ⟨1, _⟩ => ⟨S128x1x4x64, .f32⟩
  | .hbm, ⟨2, _⟩ => ⟨S128x1x4x64, .f32⟩
  | .hbm, ⟨3, _⟩ => ⟨S128x128x4x64, .f32⟩
  | .hbm, ⟨4, _⟩ => ⟨S128x128x4x64, .f32⟩
  | .hbm, ⟨5, _⟩ => ⟨S16, .f32⟩
  | .hbm, ⟨6, _⟩ => ⟨S32x16, .f32⟩
  | .hbm, ⟨7, _⟩ => ⟨S128x129x4x64, .f32⟩
  | .hbm, ⟨8, _⟩ => ⟨S128x129x4x64, .f32⟩
  | .hbm, ⟨9, _⟩ => ⟨S129, .i32⟩
  | .hbm, ⟨10, _⟩ => ⟨S_, .i32⟩
  | .hbm, ⟨11, _⟩ => ⟨S129, .i32⟩
  | .hbm, ⟨12, _⟩ => ⟨S129, .i32⟩
  | .hbm, ⟨13, _⟩ => ⟨S_, .i32⟩
  | .hbm, ⟨14, _⟩ => ⟨S129, .i32⟩
  | .hbm, ⟨15, _⟩ => ⟨S129, .i32⟩
  | .hbm, ⟨16, _⟩ => ⟨S_, .i32⟩
  | .hbm, ⟨17, _⟩ => ⟨S129, .i32⟩
  | .hbm, ⟨18, _⟩ => ⟨S129, .i32⟩
  | .hbm, ⟨19, _⟩ => ⟨S129, .f32⟩
  | .hbm, ⟨20, _⟩ => ⟨S_, .f32⟩
  | .hbm, ⟨21, _⟩ => ⟨S129, .f32⟩
  | .hbm, ⟨22, _⟩ => ⟨S129, .f32⟩
  | .hbm, ⟨23, _⟩ => ⟨S129, .f32⟩
  | .hbm, ⟨24, _⟩ => ⟨S_, .f32⟩
  | .hbm, ⟨25, _⟩ => ⟨S129, .f32⟩
  | .hbm, ⟨26, _⟩ => ⟨S129, .f32⟩
  | .hbm, ⟨27, _⟩ => ⟨S_, .f32⟩
  | .hbm, ⟨28, _⟩ => ⟨S129, .f32⟩
  | .hbm, ⟨29, _⟩ => ⟨S129, .f32⟩
  | .hbm, ⟨30, _⟩ => ⟨S129, .i32⟩
  | .hbm, ⟨31, _⟩ => ⟨S_, .i32⟩
  | .hbm, ⟨32, _⟩ => ⟨S129, .i32⟩
  | .hbm, ⟨33, _⟩ => ⟨S129, .i32⟩
  | .hbm, ⟨34, _⟩ => ⟨S_, .i32⟩
  | .hbm, ⟨35, _⟩ => ⟨S129, .i32⟩
  | .hbm, ⟨36, _⟩ => ⟨S129, .i32⟩
  | .hbm, ⟨37, _⟩ => ⟨S_, .i32⟩
  | .hbm, ⟨38, _⟩ => ⟨S129, .i32⟩
  | .hbm, ⟨39, _⟩ => ⟨S129, .i1⟩
  | .hbm, ⟨40, _⟩ => ⟨S129, .i32⟩
  | .hbm, ⟨41, _⟩ => ⟨S_, .i32⟩
  | .hbm, ⟨42, _⟩ => ⟨S129, .i32⟩
  | .hbm, ⟨43, _⟩ => ⟨S129, .i1⟩
  | .hbm, ⟨44, _⟩ => ⟨S_, .i32⟩
  | .hbm, ⟨45, _⟩ => ⟨S129, .i32⟩
  | .hbm, ⟨46, _⟩ => ⟨S129, .i32⟩
  | .hbm, ⟨47, _⟩ => ⟨S129, .i32⟩
  | .hbm, ⟨48, _⟩ => ⟨S129x1, .i32⟩
  | .hbm, ⟨49, _⟩ => ⟨S129x16, .f32⟩
  | .hbm, ⟨50, _⟩ => ⟨S16x129, .f32⟩
  | .hbm, ⟨51, _⟩ => ⟨S4x4x129, .f32⟩
  | .hbm, ⟨52, _⟩ => ⟨S128x4x4x64, .f32⟩
  | .hbm, ⟨53, _⟩ => ⟨S128x4x4x129, .f32⟩
  | .hbm, ⟨54, _⟩ => ⟨S_, .f32⟩
  | .hbm, ⟨55, _⟩ => ⟨S128x4x4x129, .f32⟩
  | .hbm, ⟨56, _⟩ => ⟨S128x4x4x129, .f32⟩
  | .hbm, ⟨57, _⟩ => ⟨S1x4x4x129, .f32⟩
  | .hbm, ⟨58, _⟩ => ⟨S128x4x4x129, .f32⟩
  | .hbm, ⟨59, _⟩ => ⟨S128x4x4x129, .f32⟩
  | .hbm, ⟨60, _⟩ => ⟨S_, .i32⟩
  | .hbm, ⟨61, _⟩ => ⟨S129, .i32⟩
  | .hbm, ⟨62, _⟩ => ⟨S129, .i1⟩
  | .hbm, ⟨63, _⟩ => ⟨S_, .f32⟩
  | .hbm, ⟨64, _⟩ => ⟨S_, .f32⟩
  | .hbm, ⟨65, _⟩ => ⟨S128x4x4x129, .i1⟩
  | .hbm, ⟨66, _⟩ => ⟨S128x4x4x129, .f32⟩
  | .hbm, ⟨67, _⟩ => ⟨S128x4x4x129, .f32⟩
  | .hbm, ⟨68, _⟩ => ⟨S4x4x1, .f32⟩
  | .hbm, ⟨69, _⟩ => ⟨S_, .f32⟩
  | .hbm, ⟨70, _⟩ => ⟨S128x4x4, .f32⟩
  | .hbm, ⟨71, _⟩ => ⟨S128x4x4x1, .f32⟩
  | .hbm, ⟨72, _⟩ => ⟨S1x4x4x1, .f32⟩
  | .hbm, ⟨73, _⟩ => ⟨S128x4x4x1, .f32⟩
  | .hbm, ⟨74, _⟩ => ⟨S128x4x4x1, .f32⟩
  | .hbm, ⟨75, _⟩ => ⟨S128x4x4x129, .f32⟩
  | .hbm, ⟨76, _⟩ => ⟨S128x4x4x129, .f32⟩
  | .hbm, ⟨77, _⟩ => ⟨S128x4x4x129, .f32⟩
  | .hbm, ⟨78, _⟩ => ⟨S_, .f32⟩
  | .hbm, ⟨79, _⟩ => ⟨S128x4x4, .f32⟩
  | .hbm, ⟨80, _⟩ => ⟨S128x4x4x1, .f32⟩
  | .hbm, ⟨81, _⟩ => ⟨S1x4x4x1, .f32⟩
  | .hbm, ⟨82, _⟩ => ⟨S128x4x4x1, .f32⟩
  | .hbm, ⟨83, _⟩ => ⟨S128x4x4x1, .f32⟩
  | .hbm, ⟨84, _⟩ => ⟨S128x4x4x1, .f32⟩
  | .hbm, ⟨85, _⟩ => ⟨S128x4x4x1, .f32⟩
  | .hbm, ⟨86, _⟩ => ⟨S128x4x4x129, .f32⟩
  | .hbm, ⟨87, _⟩ => ⟨S128x4x4x129, .f32⟩
  | .hbm, ⟨88, _⟩ => ⟨S128x4x4x64, .f32⟩
  | .hbm, ⟨89, _⟩ => ⟨S128x16x64, .f32⟩
  | .hbm, ⟨90, _⟩ => ⟨S128x128x4x64, .f32⟩
  | .hbm, ⟨91, _⟩ => ⟨S128x128x4x64, .f32⟩
  | _, _ => ⟨S128x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_7 : Ref sig .tc := ⟨.hbm, 41, rfl⟩
abbrev main_v25 : Ref sig .tc := ⟨.hbm, 42, rfl⟩
abbrev main_v26 : Ref sig .tc := ⟨.hbm, 43, rfl⟩
abbrev main_c_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v43 : Ref sig .tc := ⟨.hbm, 67, rfl⟩
abbrev main_v44 : Ref sig .tc := ⟨.hbm, 68, rfl⟩
abbrev main_cst_12 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_13 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== Proof.Pool.Rows.lean ====
/-
  The pooling layer's mathematics, one row at a time, over the extended reals: no program, no tile, no buffer.

  A row is a function of its column. `layer` below is what one pooling branch computes at position `t` of a sequence
  whose residual rows are `X 0, X 1, …`: normalise, project to the value `u` and the gate, take each column's mean over
  the last 2, 4, 8 or 16 rows (fewer at the sequence's start) minus the row itself, mix each group of 256 columns by its
  own matrix, scale, gate, project back and add the residual row.
-/
module

public import Idealize.ShloMosaic.Lib.Pointwise

@[expose] public section
noncomputable section
namespace Cert.Pool
open Idealize.ShloMosaic

/-- The small constant under the root (the float word both programs hold). -/
def eps : EReal := Ideal.ofBits .f32 0x358637BD#32
/-- The number of columns, 1024 (the float word both programs divide by). -/
def width1024 : EReal := Ideal.ofBits .f32 0x44800000#32

/-- `x · σ(x)`. -/
def silu (x : EReal) : EReal := x * Ideal.logistic x

/-- Root-mean-square normalisation of a row, with gains `g`. -/
def rms (v g : Fin 1024 → EReal) (c : Fin 1024) : EReal :=
  v c * Ideal.rsqrt (Ideal.div (∑ k, v k * v k) width1024 + eps) * g c

/-- The residual row after another branch's gated output `o · silu(gate)` has gone through its output projection. -/
def pend (x o gate : Fin 1024 → EReal) (W : Fin 1024 → Fin 1024 → EReal) (c : Fin 1024) : EReal :=
  x c + ∑ k, o k * silu (gate k) * W k c

/-- The sum of the (at most) `w` rows that end at `t`. -/
def wsum (w : ℕ) (U : ℕ → EReal) (t : ℕ) : EReal := ∑ j ∈ Finset.range w, if j ≤ t then U (t - j) else 0

/-- How many rows that sum has, as a real number. -/
def count (w t : ℕ) : EReal := (((min (t + 1) w : ℕ) : ℝ) : EReal)

/-- The mean of the (at most) `w` rows that end at `t`. -/
def wmean (w : ℕ) (U : ℕ → EReal) (t : ℕ) : EReal := Ideal.div (wsum w U t) (count w t)

/-- The window of column group `g`: 2, 4, 8, 16. -/
def window (g : ℕ) : ℕ := 2 ^ (g + 1)

/-- A row mixed group by group: column `c` of group `c / 256` is that group's 256 columns against column `c % 256` of
    the group's matrix. -/
def mixRow (P : Fin 1024 → EReal) (M : Fin 4 → Fin 256 → Fin 256 → EReal) (c : Fin 1024) : EReal :=
  ∑ k : Fin 256, P ⟨256 * (c.val / 256) + k.val, by omega⟩ * M ⟨c.val / 256, by omega⟩ k ⟨c.val % 256, by omega⟩

/-- The branch's output row from the residual row, the gate row and the pooled row. -/
def branch (x gate P : Fin 1024 → EReal) (M : Fin 4 → Fin 256 → Fin 256 → EReal) (sc : Fin 1024 → EReal)
    (Wo : Fin 1024 → Fin 1024 → EReal) (c : Fin 1024) : EReal :=
  x c + ∑ k, mixRow P M k * sc k * silu (gate k) * Wo k c

/-- The layer's weights. -/
structure Weights where
  g : Fin 1024 → EReal
  wIn : Fin 1024 → Fin 2048 → EReal
  mix : Fin 4 → Fin 256 → Fin 256 → EReal
  sc : Fin 1024 → EReal
  wOut : Fin 1024 → Fin 1024 → EReal

/-- The value row `u`: the first 1024 columns of the input projection. -/
def uRow (W : Weights) (x : Fin 1024 → EReal) (c : Fin 1024) : EReal :=
  ∑ k, rms x W.g k * W.wIn k ⟨c.val, by omega⟩

/-- The gate row: the last 1024 columns. -/
def gateRow (W : Weights) (x : Fin 1024 → EReal) (c : Fin 1024) : EReal :=
  ∑ k, rms x W.g k * W.wIn k ⟨1024 + c.val, by omega⟩

/-- The pooled row: each column's window mean minus the column. -/
def poolRow (W : Weights) (X : ℕ → Fin 1024 → EReal) (t : ℕ) (c : Fin 1024) : EReal :=
  wmean (window (c.val / 256)) (fun s => uRow W (X s) c) t - uRow W (X t) c

/-- The branch at position `t` of the sequence with residual rows `X`. -/
def layer (W : Weights) (X : ℕ → Fin 1024 → EReal) (t : ℕ) : Fin 1024 → EReal :=
  branch (X t) (gateRow W (X t)) (poolRow W X t) W.mix W.sc W.wOut

/-- The arrays of one call: the activations of two sequences of 8192 rows, a square matrix, a gain vector, the wide
    matrix, the four mixing matrices. -/
abbrev Act : Type := (⟨3, ![2, 8192, 1024]⟩ : Shape).Idx → EReal
abbrev Square : Type := (⟨2, ![1024, 1024]⟩ : Shape).Idx → EReal
abbrev Gains : Type := (⟨1, ![1024]⟩ : Shape).Idx → EReal
abbrev Wide : Type := (⟨2, ![1024, 2048]⟩ : Shape).Idx → EReal
abbrev Mix : Type := (⟨3, ![4, 256, 256]⟩ : Shape).Idx → EReal

/-- The layer's weights, read off their arrays. -/
def weights (g : Gains) (wIn : Wide) (mix : Mix) (sc : Gains) (wOut : Square) : Weights where
  g k := g (ix1 k)
  wIn k c := wIn (ix2 k c)
  mix a k d := mix (ix3 a k d)
  sc k := sc (ix1 k)
  wOut k c := wOut (ix2 k c)

/-- The residual rows of sequence `s` after the pending branch (zero past the end). -/
def pendRows (x o gate : Act) (Wf : Square) (s : Fin 2) (t : ℕ) (c : Fin 1024) : EReal :=
  if h : t < 8192 then pend (fun k => x (ix3 s ⟨t, h⟩ k)) (fun k => o (ix3 s ⟨t, h⟩ k)) (fun k => gate (ix3 s ⟨t, h⟩ k))
    (fun k c => Wf (ix2 k c)) c else 0

/-- Dividing by a count of rows is multiplying by its reciprocal. -/
theorem mul_div_one_count (w t : ℕ) (hw : 0 < w) (x : EReal) : x * Ideal.div 1 (count w t) = Ideal.div x (count w t) := by
  have h : (((min (t + 1) w : ℕ) : ℝ)) ≠ 0 := by
    have : 0 < min (t + 1) w := by omega
    exact_mod_cast this.ne'
  unfold count
  rw [Ideal.div_coe h, Ideal.div_coe h, one_mul]

/-- A sum of 2 rows, in the order the doubling takes them. -/
theorem wsum_two (U : ℕ → EReal) (B : ℕ → EReal) (t : ℕ) (h : ∀ j < 16, B j = if j ≤ t then U (t - j) else 0) :
    B 0 + B 1 = wsum 2 U t := by
  simp only [wsum, Finset.sum_range_succ, Finset.sum_range_zero, zero_add]
  rw [← h 0 (by omega), ← h 1 (by omega)]

/-- A sum of 4 rows by doubling. -/
theorem wsum_four (U : ℕ → EReal) (B : ℕ → EReal) (t : ℕ) (h : ∀ j < 16, B j = if j ≤ t then U (t - j) else 0) :
    (B 0 + B 1) + (B 2 + B 3) = wsum 4 U t := by
  simp only [wsum, Finset.sum_range_succ, Finset.sum_range_zero, zero_add]
  rw [← h 0 (by omega), ← h 1 (by omega), ← h 2 (by omega), ← h 3 (by omega)]
  abel

/-- A sum of 8 rows by doubling. -/
theorem wsum_eight (U : ℕ → EReal) (B : ℕ → EReal) (t : ℕ) (h : ∀ j < 16, B j = if j ≤ t then U (t - j) else 0) :
    ((B 0 + B 1) + (B 2 + B 3)) + ((B 4 + B 5) + (B 6 + B 7)) = wsum 8 U t := by
  simp only [wsum, Finset.sum_range_succ, Finset.sum_range_zero, zero_add]
  rw [← h 0 (by omega), ← h 1 (by omega), ← h 2 (by omega), ← h 3 (by omega), ← h 4 (by omega), ← h 5 (by omega),
    ← h 6 (by omega), ← h 7 (by omega)]
  abel

/-- A sum of 16 rows by doubling. -/
theorem wsum_sixteen (U : ℕ → EReal) (B : ℕ → EReal) (t : ℕ) (h : ∀ j < 16, B j = if j ≤ t then U (t - j) else 0) :
    (((B 0 + B 1) + (B 2 + B 3)) + ((B 4 + B 5) + (B 6 + B 7)))
      + (((B 8 + B 9) + (B 10 + B 11)) + ((B 12 + B 13) + (B 14 + B 15))) = wsum 16 U t := by
  simp only [wsum, Finset.sum_range_succ, Finset.sum_range_zero, zero_add]
  rw [← h 0 (by omega), ← h 1 (by omega), ← h 2 (by omega), ← h 3 (by omega), ← h 4 (by omega), ← h 5 (by omega),
    ← h 6 (by omega), ← h 7 (by omega), ← h 8 (by omega), ← h 9 (by omega), ← h 10 (by omega), ← h 11 (by omega),
    ← h 12 (by omega), ← h 13 (by omega), ← h 14 (by omega), ← h 15 (by omega)]
  abel

/-- The count as both programs compute it: a 32-bit minimum, converted. -/
theorem count_word (n w : ℕ) (hn : n + 1 < 2 ^ 31) (hw : w < 2 ^ 31) :
    FloatOps.sitofp (F := Ideal) .f32 (IntOp.minsi (BitVec.ofNat 32 (n + 1)) (BitVec.ofNat 32 w)) = count w n := by
  have h1 : (BitVec.ofNat 32 (n + 1)).toInt = ((n + 1 : ℕ) : ℤ) := by
    rw [BitVec.toInt_eq_toNat_of_lt] <;> rw [BitVec.toNat_ofNat] <;> omega
  have h2 : (BitVec.ofNat 32 w).toInt = ((w : ℕ) : ℤ) := by
    rw [BitVec.toInt_eq_toNat_of_lt] <;> rw [BitVec.toNat_ofNat] <;> omega
  have h3 : (IntOp.minsi (BitVec.ofNat 32 (n + 1)) (BitVec.ofNat 32 w)).toInt = ((min (n + 1) w : ℕ) : ℤ) := by
    unfold IntOp.minsi
    simp only [BitVec.slt, h1, h2]
    split_ifs with h
    · rw [h1]; simp only [decide_eq_true_eq] at h; omega
    · rw [h2]; simp only [decide_eq_true_eq] at h; omega
  show (((IntOp.minsi (BitVec.ofNat 32 (n + 1)) (BitVec.ofNat 32 w)).toInt : ℝ) : EReal) = _
  rw [h3]; unfold count; norm_cast

end Cert.Pool
-- ==== Proof.Pool.Window.lean ====
/-
  The four working buffers of a tile, read row by row. Buffer 0 holds the tile's values from row 24 on and the sixteen rows
  before the tile in rows 8 to 23; buffer 1 is buffer 0 plus itself one row up, buffer 2 buffer 1 plus itself two rows up,
  buffer 3 buffer 2 plus itself four rows up (each without its leading 256 columns). So reading a buffer at a row and
  again 1, 2, 4 or 8 rows up and adding gives the sum of 2, 4, 8 or 16 successive rows.
-/
module

public import proofs.«01_k».proof.Proof.Pool.Rows
public import proofs.«01_k».proof.Proof.Gen.KernelIdeal.Skeleton
public import Idealize.ShloMosaic.Lib.WritesUnit
public import Idealize.ShloMosaic.Lib.Pipeline.ValueKit.Tiles

@[expose] public section
noncomputable section
namespace Cert.Pool
open Idealize.ShloMosaic

/-- A rank-2 load through a unit-stride rectangle, at an index. -/
theorem ld_ix2 {α : EltTy → Type} {e : EltTy} {m n p q o0 o1 : ℕ} (X : (⟨2, ![m, n]⟩ : Shape).Idx → α e)
    (inb : ∀ a, (![o0, o1] : Fin 2 → ℕ) a + (![p, q] : Fin 2 → ℕ) a ≤ (⟨2, ![m, n]⟩ : Shape).size a)
    (r : Fin p) (c : Fin q) (h0 : o0 + r.val < m) (h1 : o1 + c.val < n) :
    View.ld X (Rect.unit (s := ⟨2, ![m, n]⟩) ![o0, o1] ![p, q] inb) (ix2 r c) = X (ix2 ⟨o0 + r.val, h0⟩ ⟨o1 + c.val, h1⟩) := by
  refine congrArg X (funext fun a => Fin.ext ?_)
  rw [Rect.idx_unit_val]
  match a with
  | ⟨0, _⟩ => rfl
  | ⟨1, _⟩ => rfl

/-- Two rank-2 indices with the same coordinates are equal. -/
theorem ix2_ext {m n : ℕ} {a a' : Fin m} {c c' : Fin n} (h : a.val = a'.val) (h' : c.val = c'.val) : ix2 a c = ix2 a' c' := by
  rw [Fin.ext h, Fin.ext h']

/-- What rows `o, o+1, …` of a rank-2 buffer read as after a store of whole rows there. -/
theorem rows_hit {sig : RefSig} {κ : Kind} {sp : Space} {Val : EltTy → Type} {e : EltTy} {m n p o : ℕ}
    (v : View sig κ sp (⟨2, ![m, n]⟩ : Shape) e) (f : v.ty.Contents Val)
    (inb : ∀ a, (![o, 0] : Fin 2 → ℕ) a + (![p, n] : Fin 2 → ℕ) a ≤ (⟨2, ![m, n]⟩ : Shape).size a)
    (w : (⟨2, ![p, n]⟩ : Shape).Idx → Val e) (L : List (View.Piece Val (⟨2, ![m, n]⟩ : Shape) e))
    (a : Fin m) (c : Fin n) (r : Fin p) (h : a.val = o + r.val) :
    v.read Val (v.writes Val f ((⟨Rect.unit (s := ⟨2, ![m, n]⟩) ![o, 0] ![p, n] inb, w⟩ : View.Piece Val (⟨2, ![m, n]⟩ : Shape) e) :: L)) (ix2 a c)
      = w (ix2 r c) :=
  View.read_writes_cons_rows_of_mem v f inb w L (ix2 a c) (ix2 r c) rfl h rfl

/-- Rows outside the stored ones read as before the store. -/
theorem rows_miss {sig : RefSig} {κ : Kind} {sp : Space} {Val : EltTy → Type} {e : EltTy} {m n p o : ℕ}
    (v : View sig κ sp (⟨2, ![m, n]⟩ : Shape) e) (f : v.ty.Contents Val)
    (inb : ∀ a, (![o, 0] : Fin 2 → ℕ) a + (![p, n] : Fin 2 → ℕ) a ≤ (⟨2, ![m, n]⟩ : Shape).size a)
    (w : (⟨2, ![p, n]⟩ : Shape).Idx → Val e) (L : List (View.Piece Val (⟨2, ![m, n]⟩ : Shape) e))
    (a : Fin m) (c : Fin n) (h : a.val < o ∨ o + p ≤ a.val) :
    v.read Val (v.writes Val f ((⟨Rect.unit (s := ⟨2, ![m, n]⟩) ![o, 0] ![p, n] inb, w⟩ : View.Piece Val (⟨2, ![m, n]⟩ : Shape) e) :: L)) (ix2 a c)
      = v.read Val (v.writes Val f L) (ix2 a c) :=
  View.read_writes_cons_rows_of_not_mem v f inb w L (ix2 a c) rfl rfl h

end Cert.Pool

namespace Cert.Pool.K1
open Idealize.ShloMosaic Cert.Pool Cert.KernelIdeal Cert.KernelIdeal.Gen

variable {sig : RefSig} {κ : Kind} {sp : Space}

/-- Buffer 1 after its rows from 8 on are stored as buffer 0 plus itself one row up. -/
abbrev Buf1 (v : View sig κ sp S536x768 .f32) (f : v.ty.Contents (Elt Ideal)) (X : FVec Ideal S536x1024 .f32)
    (L : List (View.Piece (Elt Ideal) S536x768 .f32)) : FVec Ideal S536x768 .f32 :=
  v.read (Elt Ideal) (v.writes (Elt Ideal) f ((⟨Rect.unit ![8, 0] ![528, 768] inb_S536x768_S528x768_8_0,
    k0_pay14 (F := Ideal) (View.ld (Val := Elt Ideal) (e' := .f32) X (Rect.unit ![8, 256] ![528, 768] inb_S536x1024_S528x768_8_256))
      (View.ld (Val := Elt Ideal) (e' := .f32) X (Rect.unit ![7, 256] ![528, 768] inb_S536x1024_S528x768_7_256))⟩ :
      View.Piece (Elt Ideal) S536x768 .f32) :: L))

/-- Buffer 2 from buffer 1 (read twice: `X` and `X'` agree where it matters). -/
abbrev Buf2 (v : View sig κ sp S536x512 .f32) (f : v.ty.Contents (Elt Ideal)) (X X' : FVec Ideal S536x768 .f32)
    (L : List (View.Piece (Elt Ideal) S536x512 .f32)) : FVec Ideal S536x512 .f32 :=
  v.read (Elt Ideal) (v.writes (Elt Ideal) f ((⟨Rect.unit ![8, 0] ![528, 512] inb_S536x512_S528x512_8_0,
    k0_pay16 (F := Ideal) (View.ld (Val := Elt Ideal) (e' := .f32) X (Rect.unit ![8, 256] ![528, 512] inb_S536x768_S528x512_8_256))
      (View.ld (Val := Elt Ideal) (e' := .f32) X' (Rect.unit ![6, 256] ![528, 512] inb_S536x768_S528x512_6_256))⟩ :
      View.Piece (Elt Ideal) S536x512 .f32) :: L))

/-- Buffer 3 from buffer 2. -/
abbrev Buf3 (v : View sig κ sp S536x256 .f32) (f : v.ty.Contents (Elt Ideal)) (X X' : FVec Ideal S536x512 .f32)
    (L : List (View.Piece (Elt Ideal) S536x256 .f32)) : FVec Ideal S536x256 .f32 :=
  v.read (Elt Ideal) (v.writes (Elt Ideal) f ((⟨Rect.unit ![8, 0] ![528, 256] inb_S536x256_S528x256_8_0,
    k0_pay18 (F := Ideal) (View.ld (Val := Elt Ideal) (e' := .f32) X (Rect.unit ![8, 256] ![528, 256] inb_S536x512_S528x256_8_256))
      (View.ld (Val := Elt Ideal) (e' := .f32) X' (Rect.unit ![4, 256] ![528, 256] inb_S536x512_S528x256_4_256))⟩ :
      View.Piece (Elt Ideal) S536x256 .f32) :: L))

theorem buf1_apply (v : View sig κ sp S536x768 .f32) (f : v.ty.Contents (Elt Ideal)) (X : FVec Ideal S536x1024 .f32)
    (L : List (View.Piece (Elt Ideal) S536x768 .f32)) (a : Fin 536) (c : Fin 768) (h : 8 ≤ a.val) :
    Buf1 v f X L (ix2 a c) = X (ix2 a ⟨256 + c.val, by omega⟩) + X (ix2 ⟨a.val - 1, by omega⟩ ⟨256 + c.val, by omega⟩) := by
  unfold Buf1
  rw [rows_hit v f _ _ L a c ⟨a.val - 8, by omega⟩ (by show a.val = 8 + (a.val - 8); omega)]
  pointwise [k0_pay14]
  refine congrArg₂ (· + ·) (congrArg X (ix2_ext ?_ rfl)) (congrArg X (ix2_ext ?_ rfl)) <;> dsimp only <;> omega

theorem buf2_apply (v : View sig κ sp S536x512 .f32) (f : v.ty.Contents (Elt Ideal)) (X X' : FVec Ideal S536x768 .f32)
    (L : List (View.Piece (Elt Ideal) S536x512 .f32)) (a : Fin 536) (c : Fin 512) (h : 8 ≤ a.val) :
    Buf2 v f X X' L (ix2 a c) = X (ix2 a ⟨256 + c.val, by omega⟩) + X' (ix2 ⟨a.val - 2, by omega⟩ ⟨256 + c.val, by omega⟩) := by
  unfold Buf2
  rw [rows_hit v f _ _ L a c ⟨a.val - 8, by omega⟩ (by show a.val = 8 + (a.val - 8); omega)]
  pointwise [k0_pay16]
  refine congrArg₂ (· + ·) (congrArg X (ix2_ext ?_ rfl)) (congrArg X' (ix2_ext ?_ rfl)) <;> dsimp only <;> omega

theorem buf3_apply (v : View sig κ sp S536x256 .f32) (f : v.ty.Contents (Elt Ideal)) (X X' : FVec Ideal S536x512 .f32)
    (L : List (View.Piece (Elt Ideal) S536x256 .f32)) (a : Fin 536) (c : Fin 256) (h : 8 ≤ a.val) :
    Buf3 v f X X' L (ix2 a c) = X (ix2 a ⟨256 + c.val, by omega⟩) + X' (ix2 ⟨a.val - 4, by omega⟩ ⟨256 + c.val, by omega⟩) := by
  unfold Buf3
  rw [rows_hit v f _ _ L a c ⟨a.val - 8, by omega⟩ (by show a.val = 8 + (a.val - 8); omega)]
  pointwise [k0_pay18]
  refine congrArg₂ (· + ·) (congrArg X (ix2_ext ?_ rfl)) (congrArg X' (ix2_ext ?_ rfl)) <;> dsimp only <;> omega

end Cert.Pool.K1
-- ==== Proof.Pool.Payload.lean ====
/-
  The pooling kernel's vector expressions at an index: pending projection, norm, projections, gate and output row.
-/
module

public import proofs.«01_k».proof.Proof.Pool.Rows
public import proofs.«01_k».proof.Proof.Gen.KernelIdeal.Skeleton

@[expose] public section
noncomputable section
namespace Cert.Pool.K1
open Idealize.ShloMosaic Cert.Pool Cert.KernelIdeal Cert.KernelIdeal.Gen

variable (x o g : FVec Ideal S512x1024 .f32) (w : FVec Ideal S1024x1024 .bf16) (gn : FVec Ideal S1x1024 .f32)
  (wi : FVec Ideal S1024x1024 .bf16) (r : Fin 512) (c : Fin 1024)

theorem pay8_apply : k0_pay8 (F := Ideal) x o g w (ix2 r c)
    = pend (fun k => x (ix2 r k)) (fun k => o (ix2 r k)) (fun k => g (ix2 r k)) (fun k c => w (ix2 k c)) c := by
  pointwise [k0_pay8]
  rfl

theorem pay9_apply : k0_pay9 (F := Ideal) x o g w gn (ix2 r c)
    = rms (fun k => k0_pay8 (F := Ideal) x o g w (ix2 r k)) (fun k => gn (ix2 0 k)) c := by
  unfold k0_pay9
  generalize k0_pay8 (F := Ideal) x o g w = y
  pointwise []
  rfl

theorem pay10_apply : k0_pay10 (F := Ideal) x o g w gn wi (ix2 r c)
    = ∑ k, k0_pay9 (F := Ideal) x o g w gn (ix2 r k) * wi (ix2 k c) := by
  unfold k0_pay10
  generalize k0_pay9 (F := Ideal) x o g w gn = y
  pointwise []

theorem pay11_apply (n : FVec Ideal S512x1024 .bf16) :
    k0_pay11 (F := Ideal) n wi (ix2 r c) = ∑ k, n (ix2 r k) * wi (ix2 k c) := by
  pointwise [k0_pay11]

theorem pay1_apply (z : FVec Ideal S512x1024 .bf16) : k0_pay1 (F := Ideal) x z w gn (ix2 r c)
    = rms (fun c => x (ix2 r c) + ∑ k, z (ix2 r k) * w (ix2 k c)) (fun k => gn (ix2 0 k)) c := by
  pointwise [k0_pay1]
  rfl

theorem pos_word (b : ℕ) (hb : b < 16) (r : Fin 512) :
    IntOp.addi (IntOp.addi (Scalar.muli (BitVec.ofNat 32 b) 512#32) (BitVec.ofNat 32 r.val)) 1#32
      = BitVec.ofNat 32 (512 * b + r.val + 1) := by
  unfold IntOp.addi Scalar.muli IntOp.muli
  apply BitVec.eq_of_toNat_eq
  simp only [BitVec.toNat_add, BitVec.toNat_mul, BitVec.toNat_ofNat]
  omega

variable (b : ℕ) (hb : b < 16) (y y' : FVec Ideal S512x256 .f32) (d : Fin 256)
include hb
theorem pay15_apply : k0_pay15 (F := Ideal) (BitVec.ofNat 32 b) y y' (ix2 r d)
    = Ideal.div (y (ix2 r d) + y' (ix2 r d)) (count 2 (512 * b + r.val)) := by
  pointwise [k0_pay15, k0_pay13]
  rw [pos_word b hb r, count_word _ 2 (by omega) (by omega), mul_div_one_count _ _ (by omega)]

theorem pay17_apply : k0_pay17 (F := Ideal) (k0_pay13 (BitVec.ofNat 32 b)) y y' (ix2 r d)
    = Ideal.div (y (ix2 r d) + y' (ix2 r d)) (count 4 (512 * b + r.val)) := by
  pointwise [k0_pay17, k0_pay13]
  rw [pos_word b hb r, count_word _ 4 (by omega) (by omega), mul_div_one_count _ _ (by omega)]

theorem pay19_apply : k0_pay19 (F := Ideal) (k0_pay13 (BitVec.ofNat 32 b)) y y' (ix2 r d)
    = Ideal.div (y (ix2 r d) + y' (ix2 r d)) (count 8 (512 * b + r.val)) := by
  pointwise [k0_pay19, k0_pay13]
  rw [pos_word b hb r, count_word _ 8 (by omega) (by omega), mul_div_one_count _ _ (by omega)]

omit hb in
theorem pay20_apply : k0_pay20 (F := Ideal) y y' (ix2 r d) = y (ix2 r d) + y' (ix2 r d) := by
  pointwise [k0_pay20]

theorem pay22_apply (u gt : FVec Ideal S512x1024 .f32) (p0 p1 p2 p3 : FVec Ideal S512x256 .f32)
    (m0 m1 m2 m3 : FVec Ideal S1x256x256 .bf16) (sc : FVec Ideal S1x1024 .f32)
    (P : Fin 1024 → EReal) (M : Fin 4 → Fin 256 → Fin 256 → EReal)
    (h0 : ∀ x : Fin 256, p0 (ix2 r x) - u (ix2 r ⟨x.val, by omega⟩) = P ⟨x.val, by omega⟩)
    (h1 : ∀ x : Fin 256, p1 (ix2 r x) - u (ix2 r ⟨256 + x.val, by omega⟩) = P ⟨256 + x.val, by omega⟩)
    (h2 : ∀ x : Fin 256, p2 (ix2 r x) - u (ix2 r ⟨512 + x.val, by omega⟩) = P ⟨512 + x.val, by omega⟩)
    (h3 : ∀ x : Fin 256, Ideal.div (p3 (ix2 r x)) (count 16 (512 * b + r.val)) - u (ix2 r ⟨768 + x.val, by omega⟩)
      = P ⟨768 + x.val, by omega⟩)
    (g0 : ∀ k d, m0 (ix3 0 k d) = M 0 k d) (g1 : ∀ k d, m1 (ix3 0 k d) = M 1 k d)
    (g2 : ∀ k d, m2 (ix3 0 k d) = M 2 k d) (g3 : ∀ k d, m3 (ix3 0 k d) = M 3 k d) :
    k0_pay22 (F := Ideal) u gt p0 p1 p2 p3 (k0_pay21 (k0_pay13 (BitVec.ofNat 32 b))) m0 m1 m2 m3 sc (ix2 r c)
      = mixRow P M c * sc (ix2 0 c) * silu (gt (ix2 r c)) := by
  pointwise [k0_pay22, k0_pay21, k0_pay13]
  rw [pos_word b hb r, count_word _ 16 (by omega) (by omega)]
  unfold silu
  congr 2
  unfold mixRow
  have key : ∀ (g : ℕ) (hg : g < 4) (hc : c.val / 256 = g) (f : Fin 256 → EReal) (m : Fin 256 → Fin 256 → EReal),
      (∀ x, f x = P ⟨256 * g + x.val, by omega⟩) → (∀ k d, m k d = M ⟨g, hg⟩ k d) →
      ∀ e : Fin 256, e.val = c.val - 256 * g → ∑ x, f x * m x e
        = ∑ k : Fin 256, P ⟨256 * (c.val / 256) + k.val, by omega⟩ * M ⟨c.val / 256, by omega⟩ k ⟨c.val % 256, by omega⟩ := by
    intro g hg hc f m hf hm e he
    subst hc
    refine Finset.sum_congr rfl fun k _ => ?_
    rw [hf, hm]
    congr 2
    exact Fin.ext (by show e.val = c.val % 256; omega)
  by_cases a0 : c.val < 256
  · rw [dif_pos a0]
    exact key 0 (by omega) (by omega) _ _ (fun x => (h0 x).trans (by congr 2; simp)) g0 _ (by simp)
  rw [dif_neg a0]
  by_cases a1 : c.val - 256 < 256
  · rw [dif_pos a1]
    exact key 1 (by omega) (by omega) _ _ (fun x => (h1 x).trans (by congr 1)) g1 _ (by simp)
  rw [dif_neg a1]
  by_cases a2 : c.val - 256 - 256 < 256
  · rw [dif_pos a2]
    exact key 2 (by omega) (by omega) _ _ (fun x => (h2 x).trans (by congr 1)) g2 _ (by simp; omega)
  rw [dif_neg a2]
  refine key 3 (by omega) (by omega) (fun x => p3 (ix2 r x) * Ideal.div 1 (count 16 (512 * b + r.val)) - u (ix2 r ⟨768 + x.val, by omega⟩)) (fun k d => m3 (ix3 0 k d)) (fun x => ?_) g3 _ (by simp; omega)
  show p3 (ix2 r x) * Ideal.div 1 (count 16 (512 * b + r.val)) - _ = _
  rw [mul_div_one_count _ _ (by omega)]
  exact (h3 x).trans (by congr 1)
end Cert.Pool.K1
-- ==== Proof.Pool.Tile.lean ====
/-
  One tile of 512 rows: from what its working buffers hold (the tile's value rows and the sixteen before) to the output rows.
  `pad` is a row that many positions back, zero before the sequence's start; `Lev0` … `Lev3` say that a buffer holds sums
  of 1, 2, 4 and 8 successive padded rows, and `tile_row` is an output row of the tile as the layer's row, normalised.
-/
module

public import proofs.«01_k».proof.Proof.Pool.Window
public import proofs.«01_k».proof.Proof.Pool.Payload

@[expose] public section
noncomputable section
namespace Cert.Pool.K1
open Idealize.ShloMosaic Cert.Pool Cert.KernelIdeal Cert.KernelIdeal.Gen

/-- Column `c` of the row `j` positions before `t`, zero before the start. -/
def pad (U : ℕ → Fin 1024 → EReal) (t : ℕ) (c : Fin 1024) (j : ℕ) : EReal := if j ≤ t then U (t - j) c else 0

variable (U : ℕ → Fin 1024 → EReal) (b : ℕ)

/-- Buffer 0 of tile `b`: row `a` is the (padded) row at `512 b + a - 24`. -/
def Lev0 (X : FVec Ideal S536x1024 .f32) : Prop := ∀ (j : ℕ) (_ : j < 16) (r : Fin 512) (a : Fin 536) (c : Fin 1024),
  a.val + j = 24 + r.val → X (ix2 a c) = pad U (512 * b + r.val) c j

/-- Buffer 0's rows from 24 on: the tile's own value rows. -/
def Top (X : FVec Ideal S536x1024 .f32) : Prop := ∀ (r : Fin 512) (a : Fin 536) (c : Fin 1024),
  a.val = 24 + r.val → X (ix2 a c) = U (512 * b + r.val) c

/-- Buffer 1: two successive rows summed. -/
def Lev1 (X : FVec Ideal S536x768 .f32) : Prop := ∀ (j : ℕ) (_ : j < 15) (r : Fin 512) (a : Fin 536) (c : Fin 768),
  a.val + j = 24 + r.val → X (ix2 a c)
    = pad U (512 * b + r.val) ⟨256 + c.val, by omega⟩ j + pad U (512 * b + r.val) ⟨256 + c.val, by omega⟩ (j + 1)

/-- Buffer 2: four successive rows. -/
def Lev2 (X : FVec Ideal S536x512 .f32) : Prop := ∀ (j : ℕ) (_ : j < 13) (r : Fin 512) (a : Fin 536) (c : Fin 512),
  a.val + j = 24 + r.val → X (ix2 a c)
    = (pad U (512 * b + r.val) ⟨512 + c.val, by omega⟩ j + pad U (512 * b + r.val) ⟨512 + c.val, by omega⟩ (j + 1))
      + (pad U (512 * b + r.val) ⟨512 + c.val, by omega⟩ (j + 2) + pad U (512 * b + r.val) ⟨512 + c.val, by omega⟩ (j + 2 + 1))

/-- Buffer 3: eight successive rows. -/
def Lev3 (X : FVec Ideal S536x256 .f32) : Prop := ∀ (j : ℕ) (_ : j < 9) (r : Fin 512) (a : Fin 536) (c : Fin 256),
  a.val + j = 24 + r.val → X (ix2 a c)
    = ((pad U (512 * b + r.val) ⟨768 + c.val, by omega⟩ j + pad U (512 * b + r.val) ⟨768 + c.val, by omega⟩ (j + 1))
      + (pad U (512 * b + r.val) ⟨768 + c.val, by omega⟩ (j + 2) + pad U (512 * b + r.val) ⟨768 + c.val, by omega⟩ (j + 2 + 1)))
      + ((pad U (512 * b + r.val) ⟨768 + c.val, by omega⟩ (j + 4) + pad U (512 * b + r.val) ⟨768 + c.val, by omega⟩ (j + 4 + 1))
      + (pad U (512 * b + r.val) ⟨768 + c.val, by omega⟩ (j + 4 + 2) + pad U (512 * b + r.val) ⟨768 + c.val, by omega⟩ (j + 4 + 2 + 1)))

variable {U b} {sig : RefSig} {κ : Kind} {sp : Space}

theorem lev1 (v : View sig κ sp S536x768 .f32) (f : v.ty.Contents (Elt Ideal)) (X : FVec Ideal S536x1024 .f32)
    (L : List (View.Piece (Elt Ideal) S536x768 .f32)) (h : Lev0 U b X) : Lev1 U b (Buf1 v f X L) := by
  intro j hj r a c e
  rw [buf1_apply v f X L a c (by omega), h j (by omega) r a _ e, h (j + 1) (by omega) r ⟨a.val - 1, by omega⟩ _ (by dsimp only; omega)]

theorem lev2 (v : View sig κ sp S536x512 .f32) (f : v.ty.Contents (Elt Ideal)) (X X' : FVec Ideal S536x768 .f32)
    (L : List (View.Piece (Elt Ideal) S536x512 .f32)) (h : Lev1 U b X) (h' : Lev1 U b X') : Lev2 U b (Buf2 v f X X' L) := by
  intro j hj r a c e
  rw [buf2_apply v f X X' L a c (by omega), h j (by omega) r a _ e, h' (j + 2) (by omega) r ⟨a.val - 2, by omega⟩ _ (by dsimp only; omega)]
  have : (⟨256 + (256 + c.val), by omega⟩ : Fin 1024) = ⟨512 + c.val, by omega⟩ := Fin.ext (by dsimp only; omega)
  rw [this]

theorem lev3 (v : View sig κ sp S536x256 .f32) (f : v.ty.Contents (Elt Ideal)) (X X' : FVec Ideal S536x512 .f32)
    (L : List (View.Piece (Elt Ideal) S536x256 .f32)) (h : Lev2 U b X) (h' : Lev2 U b X') : Lev3 U b (Buf3 v f X X' L) := by
  intro j hj r a c e
  rw [buf3_apply v f X X' L a c (by omega), h j (by omega) r a _ e, h' (j + 4) (by omega) r ⟨a.val - 4, by omega⟩ _ (by dsimp only; omega)]
  have : (⟨512 + (256 + c.val), by omega⟩ : Fin 1024) = ⟨768 + c.val, by omega⟩ := Fin.ext (by dsimp only; omega)
  rw [this]

/-- Loads of buffer 0 at the tile's rows and one up sum two rows, in columns 0 to 255. -/
theorem sum0 (X X' : FVec Ideal S536x1024 .f32) (h : Top U b X) (h' : Lev0 U b X') (r : Fin 512) (d : Fin 256) :
    View.ld (Val := Elt Ideal) (e' := .f32) X (Rect.unit ![24, 0] ![512, 256] inb_S536x1024_S512x256_24_0) (ix2 r d)
      + View.ld (Val := Elt Ideal) (e' := .f32) X' (Rect.unit ![23, 0] ![512, 256] inb_S536x1024_S512x256_23_0) (ix2 r d)
      = wsum 2 (fun s => U s ⟨d.val, by omega⟩) (512 * b + r.val) := by
  rw [← wsum_two _ (pad U (512 * b + r.val) ⟨d.val, by omega⟩) _ (fun _ _ => rfl)]
  refine congrArg₂ (· + ·) ?_ ?_
  · rw [ld_ix2 (α := Elt Ideal) (e := .f32) X _ r d (by omega) (by omega), h r _ _ (by dsimp only)]
    exact congrArg (U _) (Fin.ext (by dsimp only; omega))
  · rw [ld_ix2 (α := Elt Ideal) (e := .f32) X' _ r d (by omega) (by omega), h' 1 (by omega) r _ _ (by dsimp only; omega)]
    congr 1; exact Fin.ext (by dsimp only; omega)

/-- Loads of buffer 1 at the tile's rows and two up sum four rows, in columns 256 to 511. -/
theorem sum1 (X X' : FVec Ideal S536x768 .f32) (h : Lev1 U b X) (h' : Lev1 U b X') (r : Fin 512) (d : Fin 256) :
    View.ld (Val := Elt Ideal) (e' := .f32) X (Rect.unit ![24, 0] ![512, 256] inb_S536x768_S512x256_24_0) (ix2 r d)
      + View.ld (Val := Elt Ideal) (e' := .f32) X' (Rect.unit ![22, 0] ![512, 256] inb_S536x768_S512x256_22_0) (ix2 r d)
      = wsum 4 (fun s => U s ⟨256 + d.val, by omega⟩) (512 * b + r.val) := by
  have e : (⟨256 + (0 + d.val), by omega⟩ : Fin 1024) = ⟨256 + d.val, by omega⟩ := Fin.ext (by dsimp only; omega)
  rw [← wsum_four _ (pad U (512 * b + r.val) ⟨256 + d.val, by omega⟩) _ (fun _ _ => rfl)]
  refine congrArg₂ (· + ·) ?_ ?_
  · rw [ld_ix2 (α := Elt Ideal) (e := .f32) X _ r d (by omega) (by omega), h 0 (by omega) r _ _ (by dsimp only; omega), e]
  · rw [ld_ix2 (α := Elt Ideal) (e := .f32) X' _ r d (by omega) (by omega), h' 2 (by omega) r _ _ (by dsimp only; omega), e]

/-- Loads of buffer 2 at the tile's rows and four up sum eight rows, in columns 512 to 767. -/
theorem sum2 (X X' : FVec Ideal S536x512 .f32) (h : Lev2 U b X) (h' : Lev2 U b X') (r : Fin 512) (d : Fin 256) :
    View.ld (Val := Elt Ideal) (e' := .f32) X (Rect.unit ![24, 0] ![512, 256] inb_S536x512_S512x256_24_0) (ix2 r d)
      + View.ld (Val := Elt Ideal) (e' := .f32) X' (Rect.unit ![20, 0] ![512, 256] inb_S536x512_S512x256_20_0) (ix2 r d)
      = wsum 8 (fun s => U s ⟨512 + d.val, by omega⟩) (512 * b + r.val) := by
  have e : (⟨512 + (0 + d.val), by omega⟩ : Fin 1024) = ⟨512 + d.val, by omega⟩ := Fin.ext (by dsimp only; omega)
  rw [← wsum_eight _ (pad U (512 * b + r.val) ⟨512 + d.val, by omega⟩) _ (fun _ _ => rfl)]
  refine congrArg₂ (· + ·) ?_ ?_
  · rw [ld_ix2 (α := Elt Ideal) (e := .f32) X _ r d (by omega) (by omega), h 0 (by omega) r _ _ (by dsimp only; omega), e]
  · rw [ld_ix2 (α := Elt Ideal) (e := .f32) X' _ r d (by omega) (by omega), h' 4 (by omega) r _ _ (by dsimp only; omega), e]

/-- Loads of buffer 3 at the tile's rows and eight up sum sixteen rows, in columns 768 to 1023. -/
theorem sum3 (X X' : FVec Ideal S536x256 .f32) (h : Lev3 U b X) (h' : Lev3 U b X') (r : Fin 512) (d : Fin 256) :
    View.ld (Val := Elt Ideal) (e' := .f32) X (Rect.unit ![24, 0] ![512, 256] inb_S536x256_S512x256_24_0) (ix2 r d)
      + View.ld (Val := Elt Ideal) (e' := .f32) X' (Rect.unit ![16, 0] ![512, 256] inb_S536x256_S512x256_16_0) (ix2 r d)
      = wsum 16 (fun s => U s ⟨768 + d.val, by omega⟩) (512 * b + r.val) := by
  have e : (⟨768 + (0 + d.val), by omega⟩ : Fin 1024) = ⟨768 + d.val, by omega⟩ := Fin.ext (by dsimp only; omega)
  rw [← wsum_sixteen _ (pad U (512 * b + r.val) ⟨768 + d.val, by omega⟩) _ (fun _ _ => rfl)]
  refine congrArg₂ (· + ·) ?_ ?_
  · rw [ld_ix2 (α := Elt Ideal) (e := .f32) X _ r d (by omega) (by omega), h 0 (by omega) r _ _ (by dsimp only; omega), e]
  · rw [ld_ix2 (α := Elt Ideal) (e := .f32) X' _ r d (by omega) (by omega), h' 8 (by omega) r _ _ (by dsimp only; omega), e]

/-- The weight blocks hold the layer's weights and the final gains. -/
structure Holds (x4 : FVec Ideal S1x1024 .f32) (x5 : FVec Ideal S1024x2048 .bf16) (x6 : FVec Ideal S4x256x256 .bf16)
    (x7 : FVec Ideal S1x1024 .f32) (x8 : FVec Ideal S1024x1024 .bf16) (x9 : FVec Ideal S1x1024 .f32)
    (W : Weights) (fg : Fin 1024 → EReal) : Prop where
  g : ∀ k, x4 (ix2 0 k) = W.g k
  wIn : ∀ k c, x5 (ix2 k c) = W.wIn k c
  mix : ∀ a k d, x6 (ix3 a k d) = W.mix a k d
  sc : ∀ k, x7 (ix2 0 k) = W.sc k
  wOut : ∀ k c, x8 (ix2 k c) = W.wOut k c
  fg : ∀ k, x9 (ix2 0 k) = fg k

section
variable {x0 x1 x2 : FVec Ideal S512x1024 .f32} {x3 : FVec Ideal S1024x1024 .bf16}
  {x4 : FVec Ideal S1x1024 .f32} {x5 : FVec Ideal S1024x2048 .bf16} {x6 : FVec Ideal S4x256x256 .bf16}
  {x7 : FVec Ideal S1x1024 .f32} {x8 : FVec Ideal S1024x1024 .bf16} {x9 : FVec Ideal S1x1024 .f32}
  {W : Weights} {fg : Fin 1024 → EReal} {X : ℕ → Fin 1024 → EReal}

theorem pay8_row (hX : ∀ (r : Fin 512) c, pend (fun k => x0 (ix2 r k)) (fun k => x1 (ix2 r k)) (fun k => x2 (ix2 r k)) (fun k c => x3 (ix2 k c)) c = X (512 * b + r.val) c)
    (r : Fin 512) : (fun k => k0_pay8 (F := Ideal) x0 x1 x2 x3 (ix2 r k)) = X (512 * b + r.val) :=
  funext fun k => (pay8_apply x0 x1 x2 x3 r k).trans (hX r k)

/-- The tile's value rows. -/
theorem value_row (hW : Holds x4 x5 x6 x7 x8 x9 W fg)
    (hX : ∀ (r : Fin 512) c, pend (fun k => x0 (ix2 r k)) (fun k => x1 (ix2 r k)) (fun k => x2 (ix2 r k)) (fun k c => x3 (ix2 k c)) c = X (512 * b + r.val) c)
    (r : Fin 512) (c : Fin 1024) :
    k0_pay10 (F := Ideal) x0 x1 x2 x3 x4 (View.ld (Val := Elt Ideal) (e' := .bf16) x5 (Rect.unit ![0, 0] ![1024, 1024] inb_S1024x2048_S1024x1024_0_0)) (ix2 r c)
      = uRow W (X (512 * b + r.val)) c := by
  rw [pay10_apply]
  unfold uRow
  refine Finset.sum_congr rfl fun k _ => ?_
  rw [pay9_apply, pay8_row hX r, funext hW.g, ld_ix2 (α := Elt Ideal) (e := .bf16) x5 _ k c (by omega) (by omega), hW.wIn]
  congr 2 <;> exact Fin.ext (by dsimp only; omega)

theorem tile_row (hb : b < 16) (hW : Holds x4 x5 x6 x7 x8 x9 W fg)
    (hX : ∀ (r : Fin 512) c, pend (fun k => x0 (ix2 r k)) (fun k => x1 (ix2 r k)) (fun k => x2 (ix2 r k)) (fun k c => x3 (ix2 k c)) c = X (512 * b + r.val) c)
    (u : FVec Ideal S512x1024 .f32) (hu : ∀ r c, u (ix2 r c) = uRow W (X (512 * b + r.val)) c)
    (A0 A0' : FVec Ideal S536x1024 .f32) (h0 : Top (fun s => uRow W (X s)) b A0) (h0' : Lev0 (fun s => uRow W (X s)) b A0')
    (A1 A1' : FVec Ideal S536x768 .f32) (h1 : Lev1 (fun s => uRow W (X s)) b A1) (h1' : Lev1 (fun s => uRow W (X s)) b A1')
    (A2 A2' : FVec Ideal S536x512 .f32) (h2 : Lev2 (fun s => uRow W (X s)) b A2) (h2' : Lev2 (fun s => uRow W (X s)) b A2')
    (A3 A3' : FVec Ideal S536x256 .f32) (h3 : Lev3 (fun s => uRow W (X s)) b A3) (h3' : Lev3 (fun s => uRow W (X s)) b A3')
    (r : Fin 512) (c : Fin 1024) :
    k0_pay1 (F := Ideal) (k0_pay8 x0 x1 x2 x3)
      (k0_pay22 u (k0_pay11 (k0_pay9 x0 x1 x2 x3 x4) (View.ld (Val := Elt Ideal) (e' := .bf16) x5 (Rect.unit ![0, 1024] ![1024, 1024] inb_S1024x2048_S1024x1024_0_1024)))
        (k0_pay15 (BitVec.ofNat 32 b)
          (View.ld (Val := Elt Ideal) (e' := .f32) A0 (Rect.unit ![24, 0] ![512, 256] inb_S536x1024_S512x256_24_0))
          (View.ld (Val := Elt Ideal) (e' := .f32) A0' (Rect.unit ![23, 0] ![512, 256] inb_S536x1024_S512x256_23_0)))
        (k0_pay17 (k0_pay13 (BitVec.ofNat 32 b))
          (View.ld (Val := Elt Ideal) (e' := .f32) A1 (Rect.unit ![24, 0] ![512, 256] inb_S536x768_S512x256_24_0))
          (View.ld (Val := Elt Ideal) (e' := .f32) A1' (Rect.unit ![22, 0] ![512, 256] inb_S536x768_S512x256_22_0)))
        (k0_pay19 (k0_pay13 (BitVec.ofNat 32 b))
          (View.ld (Val := Elt Ideal) (e' := .f32) A2 (Rect.unit ![24, 0] ![512, 256] inb_S536x512_S512x256_24_0))
          (View.ld (Val := Elt Ideal) (e' := .f32) A2' (Rect.unit ![20, 0] ![512, 256] inb_S536x512_S512x256_20_0)))
        (k0_pay20
          (View.ld (Val := Elt Ideal) (e' := .f32) A3 (Rect.unit ![24, 0] ![512, 256] inb_S536x256_S512x256_24_0))
          (View.ld (Val := Elt Ideal) (e' := .f32) A3' (Rect.unit ![16, 0] ![512, 256] inb_S536x256_S512x256_16_0)))
        (k0_pay21 (k0_pay13 (BitVec.ofNat 32 b)))
        (View.ld (Val := Elt Ideal) (e' := .bf16) x6 (Rect.unit ![0, 0, 0] ![1, 256, 256] inb_S4x256x256_S1x256x256_0_0_0))
        (View.ld (Val := Elt Ideal) (e' := .bf16) x6 (Rect.unit ![1, 0, 0] ![1, 256, 256] inb_S4x256x256_S1x256x256_1_0_0))
        (View.ld (Val := Elt Ideal) (e' := .bf16) x6 (Rect.unit ![2, 0, 0] ![1, 256, 256] inb_S4x256x256_S1x256x256_2_0_0))
        (View.ld (Val := Elt Ideal) (e' := .bf16) x6 (Rect.unit ![3, 0, 0] ![1, 256, 256] inb_S4x256x256_S1x256x256_3_0_0)) x7) x8 x9 (ix2 r c)
      = rms (layer W X (512 * b + r.val)) fg c := by
  have hm : ∀ (a : Fin 4) (inb) (k d : Fin 256),
      View.ld (Val := Elt Ideal) (e' := .bf16) x6 (Rect.unit ![a.val, 0, 0] ![1, 256, 256] inb) (ix3 0 k d) = W.mix a k d := by
    intro a inb k d
    rw [← hW.mix]
    refine congrArg x6 (funext fun i => Fin.ext ?_)
    rw [Rect.idx_unit_val]
    match i with
    | ⟨0, _⟩ => rfl
    | ⟨1, _⟩ => exact Nat.zero_add _
    | ⟨2, _⟩ => exact Nat.zero_add _
  have hlast : ∀ q : Fin 256, q.val / 256 = 0 := fun q => by omega
  rw [pay1_apply, funext hW.fg]
  refine congrArg (fun v => rms v fg c) (funext fun c => ?_)
  unfold layer branch
  refine congrArg₂ (· + ·) (congrFun (pay8_row hX r) c) (Finset.sum_congr rfl fun k _ => ?_)
  rw [hW.wOut]
  refine congrArg (· * _) ?_
  rw [pay22_apply (P := poolRow W X (512 * b + r.val)) (M := W.mix) (hb := hb), hW.sc]
  · congr 2
    rw [pay11_apply]
    unfold gateRow
    refine Finset.sum_congr rfl fun l _ => ?_
    rw [pay9_apply, pay8_row hX r, funext hW.g, ld_ix2 (α := Elt Ideal) (e := .bf16) x5 _ l k (by omega) (by omega), hW.wIn]
    congr 2; exact Fin.ext (by dsimp only; omega)
  · intro q
    rw [pay15_apply r b hb, sum0 A0 A0' h0 h0' r q, hu]
    unfold poolRow wmean window
    have : q.val / 256 = 0 := by omega
    simp only [this]; norm_num
  · intro q
    rw [pay17_apply r b hb, sum1 A1 A1' h1 h1' r q, hu]
    unfold poolRow wmean window
    have : (256 + q.val) / 256 = 1 := by omega
    simp only [this]; norm_num
  · intro q
    rw [pay19_apply r b hb, sum2 A2 A2' h2 h2' r q, hu]
    unfold poolRow wmean window
    have : (512 + q.val) / 256 = 2 := by omega
    simp only [this]; norm_num
  · intro q
    rw [pay20_apply, sum3 A3 A3' h3 h3' r q, hu]
    unfold poolRow wmean window
    have : (768 + q.val) / 256 = 3 := by omega
    simp only [this]; norm_num
  · exact hm 0 _
  · exact hm 1 _
  · exact hm 2 _
  · exact hm 3 _
end
end Cert.Pool.K1
-- ==== Proof.Pool.Cases.lean ====
/-
  What the body leaves at a grid point of each of its three kinds (the first tile of a sequence, a middle one, the last one):
  the output rows are the layer's, normalised; the first buffer's rows 8 to 23 are the tile's last sixteen value rows, which
  the next tile takes for its history; the last tile also stores those sixteen rows as the second result.
-/
module

public import proofs.«01_k».proof.Proof.Pool.Tile
public import proofs.«01_k».proof.Proof.Gen.KernelIdeal.Value

@[expose] public section
set_option maxRecDepth 16384
noncomputable section
namespace Cert.Pool.K1
open Idealize.ShloMosaic Idealize.ShloMosaic.Tactic Cert.Pool Cert.KernelIdeal Cert.KernelIdeal.Gen

theorem hz2 : (![0, 0] : Fin 2 → ℕ) = fun _ => 0 := by decide

theorem hz3 : (![0, 0, 0] : Fin 3 → ℕ) = fun _ => 0 := by decide

theorem pay12_apply (u : FVec Ideal S512x1024 .f32) (r : Fin 512) (c : Fin 1024) : k0_pay12 (F := Ideal) u (ix2 r c) = u (ix2 r c) := by
  pointwise [k0_pay12]

theorem pay2_apply (u : FVec Ideal S512x1024 .f32) (r : Fin 16) (c : Fin 1024) :
    k0_pay2 (F := Ideal) u (ix2 r c) = u (ix2 ⟨496 + r.val, by omega⟩ c) := by
  pointwise [k0_pay2]

theorem pay3_apply (u : FVec Ideal S512x1024 .f32) (r : Fin 16) (c : Fin 1024) :
    k0_pay3 (F := Ideal) u (ix3 0 r c) = u (ix2 ⟨496 + r.val, by omega⟩ c) := by
  pointwise [k0_pay3]

theorem pay4_apply (r : Fin 24) (c : Fin 1024) : k0_pay4 (F := Ideal) (ix2 r c) = 0 := by
  pointwise [k0_pay4]

/-- Rows 8 to 23 hold the last sixteen value rows of tile `b`. -/
def Left (U : ℕ → Fin 1024 → EReal) (b : ℕ) (S : FVec Ideal S536x1024 .f32) : Prop :=
  ∀ (a : Fin 536) (c : Fin 1024), 8 ≤ a.val → a.val < 24 → S (ix2 a c) = U (512 * b + 488 + a.val) c

section
variable {U : ℕ → Fin 1024 → EReal} {b : ℕ} {sig : RefSig} {κ : Kind} {sp : Space}
  (v : View sig κ sp S536x1024 .f32) (f : v.ty.Contents (Elt Ideal)) (u : FVec Ideal S512x1024 .f32)
  (hu : ∀ r c, u (ix2 r c) = U (512 * b + r.val) c)
include hu

/-- The first buffer once the tile's rows are stored over a history that reads as it should. -/
theorem lev0 (L : List (View.Piece (Elt Ideal) S536x1024 .f32))
    (h : ∀ (j : ℕ) (r : Fin 512) (a : Fin 536) (c : Fin 1024), 9 ≤ a.val → a.val < 24 → a.val + j = 24 + r.val →
      v.read (Elt Ideal) (v.writes (Elt Ideal) f L) (ix2 a c) = pad U (512 * b + r.val) c j) :
    Lev0 U b (v.read (Elt Ideal) (v.writes (Elt Ideal) f ((⟨Rect.unit ![24, 0] ![512, 1024] inb_S536x1024_S512x1024_24_0,
      k0_pay12 (F := Ideal) u⟩ : View.Piece (Elt Ideal) S536x1024 .f32) :: L))) := by
  intro j hj r a c e
  by_cases ha : a.val < 24
  · rw [rows_miss v f _ _ L a c (Or.inl ha)]
    exact h j r a c (by omega) ha e
  · rw [rows_hit v f _ _ L a c ⟨a.val - 24, by omega⟩ (by dsimp only; omega), pay12_apply, hu]
    unfold pad
    rw [if_pos (by omega)]
    congr 1; dsimp only; omega

/-- The tile's own rows, whatever lies before them. -/
theorem top (L : List (View.Piece (Elt Ideal) S536x1024 .f32)) :
    Top U b (v.read (Elt Ideal) (v.writes (Elt Ideal) f ((⟨Rect.unit ![24, 0] ![512, 1024] inb_S536x1024_S512x1024_24_0,
      k0_pay12 (F := Ideal) u⟩ : View.Piece (Elt Ideal) S536x1024 .f32) :: L))) := by
  intro r a c e
  rw [rows_hit v f _ _ L a c r e, pay12_apply, hu]

/-- A first tile: the history is the zero fill. -/
theorem lev0_first (h0 : b = 0) (L : List (View.Piece (Elt Ideal) S536x1024 .f32)) :
    Lev0 U b (v.read (Elt Ideal) (v.writes (Elt Ideal) f ((⟨Rect.unit ![24, 0] ![512, 1024] inb_S536x1024_S512x1024_24_0,
      k0_pay12 (F := Ideal) u⟩ : View.Piece (Elt Ideal) S536x1024 .f32) ::
      (⟨Rect.unit ![0, 0] ![24, 1024] inb_S536x1024_S24x1024_0_0, k0_pay4 (F := Ideal)⟩ : View.Piece (Elt Ideal) S536x1024 .f32) :: L))) := by
  refine lev0 v f u hu _ fun j r a c h9 h24 e => ?_
  rw [rows_hit v f _ _ L a c ⟨a.val, h24⟩ (by dsimp only; omega), pay4_apply]
  unfold pad
  rw [if_neg (by omega)]

/-- A later tile: the history is what the tile before left. -/
theorem lev0_next (h0 : b ≠ 0) (S : FVec Ideal S536x1024 .f32)
    (hf : v.read (Elt Ideal) f = S) (hS : Left U (b - 1) S) :
    Lev0 U b (v.read (Elt Ideal) (v.writes (Elt Ideal) f [(⟨Rect.unit ![24, 0] ![512, 1024] inb_S536x1024_S512x1024_24_0,
      k0_pay12 (F := Ideal) u⟩ : View.Piece (Elt Ideal) S536x1024 .f32)])) := by
  refine lev0 v f u hu _ fun j r a c h9 h24 e => ?_
  show v.read (Elt Ideal) f (ix2 a c) = _
  rw [hf, hS a c (by omega) h24]
  unfold pad
  rw [if_pos (by omega)]
  congr 1; omega

/-- What a tile leaves for the next. -/
theorem left_of (L : List (View.Piece (Elt Ideal) S536x1024 .f32)) :
    Left U b (v.read (Elt Ideal) (v.writes (Elt Ideal) f ((⟨Rect.unit ![8, 0] ![16, 1024] inb_S536x1024_S16x1024_8_0,
      k0_pay2 (F := Ideal) u⟩ : View.Piece (Elt Ideal) S536x1024 .f32) :: L))) := by
  intro a c h8 h24
  rw [rows_hit v f _ _ L a c ⟨a.val - 8, by omega⟩ (by dsimp only; omega), pay2_apply, hu]
  congr 1; dsimp only; omega
end

variable (c : Dev nD) (i : grid0.Coords)
  (arg2 : Memref sig .tc .vmem S512x1024 .f32) (harg2 : arg2.IsWhole) (arg3 : Memref sig .tc .vmem S512x1024 .f32) (harg3 : arg3.IsWhole)
  (arg4 : Memref sig .tc .vmem S512x1024 .f32) (harg4 : arg4.IsWhole) (arg5 : Memref sig .tc .vmem S1024x1024 .bf16) (harg5 : arg5.IsWhole)
  (arg6 : Memref sig .tc .vmem S1x1024 .f32) (harg6 : arg6.IsWhole) (arg7 : Memref sig .tc .vmem S1024x2048 .bf16) (harg7 : arg7.IsWhole)
  (arg8 : Memref sig .tc .vmem S4x256x256 .bf16) (harg8 : arg8.IsWhole) (arg9 : Memref sig .tc .vmem S1x1024 .f32) (harg9 : arg9.IsWhole)
  (arg10 : Memref sig .tc .vmem S1024x1024 .bf16) (harg10 : arg10.IsWhole) (arg11 : Memref sig .tc .vmem S1x1024 .f32) (harg11 :
  arg11.IsWhole) (arg12 : Memref sig .tc .vmem S512x1024 .f32) (harg12 : arg12.IsWhole) (arg13 : Memref sig .tc .vmem S1x16x1024 .f32)
  (harg13 : arg13.IsWhole) (arg14 : Memref sig .tc .vmem S536x1024 .f32) (harg14 : arg14.IsWhole) (arg15 : Memref sig .tc .vmem S536x768
  .f32) (harg15 : arg15.IsWhole) (arg16 : Memref sig .tc .vmem S536x512 .f32) (harg16 : arg16.IsWhole) (arg17 : Memref sig .tc .vmem
  S536x256 .f32) (harg17 : arg17.IsWhole)
  (x0 : Vec Ideal S512x1024 .f32) (x1 : Vec Ideal S512x1024 .f32) (x2 : Vec Ideal S512x1024 .f32) (x3 : Vec Ideal S1024x1024 .bf16) (x4 :
  Vec Ideal S1x1024 .f32) (x5 : Vec Ideal S1024x2048 .bf16) (x6 : Vec Ideal S4x256x256 .bf16) (x7 : Vec Ideal S1x1024 .f32) (x8 : Vec Ideal
  S1024x1024 .bf16) (x9 : Vec Ideal S1x1024 .f32)
  {W : Weights} {fg : Fin 1024 → EReal} {X : ℕ → Fin 1024 → EReal}

/-- The output rows of a first tile. -/
theorem out_first (hc0 : cond0_0 i) (hc1 : ¬cond0_1 i)
    (hW : Holds x4 x5 x6 x7 x8 x9 W fg)
    {b : ℕ} (hi : (i 1).val = b) (hX : ∀ (r : Fin 512) c, pend (fun k => x0 (ix2 r k)) (fun k => x1 (ix2 r k)) (fun k => x2 (ix2 r k)) (fun k c => x3 (ix2 k c)) c
      = X (512 * b + r.val) c)
    (hb : b = 0) (r : Fin 512) (d : Fin 1024) :
    out0_A_10 (F := Ideal)
      c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 hc0 hc1 x0 x1 x2 x3 x4 x5 x6 x7 x8 x9 (ix2 r d)
      = rms (layer W X (512 * b + r.val)) fg d := by
  subst hi
  unfold out0_A_10
  rw [View.read_writes_eq_canon _ _ _ (cover0_A_10
      c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 hc0 hc1 x0 x1 x2 x3 x4 x5 x6 x7 x8 x9)]
  unfold kernelRun0_A
  dsimp only
  sl_unfold_words
  rw [View.canon_unit_zero hz2]
  simp only [View.readCov, View.readAt_eq_ld, harg2.read_unread, harg3.read_unread, harg4.read_unread, harg5.read_unread, harg6.read_unread, harg7.read_unread,
    harg8.read_unread, harg9.read_unread, harg10.read_unread, harg11.read_unread,
    View.ld_unit_zero (S := S512x1024) hz2, View.ld_unit_zero (S := S1024x1024) hz2, View.ld_unit_zero (S := S1x1024) hz2]
  refine tile_row (i 1).isLt hW hX _ (value_row hW hX) _ _ ?_ ?_ _ _ ?_ ?_ _ _ ?_ ?_ _ _ ?_ ?_ r d
  all_goals repeat' first
    | refine lev1 _ _ _ _ ?_
    | refine lev2 _ _ _ _ _ ?_ ?_
    | refine lev3 _ _ _ _ _ ?_ ?_
    | exact top _ _ _ (value_row hW hX) _
    | exact lev0_first _ _ _ (value_row hW hX) hb _

/-- What a first tile leaves in the first buffer. -/
theorem left_first (hc0 : cond0_0 i) (hc1 : ¬cond0_1 i)
    (hW : Holds x4 x5 x6 x7 x8 x9 W fg)
    {b : ℕ} (hi : (i 1).val = b) (hX : ∀ (r : Fin 512) c, pend (fun k => x0 (ix2 r k)) (fun k => x1 (ix2 r k)) (fun k => x2 (ix2 r k)) (fun k c => x3 (ix2 k c)) c
      = X (512 * b + r.val) c) :
    Left (fun s => uRow W (X s)) b (sout0_A_0 (F := Ideal)
      c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 hc0 hc1 x0 x1 x2 x3 x4 x5 x6 x7 x8 x9) := by
  subst hi
  unfold sout0_A_0 kernelRun0_A
  dsimp only
  sl_unfold_words
  simp only [View.readCov, View.readAt_eq_ld, harg2.read_unread, harg3.read_unread, harg4.read_unread, harg5.read_unread, harg6.read_unread, harg7.read_unread,
    harg8.read_unread, harg9.read_unread, harg10.read_unread, harg11.read_unread,
    View.ld_unit_zero (S := S512x1024) hz2, View.ld_unit_zero (S := S1024x1024) hz2, View.ld_unit_zero (S := S1x1024) hz2]
  exact left_of _ _ _ (value_row hW hX) _

/-- The output rows of a middle tile. -/
theorem out_middle (hc0 : ¬cond0_0 i) (hc1 : ¬cond0_1 i) (xs0 : FVec Ideal S536x1024 .f32) (xs1 : FVec Ideal S536x768 .f32) (xs2 : FVec Ideal S536x512 .f32)
    (hW : Holds x4 x5 x6 x7 x8 x9 W fg)
    {b : ℕ} (hi : (i 1).val = b) (hX : ∀ (r : Fin 512) c, pend (fun k => x0 (ix2 r k)) (fun k => x1 (ix2 r k)) (fun k => x2 (ix2 r k)) (fun k c => x3 (ix2 k c)) c
      = X (512 * b + r.val) c)
    (hb : b ≠ 0) (hS : Left (fun s => uRow W (X s)) (b - 1) xs0) (r : Fin 512) (d : Fin 1024) :
    out0_B_10 (F := Ideal)
      c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 hc0 hc1 x0 x1 x2 x3 x4 x5 x6 x7 x8 x9 xs0 xs1 xs2 (ix2 r d)
      = rms (layer W X (512 * b + r.val)) fg d := by
  subst hi
  unfold out0_B_10
  rw [View.read_writes_eq_canon _ _ _ (cover0_B_10
      c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 hc0 hc1 x0 x1 x2 x3 x4 x5 x6 x7 x8 x9 xs0 xs1 xs2)]
  unfold kernelRun0_B
  dsimp only
  sl_unfold_words
  rw [View.canon_unit_zero hz2]
  simp only [View.readCov, View.readAt_eq_ld, harg2.read_unread, harg3.read_unread, harg4.read_unread, harg5.read_unread, harg6.read_unread, harg7.read_unread,
    harg8.read_unread, harg9.read_unread, harg10.read_unread, harg11.read_unread,
    View.ld_unit_zero (S := S512x1024) hz2, View.ld_unit_zero (S := S1024x1024) hz2, View.ld_unit_zero (S := S1x1024) hz2]
  refine tile_row (i 1).isLt hW hX _ (value_row hW hX) _ _ ?_ ?_ _ _ ?_ ?_ _ _ ?_ ?_ _ _ ?_ ?_ r d
  all_goals repeat' first
    | refine lev1 _ _ _ _ ?_
    | refine lev2 _ _ _ _ _ ?_ ?_
    | refine lev3 _ _ _ _ _ ?_ ?_
    | exact top _ _ _ (value_row hW hX) _
    | exact lev0_next _ _ _ (value_row hW hX) hb xs0 (harg14.read_unread _) hS

/-- What a middle tile leaves in the first buffer. -/
theorem left_middle (hc0 : ¬cond0_0 i) (hc1 : ¬cond0_1 i) (xs0 : FVec Ideal S536x1024 .f32) (xs1 : FVec Ideal S536x768 .f32) (xs2 : FVec Ideal S536x512 .f32)
    (hW : Holds x4 x5 x6 x7 x8 x9 W fg)
    {b : ℕ} (hi : (i 1).val = b) (hX : ∀ (r : Fin 512) c, pend (fun k => x0 (ix2 r k)) (fun k => x1 (ix2 r k)) (fun k => x2 (ix2 r k)) (fun k c => x3 (ix2 k c)) c
      = X (512 * b + r.val) c) :
    Left (fun s => uRow W (X s)) b (sout0_B_0 (F := Ideal)
      c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 hc0 hc1 x0 x1 x2 x3 x4 x5 x6 x7 x8 x9 xs0 xs1 xs2) := by
  subst hi
  unfold sout0_B_0 kernelRun0_B
  dsimp only
  sl_unfold_words
  simp only [View.readCov, View.readAt_eq_ld, harg2.read_unread, harg3.read_unread, harg4.read_unread, harg5.read_unread, harg6.read_unread, harg7.read_unread,
    harg8.read_unread, harg9.read_unread, harg10.read_unread, harg11.read_unread,
    View.ld_unit_zero (S := S512x1024) hz2, View.ld_unit_zero (S := S1024x1024) hz2, View.ld_unit_zero (S := S1x1024) hz2]
  exact left_of _ _ _ (value_row hW hX) _

/-- The output rows of a last tile. -/
theorem out_last (hc0 : ¬cond0_0 i) (hc1 : cond0_1 i) (xs0 : FVec Ideal S536x1024 .f32) (xs1 : FVec Ideal S536x768 .f32) (xs2 : FVec Ideal S536x512 .f32)
    (hW : Holds x4 x5 x6 x7 x8 x9 W fg)
    {b : ℕ} (hi : (i 1).val = b) (hX : ∀ (r : Fin 512) c, pend (fun k => x0 (ix2 r k)) (fun k => x1 (ix2 r k)) (fun k => x2 (ix2 r k)) (fun k c => x3 (ix2 k c)) c
      = X (512 * b + r.val) c)
    (hb : b ≠ 0) (hS : Left (fun s => uRow W (X s)) (b - 1) xs0) (r : Fin 512) (d : Fin 1024) :
    out0_C_10 (F := Ideal)
      c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 hc0 hc1 x0 x1 x2 x3 x4 x5 x6 x7 x8 x9 xs0 xs1 xs2 (ix2 r d)
      = rms (layer W X (512 * b + r.val)) fg d := by
  subst hi
  unfold out0_C_10
  rw [View.read_writes_eq_canon _ _ _ (cover0_C_10
      c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 hc0 hc1 x0 x1 x2 x3 x4 x5 x6 x7 x8 x9 xs0 xs1 xs2)]
  unfold kernelRun0_C
  dsimp only
  sl_unfold_words
  rw [View.canon_unit_zero hz2]
  simp only [View.readCov, View.readAt_eq_ld, harg2.read_unread, harg3.read_unread, harg4.read_unread, harg5.read_unread, harg6.read_unread, harg7.read_unread,
    harg8.read_unread, harg9.read_unread, harg10.read_unread, harg11.read_unread,
    View.ld_unit_zero (S := S512x1024) hz2, View.ld_unit_zero (S := S1024x1024) hz2, View.ld_unit_zero (S := S1x1024) hz2]
  refine tile_row (i 1).isLt hW hX _ (value_row hW hX) _ _ ?_ ?_ _ _ ?_ ?_ _ _ ?_ ?_ _ _ ?_ ?_ r d
  all_goals repeat' first
    | refine lev1 _ _ _ _ ?_
    | refine lev2 _ _ _ _ _ ?_ ?_
    | refine lev3 _ _ _ _ _ ?_ ?_
    | exact top _ _ _ (value_row hW hX) _
    | exact lev0_next _ _ _ (value_row hW hX) hb xs0 (harg14.read_unread _) hS

/-- What a last tile leaves in the first buffer. -/
theorem left_last (hc0 : ¬cond0_0 i) (hc1 : cond0_1 i) (xs0 : FVec Ideal S536x1024 .f32) (xs1 : FVec Ideal S536x768 .f32) (xs2 : FVec Ideal S536x512 .f32)
    (hW : Holds x4 x5 x6 x7 x8 x9 W fg)
    {b : ℕ} (hi : (i 1).val = b) (hX : ∀ (r : Fin 512) c, pend (fun k => x0 (ix2 r k)) (fun k => x1 (ix2 r k)) (fun k => x2 (ix2 r k)) (fun k c => x3 (ix2 k c)) c
      = X (512 * b + r.val) c) :
    Left (fun s => uRow W (X s)) b (sout0_C_0 (F := Ideal)
      c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 hc0 hc1 x0 x1 x2 x3 x4 x5 x6 x7 x8 x9 xs0 xs1 xs2) := by
  subst hi
  unfold sout0_C_0 kernelRun0_C
  dsimp only
  sl_unfold_words
  simp only [View.readCov, View.readAt_eq_ld, harg2.read_unread, harg3.read_unread, harg4.read_unread, harg5.read_unread, harg6.read_unread, harg7.read_unread,
    harg8.read_unread, harg9.read_unread, harg10.read_unread, harg11.read_unread,
    View.ld_unit_zero (S := S512x1024) hz2, View.ld_unit_zero (S := S1024x1024) hz2, View.ld_unit_zero (S := S1x1024) hz2]
  exact left_of _ _ _ (value_row hW hX) _

/-- The second result's sixteen rows. -/
theorem tail_last (hc0 : ¬cond0_0 i) (hc1 : cond0_1 i) (xs0 : FVec Ideal S536x1024 .f32) (xs1 : FVec Ideal S536x768 .f32) (xs2 : FVec Ideal S536x512 .f32)
    (hW : Holds x4 x5 x6 x7 x8 x9 W fg)
    {b : ℕ} (hi : (i 1).val = b) (hX : ∀ (r : Fin 512) c, pend (fun k => x0 (ix2 r k)) (fun k => x1 (ix2 r k)) (fun k => x2 (ix2 r k)) (fun k c => x3 (ix2 k c)) c
      = X (512 * b + r.val) c) (r : Fin 16) (d : Fin 1024) :
    out0_C_11 (F := Ideal)
      c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 hc0 hc1 x0 x1 x2 x3 x4 x5 x6 x7 x8 x9 xs0 xs1 xs2 (ix3 0 r d)
      = uRow W (X (512 * b + 496 + r.val)) d := by
  subst hi
  unfold out0_C_11
  rw [View.read_writes_eq_canon _ _ _ (cover0_C_11
      c i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 hc0 hc1 x0 x1 x2 x3 x4 x5 x6 x7 x8 x9 xs0 xs1 xs2)]
  unfold kernelRun0_C
  dsimp only
  sl_unfold_words
  rw [View.canon_unit_zero hz3]
  simp only [View.readCov, View.readAt_eq_ld, harg2.read_unread, harg3.read_unread, harg4.read_unread, harg5.read_unread, harg6.read_unread, harg7.read_unread,
    harg8.read_unread, harg9.read_unread, harg10.read_unread, harg11.read_unread,
    View.ld_unit_zero (S := S512x1024) hz2, View.ld_unit_zero (S := S1024x1024) hz2, View.ld_unit_zero (S := S1x1024) hz2]
  rw [pay3_apply, value_row hW hX]
  congr 2; dsimp only; omega

end Cert.Pool.K1
-- ==== Proof.Pool.Blocks.lean ====
/-
  The blocks a grid point reads, as entries of the arguments: point `t` reads 512 rows of each activation (sequence `t / 16`,
  rows `512 (t % 16)` on) and the whole of every weight.
-/
module

public import proofs.«01_k».proof.Proof.Pool.Cases
public import Idealize.ShloMosaic.Lib.Pipeline.ValueKit

@[expose] public section
set_option maxRecDepth 16384
noncomputable section
namespace Cert.Pool.K1
open Idealize.ShloMosaic Idealize.ShloMosaic.TcCoe Idealize.ShloMosaic.Tactic Cert.Pool Cert.KernelIdeal Cert.KernelIdeal.Gen

/-- The index maps: the activations move one block down per point, the weights stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0, 0]
    ∧ win0_7.index t = ![0, 0] ∧ win0_8.index t = ![0, 0] ∧ win0_9.index t = ![0, 0] := by decide +kernel

/-- The second grid coordinate: the tile of the sequence. -/
theorem tile_of : ∀ t : Fin cfg0.N, (grid0.coords t 1).val = t.val % 16 := by decide +kernel

variable (m : (ℓ : Loc nD τ sig) → Buf (Elt Ideal) ℓ) (c : Dev nD) (t : Fin cfg0.N)

/-! The activations. -/

theorem blk0 (r : Fin 512) (k : Fin 1024) : iblk m c 0 t (ix2 r k) = m ((c : Thread nD τ).loc main_arg0)
    (ix3 ⟨t.val / 16, by have := t.isLt; have : cfg0.N = 32 := N_0; omega⟩ ⟨512 * (t.val % 16) + r.val, by omega⟩ k) := by
  blk_simp [iblk, idx t]; entry_read; pointwise; blk_ext [idx t]

theorem blk1 (r : Fin 512) (k : Fin 1024) : iblk m c 1 t (ix2 r k) = m ((c : Thread nD τ).loc main_arg1)
    (ix3 ⟨t.val / 16, by have := t.isLt; have : cfg0.N = 32 := N_0; omega⟩ ⟨512 * (t.val % 16) + r.val, by omega⟩ k) := by
  blk_simp [iblk, idx t]; entry_read; pointwise; blk_ext [idx t]

theorem blk2 (r : Fin 512) (k : Fin 1024) : iblk m c 2 t (ix2 r k) = m ((c : Thread nD τ).loc main_arg2)
    (ix3 ⟨t.val / 16, by have := t.isLt; have : cfg0.N = 32 := N_0; omega⟩ ⟨512 * (t.val % 16) + r.val, by omega⟩ k) := by
  blk_simp [iblk, idx t]; entry_read; pointwise; blk_ext [idx t]

/-! The weights. -/

theorem blk3 (a : Fin 1024) (k : Fin 1024) : iblk m c 3 t (ix2 a k) = m ((c : Thread nD τ).loc main_arg3) (ix2 a k) := by
  blk_simp [iblk, idx t]; entry_read; pointwise; blk_ext [idx t]

theorem blk5 (a : Fin 1024) (k : Fin 2048) : iblk m c 5 t (ix2 a k) = m ((c : Thread nD τ).loc main_arg5) (ix2 a k) := by
  blk_simp [iblk, idx t]; entry_read; pointwise; blk_ext [idx t]

theorem blk8 (a : Fin 1024) (k : Fin 1024) : iblk m c 8 t (ix2 a k) = m ((c : Thread nD τ).loc main_arg8) (ix2 a k) := by
  blk_simp [iblk, idx t]; entry_read; pointwise; blk_ext [idx t]

theorem blk4 (k : Fin 1024) : iblk m c 4 t (ix2 0 k) = m ((c : Thread nD τ).loc main_arg4) (ix1 k) := by
  blk_simp [iblk, idx t]; entry_read; pointwise; blk_ext [idx t]

theorem blk7 (k : Fin 1024) : iblk m c 7 t (ix2 0 k) = m ((c : Thread nD τ).loc main_arg7) (ix1 k) := by
  blk_simp [iblk, idx t]; entry_read; pointwise; blk_ext [idx t]

theorem blk9 (k : Fin 1024) : iblk m c 9 t (ix2 0 k) = m ((c : Thread nD τ).loc main_arg9) (ix1 k) := by
  blk_simp [iblk, idx t]; entry_read; pointwise; blk_ext [idx t]

theorem blk6 (a : Fin 4) (k d : Fin 256) : iblk m c 6 t (ix3 a k d) = m ((c : Thread nD τ).loc main_arg6) (ix3 a k d) := by
  blk_simp [iblk, idx t]; entry_read; pointwise; blk_ext [idx t]

end Cert.Pool.K1
-- ==== Proof.Pool.Run.lean ====
/-
  What the two result arrays hold after the kernel's run: point after point the output rows are the layer's, the first
  buffer hands each tile's last sixteen value rows to the next, and the last tile of a sequence stores them.
-/
module

public import proofs.«01_k».proof.Proof.Pool.Blocks

@[expose] public section
set_option maxRecDepth 16384
noncomputable section
namespace Cert.Pool.K1
open Idealize.ShloMosaic Idealize.ShloMosaic.TcCoe Idealize.ShloMosaic.Tactic Cert.Pool Cert.KernelIdeal Cert.KernelIdeal.Gen
open Cert.KernelIdeal.Value (outsAt0_sweep G10 G11)

variable (m : (ℓ : Loc nD τ sig) → Buf (Elt Ideal) ℓ) (c : Dev nD)

/-- The layer's weights in the memory the kernel starts from. -/
abbrev W : Weights := weights (m ((c : Thread nD τ).loc main_arg4)) (m ((c : Thread nD τ).loc main_arg5))
  (m ((c : Thread nD τ).loc main_arg6)) (m ((c : Thread nD τ).loc main_arg7)) (m ((c : Thread nD τ).loc main_arg8))
/-- The final norm's gains. -/
abbrev fin : Fin 1024 → EReal := fun k => (m ((c : Thread nD τ).loc main_arg9) : Gains) (ix1 k)
/-- The residual rows of sequence `s`. -/
abbrev X (s : Fin 2) : ℕ → Fin 1024 → EReal := pendRows (m ((c : Thread nD τ).loc main_arg0)) (m ((c : Thread nD τ).loc main_arg1))
  (m ((c : Thread nD τ).loc main_arg2)) (m ((c : Thread nD τ).loc main_arg3)) s

theorem seq_lt (t : Fin cfg0.N) : t.val / 16 < 2 := by
  have := t.isLt; have : cfg0.N = 32 := N_0; omega

theorem holds (t : Fin cfg0.N) : Holds (iblk m c 4 t) (iblk m c 5 t) (iblk m c 6 t) (iblk m c 7 t) (iblk m c 8 t) (iblk m c 9 t)
    (W m c) (fin m c) :=
  ⟨blk4 m c t, blk5 m c t, blk6 m c t, blk7 m c t, blk8 m c t, blk9 m c t⟩

theorem rows (t : Fin cfg0.N) (r : Fin 512) (d : Fin 1024) :
    pend (fun k => iblk m c 0 t (ix2 r k)) (fun k => iblk m c 1 t (ix2 r k)) (fun k => iblk m c 2 t (ix2 r k))
      (fun k d => iblk m c 3 t (ix2 k d)) d = X m c ⟨t.val / 16, seq_lt t⟩ (512 * (t.val % 16) + r.val) d := by
  have h : 512 * (t.val % 16) + r.val < 8192 := by omega
  unfold X pendRows
  rw [dif_pos h]
  simp only [blk0, blk1, blk2, blk3]

/-- What point `t` leaves: its output rows, the first buffer's history for the next tile, and at a sequence's last tile
    the second result's block. -/
structure Left3 (t : Fin cfg0.N) : Prop where
  out : ∀ (r : Fin 512) (d : Fin 1024), (outsAt0 m c t.val t.isLt).1 (ix2 r d)
    = rms (layer (W m c) (X m c ⟨t.val / 16, seq_lt t⟩) (512 * (t.val % 16) + r.val)) (fin m c) d
  hist : Left (fun s => uRow (W m c) (X m c ⟨t.val / 16, seq_lt t⟩ s)) (t.val % 16) (outsAt0 m c t.val t.isLt).2.2.1
  tail : t.val % 16 = 15 → ∀ (r : Fin 16) (d : Fin 1024), (outsAt0 m c t.val t.isLt).2.1 (ix3 0 r d)
    = uRow (W m c) (X m c ⟨t.val / 16, seq_lt t⟩ (512 * (t.val % 16) + 496 + r.val)) d

theorem step (t : Fin cfg0.N) (prev : t.val % 16 ≠ 0 → Left (fun s => uRow (W m c) (X m c ⟨t.val / 16, seq_lt t⟩ s)) (t.val % 16 - 1)
    (outsAt0 m c (t.val - 1) (Nat.lt_of_le_of_lt (Nat.sub_le _ _) t.isLt)).2.2.1) : Left3 m c t := by
  by_cases h0 : t.val % 16 = 0
  · have h1 : ¬t.val % 16 = 15 := by omega
    have e := outsAt0_A m c t h0 h1
    refine ⟨fun r d => ?_, ?_, fun h => absurd h h1⟩ <;> rw [e] <;> dsimp only
    · rw [out_first (hW := holds m c t) (hi := tile_of t) (hX := rows m c t) (hb := h0)]
    · intro a q h8 h24; rw [left_first (hW := holds m c t) (hi := tile_of t) (hX := rows m c t)] <;> assumption
  by_cases h1 : t.val % 16 = 15
  · have e := outsAt0_C m c t h0 h1
    refine ⟨fun r d => ?_, ?_, fun _ r d => ?_⟩ <;> rw [e] <;> dsimp only
    · rw [out_last (hW := holds m c t) (hi := tile_of t) (hX := rows m c t) (hb := h0) (hS := prev h0)]
    · intro a q h8 h24; rw [left_last (hW := holds m c t) (hi := tile_of t) (hX := rows m c t)] <;> assumption
    · rw [tail_last (hW := holds m c t) (hi := tile_of t) (hX := rows m c t)]
  · have e := outsAt0_B m c t h0 h1
    refine ⟨fun r d => ?_, ?_, fun h => absurd h h1⟩ <;> rw [e] <;> dsimp only
    · rw [out_middle (hW := holds m c t) (hi := tile_of t) (hX := rows m c t) (hb := h0) (hS := prev h0)]
    · intro a q h8 h24; rw [left_middle (hW := holds m c t) (hi := tile_of t) (hX := rows m c t)] <;> assumption

theorem left3 : ∀ (n : ℕ) (hn : n < cfg0.N), Left3 m c ⟨n, hn⟩ := by
  intro n
  induction n with
  | zero => exact fun hn => step m c ⟨0, hn⟩ fun h => absurd (Nat.zero_mod _) h
  | succ n ih =>
    intro hn
    refine step m c ⟨n + 1, hn⟩ fun h => ?_
    have p := (ih (Nat.lt_of_succ_lt hn)).hist
    have e1 : n / 16 = (n + 1) / 16 := by dsimp only at h; omega
    have e2 : n % 16 = (n + 1) % 16 - 1 := by dsimp only at h; omega
    simp only [e1, e2] at p
    exact p

/-- The first result: row `i 0` is sequence `i 0 / 8192`'s row `i 0 % 8192`. -/
theorem G10_apply (i : S16384x1024.Idx) : G10 m c i
    = rms (layer (W m c) (X m c ⟨(i 0).val / 8192, by have := (i 0).isLt; simp at this; omega⟩) ((i 0).val % 8192)) (fin m c) (i 1) := by
  have h0 : (i 0).val < 16384 := (i 0).isLt
  have h1 : (i 1).val < 1024 := (i 1).isLt
  have hN : cfg0.N = 32 := N_0
  have hp : Value.pt10Of i = (i 0).val / 512 := by unfold Value.pt10Of Value.run10Of; omega
  have hlt : Value.pt10Of i < cfg0.N := by omega
  unfold G10
  rw [dif_pos hlt]
  rw [← outsAt0_sweep m c (Value.pt10Of i) hlt]
  have hl : Value.loc10Of i = ix2 ⟨(i 0).val % 512, by omega⟩ (i 1) := by
    funext a
    match a with
    | ⟨0, _⟩ => rfl
    | ⟨1, _⟩ => exact Fin.ext (Nat.mod_eq_of_lt h1)
  rw [hl]
  refine ((left3 m c _ hlt).out ⟨(i 0).val % 512, by omega⟩ (i 1)).trans ?_
  have e1 : Value.pt10Of i / 16 = (i 0).val / 8192 := by omega
  have e2 : 512 * (Value.pt10Of i % 16) + (i 0).val % 512 = (i 0).val % 8192 := by omega
  simp only [e1, e2]

/-- The second result: the last sixteen value rows of each sequence. -/
theorem G11_apply (i : S2x16x1024.Idx) : G11 m c i = uRow (W m c) (X m c (i 0) (8176 + (i 1).val)) (i 2) := by
  have h0 : (i 0).val < 2 := (i 0).isLt
  have h1 : (i 1).val < 16 := (i 1).isLt
  have h2 : (i 2).val < 1024 := (i 2).isLt
  have hN : cfg0.N = 32 := N_0
  have hp : Value.pt11Of i = 16 * (i 0).val + 15 := by unfold Value.pt11Of Value.run11Of; omega
  have hlt : Value.pt11Of i < cfg0.N := by omega
  unfold G11
  rw [dif_pos hlt]
  rw [← outsAt0_sweep m c (Value.pt11Of i) hlt]
  have hl : Value.loc11Of i = ix3 0 (i 1) (i 2) := by
    funext a
    match a with
    | ⟨0, _⟩ => exact Fin.ext (Nat.mod_one _)
    | ⟨1, _⟩ => exact Fin.ext (Nat.mod_eq_of_lt h1)
    | ⟨2, _⟩ => exact Fin.ext (Nat.mod_eq_of_lt h2)
  rw [hl]
  refine ((left3 m c _ hlt).tail (by dsimp only; omega) (i 1) (i 2)).trans ?_
  have e1 : (⟨Value.pt11Of i / 16, seq_lt ⟨Value.pt11Of i, hlt⟩⟩ : Fin 2) = i 0 := Fin.ext (by dsimp only; omega)
  have e2 : 512 * (Value.pt11Of i % 16) + 496 + (i 1).val = 8176 + (i 1).val := by omega
  simp only [e1, e2]

end Cert.Pool.K1
-- ==== Proof.Pool.HostWindow.lean ====
/-
  A float window sum along the middle axis of a rank-3 array, padded low by one less than the window: the result's row
  `t` is the sum of the (at most) `w` rows of the operand that end at `t`.
-/
module

public import proofs.«01_k».proof.Proof.Pool.Rows

@[expose] public section
noncomputable section
namespace Cert.Pool
open Idealize.ShloMosaic

/-- A left fold of additions over all of `Fin n` is the initial value plus the sum. -/
theorem fold_add {n : ℕ} (f : Fin n → EReal) (z : EReal) :
    (List.finRange n).foldl (fun r k => r + f k) z = z + ∑ k, f k := by
  have h : ∀ (L : List (Fin n)) (z : EReal), L.foldl (fun r k => r + f k) z = z + (L.map f).sum := by
    intro L
    induction L with
    | nil => intro z; simp
    | cons a L ih => intro z; rw [List.foldl_cons, ih, List.map_cons, List.sum_cons, add_assoc]
  rw [h, Fin.sum_univ_def]

/-- The middle coordinate of the `n`-th index of a `1 × w × 1` window is `n`. -/
theorem mid_coord (w : ℕ) (n : Fin (⟨3, ![1, w, 1]⟩ : Shape).numel) :
    ((⟨3, ![1, w, 1]⟩ : Shape).rowMajor.symm n 0).val = 0 ∧ ((⟨3, ![1, w, 1]⟩ : Shape).rowMajor.symm n 1).val = n.val
      ∧ ((⟨3, ![1, w, 1]⟩ : Shape).rowMajor.symm n 2).val = 0 := by
  have h := Shape.rowMajor_val_three ((⟨3, ![1, w, 1]⟩ : Shape).rowMajor.symm n)
  rw [Equiv.apply_symm_apply] at h
  have h0 : ((⟨3, ![1, w, 1]⟩ : Shape).rowMajor.symm n 0).val < 1 := ((⟨3, ![1, w, 1]⟩ : Shape).rowMajor.symm n 0).isLt
  have h2 : ((⟨3, ![1, w, 1]⟩ : Shape).rowMajor.symm n 2).val < 1 := ((⟨3, ![1, w, 1]⟩ : Shape).rowMajor.symm n 2).isLt
  have h' : n.val = (((⟨3, ![1, w, 1]⟩ : Shape).rowMajor.symm n 0).val * w + ((⟨3, ![1, w, 1]⟩ : Shape).rowMajor.symm n 1).val) * 1
    + ((⟨3, ![1, w, 1]⟩ : Shape).rowMajor.symm n 2).val := h
  refine ⟨by omega, ?_, by omega⟩
  have e0 : ((⟨3, ![1, w, 1]⟩ : Shape).rowMajor.symm n 0).val = 0 := by omega
  rw [e0, Nat.zero_mul, Nat.zero_add, Nat.mul_one] at h'
  omega

/-- Such a window has `w` positions. -/
theorem mid_numel (w : ℕ) : (⟨3, ![1, w, 1]⟩ : Shape).numel = w := by
  simp [Shape.numel, Fin.prod_univ_three]

/-- The trailing window sum, read at an index. -/
theorem host_window {a n b w v : ℕ} (hw : v + 1 = w) (x : FVec Ideal (⟨3, ![a, n, b]⟩ : Shape) .f32) (U : ℕ → EReal)
    (init : FVec Ideal (⟨0, ![]⟩ : Shape) .f32) (hi : ∀ j, init j = 0)
    (h : (⟨3, ![a, n, b]⟩ : Shape).ReduceWindows (![1, w, 1] : Fin 3 → ℕ) ![1, 1, 1] ![0, v, 0] ![0, 0, 0] (⟨3, ![a, n, b]⟩ : Shape))
    (hu : 0 < (⟨0, ![]⟩ : Shape).numel) (s : Fin a) (t : Fin n) (c : Fin b) (hx : ∀ r : Fin n, x (ix3 s r c) = U r.val) :
    Host.reduceWindowAdd ![1, w, 1] ![1, 1, 1] ![0, v, 0] ![0, 0, 0] x init h hu (ix3 s t c) = wsum w U t.val := by
  unfold Host.reduceWindowAdd
  rw [Ideal.hostReduceWindowAdd_def]
  unfold Ideal.hostReduceWindowAdd Host.reduceWindow
  simp only [hi]
  have hf : ∀ k : Fin (⟨3, ![1, w, 1]⟩ : Shape).numel,
      (if hin : ∀ q : Fin 3, (![0, v, 0] : Fin 3 → ℕ) q ≤ ((ix3 s t c : (⟨3, ![a, n, b]⟩ : Shape).Idx) (q.cast h.1.symm)).val * (![1, 1, 1] : Fin 3 → ℕ) q
            + ((⟨3, ![1, w, 1]⟩ : Shape).rowMajor.symm k q).val
          ∧ ((ix3 s t c : (⟨3, ![a, n, b]⟩ : Shape).Idx) (q.cast h.1.symm)).val * (![1, 1, 1] : Fin 3 → ℕ) q
            + ((⟨3, ![1, w, 1]⟩ : Shape).rowMajor.symm k q).val - (![0, v, 0] : Fin 3 → ℕ) q < (⟨3, ![a, n, b]⟩ : Shape).size q
        then x (fun q => ⟨_, (hin q).2⟩) else (0 : EReal))
      = if v ≤ t.val + k.val then U (t.val + k.val - v) else 0 := by
    intro k
    obtain ⟨e0, e1, e2⟩ := mid_coord w k
    have hk : k.val < w := lt_of_lt_of_eq k.isLt (mid_numel w)
    have ht := t.isLt
    by_cases hv : v ≤ t.val + k.val
    · have hlt : t.val + k.val - v < n := by omega
      rw [if_pos hv, dif_pos (fun q => by
        match q with
        | ⟨0, _⟩ =>
          show 0 ≤ s.val * 1 + ((⟨3, ![1, w, 1]⟩ : Shape).rowMajor.symm k 0).val
            ∧ s.val * 1 + ((⟨3, ![1, w, 1]⟩ : Shape).rowMajor.symm k 0).val - 0 < a
          have := s.isLt; omega
        | ⟨1, _⟩ =>
          show v ≤ t.val * 1 + ((⟨3, ![1, w, 1]⟩ : Shape).rowMajor.symm k 1).val
            ∧ t.val * 1 + ((⟨3, ![1, w, 1]⟩ : Shape).rowMajor.symm k 1).val - v < n
          omega
        | ⟨2, _⟩ =>
          show 0 ≤ c.val * 1 + ((⟨3, ![1, w, 1]⟩ : Shape).rowMajor.symm k 2).val
            ∧ c.val * 1 + ((⟨3, ![1, w, 1]⟩ : Shape).rowMajor.symm k 2).val - 0 < b
          have := c.isLt; omega), ← hx ⟨_, hlt⟩]
      refine congrArg x (funext fun q => Fin.ext ?_)
      match q with
      | ⟨0, _⟩ => show s.val * 1 + ((⟨3, ![1, w, 1]⟩ : Shape).rowMajor.symm k 0).val - 0 = s.val; omega
      | ⟨1, _⟩ => show t.val * 1 + ((⟨3, ![1, w, 1]⟩ : Shape).rowMajor.symm k 1).val - v = t.val + k.val - v; omega
      | ⟨2, _⟩ => show c.val * 1 + ((⟨3, ![1, w, 1]⟩ : Shape).rowMajor.symm k 2).val - 0 = c.val; omega
    · rw [if_neg hv, dif_neg (fun hin => by
        have h1 : v ≤ t.val * 1 + ((⟨3, ![1, w, 1]⟩ : Shape).rowMajor.symm k 1).val := (hin 1).1
        omega)]
  refine (congrArg (fun g => (List.finRange (⟨3, ![1, w, 1]⟩ : Shape).numel).foldl g (0 : EReal)) (funext fun r => funext fun k => congrArg (r + ·) (hf k))).trans ?_
  rw [fold_add, zero_add]
  unfold wsum
  rw [← Fin.sum_univ_eq_sum_range (fun j => if j ≤ t.val then U (t.val - j) else 0) w]
  refine Fintype.sum_equiv ((finCongr (mid_numel w)).trans Fin.revPerm) _ _ fun k => ?_
  have hk : k.val < w := lt_of_lt_of_eq k.isLt (mid_numel w)
  have e : (((finCongr (mid_numel w)).trans Fin.revPerm) k).val = w - (k.val + 1) := by simp [Fin.val_rev]
  rw [e]
  by_cases hv : v ≤ t.val + k.val
  · rw [if_pos hv, if_pos (by omega)]; congr 1; omega
  · rw [if_neg hv, if_neg (by omega)]

end Cert.Pool
-- ==== Proof.Pool.Ref.lean ====
/-
  What the reference computes, row by row: its first result is the final norm of the layer's output rows, its second the
  last sixteen value rows.
-/
module

public import proofs.«01_k».proof.Proof.Pool.HostWindow
public import proofs.«01_k».proof.Proof.Gen.ReferenceIdeal.Read
public import Idealize.ShloMosaic.PureOps.IdealRules

@[expose] public section
set_option maxRecDepth 16384
noncomputable section
namespace Cert.Pool.R1
open Idealize.ShloMosaic Cert.Pool Cert.ReferenceIdeal Cert.ReferenceIdeal.Gen Cert.ReferenceIdeal.Read

variable (x o gate : Act) (Wf : Square) (g : Gains) (wIn : Wide) (mix : Mix) (sc : Gains) (wOut : Square) (fg : Gains)

/-- The host's `1 / (1 + exp (-z))` is the logistic function. -/
theorem host_logistic (z : EReal) : FloatOps.hostDivf (F := Ideal) (φ := .f32) (Ideal.ofBits .f32 0x3F800000#32)
    (FloatOps.addf (F := Ideal) (φ := .f32) (Ideal.ofBits .f32 0x3F800000#32) (FloatOps.hostUnary (F := Ideal) (φ := .f32) .exp
      (FloatOps.hostNegf (F := Ideal) (φ := .f32) z))) = Ideal.logistic z := by
  rw [show Ideal.ofBits .f32 0x3F800000#32 = 1 by simp [Ideal.ofBits, Ideal.ieee, -EReal.coe_mul]; norm_num]
  rfl

theorem silu_pending (i : S2x8192x1024.Idx) : val_main_v0 (F := Ideal) gate i = silu (gate i) :=
  congrArg (gate i * ·) (host_logistic (gate i))

theorem v3_row (s : Fin 2) (t : Fin 8192) (c : Fin 1024) :
    val_main_v3 (F := Ideal) x o gate Wf (ix3 s t c) = pendRows x o gate Wf s t.val c := by
  rw [val_main_v3_apply, val_main_v2_apply]
  unfold pendRows pend
  rw [dif_pos t.isLt]
  refine congrArg (x (ix3 s t c) + ·) (Finset.sum_congr rfl fun k _ => ?_)
  rw [val_main_v1_apply, silu_pending]
  rw [show lidx_main_v2 (ix3 s t c) k = ix3 s t k from funext fun a => by match a with | ⟨0, _⟩ => rfl | ⟨1, _⟩ => rfl | ⟨2, _⟩ => rfl]
  rw [show ridx_main_v2 (ix3 s t c) k = ix2 k c from funext fun a => by match a with | ⟨0, _⟩ => rfl | ⟨1, _⟩ => rfl]
  rfl

theorem norm_row (s : Fin 2) (t : Fin 8192) (c : Fin 1024) :
    val_main_v16 (F := Ideal) x o gate Wf g (ix3 s t c) = rms (pendRows x o gate Wf s t.val) (fun k => g (ix1 k)) c := by
  rw [val_main_v16_apply, val_main_v13_apply, val_main_v12_apply, val_main_v11_apply, val_main_v10_apply, val_main_v9_apply,
    val_main_v8_apply, val_main_v7_apply, val_main_v6_apply, val_main_v5_apply, val_main_v15_apply, val_main_v14_apply, v3_row]
  simp only [val_main_v4_apply, val_main_cst_apply, val_main_cst_0_apply, val_main_cst_1_apply]
  have hs : ∀ k : Fin 1024, val_main_v3 (F := Ideal) x o gate Wf (idx_main_v5 (idx_main_v6 (idx_main_v12 (ix3 s t c))) k)
      = pendRows x o gate Wf s t.val k := fun k => by
    rw [show idx_main_v5 (idx_main_v6 (idx_main_v12 (ix3 s t c))) k = ix3 s t k from funext fun a => by
      match a with | ⟨0, _⟩ => rfl | ⟨1, _⟩ => rfl | ⟨2, _⟩ => rfl, v3_row]
  simp only [hs]
  rw [show idx_main_v14 (idx_main_v15 (ix3 s t c)) = ix1 c from funext fun a => by match a with | ⟨0, _⟩ => rfl]
  unfold rms eps width1024
  rw [show (FloatOps.ofBits (F := Ideal) .f32 0x00000000#32 : EReal) = 0 from Ideal.ofBits_zero_f32, zero_add]
  rfl

theorem value_row (s : Fin 2) (t : Fin 8192) (c : Fin 1024) :
    val_main_v18 (F := Ideal) x o gate Wf g wIn (ix3 s t c) = uRow (weights g wIn mix sc wOut) (pendRows x o gate Wf s t.val) c := by
  rw [val_main_v18_apply, val_main_v17_apply]
  unfold uRow
  refine Finset.sum_congr rfl fun k _ => ?_
  rw [show lidx_main_v17 (idx_main_v18 (ix3 s t c)) k = ix3 s t k from funext fun a => by
    match a with | ⟨0, _⟩ => rfl | ⟨1, _⟩ => rfl | ⟨2, _⟩ => rfl, norm_row]
  rw [show ridx_main_v17 (idx_main_v18 (ix3 s t c)) k = ix2 k ⟨c.val, by omega⟩ from funext fun a => by
    match a with | ⟨0, _⟩ => rfl | ⟨1, _⟩ => rfl]
  rfl

theorem gate_row (s : Fin 2) (t : Fin 8192) (c : Fin 1024) :
    val_main_v19 (F := Ideal) x o gate Wf g wIn (ix3 s t c) = gateRow (weights g wIn mix sc wOut) (pendRows x o gate Wf s t.val) c := by
  rw [val_main_v19_apply, val_main_v17_apply]
  unfold gateRow
  refine Finset.sum_congr rfl fun k _ => ?_
  rw [show lidx_main_v17 (idx_main_v19 (ix3 s t c)) k = ix3 s t k from funext fun a => by
    match a with | ⟨0, _⟩ => rfl | ⟨1, _⟩ => rfl | ⟨2, _⟩ => rfl, norm_row]
  rw [show ridx_main_v17 (idx_main_v19 (ix3 s t c)) k = ix2 k ⟨1024 + c.val, by omega⟩ from funext fun a => by
    match a with | ⟨0, _⟩ => rfl | ⟨1, _⟩ => rfl]
  rfl

/-- The window mean of column group 0: over 2 rows. -/
theorem mean0 (s : Fin 2) (t : Fin 8192) (k : Fin 256) (c : Fin 1024) (hc : 0 + k.val = c.val) :
    val_main_v31 (F := Ideal) x o gate Wf g wIn (ix3 s t k)
      = wmean (window 0) (fun r => uRow (weights g wIn mix sc wOut) (pendRows x o gate Wf s r) c) t.val := by
  rw [val_main_v31_apply, val_main_v30_apply, val_main_v26_apply, val_main_v25_apply, val_main_v24_apply, val_main_v23_apply,
    val_main_v22_apply, val_main_v21_apply, val_main_v20_apply, val_main_c_apply, val_main_c_2_apply]
  unfold val_main_v29
  rw [host_window (w := 2) (v := 1) rfl (val_main_v27 (F := Ideal) x o gate Wf g wIn)
    (fun r => uRow (weights g wIn mix sc wOut) (pendRows x o gate Wf s r) c) (val_main_v28 (F := Ideal)) (fun j => Ideal.ofBits_zero_f32)
    _ _ s t k (fun r => by
      rw [val_main_v27_apply, ← value_row x o gate Wf g wIn mix sc wOut s r c]
      exact congrArg (val_main_v18 (F := Ideal) x o gate Wf g wIn) (funext fun a => Fin.ext (by
        match a with | ⟨0, _⟩ => rfl | ⟨1, _⟩ => rfl | ⟨2, _⟩ => exact (Nat.zero_add _).symm.trans hc)))]
  unfold wmean
  rw [← count_word t.val (window 0) (by omega) (by decide)]
  refine congrArg (fun z => Ideal.div (wsum 2 _ t.val) (FloatOps.sitofp (F := Ideal) .f32 (IntOp.minsi z _))) ?_
  exact (BitVec.ofNat_add_ofNat t.val 1)

/-- The window mean of column group 1: over 4 rows. -/
theorem mean1 (s : Fin 2) (t : Fin 8192) (k : Fin 256) (c : Fin 1024) (hc : 256 + k.val = c.val) :
    val_main_v42 (F := Ideal) x o gate Wf g wIn (ix3 s t k)
      = wmean (window 1) (fun r => uRow (weights g wIn mix sc wOut) (pendRows x o gate Wf s r) c) t.val := by
  rw [val_main_v42_apply, val_main_v41_apply, val_main_v37_apply, val_main_v36_apply, val_main_v35_apply, val_main_v34_apply,
    val_main_v33_apply, val_main_v32_apply, val_main_v20_apply, val_main_c_4_apply, val_main_c_5_apply]
  unfold val_main_v40
  rw [host_window (w := 4) (v := 3) rfl (val_main_v38 (F := Ideal) x o gate Wf g wIn)
    (fun r => uRow (weights g wIn mix sc wOut) (pendRows x o gate Wf s r) c) (val_main_v39 (F := Ideal)) (fun j => Ideal.ofBits_zero_f32)
    _ _ s t k (fun r => by
      rw [val_main_v38_apply, ← value_row x o gate Wf g wIn mix sc wOut s r c]
      exact congrArg (val_main_v18 (F := Ideal) x o gate Wf g wIn) (funext fun a => Fin.ext (by
        match a with | ⟨0, _⟩ => rfl | ⟨1, _⟩ => rfl | ⟨2, _⟩ => exact hc)))]
  unfold wmean
  rw [← count_word t.val (window 1) (by omega) (by decide)]
  refine congrArg (fun z => Ideal.div (wsum 4 _ t.val) (FloatOps.sitofp (F := Ideal) .f32 (IntOp.minsi z _))) ?_
  exact (BitVec.ofNat_add_ofNat t.val 1)

/-- The window mean of column group 2: over 8 rows. -/
theorem mean2 (s : Fin 2) (t : Fin 8192) (k : Fin 256) (c : Fin 1024) (hc : 512 + k.val = c.val) :
    val_main_v53 (F := Ideal) x o gate Wf g wIn (ix3 s t k)
      = wmean (window 2) (fun r => uRow (weights g wIn mix sc wOut) (pendRows x o gate Wf s r) c) t.val := by
  rw [val_main_v53_apply, val_main_v52_apply, val_main_v48_apply, val_main_v47_apply, val_main_v46_apply, val_main_v45_apply,
    val_main_v44_apply, val_main_v43_apply, val_main_v20_apply, val_main_c_7_apply, val_main_c_8_apply]
  unfold val_main_v51
  rw [host_window (w := 8) (v := 7) rfl (val_main_v49 (F := Ideal) x o gate Wf g wIn)
    (fun r => uRow (weights g wIn mix sc wOut) (pendRows x o gate Wf s r) c) (val_main_v50 (F := Ideal)) (fun j => Ideal.ofBits_zero_f32)
    _ _ s t k (fun r => by
      rw [val_main_v49_apply, ← value_row x o gate Wf g wIn mix sc wOut s r c]
      exact congrArg (val_main_v18 (F := Ideal) x o gate Wf g wIn) (funext fun a => Fin.ext (by
        match a with | ⟨0, _⟩ => rfl | ⟨1, _⟩ => rfl | ⟨2, _⟩ => exact hc)))]
  unfold wmean
  rw [← count_word t.val (window 2) (by omega) (by decide)]
  refine congrArg (fun z => Ideal.div (wsum 8 _ t.val) (FloatOps.sitofp (F := Ideal) .f32 (IntOp.minsi z _))) ?_
  exact (BitVec.ofNat_add_ofNat t.val 1)

/-- The window mean of column group 3: over 16 rows. -/
theorem mean3 (s : Fin 2) (t : Fin 8192) (k : Fin 256) (c : Fin 1024) (hc : 768 + k.val = c.val) :
    val_main_v64 (F := Ideal) x o gate Wf g wIn (ix3 s t k)
      = wmean (window 3) (fun r => uRow (weights g wIn mix sc wOut) (pendRows x o gate Wf s r) c) t.val := by
  rw [val_main_v64_apply, val_main_v63_apply, val_main_v59_apply, val_main_v58_apply, val_main_v57_apply, val_main_v56_apply,
    val_main_v55_apply, val_main_v54_apply, val_main_v20_apply, val_main_c_10_apply, val_main_c_11_apply]
  unfold val_main_v62
  rw [host_window (w := 16) (v := 15) rfl (val_main_v60 (F := Ideal) x o gate Wf g wIn)
    (fun r => uRow (weights g wIn mix sc wOut) (pendRows x o gate Wf s r) c) (val_main_v61 (F := Ideal)) (fun j => Ideal.ofBits_zero_f32)
    _ _ s t k (fun r => by
      rw [val_main_v60_apply, ← value_row x o gate Wf g wIn mix sc wOut s r c]
      exact congrArg (val_main_v18 (F := Ideal) x o gate Wf g wIn) (funext fun a => Fin.ext (by
        match a with | ⟨0, _⟩ => rfl | ⟨1, _⟩ => rfl | ⟨2, _⟩ => exact hc)))]
  unfold wmean
  rw [← count_word t.val (window 3) (by omega) (by decide)]
  refine congrArg (fun z => Ideal.div (wsum 16 _ t.val) (FloatOps.sitofp (F := Ideal) .f32 (IntOp.minsi z _))) ?_
  exact (BitVec.ofNat_add_ofNat t.val 1)

/-- The means of all four groups side by side. -/
theorem mean_row (s : Fin 2) (t : Fin 8192) (c : Fin 1024) :
    val_main_v65 (F := Ideal) x o gate Wf g wIn (ix3 s t c)
      = wmean (window (c.val / 256)) (fun r => uRow (weights g wIn mix sc wOut) (pendRows x o gate Wf s r) c) t.val := by
  have hc := c.isLt
  unfold val_main_v65
  rcases (show c.val / 256 = 0 ∨ c.val / 256 = 1 ∨ c.val / 256 = 2 ∨ c.val / 256 = 3 by omega) with h | h | h | h
  · rw [h, ← mean0 x o gate Wf g wIn mix sc wOut s t ⟨c.val - 0, by omega⟩ c (by show 0 + (c.val - 0) = c.val; omega)]
    exact concatenate_apply_piece 2 _ _ (ix3 s t c) 0 (by simp) S2x8192x256 (val_main_v31 (F := Ideal) x o gate Wf g wIn) rfl rfl 0 rfl
      (ix3 s t ⟨c.val - 0, by omega⟩) (fun b hb => by match b with | ⟨0, _⟩ => rfl | ⟨1, _⟩ => rfl | ⟨2, _⟩ => exact absurd rfl hb)
      (by show 0 + (c.val - 0) = c.val; omega)
  · rw [h, ← mean1 x o gate Wf g wIn mix sc wOut s t ⟨c.val - 256, by omega⟩ c (by show 256 + (c.val - 256) = c.val; omega)]
    exact concatenate_apply_piece 2 _ _ (ix3 s t c) 1 (by simp) S2x8192x256 (val_main_v42 (F := Ideal) x o gate Wf g wIn) rfl rfl 256 rfl
      (ix3 s t ⟨c.val - 256, by omega⟩) (fun b hb => by match b with | ⟨0, _⟩ => rfl | ⟨1, _⟩ => rfl | ⟨2, _⟩ => exact absurd rfl hb)
      (by show 256 + (c.val - 256) = c.val; omega)
  · rw [h, ← mean2 x o gate Wf g wIn mix sc wOut s t ⟨c.val - 512, by omega⟩ c (by show 512 + (c.val - 512) = c.val; omega)]
    exact concatenate_apply_piece 2 _ _ (ix3 s t c) 2 (by simp) S2x8192x256 (val_main_v53 (F := Ideal) x o gate Wf g wIn) rfl rfl 512 rfl
      (ix3 s t ⟨c.val - 512, by omega⟩) (fun b hb => by match b with | ⟨0, _⟩ => rfl | ⟨1, _⟩ => rfl | ⟨2, _⟩ => exact absurd rfl hb)
      (by show 512 + (c.val - 512) = c.val; omega)
  · rw [h, ← mean3 x o gate Wf g wIn mix sc wOut s t ⟨c.val - 768, by omega⟩ c (by show 768 + (c.val - 768) = c.val; omega)]
    exact concatenate_apply_piece 2 _ _ (ix3 s t c) 3 (by simp) S2x8192x256 (val_main_v64 (F := Ideal) x o gate Wf g wIn) rfl rfl 768 rfl
      (ix3 s t ⟨c.val - 768, by omega⟩) (fun b hb => by match b with | ⟨0, _⟩ => rfl | ⟨1, _⟩ => rfl | ⟨2, _⟩ => exact absurd rfl hb)
      (by show 768 + (c.val - 768) = c.val; omega)

theorem pool_row (s : Fin 2) (t : Fin 8192) (c : Fin 1024) :
    val_main_v66 (F := Ideal) x o gate Wf g wIn (ix3 s t c) = poolRow (weights g wIn mix sc wOut) (pendRows x o gate Wf s) t.val c := by
  rw [val_main_v66_apply, mean_row x o gate Wf g wIn mix sc wOut, value_row x o gate Wf g wIn mix sc wOut]
  rfl

theorem mixed_row (s : Fin 2) (t : Fin 8192) (c : Fin 1024) :
    val_main_v70 (F := Ideal) x o gate Wf g wIn mix (ix3 s t c)
      = mixRow (poolRow (weights g wIn mix sc wOut) (pendRows x o gate Wf s) t.val) (weights g wIn mix sc wOut).mix c := by
  have hs := s.isLt
  have ht := t.isLt
  have hc := c.isLt
  rw [val_main_v70_apply, val_main_v69_apply, val_main_v68_apply]
  unfold mixRow
  refine Finset.sum_congr rfl fun k _ => ?_
  have hk := k.isLt
  rw [val_main_v67_apply, ← pool_row x o gate Wf g wIn mix sc wOut, mul_comm]
  congr 1
  · refine congrArg (val_main_v66 (F := Ideal) x o gate Wf g wIn) (funext fun a => Fin.ext ?_)
    match a with
    | ⟨0, _⟩ =>
      show ((((((s.val * 8192 + t.val) * 1024 + c.val) / 8388608) * 8192 + (((s.val * 8192 + t.val) * 1024 + c.val) / 1024 % 8192)) * 4 + (((s.val * 8192 + t.val) * 1024 + c.val) / 256 % 4)) * 256 + k.val) / 8388608 = s.val
      omega
    | ⟨1, _⟩ =>
      show ((((((s.val * 8192 + t.val) * 1024 + c.val) / 8388608) * 8192 + (((s.val * 8192 + t.val) * 1024 + c.val) / 1024 % 8192)) * 4 + (((s.val * 8192 + t.val) * 1024 + c.val) / 256 % 4)) * 256 + k.val) / 1024 % 8192 = t.val
      omega
    | ⟨2, _⟩ =>
      show ((((((s.val * 8192 + t.val) * 1024 + c.val) / 8388608) * 8192 + (((s.val * 8192 + t.val) * 1024 + c.val) / 1024 % 8192)) * 4 + (((s.val * 8192 + t.val) * 1024 + c.val) / 256 % 4)) * 256 + k.val) % 1024 = 256 * (c.val / 256) + k.val
      omega
  · refine congrArg mix (funext fun a => Fin.ext ?_)
    match a with
    | ⟨0, _⟩ => show ((s.val * 8192 + t.val) * 1024 + c.val) / 256 % 4 = c.val / 256; omega
    | ⟨1, _⟩ => rfl
    | ⟨2, _⟩ => show ((s.val * 8192 + t.val) * 1024 + c.val) % 256 = c.val % 256; omega

theorem silu_gate (i : S2x8192x1024.Idx) :
    val_main_v74 (F := Ideal) x o gate Wf g wIn i = silu (val_main_v19 (F := Ideal) x o gate Wf g wIn i) :=
  congrArg (val_main_v19 (F := Ideal) x o gate Wf g wIn i * ·) (host_logistic _)

theorem layer_row (s : Fin 2) (t : Fin 8192) (c : Fin 1024) :
    val_main_v77 (F := Ideal) x o gate Wf g wIn mix sc wOut (ix3 s t c)
      = layer (weights g wIn mix sc wOut) (pendRows x o gate Wf s) t.val c := by
  rw [val_main_v77_apply, val_main_v76_apply, v3_row]
  unfold layer branch
  refine congrArg (pendRows x o gate Wf s t.val c + ·) (Finset.sum_congr rfl fun k _ => ?_)
  rw [show lidx_main_v76 (ix3 s t c) k = ix3 s t k from funext fun a => by
    match a with | ⟨0, _⟩ => rfl | ⟨1, _⟩ => rfl | ⟨2, _⟩ => rfl]
  rw [show ridx_main_v76 (ix3 s t c) k = ix2 k c from funext fun a => by match a with | ⟨0, _⟩ => rfl | ⟨1, _⟩ => rfl]
  rw [val_main_v75_apply, val_main_v73_apply, val_main_v72_apply, val_main_v71_apply, silu_gate,
    mixed_row x o gate Wf g wIn mix sc wOut, gate_row x o gate Wf g wIn mix sc wOut]
  rw [show idx_main_v71 (idx_main_v72 (ix3 s t k)) = ix1 k from funext fun a => by match a with | ⟨0, _⟩ => rfl]
  rfl

theorem final_row (s : Fin 2) (t : Fin 8192) (c : Fin 1024) :
    val_main_v90 (F := Ideal) x o gate Wf g wIn mix sc wOut fg (ix3 s t c)
      = rms (layer (weights g wIn mix sc wOut) (pendRows x o gate Wf s) t.val) (fun k => fg (ix1 k)) c := by
  rw [val_main_v90_apply, val_main_v87_apply, val_main_v86_apply, val_main_v85_apply, val_main_v84_apply, val_main_v83_apply,
    val_main_v82_apply, val_main_v81_apply, val_main_v80_apply, val_main_v79_apply, val_main_v89_apply, val_main_v88_apply, layer_row]
  simp only [val_main_v78_apply, val_main_cst_13_apply, val_main_cst_14_apply, val_main_cst_15_apply]
  have hs : ∀ k : Fin 1024, val_main_v77 (F := Ideal) x o gate Wf g wIn mix sc wOut (idx_main_v79 (idx_main_v80 (idx_main_v86 (ix3 s t c))) k)
      = layer (weights g wIn mix sc wOut) (pendRows x o gate Wf s) t.val k := fun k => by
    rw [show idx_main_v79 (idx_main_v80 (idx_main_v86 (ix3 s t c))) k = ix3 s t k from funext fun a => by
      match a with | ⟨0, _⟩ => rfl | ⟨1, _⟩ => rfl | ⟨2, _⟩ => rfl, layer_row]
  simp only [hs]
  rw [show idx_main_v88 (idx_main_v89 (ix3 s t c)) = ix1 c from funext fun a => by match a with | ⟨0, _⟩ => rfl]
  unfold rms eps width1024
  rw [show (FloatOps.ofBits (F := Ideal) .f32 0x00000000#32 : EReal) = 0 from Ideal.ofBits_zero_f32, zero_add]
  rfl

/-- The first result. -/
theorem out_apply (i : S16384x1024.Idx) :
    val_main_v91 (F := Ideal) x o gate Wf g wIn mix sc wOut fg i
      = rms (layer (weights g wIn mix sc wOut) (pendRows x o gate Wf ⟨(i 0).val / 8192, by have h : (i 0).val < 16384 := (i 0).isLt; omega⟩)
          ((i 0).val % 8192)) (fun k => fg (ix1 k)) (i 1) := by
  have h0 : (i 0).val < 16384 := (i 0).isLt
  have h1 : (i 1).val < 1024 := (i 1).isLt
  rw [val_main_v91_apply, ← final_row x o gate Wf g wIn mix sc wOut fg _ ⟨(i 0).val % 8192, by omega⟩ (i 1)]
  refine congrArg (val_main_v90 (F := Ideal) x o gate Wf g wIn mix sc wOut fg) (funext fun a => Fin.ext ?_)
  match a with
  | ⟨0, _⟩ => show ((i 0).val * 1024 + (i 1).val) / 8388608 = (i 0).val / 8192; omega
  | ⟨1, _⟩ => show ((i 0).val * 1024 + (i 1).val) / 1024 % 8192 = (i 0).val % 8192; omega
  | ⟨2, _⟩ => show ((i 0).val * 1024 + (i 1).val) % 1024 = (i 1).val; omega

/-- The second result. -/
theorem tail_apply (i : S2x16x1024.Idx) :
    val_main_v92 (F := Ideal) x o gate Wf g wIn i
      = uRow (weights g wIn mix sc wOut) (pendRows x o gate Wf (i 0) (8176 + (i 1).val)) (i 2) := by
  have h1 : (i 1).val < 16 := (i 1).isLt
  rw [val_main_v92_apply]
  exact (congrArg (val_main_v18 (F := Ideal) x o gate Wf g wIn) (funext fun a => by
    match a with | ⟨0, _⟩ => rfl | ⟨1, _⟩ => rfl | ⟨2, _⟩ => rfl)).trans
    (value_row x o gate Wf g wIn mix sc wOut (i 0) ⟨8176 + (i 1).val, by omega⟩ (i 2))

end Cert.Pool.R1
-- ==== Proof.Pool.Agree.lean ====
/-
  The two programs compute the same arrays: from equal arguments the kernel's two results are the reference's.
-/
module

public import proofs.«01_k».proof.Proof.Pool.Run
public import proofs.«01_k».proof.Proof.Pool.Ref

@[expose] public section
noncomputable section
namespace Cert.Pool
open Idealize.ShloMosaic Idealize.ShloMosaic.TcCoe

variable (m : (ℓ : Loc KernelIdeal.nD KernelIdeal.τ KernelIdeal.sig) → Buf (Elt Ideal) ℓ) (c : Dev KernelIdeal.nD)

/-- The normalised layer output. -/
theorem out_agree : ReferenceIdeal.Read.val_main_v91 (F := Ideal)
      (m ((c.tc : Thread KernelIdeal.nD KernelIdeal.τ).loc KernelIdeal.main_arg0)) (m ((c.tc : Thread KernelIdeal.nD KernelIdeal.τ).loc KernelIdeal.main_arg1))
      (m ((c.tc : Thread KernelIdeal.nD KernelIdeal.τ).loc KernelIdeal.main_arg2)) (m ((c.tc : Thread KernelIdeal.nD KernelIdeal.τ).loc KernelIdeal.main_arg3))
      (m ((c.tc : Thread KernelIdeal.nD KernelIdeal.τ).loc KernelIdeal.main_arg4)) (m ((c.tc : Thread KernelIdeal.nD KernelIdeal.τ).loc KernelIdeal.main_arg5))
      (m ((c.tc : Thread KernelIdeal.nD KernelIdeal.τ).loc KernelIdeal.main_arg6)) (m ((c.tc : Thread KernelIdeal.nD KernelIdeal.τ).loc KernelIdeal.main_arg7))
      (m ((c.tc : Thread KernelIdeal.nD KernelIdeal.τ).loc KernelIdeal.main_arg8)) (m ((c.tc : Thread KernelIdeal.nD KernelIdeal.τ).loc KernelIdeal.main_arg9))
    = KernelIdeal.Value.G10 m c :=
  funext fun i => (R1.out_apply _ _ _ _ _ _ _ _ _ _ i).trans (K1.G10_apply m c i).symm

/-- The value rows that end each sequence. -/
theorem tail_agree : ReferenceIdeal.Read.val_main_v92 (F := Ideal)
      (m ((c.tc : Thread KernelIdeal.nD KernelIdeal.τ).loc KernelIdeal.main_arg0)) (m ((c.tc : Thread KernelIdeal.nD KernelIdeal.τ).loc KernelIdeal.main_arg1))
      (m ((c.tc : Thread KernelIdeal.nD KernelIdeal.τ).loc KernelIdeal.main_arg2)) (m ((c.tc : Thread KernelIdeal.nD KernelIdeal.τ).loc KernelIdeal.main_arg3))
      (m ((c.tc : Thread KernelIdeal.nD KernelIdeal.τ).loc KernelIdeal.main_arg4)) (m ((c.tc : Thread KernelIdeal.nD KernelIdeal.τ).loc KernelIdeal.main_arg5))
    = KernelIdeal.Value.G11 m c :=
  funext fun i => (R1.tail_apply _ _ _ _ _ _ _ _ _ i).trans (K1.G11_apply m c i).symm

end Cert.Pool
-- ==== Proof.Fox.State.lean ====
/- What the forgetting attention's kernel holds between its steps, as functions of the blocks it is given: key block and
   value block `n` of a head, the logits of a key block against a query tile and their column maxima, and the running
   maximum and weighted sums after the first `n` key blocks (`run`). -/
module

public import proofs.«01_k».proof.Proof.Gen.Kernel2Ideal.Frame
public import proofs.«01_k».proof.Proof.Gen.Kernel2Ideal.Skeleton
public import Idealize.ShloMosaic.Lib.Pointwise
public import Idealize.ShloMosaic.Lib.VecWindow

@[expose] public section

noncomputable section

namespace Cert.Proof.Fox

open Cert.Kernel2Ideal Cert.Kernel2Ideal.Gen
open Idealize.ShloMosaic Idealize.ShloMosaic.TcCoe Idealize.ShloMosaic.Tactic

variable {F : FTy → Type} [FloatOps F] [Named F]

/-- Key block `n`: rows `512 n` to `512 n + 511` of the head's keys. -/
def kblk (x4 : Vec F S1x8192x128 .bf16) (n : ℕ) : Vec F S1x512x128 .bf16 := fun j =>
  x4 (ix3 0 ⟨(512 * n + (j 1).val) % 8192, Nat.mod_lt _ (by decide)⟩ (j 2))

/-- Value block `n` of the head. -/
def vblk (x5 : Vec F S1x1x16x80x512 .bf16) (n : ℕ) : Vec F S1x1x1x80x512 .bf16 := fun j =>
  x5 (ix5 0 0 ⟨n % 16, Nat.mod_lt _ (by decide)⟩ (j 3) (j 4))

/-- Query tile `p` (of two) of the point. -/
def qtile (x3 : Vec F S1x1x2x128x2048 .bf16) (p : Fin 2) : Vec F S1x1x1x128x2048 .bf16 := fun j =>
  x3 (ix5 0 0 p (j 3) (j 4))

/-- The logits of key block `n` against query tile `p`, key by column, -/
def lg (x3 : Vec F S1x1x2x128x2048 .bf16) (x4 : Vec F S1x8192x128 .bf16) (p : Fin 2) (n : ℕ) : Vec F S512x2048 .f32 :=
  k0_pay5 (kblk x4 n) (qtile x3 p)

/-- and their maximum over the block's keys, per column. -/
def cm (x3 : Vec F S1x1x2x128x2048 .bf16) (x4 : Vec F S1x8192x128 .bf16) (p : Fin 2) (n : ℕ) : Vec F S1x2048 .f32 :=
  k0_pay6 (kblk x4 n) (qtile x3 p)

/-- The running maximum and the weighted sums of value rows (row 64: of the weights) after the first `n` key blocks. -/
def run (x3 : Vec F S1x1x2x128x2048 .bf16) (x4 : Vec F S1x8192x128 .bf16) (x5 : Vec F S1x1x16x80x512 .bf16) (p : Fin 2) :
    ℕ → Vec F S1x2048 .f32 × Vec F S80x2048 .f32
  | 0 => (k0_pay48, k0_pay49)
  | n + 1 => (k0_pay55 (cm x3 x4 p n) (run x3 x4 x5 p n).1,
      k0_pay54 (lg x3 x4 p n) (cm x3 x4 p n) (run x3 x4 x5 p n).1 (run x3 x4 x5 p n).2 (vblk x5 n))

/-- The weighted sums once the diagonal block `n` is added behind its triangle. -/
def fin (x3 : Vec F S1x1x2x128x2048 .bf16) (x4 : Vec F S1x8192x128 .bf16) (x5 : Vec F S1x1x16x80x512 .bf16) (p : Fin 2) (n : ℕ) :
    Vec F S80x2048 .f32 :=
  k0_pay66 (k0_pay64 (lg x3 x4 p n) (run x3 x4 x5 p n).1) (k0_pay65 (lg x3 x4 p n) (run x3 x4 x5 p n).1) (run x3 x4 x5 p n).2 (vblk x5 n)

/-- Query tile `p`'s output rows, the diagonal block being `n`: value rows over the weights' sum, position by feature. -/
def tile (x3 : Vec F S1x1x2x128x2048 .bf16) (x4 : Vec F S1x8192x128 .bf16) (x5 : Vec F S1x1x16x80x512 .bf16) (p : Fin 2) (n : ℕ) :
    Vec F S512x256 .f32 :=
  k0_pay68 (fun j => fin x3 x4 x5 p n (ix2 ⟨(j 0).val, by have h := (j 0).isLt; exact Nat.lt_of_lt_of_le h (by decide)⟩ (j 1)))
    (fun j => fin x3 x4 x5 p n (ix2 64 (j 1)))

/-- What the point at pair `t` of query tiles writes: tile `2t` above tile `2t + 1`. -/
def outv (x3 : Vec F S1x1x2x128x2048 .bf16) (x4 : Vec F S1x8192x128 .bf16) (x5 : Vec F S1x1x16x80x512 .bf16) (t : ℕ) : Vec F S1024x256 .f32 := fun j =>
  if h : (j 0).val < 512 then tile x3 x4 x5 0 (2 * t) (ix2 ⟨(j 0).val, h⟩ (j 1))
  else tile x3 x4 x5 1 (2 * t + 1) (ix2 ⟨(j 0).val - 512, by have := (j 0).isLt; change (j 0).val < 1024 at this; show (j 0).val - 512 < 512; omega⟩ (j 1))

/-! ## The loads -/

theorem ld_k (x4 : Vec F S1x8192x128 .bf16) (n : ℕ) (hn : n < 16) (off : Fin 3 → ℕ) (h : off = ![0, 512 * n, 0])
    (inb : ∀ a, off a + S1x512x128.size a ≤ S1x8192x128.size a) :
    View.ld x4 (Rect.unit (s := S1x8192x128) off S1x512x128.size inb) = kblk x4 n := by
  subst h
  funext j
  have h1 : (j 1).val < 512 := (j 1).isLt
  have h0 : (j 0).val < 1 := (j 0).isLt
  unfold View.ld kblk
  congr 1
  funext a
  match a with
  | ⟨0, _⟩ => exact Fin.ext (by show 0 + 1 * (j 0).val = 0; omega)
  | ⟨1, _⟩ => exact Fin.ext (by show 512 * n + 1 * (j 1).val = (512 * n + (j 1).val) % 8192; omega)
  | ⟨2, _⟩ => exact Fin.ext (by show 0 + 1 * (j 2).val = (j 2).val; omega)

theorem ld_v (x5 : Vec F S1x1x16x80x512 .bf16) (n : ℕ) (hn : n < 16) (off : Fin 5 → ℕ) (h : off = ![0, 0, n, 0, 0])
    (inb : ∀ a, off a + S1x1x1x80x512.size a ≤ S1x1x16x80x512.size a) :
    View.ld x5 (Rect.unit (s := S1x1x16x80x512) off S1x1x1x80x512.size inb) = vblk x5 n := by
  subst h
  funext j
  have h0 : (j 0).val < 1 := (j 0).isLt
  have h1 : (j 1).val < 1 := (j 1).isLt
  have h2 : (j 2).val < 1 := (j 2).isLt
  unfold View.ld vblk
  congr 1
  funext a
  match a with
  | ⟨0, _⟩ => exact Fin.ext (by show 0 + 1 * (j 0).val = 0; omega)
  | ⟨1, _⟩ => exact Fin.ext (by show 0 + 1 * (j 1).val = 0; omega)
  | ⟨2, _⟩ => exact Fin.ext (by show n + 1 * (j 2).val = n % 16; omega)
  | ⟨3, _⟩ => exact Fin.ext (by show 0 + 1 * (j 3).val = (j 3).val; omega)
  | ⟨4, _⟩ => exact Fin.ext (by show 0 + 1 * (j 4).val = (j 4).val; omega)

theorem ld_q (x3 : Vec F S1x1x2x128x2048 .bf16) (p : Fin 2) (off : Fin 5 → ℕ) (h : off = ![0, 0, p.val, 0, 0])
    (inb : ∀ a, off a + S1x1x1x128x2048.size a ≤ S1x1x2x128x2048.size a) :
    View.ld x3 (Rect.unit (s := S1x1x2x128x2048) off S1x1x1x128x2048.size inb) = qtile x3 p := by
  subst h
  funext j
  have h0 : (j 0).val < 1 := (j 0).isLt
  have h1 : (j 1).val < 1 := (j 1).isLt
  have h2 : (j 2).val < 1 := (j 2).isLt
  unfold View.ld qtile
  congr 1
  funext a
  match a with
  | ⟨0, _⟩ => exact Fin.ext (by show 0 + 1 * (j 0).val = 0; omega)
  | ⟨1, _⟩ => exact Fin.ext (by show 0 + 1 * (j 1).val = 0; omega)
  | ⟨2, _⟩ => exact Fin.ext (by show p.val + 1 * (j 2).val = p.val; omega)
  | ⟨3, _⟩ => exact Fin.ext (by show 0 + 1 * (j 3).val = (j 3).val; omega)
  | ⟨4, _⟩ => exact Fin.ext (by show 0 + 1 * (j 4).val = (j 4).val; omega)

/-! ## The scratch buffers, stored and loaded whole -/

section Whole
variable {κ : Kind} {sp : Space} {sg : RefSig}

theorem full_m (v : View sg κ sp S1x2048 .f32) (f : v.ty.Contents (Elt F)) (inb : ∀ a, (![0, 0] : Fin 2 → ℕ) a + ![1, 2048] a ≤ S1x2048.size a) :
    v.readAt (Elt F) (Rect.unit (s := S1x2048) ![0, 0] ![1, 2048] inb).toLoadRect f = v.read (Elt F) f := View.readAt_full v f inb
theorem full_a (v : View sg κ sp S80x2048 .f32) (f : v.ty.Contents (Elt F)) (inb : ∀ a, (![0, 0] : Fin 2 → ℕ) a + ![80, 2048] a ≤ S80x2048.size a) :
    v.readAt (Elt F) (Rect.unit (s := S80x2048) ![0, 0] ![80, 2048] inb).toLoadRect f = v.read (Elt F) f := View.readAt_full v f inb
theorem full_s (v : View sg κ sp S512x2048 .f32) (f : v.ty.Contents (Elt F)) (inb : ∀ a, (![0, 0] : Fin 2 → ℕ) a + ![512, 2048] a ≤ S512x2048.size a) :
    v.readAt (Elt F) (Rect.unit (s := S512x2048) ![0, 0] ![512, 2048] inb).toLoadRect f = v.read (Elt F) f := View.readAt_full v f inb

theorem cov_m (v : View sg κ sp S1x2048 .f32) (inb inb' : ∀ a, (![0, 0] : Fin 2 → ℕ) a + ![1, 2048] a ≤ S1x2048.size a)
    (w : S1x2048.Idx → Elt F .f32) (L : List (View.Piece (Elt F) S1x2048 .f32)) :
    v.readCov (⟨Rect.unit (s := S1x2048) ![0, 0] ![1, 2048] inb, w⟩ :: L) (Rect.unit (s := S1x2048) ![0, 0] ![1, 2048] inb').toLoadRect = w :=
  View.readCov_full v inb' inb w L
theorem cov_a (v : View sg κ sp S80x2048 .f32) (inb inb' : ∀ a, (![0, 0] : Fin 2 → ℕ) a + ![80, 2048] a ≤ S80x2048.size a)
    (w : S80x2048.Idx → Elt F .f32) (L : List (View.Piece (Elt F) S80x2048 .f32)) :
    v.readCov (⟨Rect.unit (s := S80x2048) ![0, 0] ![80, 2048] inb, w⟩ :: L) (Rect.unit (s := S80x2048) ![0, 0] ![80, 2048] inb').toLoadRect = w :=
  View.readCov_full v inb' inb w L
theorem cov_s (v : View sg κ sp S512x2048 .f32) (inb inb' : ∀ a, (![0, 0] : Fin 2 → ℕ) a + ![512, 2048] a ≤ S512x2048.size a)
    (w : S512x2048.Idx → Elt F .f32) (L : List (View.Piece (Elt F) S512x2048 .f32)) :
    v.readCov (⟨Rect.unit (s := S512x2048) ![0, 0] ![512, 2048] inb, w⟩ :: L) (Rect.unit (s := S512x2048) ![0, 0] ![512, 2048] inb').toLoadRect = w :=
  View.readCov_full v inb' inb w L
end Whole

end Cert.Proof.Fox

end
-- ==== Proof.Fox.Trip.lean ====
/- One trip of each of the kernel's two loops over key blocks: from the first `2k` blocks to the first `2k + 2`. -/
module

public import proofs.«01_k».proof.Proof.Fox.State

@[expose] public section

set_option maxRecDepth 16384

noncomputable section

namespace Cert.Proof.Fox

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem trips1 : ∀ i : grid0.Coords, (k0_t1_loop i).trips = (i 2).val := by
  decide +kernel

section
variable (c : Dev nD) (i : grid0.Coords)
  (arg3 : Memref sig .tc .vmem S1x1x2x128x2048 .bf16) (harg3 : arg3.IsWhole) (arg4 : Memref sig .tc .vmem S1x8192x128 .bf16) (harg4 : arg4.IsWhole)
  (arg5 : Memref sig .tc .vmem S1x1x16x80x512 .bf16) (harg5 : arg5.IsWhole) (arg6 : Memref sig .tc .vmem S1024x256 .f32) (harg6 : arg6.IsWhole)
  (arg7 : Memref sig .tc .vmem S1x2048 .f32) (harg7 : arg7.IsWhole) (arg8 : Memref sig .tc .vmem S80x2048 .f32) (harg8 : arg8.IsWhole)
  (arg9 : Memref sig .tc .vmem S512x2048 .f32) (harg9 : arg9.IsWhole) (arg10 : Memref sig .tc .vmem S512x2048 .f32) (harg10 : arg10.IsWhole)
  (arg11 : Memref sig .tc .vmem S1x2048 .f32) (harg11 : arg11.IsWhole) (arg12 : Memref sig .tc .vmem S1x2048 .f32) (harg12 : arg12.IsWhole)
  (x3 : Vec F S1x1x2x128x2048 .bf16) (x4 : Vec F S1x8192x128 .bf16) (x5 : Vec F S1x1x16x80x512 .bf16)

/-- Before trip `k` for query tile `p`: the first `2k` blocks are in, and block `2k`'s logits and maxima stand ready in
    the buffers `s` and `r`; the other pair `s'`, `r'` is free. -/
def inv (p : Fin 2) (s s' : Memref sig .tc .vmem S512x2048 .f32) (r r' : Memref sig .tc .vmem S1x2048 .f32) (k : ℕ) (_ : Unit) : sProp 𝕄 :=
  iprop(owns (c : Thread nD τ) arg3 fullShare x3 ∗ owns (c : Thread nD τ) arg4 fullShare x4 ∗ owns (c : Thread nD τ) arg5 fullShare x5
    ∗ owns (c : Thread nD τ) arg7 fullShare (run x3 x4 x5 p (2 * k)).1 ∗ owns (c : Thread nD τ) arg8 fullShare (run x3 x4 x5 p (2 * k)).2
    ∗ owns (c : Thread nD τ) s fullShare (lg x3 x4 p (2 * k)) ∗ owns (c : Thread nD τ) r fullShare (cm x3 x4 p (2 * k))
    ∗ (∃ d, owns (c : Thread nD τ) s' fullShare d) ∗ (∃ d, owns (c : Thread nD τ) r' fullShare d))

theorem trip1 (k : Fin (k0_t1_loop i).trips) (acc : Unit) :
    inv c arg3 arg4 arg5 arg7 arg8 x3 x4 x5 0 arg9 arg10 arg11 arg12 k.val acc
      ⊢ wp frame (wpE (defs₀ (F := F)) Variants.none (c : Thread nD τ) none) Set.univ
          (k0_t1_body (F := F) i arg3 harg3 arg4 harg4 arg5 harg5 arg6 harg6 arg7 harg7 arg8 harg8 arg9 harg9 arg10 harg10 arg11 harg11 arg12 harg12 k acc)
          (inv c arg3 arg4 arg5 arg7 arg8 x3 x4 x5 0 arg9 arg10 arg11 arg12 (k.val + 1)) := by
  have hk : k.val < 7 := lt_of_lt_of_le k.isLt (k0_t1_abs i).2.1
  unfold inv k0_t1_body
  simp only [k0_part1_eq_skeleton, k0_part2_eq_skeleton]
  unfold owns
  iintro ⟨⟨%f3, %h3, H3⟩, ⟨%f4, %h4, H4⟩, ⟨%f5, %h5, H5⟩, ⟨%f7, %h7, H7⟩, ⟨%f8, %h8, H8⟩, ⟨%f9, %h9, H9⟩, ⟨%f11, %h11, H11⟩, ⟨%d10, %f10, -, H10⟩, ⟨%d12, %f12, -, H12⟩⟩
  have hq := (View.readAt_eq_ld arg3.view f3 (Rect.unit (s := S1x1x2x128x2048) ![0, 0, 0, 0, 0] S1x1x1x128x2048.size inb_S1x1x2x128x2048_S1x1x1x128x2048_0_0_0_0_0)).trans
    ((congrArg (fun x => View.ld x _) h3).trans (ld_q x3 0 _ rfl _))
  have hka := (View.readAt_eq_ld arg4.view f4 (Rect.unit (s := S1x8192x128) (k0_off1 i k 1#32) S1x512x128.size (k0_off1_inb i k 0))).trans
    ((congrArg (fun x => View.ld x _) h4).trans (ld_k x4 (2 * k.val + 1) (by omega) _ ((k0_off1_eq i k 0).trans (by congr 2; simp; omega)) _))
  have hkb := (View.readAt_eq_ld arg4.view f4 (Rect.unit (s := S1x8192x128) (k0_off1 i k 2#32) S1x512x128.size (k0_off1_inb i k 1))).trans
    ((congrArg (fun x => View.ld x _) h4).trans (ld_k x4 (2 * k.val + 2) (by omega) _ ((k0_off1_eq i k 1).trans (by congr 2; simp; omega)) _))
  have hva := (View.readAt_eq_ld arg5.view f5 (Rect.unit (s := S1x1x16x80x512) (k0_off2 i k) S1x1x1x80x512.size (k0_off2_inb i k))).trans
    ((congrArg (fun x => View.ld x _) h5).trans (ld_v x5 (2 * k.val) (by omega) _ (k0_off2_eq i k) _))
  have hvb := (View.readAt_eq_ld arg5.view f5 (Rect.unit (s := S1x1x16x80x512) (k0_off3 i k) S1x1x1x80x512.size (k0_off3_inb i k))).trans
    ((congrArg (fun x => View.ld x _) h5).trans (ld_v x5 (2 * k.val + 1) (by omega) _ (k0_off3_eq i k) _))
  sl_exec
  sl_step
  isplitl [H3]
  · iexists _; isplitr; swap; (· iexact H3); ipureintro; exact h3
  isplitl [H4]
  · iexists _; isplitr; swap; (· iexact H4); ipureintro; exact h4
  isplitl [H5]
  · iexists _; isplitr; swap; (· iexact H5); ipureintro; exact h5
  isplitl [H7]
  · iexists _; isplitr; swap; (· iexact H7); ipureintro
    rw [View.read_writes_full]
    sl_unfold_words
    simp only [cov_m, cov_a, cov_s, full_m, full_a, full_s, h7, h8, h9, h11, hq, hka, hkb, hva, hvb]
    rfl
  isplitl [H8]
  · iexists _; isplitr; swap; (· iexact H8); ipureintro
    rw [View.read_writes_full]
    sl_unfold_words
    simp only [cov_m, cov_a, cov_s, full_m, full_a, full_s, h7, h8, h9, h11, hq, hka, hkb, hva, hvb]
    rfl
  isplitl [H9]
  · iexists _; isplitr; swap; (· iexact H9); ipureintro
    rw [View.read_writes_full]
    rfl
  isplitl [H11]
  · iexists _; isplitr; swap; (· iexact H11); ipureintro
    rw [View.read_writes_full]
    rfl
  isplitl [H10]
  · iexists _, _; isplitr; swap; (· iexact H10); ipureintro; rfl
  iexists _, _; isplitr; swap; (· iexact H12); ipureintro; rfl
theorem trip3 (arg2 : BitVec 32) (v94 : FVec F S80x2048 .f32) (k : Fin (k0_t3_loop i).trips) (acc : Unit) :
    inv c arg3 arg4 arg5 arg7 arg8 x3 x4 x5 1 arg10 arg9 arg12 arg11 k.val acc
      ⊢ wp frame (wpE (defs₀ (F := F)) Variants.none (c : Thread nD τ) none) Set.univ
          (k0_t3_body (F := F) i arg3 harg3 arg4 harg4 arg5 harg5 arg6 harg6 arg7 harg7 arg8 harg8 arg9 harg9 arg10 harg10 arg11 harg11 arg12 harg12 arg2 v94 k acc)
          (inv c arg3 arg4 arg5 arg7 arg8 x3 x4 x5 1 arg10 arg9 arg12 arg11 (k.val + 1)) := by
  have hk : k.val < 7 := lt_of_lt_of_le k.isLt (k0_t3_abs i).2.1
  unfold inv k0_t3_body
  simp only [k0_part5_eq_skeleton, k0_part6_eq_skeleton]
  unfold owns
  iintro ⟨⟨%f3, %h3, H3⟩, ⟨%f4, %h4, H4⟩, ⟨%f5, %h5, H5⟩, ⟨%f7, %h7, H7⟩, ⟨%f8, %h8, H8⟩, ⟨%f10, %h10, H10⟩, ⟨%f12, %h12, H12⟩, ⟨%d9, %f9, -, H9⟩, ⟨%d11, %f11, -, H11⟩⟩
  have hq := (View.readAt_eq_ld arg3.view f3 (Rect.unit (s := S1x1x2x128x2048) ![0, 0, 1, 0, 0] S1x1x1x128x2048.size inb_S1x1x2x128x2048_S1x1x1x128x2048_0_0_1_0_0)).trans
    ((congrArg (fun x => View.ld x _) h3).trans (ld_q x3 1 _ rfl _))
  have hka := (View.readAt_eq_ld arg4.view f4 (Rect.unit (s := S1x8192x128) (k0_off8 i k 1#32) S1x512x128.size (k0_off8_inb i k 0))).trans
    ((congrArg (fun x => View.ld x _) h4).trans (ld_k x4 (2 * k.val + 1) (by omega) _ ((k0_off8_eq i k 0).trans (by congr 2; simp; omega)) _))
  have hkb := (View.readAt_eq_ld arg4.view f4 (Rect.unit (s := S1x8192x128) (k0_off8 i k 2#32) S1x512x128.size (k0_off8_inb i k 1))).trans
    ((congrArg (fun x => View.ld x _) h4).trans (ld_k x4 (2 * k.val + 2) (by omega) _ ((k0_off8_eq i k 1).trans (by congr 2; simp; omega)) _))
  have hva := (View.readAt_eq_ld arg5.view f5 (Rect.unit (s := S1x1x16x80x512) (k0_off9 i k) S1x1x1x80x512.size (k0_off9_inb i k))).trans
    ((congrArg (fun x => View.ld x _) h5).trans (ld_v x5 (2 * k.val) (by omega) _ (k0_off9_eq i k) _))
  have hvb := (View.readAt_eq_ld arg5.view f5 (Rect.unit (s := S1x1x16x80x512) (k0_off10 i k) S1x1x1x80x512.size (k0_off10_inb i k))).trans
    ((congrArg (fun x => View.ld x _) h5).trans (ld_v x5 (2 * k.val + 1) (by omega) _ (k0_off10_eq i k) _))
  sl_exec
  sl_step
  isplitl [H3]
  · iexists _; isplitr; swap; (· iexact H3); ipureintro; exact h3
  isplitl [H4]
  · iexists _; isplitr; swap; (· iexact H4); ipureintro; exact h4
  isplitl [H5]
  · iexists _; isplitr; swap; (· iexact H5); ipureintro; exact h5
  isplitl [H7]
  · iexists _; isplitr; swap; (· iexact H7); ipureintro
    rw [View.read_writes_full]
    sl_unfold_words
    simp only [cov_m, cov_a, cov_s, full_m, full_a, full_s, h7, h8, h10, h12, hq, hka, hkb, hva, hvb]
    rfl
  isplitl [H8]
  · iexists _; isplitr; swap; (· iexact H8); ipureintro
    rw [View.read_writes_full]
    sl_unfold_words
    simp only [cov_m, cov_a, cov_s, full_m, full_a, full_s, h7, h8, h10, h12, hq, hka, hkb, hva, hvb]
    rfl
  isplitl [H10]
  · iexists _; isplitr; swap; (· iexact H10); ipureintro
    rw [View.read_writes_full]
    rfl
  isplitl [H12]
  · iexists _; isplitr; swap; (· iexact H12); ipureintro
    rw [View.read_writes_full]
    rfl
  isplitl [H9]
  · iexists _, _; isplitr; swap; (· iexact H9); ipureintro; rfl
  iexists _, _; isplitr; swap; (· iexact H11); ipureintro; rfl
end

end Cert.Proof.Fox

end
-- ==== Proof.Fox.Body.lean ====
/- The kernel's body, run: its two query tiles' loops over key blocks, each closed by the diagonal block, and the two halves of the output. -/
module

public import proofs.«01_k».proof.Proof.Fox.Trip
public import Idealize.ShloMosaic.Lib.LoopRemainder
public import Idealize.ShloMosaic.Lib.WritesUnit

@[expose] public section

set_option maxRecDepth 16384

noncomputable section

namespace Cert.Proof.Fox

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem trips3 : ∀ i : grid0.Coords, (k0_t3_loop i).trips = (i 2).val := by
  decide +kernel

section Parts
variable {κ : Kind} {sp : Space} {sg : RefSig}

/-- The value rows of a buffer stored whole, -/
theorem cov_rows (v : View sg κ sp S80x2048 .f32) (inb : ∀ a, (![0, 0] : Fin 2 → ℕ) a + ![80, 2048] a ≤ S80x2048.size a)
    (inb' : ∀ a, (![0, 0] : Fin 2 → ℕ) a + ![64, 2048] a ≤ S80x2048.size a)
    (w : S80x2048.Idx → Elt F .f32) (L : List (View.Piece (Elt F) S80x2048 .f32)) :
    v.readCov (⟨Rect.unit (s := S80x2048) ![0, 0] ![80, 2048] inb, w⟩ :: L) (Rect.unit (s := S80x2048) ![0, 0] ![64, 2048] inb').toLoadRect
      = fun j => w (ix2 ⟨(j 0).val, lt_of_lt_of_le (show (j 0).val < 64 from (j 0).isLt) (by decide)⟩ (j 1)) := by
  funext j
  refine (View.read_writes_cons_unit_of_mem v _ inb w L _ (ix2 ⟨(j 0).val, lt_of_lt_of_le (show (j 0).val < 64 from (j 0).isLt) (by decide)⟩ (j 1)) rfl fun a => ?_)
  match a with
  | ⟨0, _⟩ => show 0 + 1 * (j 0).val = 0 + (j 0).val; omega
  | ⟨1, _⟩ => show 0 + 1 * (j 1).val = 0 + (j 1).val; omega

/-- and its row of weight sums. -/
theorem cov_row (v : View sg κ sp S80x2048 .f32) (inb : ∀ a, (![0, 0] : Fin 2 → ℕ) a + ![80, 2048] a ≤ S80x2048.size a)
    (inb' : ∀ a, (![64, 0] : Fin 2 → ℕ) a + ![1, 2048] a ≤ S80x2048.size a)
    (w : S80x2048.Idx → Elt F .f32) (L : List (View.Piece (Elt F) S80x2048 .f32)) :
    v.readCov (⟨Rect.unit (s := S80x2048) ![0, 0] ![80, 2048] inb, w⟩ :: L) (Rect.unit (s := S80x2048) ![64, 0] ![1, 2048] inb').toLoadRect
      = fun j => w (ix2 64 (j 1)) := by
  funext j
  have h0 : (j 0).val < 1 := (j 0).isLt
  refine (View.read_writes_cons_unit_of_mem v _ inb w L _ (ix2 64 (j 1)) rfl fun a => ?_)
  match a with
  | ⟨0, _⟩ => show 64 + 1 * (j 0).val = 0 + 64; omega
  | ⟨1, _⟩ => show 0 + 1 * (j 1).val = 0 + (j 1).val; omega

/-- Two halves stored one above the other. -/
theorem read_halves (v : View sg κ sp S1024x256 .f32) (f : v.ty.Contents (Elt F)) (inb : ∀ a, (![512, 0] : Fin 2 → ℕ) a + S512x256.size a ≤ S1024x256.size a)
    (inb' : ∀ a, (![0, 0] : Fin 2 → ℕ) a + S512x256.size a ≤ S1024x256.size a) (w w' : S512x256.Idx → Elt F .f32) :
    v.read (Elt F) (v.writes (Elt F) f [⟨Rect.unit (s := S1024x256) ![512, 0] S512x256.size inb, w⟩, ⟨Rect.unit (s := S1024x256) ![0, 0] S512x256.size inb', w'⟩])
      = fun j => if h : (j 0).val < 512 then w' (ix2 ⟨(j 0).val, h⟩ (j 1))
          else w (ix2 ⟨(j 0).val - 512, by have := (j 0).isLt; change (j 0).val < 1024 at this; show (j 0).val - 512 < 512; omega⟩ (j 1)) := by
  funext j
  by_cases h : (j 0).val < 512
  · rw [dif_pos h, View.read_writes_cons_unit_of_not_mem v _ inb w _ j rfl 0 (.inl h)]
    refine View.read_writes_cons_unit_of_mem v _ inb' w' [] j (ix2 ⟨(j 0).val, h⟩ (j 1)) rfl fun a => ?_
    match a with
    | ⟨0, _⟩ => show (j 0).val = 0 + (j 0).val; omega
    | ⟨1, _⟩ => show (j 1).val = 0 + (j 1).val; omega
  · rw [dif_neg h]
    refine View.read_writes_cons_unit_of_mem v _ inb w _ j (ix2 ⟨(j 0).val - 512, _⟩ (j 1)) rfl fun a => ?_
    match a with
    | ⟨0, _⟩ => show (j 0).val = 512 + ((j 0).val - 512); omega
    | ⟨1, _⟩ => show (j 1).val = 0 + (j 1).val; omega
end Parts

section
variable (c : Dev nD) (i : grid0.Coords)
  (arg3 : Memref sig .tc .vmem S1x1x2x128x2048 .bf16) (harg3 : arg3.IsWhole) (arg4 : Memref sig .tc .vmem S1x8192x128 .bf16) (harg4 : arg4.IsWhole)
  (arg5 : Memref sig .tc .vmem S1x1x16x80x512 .bf16) (harg5 : arg5.IsWhole) (arg6 : Memref sig .tc .vmem S1024x256 .f32) (harg6 : arg6.IsWhole)
  (arg7 : Memref sig .tc .vmem S1x2048 .f32) (harg7 : arg7.IsWhole) (arg8 : Memref sig .tc .vmem S80x2048 .f32) (harg8 : arg8.IsWhole)
  (arg9 : Memref sig .tc .vmem S512x2048 .f32) (harg9 : arg9.IsWhole) (arg10 : Memref sig .tc .vmem S512x2048 .f32) (harg10 : arg10.IsWhole)
  (arg11 : Memref sig .tc .vmem S1x2048 .f32) (harg11 : arg11.IsWhole) (arg12 : Memref sig .tc .vmem S1x2048 .f32) (harg12 : arg12.IsWhole)
  (x3 : Vec F S1x1x2x128x2048 .bf16) (x4 : Vec F S1x8192x128 .bf16) (x5 : Vec F S1x1x16x80x512 .bf16)

theorem body_run (K : PUnit → sProp 𝕄) :
    iprop(owns (c : Thread nD τ) arg3 fullShare x3 ∗ owns (c : Thread nD τ) arg4 fullShare x4 ∗ owns (c : Thread nD τ) arg5 fullShare x5
      ∗ (∃ d, owns (c : Thread nD τ) arg6 fullShare d) ∗ (∃ d, owns (c : Thread nD τ) arg7 fullShare d) ∗ (∃ d, owns (c : Thread nD τ) arg8 fullShare d)
      ∗ (∃ d, owns (c : Thread nD τ) arg9 fullShare d) ∗ (∃ d, owns (c : Thread nD τ) arg10 fullShare d) ∗ (∃ d, owns (c : Thread nD τ) arg11 fullShare d)
      ∗ (∃ d, owns (c : Thread nD τ) arg12 fullShare d)
      ∗ (owns (c : Thread nD τ) arg3 fullShare x3 ∗ owns (c : Thread nD τ) arg4 fullShare x4 ∗ owns (c : Thread nD τ) arg5 fullShare x5
        ∗ owns (c : Thread nD τ) arg6 fullShare (outv x3 x4 x5 (i 2).val) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d)
        ∗ (∃ d, owns (c : Thread nD τ) arg12 fullShare d) -∗ K ⟨⟩))
      ⊢ wp frame (wpE (defs₀ (F := F)) Variants.none (c : Thread nD τ) none) Set.univ
          (cc0_fox_prompt (F := F) i arg3 harg3 arg4 harg4 arg5 harg5 arg6 harg6 arg7 harg7 arg8 harg8 arg9 harg9 arg10 harg10 arg11 harg11 arg12 harg12) K := by
  have hi : (i 2).val < 8 := (i 2).isLt
  simp only [cc0_fox_prompt_eq_skeleton]
  unfold cc0_fox_prompt_skel
  simp only [k0_part9_eq_skeleton, k0_part10_eq_skeleton, k0_part11_eq_skeleton, k0_part12_eq_skeleton, k0_part13_eq_skeleton]
  unfold owns
  iintro ⟨⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  have hq0 := fun f (hf : arg3.view.read (Elt F) f = x3) => (View.readAt_eq_ld arg3.view f (Rect.unit (s := S1x1x2x128x2048) ![0, 0, 0, 0, 0] S1x1x1x128x2048.size inb_S1x1x2x128x2048_S1x1x1x128x2048_0_0_0_0_0)).trans
    ((congrArg (fun x => View.ld x _) hf).trans (ld_q x3 0 _ rfl _))
  have hq1 := fun f (hf : arg3.view.read (Elt F) f = x3) => (View.readAt_eq_ld arg3.view f (Rect.unit (s := S1x1x2x128x2048) ![0, 0, 1, 0, 0] S1x1x1x128x2048.size inb_S1x1x2x128x2048_S1x1x1x128x2048_0_0_1_0_0)).trans
    ((congrArg (fun x => View.ld x _) hf).trans (ld_q x3 1 _ rfl _))
  have hk0 := fun f (hf : arg4.view.read (Elt F) f = x4) => (View.readAt_eq_ld arg4.view f (Rect.unit (s := S1x8192x128) ![0, 0, 0] S1x512x128.size inb_S1x8192x128_S1x512x128_0_0_0)).trans
    ((congrArg (fun x => View.ld x _) hf).trans (ld_k x4 0 (by omega) _ rfl _))
  have hk1 := fun f (hf : arg4.view.read (Elt F) f = x4) => (View.readAt_eq_ld arg4.view f (Rect.unit (s := S1x8192x128) (k0_off14 i) S1x512x128.size (k0_off14_inb i))).trans
    ((congrArg (fun x => View.ld x _) hf).trans (ld_k x4 (2 * (i 2).val + 1) (by omega) _ ((k0_off14_eq i).trans (by congr 2; try simp; try omega)) _))
  have hv0 := fun f (hf : arg5.view.read (Elt F) f = x5) => (View.readAt_eq_ld arg5.view f (Rect.unit (s := S1x1x16x80x512) (k0_off7 i) S1x1x1x80x512.size (k0_off7_inb i))).trans
    ((congrArg (fun x => View.ld x _) hf).trans (ld_v x5 (2 * (i 2).val) (by omega) _ ((k0_off7_eq i).trans (by congr 2; try simp; try omega)) _))
  have hv1 := fun f (hf : arg5.view.read (Elt F) f = x5) => (View.readAt_eq_ld arg5.view f (Rect.unit (s := S1x1x16x80x512) (k0_off15 i) S1x1x1x80x512.size (k0_off15_inb i))).trans
    ((congrArg (fun x => View.ld x _) hf).trans (ld_v x5 (2 * (i 2).val + 1) (by omega) _ ((k0_off15_eq i).trans (by congr 2; try simp; try omega)) _))
  have hq0a := hq0 f3 h3
  have hk0a := hk0 f4 h4
  sl_exec
  sl_for (inv c arg3 arg4 arg5 arg7 arg8 x3 x4 x5 0 arg9 arg10 arg11 arg12) $$ [H3 H4 H5 H7 H8 H9 H10 H11 H12]
  case region => exact fun k acc => trip1 c i arg3 harg3 arg4 harg4 arg5 harg5 arg6 harg6 arg7 harg7 arg8 harg8 arg9 harg9 arg10 harg10 arg11 harg11 arg12 harg12 x3 x4 x5 k acc
  · unfold inv owns
    isplitl [H3]
    · iexists _; isplitr; swap; (· iexact H3); ipureintro; exact h3
    isplitl [H4]
    · iexists _; isplitr; swap; (· iexact H4); ipureintro; exact h4
    isplitl [H5]
    · iexists _; isplitr; swap; (· iexact H5); ipureintro; exact h5
    isplitl [H7]
    · iexists _; isplitr; swap; (· iexact H7); ipureintro
      try sl_unfold_words
      rw [View.read_writes_full]
      rfl
    isplitl [H8]
    · iexists _; isplitr; swap; (· iexact H8); ipureintro
      try sl_unfold_words
      rw [View.read_writes_full]
      rfl
    isplitl [H9]
    · iexists _; isplitr; swap; (· iexact H9); ipureintro
      sl_unfold_words
      rw [View.read_writes_full]
      rfl
    isplitl [H11]
    · iexists _; isplitr; swap; (· iexact H11); ipureintro
      sl_unfold_words
      rw [View.read_writes_full]
      rfl
    isplitl [H10]
    · iexists _, _; isplitr; swap; (· iexact H10); ipureintro; rfl
    iexists _, _; isplitr; swap; (· iexact H12); ipureintro; rfl
  iintro %a HI
  unfold inv
  rw [show Scf.trips (k0_t1_loop i).lb (k0_t1_loop i).ub (k0_t1_loop i).st = (i 2).val from trips1 i]
  unfold owns
  icases HI with ⟨⟨%g3, %e3, H3⟩, ⟨%g4, %e4, H4⟩, ⟨%g5, %e5, H5⟩, ⟨%g7, %e7, H7⟩, ⟨%g8, %e8, H8⟩, ⟨%g9, %e9, H9⟩, ⟨%g11, %e11, H11⟩, ⟨%e10, %g10, -, H10⟩, ⟨%e12, %g12, -, H12⟩⟩
  have hq1a := hq1 g3 e3
  have hk0b := hk0 g4 e4
  have hv0a := hv0 g5 e5
  sl_exec
  sl_for (inv c arg3 arg4 arg5 arg7 arg8 x3 x4 x5 1 arg10 arg9 arg12 arg11) $$ [H3 H4 H5 H7 H8 H9 H10 H11 H12]
  case region => exact fun k acc => trip3 c i arg3 harg3 arg4 harg4 arg5 harg5 arg6 harg6 arg7 harg7 arg8 harg8 arg9 harg9 arg10 harg10 arg11 harg11 arg12 harg12 x3 x4 x5 _ _ k acc
  · unfold inv owns
    isplitl [H3]
    · iexists _; isplitr; swap; (· iexact H3); ipureintro; exact e3
    isplitl [H4]
    · iexists _; isplitr; swap; (· iexact H4); ipureintro; exact e4
    isplitl [H5]
    · iexists _; isplitr; swap; (· iexact H5); ipureintro; exact e5
    isplitl [H7]
    · iexists _; isplitr; swap; (· iexact H7); ipureintro
      try sl_unfold_words
      rw [View.read_writes_full]
      rfl
    isplitl [H8]
    · iexists _; isplitr; swap; (· iexact H8); ipureintro
      try sl_unfold_words
      rw [View.read_writes_full]
      rfl
    isplitl [H10]
    · iexists _; isplitr; swap; (· iexact H10); ipureintro
      sl_unfold_words
      rw [View.read_writes_full]
      rfl
    isplitl [H12]
    · iexists _; isplitr; swap; (· iexact H12); ipureintro
      sl_unfold_words
      rw [View.read_writes_full]
      rfl
    isplitl [H9]
    · iexists _, _; isplitr; swap; (· iexact H9); ipureintro; rfl
    iexists _, _; isplitr; swap; (· iexact H11); ipureintro; rfl
  iintro %b HI
  unfold inv
  rw [show Scf.trips (k0_t3_loop i).lb (k0_t3_loop i).ub (k0_t3_loop i).st = (i 2).val from trips3 i]
  unfold owns
  icases HI with ⟨⟨%l3, %u3, H3⟩, ⟨%l4, %u4, H4⟩, ⟨%l5, %u5, H5⟩, ⟨%l7, %u7, H7⟩, ⟨%l8, %u8, H8⟩, ⟨%l10, %u10, H10⟩, ⟨%l12, %u12, H12⟩, ⟨%u9, %l9, -, H9⟩, ⟨%u11, %l11, -, H11⟩⟩
  have hq1b := hq1 l3 u3
  have hk1a := hk1 l4 u4
  have hv0b := hv0 l5 u5
  have hv1a := hv1 l5 u5
  sl_exec
  try sl_step
  iapply Hk
  isplitl [H3]
  · iexists _; isplitr; swap; (· iexact H3); ipureintro; exact u3
  isplitl [H4]
  · iexists _; isplitr; swap; (· iexact H4); ipureintro; exact u4
  isplitl [H5]
  · iexists _; isplitr; swap; (· iexact H5); ipureintro; exact u5
  isplitl [H6]
  · iexists _; isplitr; swap; (· iexact H6); ipureintro
    sl_unfold_words
    rw [read_halves]
    simp only [cov_rows, cov_row, cov_m, cov_a, cov_s, full_m, full_a, full_s, e7, e8, e9, u7, u8, u10, u12]
    funext j
    unfold outv
    rfl
  isplitl [H7]
  · iexists _, _; isplitr; swap; (· iexact H7); ipureintro; rfl
  isplitl [H8]
  · iexists _, _; isplitr; swap; (· iexact H8); ipureintro; rfl
  isplitl [H9]
  · iexists _, _; isplitr; swap; (· iexact H9); ipureintro; rfl
  isplitl [H10]
  · iexists _, _; isplitr; swap; (· iexact H10); ipureintro; rfl
  isplitl [H11]
  · iexists _, _; isplitr; swap; (· iexact H11); ipureintro; rfl
  iexists _, _; isplitr; swap; (· iexact H12); ipureintro; rfl
end

end Cert.Proof.Fox

end
-- ==== Proof.Fox.Frame.lean ====
/- The run of the kernel's program over its grid: what each point leaves in the output array, and the frame. -/
module

public import proofs.«01_k».proof.Proof.Fox.Body
public import Idealize.ShloMosaic.Lib.Claim

@[expose] public section

set_option maxRecDepth 16384

noncomputable section

namespace Cert.Proof.Fox

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What point `t` leaves in its output block. -/
def oblk (c : Dev nD) (t : Fin cfg0.N) : Vec F S1024x256 .f32 :=
  outv (iblk m c 0 t) (iblk m c 1 t) (iblk m c 2 t) ((grid0.coords t) 2).val

/-- The pipeline's proof data: the inputs' blocks stay, the output block is `oblk`, the scratch buffers hold anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oblk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = oblk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem liveAt0 (w : Fin cfg0.W) : ∀ t : Fin cfg0.N, cfg0.idle w (grid0.coords t) = false := fun _ => by
  fin_cases w <;> rfl

abbrev ms0_0 (t : Fin cfg0.N) : Memref sig .tc .vmem S1x1x2x128x2048 .bf16 := win0_0.stage (cfg0.slots t 0)
abbrev ms0_1 (t : Fin cfg0.N) : Memref sig .tc .vmem S1x8192x128 .bf16 := win0_1.stage (cfg0.slots t 1)
abbrev ms0_2 (t : Fin cfg0.N) : Memref sig .tc .vmem S1x1x16x80x512 .bf16 := win0_2.stage (cfg0.slots t 2)
abbrev ms0_3 (t : Fin cfg0.N) : Memref sig .tc .vmem S1024x256 .f32 := win0_3.stage (cfg0.slots t 3)

/-- The class's invariant spelled out: every scratch buffer at anything, the generator register at some state. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)
        ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0 0 t], after0_0]
  rw [show (dats m 0 c).leavesExact 1 t = owns (c : Thread nD τ) (ms0_1 t) fullShare ((dats m 0 c).after 1 t) from by
    unfold Dat.leavesExact; rw [liveAt0 1 t], after0_1]
  rw [show (dats m 0 c).leavesExact 2 t = owns (c : Thread nD τ) (ms0_2 t) fullShare ((dats m 0 c).after 2 t) from by
    unfold Dat.leavesExact; rw [liveAt0 2 t], after0_2]
  rw [show (dats m 0 c).leavesExact 3 t = owns (c : Thread nD τ) (ms0_3 t) fullShare ((dats m 0 c).after 3 t) from by
    unfold Dat.leavesExact; rw [liveAt0 3 t], after0_3]
  iintro ⟨⟨⟨HS0, HS1, HS2, HS3, HS4, HS5⟩, Hg⟩, Ho, ⟨%d0, H0⟩, ⟨%d1, H1⟩, ⟨%d2, H2⟩, H3⟩
  iapply (body_run c (grid0.coords t) _ _ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · icases H3 with ⟨%d3, H3⟩; iexists _; iexact H3
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, HS⟩
  isplitl [HS Hg]
  · isplitl [HS]; · iexact HS
    iexact Hg
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every weakly fair execution ends with each array of the pipeline at what the proof data gives. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Proof.Fox

end
-- ==== Proof.Fox.Blocks.lean ====
/-
  The blocks of the three operands that a point of the grid reads, as entries of the operands.
-/
module

public import proofs.«01_k».proof.Proof.Fox.Frame
public import Idealize.ShloMosaic.Lib.Pipeline.ValueKit

@[expose] public section
set_option maxRecDepth 16384
noncomputable section
namespace Cert.Proof.Fox
open Idealize.ShloMosaic Idealize.ShloMosaic.TcCoe Idealize.ShloMosaic.Tactic Cert.Kernel2Ideal Cert.Kernel2Ideal.Gen

/-- The windows' block indices at the point `t`: sequence `t / 32`, key head `t / 8 % 4`, pair of query tiles `t % 8`. -/
theorem idx : ∀ t : Fin cfg0.N, win0_0.index t = ![t.val / 32, t.val / 8 % 4, t.val % 8, 0, 0] ∧ win0_1.index t = ![t.val / 8 % 4, t.val / 32, 0]
    ∧ win0_2.index t = ![t.val / 32, t.val / 8 % 4, 0, 0, 0] ∧ win0_3.index t = ![t.val / 32 * 8 + t.val % 8, t.val / 8 % 4] := by decide +kernel

theorem pair_of : ∀ t : Fin cfg0.N, (grid0.coords t 2).val = t.val % 8 := by decide +kernel

theorem N_eq : cfg0.N = 64 := by decide +kernel

variable (m : (ℓ : Loc nD τ sig) → Buf (Elt Ideal) ℓ) (c : Dev nD) (t : Fin cfg0.N)

theorem blk0 (s : Fin 2) (g : Fin 4) (u : Fin 8) (ht : t.val = s.val * 32 + g.val * 8 + u.val) (p : Fin 2) (d : Fin 128) (j : Fin 2048) :
    iblk m c 0 t (ix5 0 0 p d j) = V m c main_v21 (ix5 s g ⟨2 * u.val + p.val, by omega⟩ d j) := by
  have hi := idx t
  have e0 : t.val / 32 = s.val := by omega
  have e1 : t.val / 8 % 4 = g.val := by omega
  have e2 : t.val % 8 = u.val := by omega
  rw [e0, e1, e2] at hi
  blk_simp [iblk, hi]
  refine congrArg (V m c main_v21) ?_
  blk_ext [hi]

theorem blk1 (s : Fin 2) (g : Fin 4) (u : Fin 8) (ht : t.val = s.val * 32 + g.val * 8 + u.val) (r : Fin 8192) (d : Fin 128) :
    iblk m c 1 t (ix3 0 r d) = V m c main_v39 (ix3 g ⟨8192 * s.val + r.val, by omega⟩ d) := by
  have hi := idx t
  have e0 : t.val / 32 = s.val := by omega
  have e1 : t.val / 8 % 4 = g.val := by omega
  have e2 : t.val % 8 = u.val := by omega
  rw [e0, e1, e2] at hi
  blk_simp [iblk, hi]
  refine congrArg (V m c main_v39) ?_
  blk_ext [hi]

theorem blk2 (s : Fin 2) (g : Fin 4) (u : Fin 8) (ht : t.val = s.val * 32 + g.val * 8 + u.val) (b : Fin 16) (d : Fin 80) (j : Fin 512) :
    iblk m c 2 t (ix5 0 0 b d j) = V m c main_v45 (ix5 s g b d j) := by
  have hi := idx t
  have e0 : t.val / 32 = s.val := by omega
  have e1 : t.val / 8 % 4 = g.val := by omega
  have e2 : t.val % 8 = u.val := by omega
  rw [e0, e1, e2] at hi
  blk_simp [iblk, hi]
  refine congrArg (V m c main_v45) ?_
  blk_ext [hi]

end Cert.Proof.Fox
-- ==== Proof.Fox.Array.lean ====
/-
  The kernel's result array: every block is written back by the one point that computes it.
-/
module

public import proofs.«01_k».proof.Proof.Fox.Frame
public import proofs.«01_k».proof.Proof.Fox.Blocks

@[expose] public section
set_option backward.proofsInPublic true
set_option maxRecDepth 16384
noncomputable section
namespace Cert.Proof.Fox
open Idealize.ShloMosaic Idealize.ShloMosaic.TcCoe Idealize.SL.Sem Cert.Kernel2Ideal Cert.Kernel2Ideal.Gen

variable (m : (ℓ : Loc nD τ sig) → Buf (Elt Ideal) ℓ) (ρ : Dev nD → PrngReg)

/-- The point that writes entry `i`, and the entry's place in the point's block. -/
def pointOf (i : S16384x1024.Idx) : Fin cfg0.N := ⟨(i 0).val / 8192 * 32 + (i 1).val / 256 * 8 + (i 0).val / 1024 % 8, by
  have h0 : (i 0).val < 16384 := (i 0).isLt
  have h1 : (i 1).val < 1024 := (i 1).isLt
  rw [N_eq]; omega⟩
def placeOf (i : S16384x1024.Idx) : S1024x256.Idx := ix2 ⟨(i 0).val % 1024, Nat.mod_lt _ (by decide)⟩ ⟨(i 1).val % 256, Nat.mod_lt _ (by decide)⟩

/-- The result: entry `i` is its point's output, at its place. -/
def result (c : Dev nD) : Buf (Elt Ideal) ((c : Thread nD τ).loc main_v46) := fun i => oblk m c (pointOf i) (placeOf i)

theorem idx_out : ∀ t : Fin grid0.N, win0_3.index t = ![t.val / 32 * 8 + t.val % 8, t.val / 8 % 4] := by decide +kernel

/-- The block that the point `t` writes back is the result's. -/
theorem flushed_out (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  have hN : t.val < 64 := N_eq ▸ t.isLt
  have i0 : win0_3.index t (0 : Fin 2) = t.val / 32 * 8 + t.val % 8 := congrFun (idx_out t) 0
  have i1 : win0_3.index t (1 : Fin 2) = t.val / 8 % 4 := congrFun (idx_out t) 1
  funext y
  have hy0 : (y 0).val < 1024 := (y 0).isLt
  have hy1 : (y 1).val < 256 := (y 1).isLt
  have hb0 : (((cfg0.win 3).blk t).view.emb y 0).val = win0_3.index t (0 : Fin 2) * 1024 + 1 * (y 0).val := rfl
  have hb1 : (((cfg0.win 3).blk t).view.emb y 1).val = win0_3.index t (1 : Fin 2) * 256 + 1 * (y 1).val := rfl
  rw [i0] at hb0
  rw [i1] at hb1
  have hl : placeOf (((cfg0.win 3).blk t).view.emb y) = (cfg0.win 3).xinj (grid0.coords t) y := by
    funext a
    match a with
    | ⟨0, _⟩ => exact Fin.ext (by show (((cfg0.win 3).blk t).view.emb y 0).val % 1024 = (y 0).val; omega)
    | ⟨1, _⟩ => exact Fin.ext (by show (((cfg0.win 3).blk t).view.emb y 1).val % 256 = (y 1).val; omega)
  have hp : pointOf (((cfg0.win 3).blk t).view.emb y) = t := by
    refine Fin.ext ?_
    show (((cfg0.win 3).blk t).view.emb y 0).val / 8192 * 32 + (((cfg0.win 3).blk t).view.emb y 1).val / 256 * 8
      + (((cfg0.win 3).blk t).view.emb y 0).val / 1024 % 8 = t.val
    omega
  show oblk m c t ((cfg0.win 3).xinj (grid0.coords t) y) = oblk m c (pointOf (((cfg0.win 3).blk t).view.emb y)) (placeOf (((cfg0.win 3).blk t).view.emb y))
  rw [hl, hp]

theorem mem_out (t : Fin cfg0.N) (i : S16384x1024.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v46).slice (win0_3.rect t)).set ↔ _
  rw [View.set_slice_whole, Rect.mem_set_unit]
  exact Iff.rfl

/-- The blocks fill the array. -/
theorem covered_out (i : S16384x1024.Idx) : ∃ t : Fin cfg0.N, (cfg0.win 3).flush t = true ∧ i ∈ ((cfg0.win 3).blk t).view.set := by
  refine ⟨pointOf i, flush0_3 _, (mem_out _ i).2 fun a => ?_⟩
  have h0 : (i 0).val < 16384 := (i 0).isLt
  have h1 : (i 1).val < 1024 := (i 1).isLt
  have hp : (pointOf i).val = (i 0).val / 8192 * 32 + (i 1).val / 256 * 8 + (i 0).val / 1024 % 8 := rfl
  have i0 : win0_3.index (pointOf i) (0 : Fin 2) = (pointOf i).val / 32 * 8 + (pointOf i).val % 8 := congrFun (idx_out _) 0
  have i1 : win0_3.index (pointOf i) (1 : Fin 2) = (pointOf i).val / 8 % 4 := congrFun (idx_out _) 1
  match a with
  | ⟨0, _⟩ =>
    show win0_3.index (pointOf i) (0 : Fin 2) * 1024 ≤ (i 0).val ∧ (i 0).val < win0_3.index (pointOf i) (0 : Fin 2) * 1024 + 1024
    omega
  | ⟨1, _⟩ =>
    show win0_3.index (pointOf i) (1 : Fin 2) * 256 ≤ (i 1).val ∧ (i 1).val < win0_3.index (pointOf i) (1 : Fin 2) * 256 + 256
    omega

/-- The kernel's run ends with the result array at `result`. -/
theorem run_result : θ_run defs (onTc (τ := τ) (main (F := Ideal))) ⟨m, fun _ => 0, ρ⟩ fun r => ∀ c : Dev nD,
    r.2.mem ((c.tc : Thread nD τ).loc main_v46) = result m c := by
  refine (θ_run defs _ _).mono (fun r h c => ?_) (run_main m ρ)
  exact ((h c).1 3).trans ((dats m 0 c).arrAt_eq_of_cover 3 _ (fun t _ => flushed_out m c t) covered_out)

end Cert.Proof.Fox
-- ==== Proof.Fox.Payload.lean ====
/-
  The kernel's vector expressions at an index.
-/
module

public import proofs.«01_k».proof.Proof.Fox.State
public import Idealize.ShloMosaic.Lib.Pipeline.ValueKit

@[expose] public section
set_option maxRecDepth 16384
noncomputable section
namespace Cert.Proof.Fox
open Cert.Kernel2Ideal Cert.Kernel2Ideal.Gen
open Idealize.ShloMosaic Idealize.ShloMosaic.TcCoe Idealize.ShloMosaic.Tactic

theorem word_bot : (Ideal.ofBits .f32 0xFF800000#32 : EReal) = ⊥ := by
  simp [Ideal.ofBits, Ideal.ieee]

theorem mask_word : (Named.named (F := Ideal) κ "mask" (φ := .f32) 0xF149F2CA#32 : EReal) = ⊥ := by
  rfl

theorem pay48_apply (j : Fin 2048) : k0_pay48 (F := Ideal) (ix2 0 j) = (⊥ : EReal) := by
  pointwise [k0_pay48]
  exact mask_word

theorem pay49_apply (d : Fin 80) (j : Fin 2048) : k0_pay49 (F := Ideal) (ix2 d j) = (0 : EReal) := by
  pointwise [k0_pay49]

/-- A logit is the product of a key's row with a query's column. -/
theorem pay4_apply (k : FVec Ideal S1x512x128 .bf16) (q : FVec Ideal S1x1x1x128x2048 .bf16) (i : Fin 512) (j : Fin 2048) :
    k0_pay4 (F := Ideal) k q (ix2 i j) = ∑ d : Fin 128, k (ix3 0 i d) * q (ix5 0 0 0 d j) := by
  pointwise [k0_pay4]

theorem pay5_apply (k : FVec Ideal S1x512x128 .bf16) (q : FVec Ideal S1x1x1x128x2048 .bf16) (i : Fin 512) (j : Fin 2048) :
    k0_pay5 (F := Ideal) k q (ix2 i j) = k0_pay4 (F := Ideal) k q (ix2 i j) := by
  unfold k0_pay5
  generalize k0_pay4 (F := Ideal) k q = y
  pointwise

/-- A column's maximum over a block of 512 keys. -/
theorem colmax (y : FVec Ideal S512x2048 .f32) (j : Fin 2048) :
    shapeCast S1x2048 (multiReduction (F := Ideal) .maximumf [0] S2048 y 0xFF800000#32 reduces_S512x2048_S2048 (.inl rfl) rfl)
      shapeCasts_S2048_S1x2048 (ix2 0 j) = Finset.univ.fold max ⊥ fun i : Fin 512 => y (ix2 i j) := by
  rw [shapeCast_apply _ _ _ (ix1 j) (by rw [Shape.rowMajor_val_one, Shape.rowMajor_val_two]; show j.val = 0 * 2048 + j.val; omega)]
  refine (Ideal.multiReduction_maximumf_single y _ reduces_S512x2048_S2048 _ _ (ix1 j)).trans ?_
  show Finset.univ.fold max (Ideal.ofBits .f32 0xFF800000#32) _ = _
  rw [word_bot]
  refine congrArg (fun f => Finset.univ.fold max ⊥ f) (funext fun i : Fin 512 => ?_)
  refine congrArg y (funext fun a => Fin.ext ?_)
  match a with
  | ⟨0, _⟩ => rfl
  | ⟨1, _⟩ => rfl

theorem pay6_apply (k : FVec Ideal S1x512x128 .bf16) (q : FVec Ideal S1x1x1x128x2048 .bf16) (j : Fin 2048) :
    k0_pay6 (F := Ideal) k q (ix2 0 j) = Finset.univ.fold max ⊥ fun i : Fin 512 => k0_pay4 (F := Ideal) k q (ix2 i j) := by
  rw [← colmax]
  unfold k0_pay6
  generalize k0_pay4 (F := Ideal) k q = y
  generalize multiReduction (F := Ideal) .maximumf [0] S2048 y 0xFF800000#32 reduces_S512x2048_S2048 (.inl rfl) rfl = z
  pointwise

theorem pay53_apply (b a : FVec Ideal S1x2048 .f32) (j : Fin 2048) : k0_pay53 (F := Ideal) b a (ix2 0 j) = max (a (ix2 0 j)) (b (ix2 0 j)) := by
  pointwise [k0_pay53]

theorem pay55_apply (b a : FVec Ideal S1x2048 .f32) (j : Fin 2048) : k0_pay55 (F := Ideal) b a (ix2 0 j) = max (a (ix2 0 j)) (b (ix2 0 j)) := by
  pointwise [k0_pay55, k0_pay53]

theorem pay54_apply (l : FVec Ideal S512x2048 .f32) (b a : FVec Ideal S1x2048 .f32) (acc : FVec Ideal S80x2048 .f32)
    (v : FVec Ideal S1x1x1x80x512 .bf16) (d : Fin 80) (j : Fin 2048) :
    k0_pay54 (F := Ideal) l b a acc v (ix2 d j)
      = Ideal.exp2 (a (ix2 0 j) - max (a (ix2 0 j)) (b (ix2 0 j))) * acc (ix2 d j)
        + ∑ i : Fin 512, v (ix5 0 0 0 d i) * Ideal.exp2 (l (ix2 i j) - max (a (ix2 0 j)) (b (ix2 0 j))) := by
  pointwise [k0_pay54, k0_pay53]
  rfl

/-- The signed comparison of two small words is that of the numbers. -/
theorem sle_small (a b : ℕ) (ha : a < 2147483648) (hb : b < 2147483648) :
    IntOp.cmpi CmpIPredicate.sle (BitVec.ofNat 32 a) (BitVec.ofNat 32 b) = if a ≤ b then 1#1 else 0#1 := by
  rw [WordCmp.cmpi_sle_ofNat ha hb]
  split <;> simp [*]

theorem col_pos : ∀ j : Fin 2048, IntOp.andi (BitVec.ofNat 32 j.val) 511#32 = BitVec.ofNat 32 (j.val % 512) := by decide +kernel

theorem pay62_apply (l : FVec Ideal S512x2048 .f32) (i : Fin 512) (h : Fin 4) (r : Fin 512) :
    k0_pay62 (F := Ideal) l (ix2 i ⟨512 * h.val + r.val, by omega⟩)
      = if i.val ≤ r.val then l (ix2 i ⟨512 * h.val + r.val, by omega⟩) else (⊥ : EReal) := by
  have hc := col_pos ⟨512 * h.val + r.val, by omega⟩
  rw [show (⟨512 * h.val + r.val, by omega⟩ : Fin 2048).val % 512 = r.val by dsimp only; omega] at hc
  pointwise [k0_pay62]
  rw [hc, sle_small _ _ (by omega) (by omega), mask_word]
  unfold Scalar.select
  split <;> rfl

theorem pay63_apply (l : FVec Ideal S512x2048 .f32) (a : FVec Ideal S1x2048 .f32) (j : Fin 2048) :
    k0_pay63 (F := Ideal) l a (ix2 0 j) = max (a (ix2 0 j)) (Finset.univ.fold max ⊥ fun i : Fin 512 => k0_pay62 (F := Ideal) l (ix2 i j)) := by
  rw [← colmax]
  unfold k0_pay63
  generalize k0_pay62 (F := Ideal) l = y
  generalize multiReduction (F := Ideal) .maximumf [0] S2048 y 0xFF800000#32 reduces_S512x2048_S2048 (.inl rfl) rfl = z
  pointwise

theorem pay64_apply (l : FVec Ideal S512x2048 .f32) (a : FVec Ideal S1x2048 .f32) (j : Fin 2048) :
    k0_pay64 (F := Ideal) l a (ix2 0 j) = Ideal.exp2 (a (ix2 0 j) - k0_pay63 (F := Ideal) l a (ix2 0 j)) := by
  unfold k0_pay64
  generalize k0_pay63 (F := Ideal) l a = y
  pointwise
  rfl

theorem pay65_apply (l : FVec Ideal S512x2048 .f32) (a : FVec Ideal S1x2048 .f32) (i : Fin 512) (j : Fin 2048) :
    k0_pay65 (F := Ideal) l a (ix2 i j) = Ideal.exp2 (k0_pay62 (F := Ideal) l (ix2 i j) - k0_pay63 (F := Ideal) l a (ix2 0 j)) := by
  unfold k0_pay65
  generalize k0_pay63 (F := Ideal) l a = y
  generalize k0_pay62 (F := Ideal) l = z
  pointwise
  rfl

theorem pay66_apply (e : FVec Ideal S1x2048 .f32) (p : FVec Ideal S512x2048 .f32) (acc : FVec Ideal S80x2048 .f32)
    (v : FVec Ideal S1x1x1x80x512 .bf16) (d : Fin 80) (j : Fin 2048) :
    k0_pay66 (F := Ideal) e p acc v (ix2 d j)
      = e (ix2 0 j) * acc (ix2 d j) + ∑ i : Fin 512, v (ix5 0 0 0 d i) * p (ix2 i j) := by
  pointwise [k0_pay66]

theorem pay68_apply (a : FVec Ideal S64x2048 .f32) (b : FVec Ideal S1x2048 .f32) (r : Fin 512) (h : Fin 4) (d : Fin 64) :
    k0_pay68 (F := Ideal) a b (ix2 r ⟨64 * h.val + d.val, by omega⟩)
      = Ideal.div (a (ix2 d ⟨512 * h.val + r.val, by omega⟩)) (b (ix2 0 ⟨512 * h.val + r.val, by omega⟩)) := by
  pointwise [k0_pay68]
  obtain ⟨h, hh⟩ := h
  dsimp only
  have key : ∀ (x x' : Fin 64) (z z' : Fin 2048), x.val = x'.val → z.val = z'.val →
      Ideal.div (a (ix2 x z)) (b (ix2 0 z)) = Ideal.div (a (ix2 x' z')) (b (ix2 0 z')) := by
    intro x x' z z' e e'
    rw [Fin.ext e, Fin.ext e']
  rcases (show h = 0 ∨ h = 1 ∨ h = 2 ∨ h = 3 by omega) with rfl | rfl | rfl | rfl
  · rw [dif_pos (by omega)]
    exact key _ _ _ _ (by dsimp only; omega) (by dsimp only; omega)
  · rw [dif_neg (by omega), dif_pos (by omega)]
    exact key _ _ _ _ (by dsimp only; omega) (by dsimp only)
  · rw [dif_neg (by omega), dif_neg (by omega), dif_pos (by omega)]
    exact key _ _ _ _ (by dsimp only; omega) (by dsimp only)
  · rw [dif_neg (by omega), dif_neg (by omega), dif_neg (by omega)]
    exact key _ _ _ _ (by dsimp only; omega) (by dsimp only)

end Cert.Proof.Fox
-- ==== Proof.Fox.Online.lean ====
/-
  Attention weights over real logits, one block of keys after another. The kernel holds a running maximum and the sum of
  the values weighted by powers of two below it; the plain formula divides exponentials below the row's maximum by their
  sum. Both are `att`: the weights do not depend on the number subtracted.
-/
module

public import Idealize.ShloMosaic.PureOps.Ideal
public import Idealize.ShloMosaic.Lib.Pipeline.ValueKit

@[expose] public section
noncomputable section
namespace Cert.Proof.Fox
open Idealize.ShloMosaic

/-- A finite sum of reals, as a sum of extended reals. -/
theorem coe_sum {ι : Type} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- A nonnegative real factor goes through a sum of extended reals. -/
theorem mul_sum_coe {ι : Type} (c : ℝ) (hc : 0 ≤ c) (S : Finset ι) (f : ι → EReal) :
    (c : EReal) * ∑ j ∈ S, f j = ∑ j ∈ S, (c : EReal) * f j := by
  classical
  induction S using Finset.induction_on with
  | empty => simp
  | insert a S ha ih =>
    rw [Finset.sum_insert ha, Finset.sum_insert ha, ← ih]
    exact EReal.left_distrib_of_nonneg_of_ne_top (by exact_mod_cast hc) (EReal.coe_ne_top c) _ _

/-- The power of two of a difference of reals. -/
theorem exp2_sub (a b : ℝ) : Ideal.exp2 ((a : EReal) - (b : EReal)) = (((2 : ℝ) ^ (a - b) : ℝ) : EReal) := by
  rw [← EReal.coe_sub, Ideal.exp2_coe]
  rfl

theorem exp2_bot_sub (b : ℝ) : Ideal.exp2 (⊥ - (b : EReal)) = 0 := by
  rw [EReal.bot_sub, Ideal.exp2_bot]

/-- The running maximum after `n` blocks: nothing yet, or a real. -/
def Seen (n : ℕ) (m : EReal) : Prop := (m = ⊥ ∧ n = 0) ∨ ∃ M : ℝ, m = (M : EReal)

/-- One more block of keys, the first `R` of them seen: the weighted sum of the values over all keys seen. -/
theorem step (s : ℕ → ℝ) (v : ℕ → EReal) (B n R : ℕ) (hR : R ≤ B) (m acc : EReal) (M' : ℝ) (hm : Seen n m)
    (hacc : acc = ∑ k ∈ Finset.range (B * n), Ideal.exp2 ((s k : EReal) - m) * v k) (x : Fin B → EReal)
    (hx : ∀ j : Fin B, x j = if j.val < R then (s (B * n + j.val) : EReal) else ⊥) :
    Ideal.exp2 (m - (M' : EReal)) * acc + ∑ j : Fin B, v (B * n + j.val) * Ideal.exp2 (x j - (M' : EReal))
      = ∑ k ∈ Finset.range (B * n + R), Ideal.exp2 ((s k : EReal) - (M' : EReal)) * v k := by
  rw [Finset.sum_range_add]
  congr 1
  · rcases hm with ⟨rfl, rfl⟩ | ⟨M, rfl⟩
    · simp [hacc]
    · rw [hacc, exp2_sub, mul_sum_coe _ (by positivity)]
      refine Finset.sum_congr rfl fun k _ => ?_
      rw [exp2_sub, exp2_sub, ← mul_assoc, ← EReal.coe_mul, ← Real.rpow_add (by norm_num)]
      congr 3
      ring
  · have e : ∀ j : Fin B, v (B * n + j.val) * Ideal.exp2 (x j - (M' : EReal))
        = (fun k => if k < R then Ideal.exp2 ((s (B * n + k) : EReal) - (M' : EReal)) * v (B * n + k) else 0) j.val := by
      intro j
      rw [hx]
      dsimp only
      split
      · exact mul_comm _ _
      · rw [exp2_bot_sub, mul_zero]
    rw [Finset.sum_congr rfl fun j _ => e j, Fin.sum_univ_eq_sum_range
      (fun k => if k < R then Ideal.exp2 ((s (B * n + k) : EReal) - (M' : EReal)) * v (B * n + k) else 0) B, ← Finset.sum_filter]
    refine Finset.sum_congr ?_ fun _ _ => rfl
    ext k
    simp only [Finset.mem_filter, Finset.mem_range]
    omega

/-- The running maximum over a block of which some key is seen is a real. -/
theorem max_real {B n : ℕ} (m : EReal) (hm : Seen n m) (x : Fin B → EReal) (ht : ∀ j, x j ≠ ⊤) (j₀ : Fin B) (hb : x j₀ ≠ ⊥) :
    ∃ M : ℝ, max m (Finset.univ.fold max ⊥ x) = (M : EReal) := by
  have h1 : max m (Finset.univ.fold max ⊥ x) ≠ ⊤ := by
    intro h
    rcases max_choice m (Finset.univ.fold max ⊥ x) with e | e <;> rw [e] at h
    · rcases hm with ⟨rfl, -⟩ | ⟨M, rfl⟩
      · exact absurd h (by simp)
      · exact EReal.coe_ne_top M h
    · have : Finset.univ.fold max ⊥ x < ⊤ := Finset.fold_max_lt (⊤ : EReal) |>.2 ⟨bot_lt_top, fun j _ => lt_top_iff_ne_top.2 (ht j)⟩
      exact this.ne h
  have h2 : max m (Finset.univ.fold max ⊥ x) ≠ ⊥ := by
    have : x j₀ ≤ Finset.univ.fold max ⊥ x := Finset.le_fold_max (x j₀) |>.2 (Or.inr ⟨j₀, Finset.mem_univ _, le_rfl⟩)
    have h3 := this.trans (le_max_right m _)
    intro h
    rw [h] at h3
    exact hb (le_bot_iff.1 h3)
  exact ⟨_, (EReal.coe_toReal h1 h2).symm⟩

/-- The attention of the keys up to `pos`, with logits `s` in powers of two. -/
def att (s : ℕ → ℝ) (v : ℕ → EReal) (pos : ℕ) : EReal :=
  ∑ k ∈ Finset.range (pos + 1), (((2 : ℝ) ^ s k / ∑ i ∈ Finset.range (pos + 1), (2 : ℝ) ^ s i : ℝ) : EReal) * v k

theorem sum_pos (s : ℕ → ℝ) (pos : ℕ) : 0 < ∑ i ∈ Finset.range (pos + 1), (2 : ℝ) ^ s i :=
  Finset.sum_pos (fun _ _ => by positivity) ⟨0, by simp⟩

/-- The kernel's quotient, whatever its maximum is. -/
theorem att_of_quotient (s : ℕ → ℝ) (v : ℕ → EReal) (pos : ℕ) (M : ℝ) :
    Ideal.div (∑ k ∈ Finset.range (pos + 1), Ideal.exp2 ((s k : EReal) - (M : EReal)) * v k)
      (∑ k ∈ Finset.range (pos + 1), Ideal.exp2 ((s k : EReal) - (M : EReal)) * ((1 : ℝ) : EReal)) = att s v pos := by
  have hp := sum_pos s pos
  have e : ∀ k, (2 : ℝ) ^ (s k - M) = (2 : ℝ) ^ (-M) * (2 : ℝ) ^ s k := by
    intro k
    rw [← Real.rpow_add (by norm_num)]
    congr 1
    ring
  have e2 : ∑ k ∈ Finset.range (pos + 1), Ideal.exp2 ((s k : EReal) - (M : EReal)) * ((1 : ℝ) : EReal)
      = (((2 : ℝ) ^ (-M) * ∑ k ∈ Finset.range (pos + 1), (2 : ℝ) ^ s k : ℝ) : EReal) := by
    rw [Finset.mul_sum, coe_sum]
    refine Finset.sum_congr rfl fun k _ => ?_
    rw [exp2_sub, e, EReal.coe_one, mul_one]
  have hne : (2 : ℝ) ^ (-M) * ∑ k ∈ Finset.range (pos + 1), (2 : ℝ) ^ s k ≠ 0 := by positivity
  rw [e2]
  unfold Ideal.div att
  rw [if_neg (by exact_mod_cast hne), ← EReal.coe_inv, mul_comm, mul_sum_coe _ (by positivity)]
  refine Finset.sum_congr rfl fun k _ => ?_
  rw [exp2_sub, e, ← mul_assoc, ← EReal.coe_mul]
  congr 2
  have : (2 : ℝ) ^ (-M) ≠ 0 := by positivity
  field_simp

/-- The softmax's quotients, whatever is subtracted. -/
theorem att_of_softmax (s : ℕ → ℝ) (v : ℕ → EReal) (N pos : ℕ) (hpos : pos < N) (l : ℝ) (hl : 0 < l) (p : Fin N → EReal)
    (hp : ∀ k : Fin N, p k = if k.val ≤ pos then ((l * (2 : ℝ) ^ s k.val : ℝ) : EReal) else 0) :
    ∑ k : Fin N, Ideal.div (p k) (∑ i : Fin N, p i) * v k.val = att s v pos := by
  have hs := sum_pos s pos
  have hf : ∀ f : ℕ → EReal, ∑ k : Fin N, (if k.val ≤ pos then f k.val else 0) = ∑ k ∈ Finset.range (pos + 1), f k := by
    intro f
    rw [Fin.sum_univ_eq_sum_range (fun k => if k ≤ pos then f k else 0) N, ← Finset.sum_filter]
    refine Finset.sum_congr ?_ fun _ _ => rfl
    ext k
    simp only [Finset.mem_filter, Finset.mem_range]
    omega
  have e : ∑ i : Fin N, p i = ((l * ∑ k ∈ Finset.range (pos + 1), (2 : ℝ) ^ s k : ℝ) : EReal) := by
    rw [Finset.sum_congr rfl fun k _ => hp k, hf fun k => ((l * (2 : ℝ) ^ s k : ℝ) : EReal), ← coe_sum, ← Finset.mul_sum]
  have hne : l * ∑ k ∈ Finset.range (pos + 1), (2 : ℝ) ^ s k ≠ 0 := by positivity
  rw [e]
  unfold att
  rw [← hf fun k => (((2 : ℝ) ^ s k / ∑ i ∈ Finset.range (pos + 1), (2 : ℝ) ^ s i : ℝ) : EReal) * v k]
  refine Finset.sum_congr rfl fun k _ => ?_
  rw [hp]
  unfold Ideal.div
  rw [if_neg (by exact_mod_cast hne), ← EReal.coe_inv]
  split
  · rw [← EReal.coe_mul]
    congr 2
    field_simp
  · rw [zero_mul, zero_mul]

end Cert.Proof.Fox
-- ==== Proof.Fox.Column.lean ====
/-
  A column of a query tile — one query of one head — through the key blocks: the running maximum and the weighted sums
  the kernel holds, and the tile's output, are those of the attention over the column's real logits.
-/
module

public import proofs.«01_k».proof.Proof.Fox.Payload
public import proofs.«01_k».proof.Proof.Fox.Online

@[expose] public section
set_option backward.proofsInPublic true
set_option maxRecDepth 16384
noncomputable section
namespace Cert.Proof.Fox
open Cert.Kernel2Ideal Cert.Kernel2Ideal.Gen
open Idealize.ShloMosaic Idealize.ShloMosaic.TcCoe Idealize.ShloMosaic.Tactic

variable (x3 : Vec Ideal S1x1x2x128x2048 .bf16) (x4 : Vec Ideal S1x8192x128 .bf16) (x5 : Vec Ideal S1x1x16x80x512 .bf16)
  (p : Fin 2) (h : Fin 4) (r : Fin 512) (S : ℕ → ℝ)

/-- Row `d` of the values at key `k`. -/
def vrow (d : Fin 80) (k : ℕ) : EReal :=
  x5 (ix5 0 0 ⟨k / 512 % 16, Nat.mod_lt _ (by decide)⟩ d ⟨k % 512, Nat.mod_lt _ (by decide)⟩)

theorem vblk_row (n : ℕ) (d : Fin 80) (i : Fin 512) : vblk x5 n (ix5 0 0 0 d i) = vrow x5 d (512 * n + i.val) := by
  unfold vblk vrow
  congr 2
  · exact Fin.ext (by show n % 16 = (512 * n + i.val) / 512 % 16; congr 1; omega)
  · exact Fin.ext (by show i.val = (512 * n + i.val) % 512; omega)

variable (hS : ∀ (n : ℕ) (i : Fin 512),
  k0_pay4 (F := Ideal) (kblk x4 n) (qtile x3 p) (ix2 i ⟨512 * h.val + r.val, by omega⟩) = (S (512 * n + i.val) : EReal))
include hS

/-- After `n` key blocks the column holds a maximum and the sums of the values weighted below it. -/
theorem run_column (n : ℕ) : Seen n ((run x3 x4 x5 p n).1 (ix2 0 ⟨512 * h.val + r.val, by omega⟩))
    ∧ ∀ d : Fin 80, (run x3 x4 x5 p n).2 (ix2 d ⟨512 * h.val + r.val, by omega⟩)
      = ∑ k ∈ Finset.range (512 * n), Ideal.exp2 ((S k : EReal) - (run x3 x4 x5 p n).1 (ix2 0 ⟨512 * h.val + r.val, by omega⟩)) * vrow x5 d k := by
  induction n with
  | zero =>
    refine ⟨Or.inl ⟨pay48_apply ⟨512 * h.val + r.val, by omega⟩, rfl⟩, fun d => ?_⟩
    rw [Nat.mul_zero, Finset.sum_range_zero]
    exact pay49_apply d ⟨512 * h.val + r.val, by omega⟩
  | succ n ih =>
    obtain ⟨hm, ha⟩ := ih
    have hc : cm x3 x4 p n (ix2 0 ⟨512 * h.val + r.val, by omega⟩) = Finset.univ.fold max ⊥ fun i : Fin 512 => (S (512 * n + i.val) : EReal) := by
      unfold cm
      rw [pay6_apply]
      exact congrArg (fun f => Finset.univ.fold max ⊥ f) (funext fun i => hS n i)
    obtain ⟨M', hM⟩ := max_real (n := n) _ hm (fun i : Fin 512 => (S (512 * n + i.val) : EReal)) (fun _ => EReal.coe_ne_top _) 0 (EReal.coe_ne_bot _)
    have hM' : (run x3 x4 x5 p (n + 1)).1 (ix2 0 ⟨512 * h.val + r.val, by omega⟩) = (M' : EReal) := by
      show k0_pay55 (F := Ideal) (cm x3 x4 p n) (run x3 x4 x5 p n).1 _ = _
      rw [pay55_apply, hc, hM]
    refine ⟨Or.inr ⟨M', hM'⟩, fun d => ?_⟩
    rw [hM']
    show k0_pay54 (F := Ideal) (lg x3 x4 p n) (cm x3 x4 p n) (run x3 x4 x5 p n).1 (run x3 x4 x5 p n).2 (vblk x5 n) _ = _
    rw [pay54_apply, hc, hM]
    simp only [vblk_row]
    refine step S (vrow x5 d) 512 n 512 le_rfl _ _ M' hm (ha d) _ fun i => ?_
    rw [if_pos i.isLt]
    unfold lg
    rw [pay5_apply, hS]

/-- With the diagonal block behind its triangle, the sums are over the keys up to the query. -/
theorem fin_column (n : ℕ) : ∃ M : ℝ, ∀ d : Fin 80, fin x3 x4 x5 p n (ix2 d ⟨512 * h.val + r.val, by omega⟩)
    = ∑ k ∈ Finset.range (512 * n + r.val + 1), Ideal.exp2 ((S k : EReal) - (M : EReal)) * vrow x5 d k := by
  obtain ⟨hm, ha⟩ := run_column x3 x4 x5 p h r S hS n
  have hx : ∀ i : Fin 512, k0_pay62 (F := Ideal) (lg x3 x4 p n) (ix2 i ⟨512 * h.val + r.val, by omega⟩)
      = if i.val < r.val + 1 then (S (512 * n + i.val) : EReal) else ⊥ := by
    intro i
    rw [pay62_apply]
    unfold lg
    rw [pay5_apply, hS]
    simp only [Nat.lt_succ_iff]
  obtain ⟨M, hM⟩ := max_real (n := n) _ hm (fun i : Fin 512 => if i.val < r.val + 1 then (S (512 * n + i.val) : EReal) else ⊥)
    (fun i => by split <;> simp) 0 (by simp)
  have h63 : k0_pay63 (F := Ideal) (lg x3 x4 p n) (run x3 x4 x5 p n).1 (ix2 0 ⟨512 * h.val + r.val, by omega⟩) = (M : EReal) := by
    rw [pay63_apply, ← hM]
    exact congrArg (fun f => max _ (Finset.univ.fold max ⊥ f)) (funext hx)
  refine ⟨M, fun d => ?_⟩
  unfold fin
  rw [pay66_apply, pay64_apply, h63]
  simp only [vblk_row, pay65_apply, h63]
  rw [Nat.add_assoc]
  exact step S (vrow x5 d) 512 n (r.val + 1) (by omega) _ _ M hm (ha d) _ hx

/-- The tile's output at the query and the head's feature `d`. -/
theorem tile_column (n : ℕ) (h1 : ∀ k, vrow x5 64 k = ((1 : ℝ) : EReal)) (d : Fin 64) :
    tile x3 x4 x5 p n (ix2 r ⟨64 * h.val + d.val, by omega⟩) = att S (vrow x5 ⟨d.val, by omega⟩) (512 * n + r.val) := by
  obtain ⟨M, hM⟩ := fin_column x3 x4 x5 p h r S hS n
  unfold tile
  rw [pay68_apply]
  refine Eq.trans (congrArg₂ Ideal.div (hM ⟨d.val, by omega⟩) (hM 64)) ?_
  simp only [h1]
  exact att_of_quotient S _ _ M

end Cert.Proof.Fox
-- ==== Proof.Fox.Host.lean ====
/-
  The attention's host lines: what the program's buffers hold when the launch starts, as terms of the arguments.
-/
module

public import proofs.«01_k».proof.Proof.Fox.Frame
public import Idealize.ShloMosaic.Lib.Pipeline.ValueKit
public import Idealize.ShloMosaic.Lib.StableHlo.RunRead

@[expose] public section
set_option maxRecDepth 16384
noncomputable section
namespace Cert.Proof.Fox
open Idealize.ShloMosaic Idealize.ShloMosaic.TcCoe Idealize.ShloMosaic.Tactic Cert.Kernel2Ideal Cert.Kernel2Ideal.Gen

/-- `1 / log 2`, the scale that turns the natural exponential into the power of two. -/
def ilog2 : FVec Ideal S_ .f32 :=
  Host.divf (F := Ideal) (constant S_ .f32 0x3F800000#32) (Host.log (F := Ideal) (constant S_ .f32 0x40000000#32))

/-- The forget gates' running sums along the positions. -/
def cum (x : FVec Ideal S2x8192x16 .f32) : FVec Ideal S2x8192x16 .f32 :=
  Host.reduceWindowAdd (F := Ideal) ![1, 8192, 1] ![1, 1, 1] ![0, 8191, 0] ![0, 0, 0] x
    (broadcastInDim S_ ![] bcast_S_S_ (constant (F := Ideal) S_ .f32 0x00000000#32)) reduceWindows_S2x8192x16_S2x8192x16_w1s1p0_0_w8192s1p8191_0_w1s1p0_0 h_S_

/-- The running sums, scaled. -/
def cum2 (x : FVec Ideal S2x8192x16 .f32) : FVec Ideal S2x8192x16 .f32 :=
  mulf (F := Ideal) (cum x) (broadcastInDim S2x8192x16 ![] bcast_S_S2x8192x16 ilog2)
/-- Their bf16 value. -/
def hi (x : FVec Ideal S2x8192x16 .f32) : FVec Ideal S2x8192x16 .bf16 := truncf (F := Ideal) .bf16 (cum2 x) bitsLt_bf16_f32
/-- What `hi` leaves. -/
def rest1 (x : FVec Ideal S2x8192x16 .f32) : FVec Ideal S2x8192x16 .f32 :=
  subf (F := Ideal) (cum2 x) (extf (F := Ideal) .f32 (hi x) bitsLt_bf16_f32)
/-- Its bf16 value. -/
def mid (x : FVec Ideal S2x8192x16 .f32) : FVec Ideal S2x8192x16 .bf16 := truncf (F := Ideal) .bf16 (rest1 x) bitsLt_bf16_f32
/-- The bf16 value of what `hi` and `mid` leave. -/
def lo (x : FVec Ideal S2x8192x16 .f32) : FVec Ideal S2x8192x16 .bf16 :=
  truncf (F := Ideal) .bf16 (subf (F := Ideal) (rest1 x) (extf (F := Ideal) .f32 (mid x) bitsLt_bf16_f32)) bitsLt_bf16_f32

/-- The queries, scaled and laid out as the rows of the tiles. -/
def qrows (x : FVec Ideal S2x8192x16x64 .f32) : FVec Ideal S2x4x16x64x2048 .bf16 :=
  shapeCast S2x4x16x64x2048
    (transpose S2x4x16x64x4x512 [0, 3, 1, 5, 4, 2]
      (shapeCast S2x16x512x4x4x64
        (truncf (F := Ideal) .bf16
          (mulf (F := Ideal) x (broadcastInDim S2x8192x16x64 ![] bcast_S_S2x8192x16x64 (mulf (F := Ideal) (constant S_ .f32 0x3E000000#32) ilog2)))
          bitsLt_bf16_f32)
        shapeCasts_S2x8192x16x64_S2x16x512x4x4x64)
      transposes_S2x16x512x4x4x64_S2x4x16x64x4x512_0_3_1_5_4_2)
    shapeCasts_S2x4x16x64x4x512_S2x4x16x64x2048

/-- The head that a column of a tile belongs to, by the floor of the column's number over 512. -/
def colHead : IVec S64x2048 32 :=
  let col : IVec S64x2048 32 := iotaInDim S64x2048 32 1
  let w : IVec S_ 32 := constantI S_ 32 512#32
  let W : IVec S64x2048 32 := broadcastInDim S64x2048 ![] bcast_S_S64x2048 w
  select
    (andi (cmpi .ne (signi col) (broadcastInDim S64x2048 ![] bcast_S_S64x2048 (signi w)))
      (cmpi .ne (Host.remsi col W) (broadcastInDim S64x2048 ![] bcast_S_S64x2048 (constantI S_ 32 0#32))))
    (subi (Host.divsi col W) (broadcastInDim S64x2048 ![] bcast_S_S64x2048 (constantI S_ 32 1#32)))
    (Host.divsi col W)

/-- The rows that take a head's three decay columns of the keys with weight −1. -/
def decayRows : FVec Ideal S64x2048 .bf16 :=
  truncf (F := Ideal) .bf16
    (select
      (andi (cmpi .slt (iotaInDim S64x2048 32 0) (broadcastInDim S64x2048 ![] bcast_S_S64x2048 (constantI S_ 32 12#32)))
        (cmpi .eq (andi (iotaInDim S64x2048 32 0) (broadcastInDim S64x2048 ![] bcast_S_S64x2048 (constantI S_ 32 3#32))) colHead))
      (broadcastInDim S64x2048 ![] bcast_S_S64x2048 (constant (F := Ideal) S_ .f32 0xBF800000#32))
      (broadcastInDim S64x2048 ![] bcast_S_S64x2048 (constant (F := Ideal) S_ .f32 0x00000000#32)))
    bitsLt_bf16_f32

/-- The values, laid out as the rows of the blocks. -/
def vrows (x : FVec Ideal S2x8192x4x64 .f32) : FVec Ideal S2x4x16x64x512 .bf16 :=
  transpose S2x4x16x64x512 [0, 3, 1, 4, 2]
    (shapeCast S2x16x512x4x64 (truncf (F := Ideal) .bf16 x bitsLt_bf16_f32) shapeCasts_S2x8192x4x64_S2x16x512x4x64)
    transposes_S2x16x512x4x64_S2x4x16x64x512_0_3_1_4_2

/-- The three decay columns of the keys and the padding. -/
def decayCol (x : FVec Ideal S2x8192x16 .bf16) : FVec Ideal S2x8192x4x4 .bf16 := shapeCast S2x8192x4x4 x shapeCasts_S2x8192x16_S2x8192x4x4

theorem concat3 {α : Type} {T s1 s2 s3 : Shape} {k : Fin T.rank} {a1 b1 : s1.Idx → α} {a2 b2 : s2.Idx → α} {a3 b3 : s3.Idx → α} {h}
    (h1 : a1 = b1) (h2 : a2 = b2) (h3 : a3 = b3) :
    concatenate T k [⟨s1, a1⟩, ⟨s2, a2⟩, ⟨s3, a3⟩] h = concatenate T k [⟨s1, b1⟩, ⟨s2, b2⟩, ⟨s3, b3⟩] h := by subst h1 h2 h3; rfl

theorem concat5 {α : Type} {T s1 s2 s3 s4 s5 : Shape} {k : Fin T.rank} {a1 b1 : s1.Idx → α} {a2 b2 : s2.Idx → α} {a3 b3 : s3.Idx → α}
    {a4 b4 : s4.Idx → α} {a5 b5 : s5.Idx → α} {h} (h1 : a1 = b1) (h2 : a2 = b2) (h3 : a3 = b3) (h4 : a4 = b4) (h5 : a5 = b5) :
    concatenate T k [⟨s1, a1⟩, ⟨s2, a2⟩, ⟨s3, a3⟩, ⟨s4, a4⟩, ⟨s5, a5⟩] h
      = concatenate T k [⟨s1, b1⟩, ⟨s2, b2⟩, ⟨s3, b3⟩, ⟨s4, b4⟩, ⟨s5, b5⟩] h := by subst h1 h2 h3 h4 h5; rfl

variable (m : (ℓ : Loc nD τ sig) → Buf (Elt Ideal) ℓ) (c : Dev nD)

/-- The queries' operand, as the kernel is launched on it. -/
theorem V_q : V m c main_v21
    = concatenate S2x4x16x128x2048 3
        [⟨S2x4x16x64x2048, qrows (m (c.tc.loc main_arg0))⟩,
         ⟨S2x4x16x64x2048, broadcastInDim S2x4x16x64x2048 ![3, 4] bcast_S64x2048_S2x4x16x64x2048_3_4 decayRows⟩]
        concatenates_S2x4x16x64x2048_S2x4x16x64x2048_S2x4x16x128x2048_d3 := by
  unfold V
  simp only [hostOps0, hostOps0_1, hostOps0_2, hostOps0_3, hostOps0_4, hostOps0_5, hostOps0_6, List.flatten_cons, List.flatten_nil, List.append_nil, List.cons_append, List.nil_append]
  after_reads_simp
  rfl

/-- The keys' operand. -/
theorem V_k : V m c main_v39
    = transpose S4x16384x128 [1, 0, 2]
        (shapeCast S16384x4x128
          (concatenate S2x8192x4x128 3
            [⟨S2x8192x4x64, truncf (F := Ideal) .bf16 (m (c.tc.loc main_arg1) : FVec Ideal S2x8192x4x64 .f32) bitsLt_bf16_f32⟩,
             ⟨S2x8192x4x4, decayCol (hi (m (c.tc.loc main_arg3)))⟩, ⟨S2x8192x4x4, decayCol (mid (m (c.tc.loc main_arg3)))⟩,
             ⟨S2x8192x4x4, decayCol (lo (m (c.tc.loc main_arg3)))⟩,
             ⟨S2x8192x4x52, broadcastInDim S2x8192x4x52 ![] bcast_S_S2x8192x4x52 (constant (F := Ideal) S_ .bf16 0x0000#16)⟩]
            concatenates_S2x8192x4x64_S2x8192x4x4_S2x8192x4x4_S2x8192x4x4_S2x8192x4x52_S2x8192x4x128_d3)
          shapeCasts_S2x8192x4x128_S16384x4x128)
        transposes_S16384x4x128_S4x16384x128_1_0_2 := by
  unfold V
  simp only [hostOps0, hostOps0_1, hostOps0_2, hostOps0_3, hostOps0_4, hostOps0_5, hostOps0_6, List.flatten_cons, List.flatten_nil, List.append_nil, List.cons_append, List.nil_append]
  after_reads_simp
  refine congrArg (fun y => transpose S4x16384x128 [1, 0, 2] (shapeCast S16384x4x128 y shapeCasts_S2x8192x4x128_S16384x4x128) transposes_S16384x4x128_S4x16384x128_1_0_2)
    (concat5 ?_ ?_ ?_ ?_ ?_)
  · show StableHlo.upto _ _ _ (Proc.tc.devRef main_v36) = _
    after_reads_simp
  · show StableHlo.upto _ _ _ (Proc.tc.devRef main_v32) = _
    after_reads_simp
    rfl
  · show StableHlo.upto _ _ _ (Proc.tc.devRef main_v33) = _
    after_reads_simp
    rfl
  · show StableHlo.upto _ _ _ (Proc.tc.devRef main_v34) = _
    after_reads_simp
    rfl
  · show StableHlo.upto _ _ _ (Proc.tc.devRef main_v35) = _
    after_reads_simp

/-- The values' operand. -/
theorem V_v : V m c main_v45
    = concatenate S2x4x16x80x512 3
        [⟨S2x4x16x64x512, vrows (m (c.tc.loc main_arg2))⟩,
         ⟨S2x4x16x1x512, broadcastInDim S2x4x16x1x512 ![] bcast_S_S2x4x16x1x512 (constant (F := Ideal) S_ .bf16 0x3F80#16)⟩,
         ⟨S2x4x16x15x512, broadcastInDim S2x4x16x15x512 ![] bcast_S_S2x4x16x15x512 (constant (F := Ideal) S_ .bf16 0x0000#16)⟩]
        concatenates_S2x4x16x64x512_S2x4x16x1x512_S2x4x16x15x512_S2x4x16x80x512_d3 := by
  unfold V
  simp only [hostOps0, hostOps0_1, hostOps0_2, hostOps0_3, hostOps0_4, hostOps0_5, hostOps0_6, List.flatten_cons, List.flatten_nil, List.append_nil, List.cons_append, List.nil_append]
  after_reads_simp
  refine concat3 ?_ ?_ ?_
  · show StableHlo.upto _ _ _ (Proc.tc.devRef main_v42) = _
    after_reads_simp
    rfl
  · show StableHlo.upto _ _ _ (Proc.tc.devRef main_v43) = _
    after_reads_simp
  · show StableHlo.upto _ _ _ (Proc.tc.devRef main_v44) = _
    after_reads_simp

end Cert.Proof.Fox
-- ==== Proof.Fox.Operands.lean ====
/-
  The three operands of the kernel at an index: a column of the queries is a head's scaled query above three weights −1,
  a row of the keys a key beside the three parts of its decay, a column of the values a value above a one.
-/
module

public import proofs.«01_k».proof.Proof.Fox.Host
public import proofs.«01_k».proof.Proof.Fox.Online
public import proofs.«01_k».proof.Proof.Pool.HostWindow
public import Idealize.ShloMosaic.Lib.ValueIdxRank6
public import Idealize.ShloMosaic.Lib.Pipeline.ValueKit

@[expose] public section
set_option maxRecDepth 16384
noncomputable section
namespace Cert.Proof.Fox
open Idealize.ShloMosaic Idealize.ShloMosaic.TcCoe Idealize.ShloMosaic.Tactic Cert.Kernel2Ideal Cert.Kernel2Ideal.Gen

/-- The rational numbers the words of the host constants are. -/
theorem word_two : (Ideal.ofBits .f32 0x40000000#32 : EReal) = ((2 : ℝ) : EReal) := by
  simp [Ideal.ofBits, Ideal.ieee, -EReal.coe_mul]; norm_num
theorem word_eighth : (Ideal.ofBits .f32 0x3E000000#32 : EReal) = ((1 / 8 : ℝ) : EReal) := by
  simp [Ideal.ofBits, Ideal.ieee, -EReal.coe_mul]; norm_num
theorem word_neg_one : (Ideal.ofBits .f32 0xBF800000#32 : EReal) = ((-1 : ℝ) : EReal) := by
  simp [Ideal.ofBits, Ideal.ieee, -EReal.coe_mul]; norm_num

/-- `1 / log 2` as a real number. -/
theorem ilog2_eq (i : S_.Idx) : ilog2 i = ((1 / Real.log 2 : ℝ) : EReal) := by
  have h2 : Real.log 2 ≠ 0 := (Real.log_pos (by norm_num)).ne'
  unfold ilog2
  pointwise
  rw [word_two, Ideal.log_coe, if_neg (by norm_num : ¬ (2 : ℝ) ≤ 0)]
  unfold Ideal.div
  rw [if_neg (by exact_mod_cast h2), one_mul, ← EReal.coe_inv, one_div]

theorem cum2_apply (x : FVec Ideal S2x8192x16 .f32) (i) : cum2 x i = cum x i * ((1 / Real.log 2 : ℝ) : EReal) := by
  unfold cum2
  pointwise
  rw [ilog2_eq]

/-- Running sums of finite gates are finite. -/
theorem cum_real (x : FVec Ideal S2x8192x16 .f32) (hx : ∀ i, ∃ r : ℝ, x i = (r : EReal)) (s : Fin 2) (t : Fin 8192) (h : Fin 16) :
    ∃ r : ℝ, cum x (ix3 s t h) = (r : EReal) := by
  have h0 : ∀ j, (broadcastInDim S_ ![] bcast_S_S_ (constant (F := Ideal) S_ .f32 0x00000000#32) : FVec Ideal S_ .f32) j = 0 := by
    intro j
    pointwise
  choose y hy using hx
  have e := Cert.Pool.host_window (a := 2) (n := 8192) (b := 16) (w := 8192) (v := 8191) rfl x
    (fun r => if hr : r < 8192 then x (ix3 s ⟨r, hr⟩ h) else 0) _ h0
    reduceWindows_S2x8192x16_S2x8192x16_w1s1p0_0_w8192s1p8191_0_w1s1p0_0 h_S_ s t h (fun r => by simp)
  unfold cum
  refine ⟨∑ j ∈ Finset.range 8192, if j ≤ t.val then (if hr : t.val - j < 8192 then y (ix3 s ⟨t.val - j, hr⟩ h) else 0) else 0, e.trans ?_⟩
  unfold Cert.Pool.wsum
  rw [coe_sum]
  refine Finset.sum_congr rfl fun j _ => ?_
  dsimp only
  split
  · split
    · exact hy _
    · rfl
  · rfl

theorem floor512 : ∀ j : Fin 2048, Scalar.select
      (IntOp.andi
        (IntOp.cmpi CmpIPredicate.ne
          (if BitVec.ofNat 32 j.val = 0 then (0 : BitVec 32) else if (BitVec.ofNat 32 j.val).msb = true then -1 else 1)
          (if 512#32 = 0 then (0 : BitVec 32) else if (512#32).msb = true then -1 else 1))
        (IntOp.cmpi CmpIPredicate.ne (IntOp.remsi ArithUnit.host (BitVec.ofNat 32 j.val) 512#32) 0#32))
      (IntOp.subi (IntOp.divsi ArithUnit.host (BitVec.ofNat 32 j.val) 512#32) 1#32)
      (IntOp.divsi ArithUnit.host (BitVec.ofNat 32 j.val) 512#32) = BitVec.ofNat 32 (j.val / 512) := by decide +kernel

theorem col_head (d : Fin 64) (j : Fin 2048) : colHead (ix2 d j) = BitVec.ofNat 32 (j.val / 512) := by
  rw [← floor512]
  unfold colHead
  pointwise

theorem weight_cond : ∀ d : Fin 64, ∀ h : Fin 4, IntOp.andi (IntOp.cmpi CmpIPredicate.slt (BitVec.ofNat 32 d.val) 12#32)
        (IntOp.cmpi CmpIPredicate.eq (IntOp.andi (BitVec.ofNat 32 d.val) 3#32) (BitVec.ofNat 32 h.val))
      = if d.val < 12 ∧ d.val % 4 = h.val then 1#1 else 0#1 := by decide +kernel

theorem decay_rows (d : Fin 64) (j : Fin 2048) :
    decayRows (ix2 d j) = if d.val < 12 ∧ d.val % 4 = j.val / 512 then ((-1 : ℝ) : EReal) else 0 := by
  have hw := weight_cond d ⟨j.val / 512, by omega⟩
  unfold decayRows
  pointwise
  rw [col_head, hw, word_neg_one]
  unfold Scalar.select
  split <;> rfl

/-- A head's scaled query, in the upper half of a column. -/
theorem q_upper (x : FVec Ideal S2x8192x16x64 .f32) (s : Fin 2) (g : Fin 4) (b : Fin 16) (d : Fin 64) (h : Fin 4) (r : Fin 512) :
    qrows x (ix5 s g b d ⟨512 * h.val + r.val, by omega⟩)
      = x (ix4 s ⟨512 * b.val + r.val, by omega⟩ ⟨4 * g.val + h.val, by omega⟩ d) * (((1 / 8 : ℝ) : EReal) * ((1 / Real.log 2 : ℝ) : EReal)) := by
  unfold qrows
  rw [shapeCast_apply _ _ _ (ix6 s g b d h r) (by
      rw [Shape.rowMajor_val_six, Shape.rowMajor_val_five]
      show ((((s.val * 4 + g.val) * 16 + b.val) * 64 + d.val) * 4 + h.val) * 512 + r.val = (((s.val * 4 + g.val) * 16 + b.val) * 64 + d.val) * 2048 + (512 * h.val + r.val)
      omega)]
  refine (transpose_apply [0, 3, 1, 5, 4, 2] _ transposes_S2x16x512x4x4x64_S2x4x16x64x4x512_0_3_1_5_4_2 (ix6 s g b d h r) (ix6 s b r g h d) (fun a => by match a with | ⟨0, _⟩ => rfl | ⟨1, _⟩ => rfl | ⟨2, _⟩ => rfl | ⟨3, _⟩ => rfl | ⟨4, _⟩ => rfl | ⟨5, _⟩ => rfl)).trans ?_
  rw [shapeCast_apply _ _ _ (ix4 s ⟨512 * b.val + r.val, by omega⟩ ⟨4 * g.val + h.val, by omega⟩ d) (by
      rw [Shape.rowMajor_val_four, Shape.rowMajor_val_six]
      show ((s.val * 8192 + (512 * b.val + r.val)) * 16 + (4 * g.val + h.val)) * 64 + d.val = ((((s.val * 16 + b.val) * 512 + r.val) * 4 + g.val) * 4 + h.val) * 64 + d.val
      omega)]
  pointwise
  rw [ilog2_eq, word_eighth]

theorem v_upper (x : FVec Ideal S2x8192x4x64 .f32) (s : Fin 2) (g : Fin 4) (b : Fin 16) (d : Fin 64) (r : Fin 512) :
    vrows x (ix5 s g b d r) = x (ix4 s ⟨512 * b.val + r.val, by omega⟩ g d) := by
  unfold vrows
  refine (transpose_apply [0, 3, 1, 4, 2] _ transposes_S2x16x512x4x64_S2x4x16x64x512_0_3_1_4_2 (ix5 s g b d r) (ix5 s b r g d) (fun a => by match a with | ⟨0, _⟩ => rfl | ⟨1, _⟩ => rfl | ⟨2, _⟩ => rfl | ⟨3, _⟩ => rfl | ⟨4, _⟩ => rfl)).trans ?_
  rw [shapeCast_apply _ _ _ (ix4 s ⟨512 * b.val + r.val, by omega⟩ g d) (by
      rw [Shape.rowMajor_val_four, Shape.rowMajor_val_five]
      show ((s.val * 8192 + (512 * b.val + r.val)) * 4 + g.val) * 64 + d.val = (((s.val * 16 + b.val) * 512 + r.val) * 4 + g.val) * 64 + d.val
      omega)]
  pointwise

theorem decay_col (x : FVec Ideal S2x8192x16 .bf16) (s : Fin 2) (t : Fin 8192) (g h : Fin 4) :
    decayCol x (ix4 s t g h) = x (ix3 s t ⟨4 * g.val + h.val, by omega⟩) := by
  unfold decayCol
  rw [shapeCast_apply _ _ _ (ix3 s t ⟨4 * g.val + h.val, by omega⟩) (by
      rw [Shape.rowMajor_val_four, Shape.rowMajor_val_three]
      show (s.val * 8192 + t.val) * 16 + (4 * g.val + h.val) = ((s.val * 8192 + t.val) * 4 + g.val) * 4 + h.val
      omega)]

theorem hi_apply (x : FVec Ideal S2x8192x16 .f32) (i) : hi x i = cum2 x i := by unfold hi; pointwise
theorem mid_apply (x : FVec Ideal S2x8192x16 .f32) (i) : mid x i = cum2 x i - cum2 x i := by unfold mid rest1 hi; pointwise
theorem lo_apply (x : FVec Ideal S2x8192x16 .f32) (i) :
    lo x i = (cum2 x i - cum2 x i) - (cum2 x i - cum2 x i) := by unfold lo mid rest1 hi; pointwise

/-! ### The pieces of the three concatenations -/

theorem cat_q0 (a0 : FVec Ideal S2x4x16x64x2048 .bf16) (a1 : FVec Ideal S2x4x16x64x2048 .bf16) (s : Fin 2) (g : Fin 4) (b : Fin 16) (d : Fin 64) (j : Fin 2048) :
    concatenate S2x4x16x128x2048 3 [⟨S2x4x16x64x2048, a0⟩, ⟨S2x4x16x64x2048, a1⟩]
      concatenates_S2x4x16x64x2048_S2x4x16x64x2048_S2x4x16x128x2048_d3 (ix5 s g b ⟨d.val, by omega⟩ j) = a0 (ix5 s g b d j) :=
  concatenate_apply_piece (t := S2x4x16x128x2048) 3 _ _ (ix5 s g b ⟨d.val, by omega⟩ j) 0 (by simp) S2x4x16x64x2048 a0 rfl rfl 0 rfl (ix5 s g b d j)
    (fun b hb => by match b with | ⟨0, _⟩ => rfl | ⟨1, _⟩ => rfl | ⟨2, _⟩ => rfl | ⟨3, _⟩ => exact absurd rfl hb | ⟨4, _⟩ => rfl) (Nat.zero_add _)

theorem cat_q1 (a0 : FVec Ideal S2x4x16x64x2048 .bf16) (a1 : FVec Ideal S2x4x16x64x2048 .bf16) (s : Fin 2) (g : Fin 4) (b : Fin 16) (d : Fin 64) (j : Fin 2048) :
    concatenate S2x4x16x128x2048 3 [⟨S2x4x16x64x2048, a0⟩, ⟨S2x4x16x64x2048, a1⟩]
      concatenates_S2x4x16x64x2048_S2x4x16x64x2048_S2x4x16x128x2048_d3 (ix5 s g b ⟨64 + d.val, by omega⟩ j) = a1 (ix5 s g b d j) :=
  concatenate_apply_piece (t := S2x4x16x128x2048) 3 _ _ (ix5 s g b ⟨64 + d.val, by omega⟩ j) 1 (by simp) S2x4x16x64x2048 a1 rfl rfl 64 rfl (ix5 s g b d j)
    (fun b hb => by match b with | ⟨0, _⟩ => rfl | ⟨1, _⟩ => rfl | ⟨2, _⟩ => rfl | ⟨3, _⟩ => exact absurd rfl hb | ⟨4, _⟩ => rfl) (rfl)

theorem cat_k0 (a0 : FVec Ideal S2x8192x4x64 .bf16) (a1 : FVec Ideal S2x8192x4x4 .bf16) (a2 : FVec Ideal S2x8192x4x4 .bf16) (a3 : FVec Ideal S2x8192x4x4 .bf16) (a4 : FVec Ideal S2x8192x4x52 .bf16) (s : Fin 2) (t : Fin 8192) (g : Fin 4) (d : Fin 64) :
    concatenate S2x8192x4x128 3 [⟨S2x8192x4x64, a0⟩, ⟨S2x8192x4x4, a1⟩, ⟨S2x8192x4x4, a2⟩, ⟨S2x8192x4x4, a3⟩, ⟨S2x8192x4x52, a4⟩]
      concatenates_S2x8192x4x64_S2x8192x4x4_S2x8192x4x4_S2x8192x4x4_S2x8192x4x52_S2x8192x4x128_d3 (ix4 s t g ⟨d.val, by omega⟩) = a0 (ix4 s t g d) :=
  concatenate_apply_piece (t := S2x8192x4x128) 3 _ _ (ix4 s t g ⟨d.val, by omega⟩) 0 (by simp) S2x8192x4x64 a0 rfl rfl 0 rfl (ix4 s t g d)
    (fun b hb => by match b with | ⟨0, _⟩ => rfl | ⟨1, _⟩ => rfl | ⟨2, _⟩ => rfl | ⟨3, _⟩ => exact absurd rfl hb) (Nat.zero_add _)

theorem cat_k1 (a0 : FVec Ideal S2x8192x4x64 .bf16) (a1 : FVec Ideal S2x8192x4x4 .bf16) (a2 : FVec Ideal S2x8192x4x4 .bf16) (a3 : FVec Ideal S2x8192x4x4 .bf16) (a4 : FVec Ideal S2x8192x4x52 .bf16) (s : Fin 2) (t : Fin 8192) (g : Fin 4) (d : Fin 4) :
    concatenate S2x8192x4x128 3 [⟨S2x8192x4x64, a0⟩, ⟨S2x8192x4x4, a1⟩, ⟨S2x8192x4x4, a2⟩, ⟨S2x8192x4x4, a3⟩, ⟨S2x8192x4x52, a4⟩]
      concatenates_S2x8192x4x64_S2x8192x4x4_S2x8192x4x4_S2x8192x4x4_S2x8192x4x52_S2x8192x4x128_d3 (ix4 s t g ⟨64 + d.val, by omega⟩) = a1 (ix4 s t g d) :=
  concatenate_apply_piece (t := S2x8192x4x128) 3 _ _ (ix4 s t g ⟨64 + d.val, by omega⟩) 1 (by simp) S2x8192x4x4 a1 rfl rfl 64 rfl (ix4 s t g d)
    (fun b hb => by match b with | ⟨0, _⟩ => rfl | ⟨1, _⟩ => rfl | ⟨2, _⟩ => rfl | ⟨3, _⟩ => exact absurd rfl hb) (rfl)

theorem cat_k2 (a0 : FVec Ideal S2x8192x4x64 .bf16) (a1 : FVec Ideal S2x8192x4x4 .bf16) (a2 : FVec Ideal S2x8192x4x4 .bf16) (a3 : FVec Ideal S2x8192x4x4 .bf16) (a4 : FVec Ideal S2x8192x4x52 .bf16) (s : Fin 2) (t : Fin 8192) (g : Fin 4) (d : Fin 4) :
    concatenate S2x8192x4x128 3 [⟨S2x8192x4x64, a0⟩, ⟨S2x8192x4x4, a1⟩, ⟨S2x8192x4x4, a2⟩, ⟨S2x8192x4x4, a3⟩, ⟨S2x8192x4x52, a4⟩]
      concatenates_S2x8192x4x64_S2x8192x4x4_S2x8192x4x4_S2x8192x4x4_S2x8192x4x52_S2x8192x4x128_d3 (ix4 s t g ⟨68 + d.val, by omega⟩) = a2 (ix4 s t g d) :=
  concatenate_apply_piece (t := S2x8192x4x128) 3 _ _ (ix4 s t g ⟨68 + d.val, by omega⟩) 2 (by simp) S2x8192x4x4 a2 rfl rfl 68 rfl (ix4 s t g d)
    (fun b hb => by match b with | ⟨0, _⟩ => rfl | ⟨1, _⟩ => rfl | ⟨2, _⟩ => rfl | ⟨3, _⟩ => exact absurd rfl hb) (rfl)

theorem cat_k3 (a0 : FVec Ideal S2x8192x4x64 .bf16) (a1 : FVec Ideal S2x8192x4x4 .bf16) (a2 : FVec Ideal S2x8192x4x4 .bf16) (a3 : FVec Ideal S2x8192x4x4 .bf16) (a4 : FVec Ideal S2x8192x4x52 .bf16) (s : Fin 2) (t : Fin 8192) (g : Fin 4) (d : Fin 4) :
    concatenate S2x8192x4x128 3 [⟨S2x8192x4x64, a0⟩, ⟨S2x8192x4x4, a1⟩, ⟨S2x8192x4x4, a2⟩, ⟨S2x8192x4x4, a3⟩, ⟨S2x8192x4x52, a4⟩]
      concatenates_S2x8192x4x64_S2x8192x4x4_S2x8192x4x4_S2x8192x4x4_S2x8192x4x52_S2x8192x4x128_d3 (ix4 s t g ⟨72 + d.val, by omega⟩) = a3 (ix4 s t g d) :=
  concatenate_apply_piece (t := S2x8192x4x128) 3 _ _ (ix4 s t g ⟨72 + d.val, by omega⟩) 3 (by simp) S2x8192x4x4 a3 rfl rfl 72 rfl (ix4 s t g d)
    (fun b hb => by match b with | ⟨0, _⟩ => rfl | ⟨1, _⟩ => rfl | ⟨2, _⟩ => rfl | ⟨3, _⟩ => exact absurd rfl hb) (rfl)

theorem cat_k4 (a0 : FVec Ideal S2x8192x4x64 .bf16) (a1 : FVec Ideal S2x8192x4x4 .bf16) (a2 : FVec Ideal S2x8192x4x4 .bf16) (a3 : FVec Ideal S2x8192x4x4 .bf16) (a4 : FVec Ideal S2x8192x4x52 .bf16) (s : Fin 2) (t : Fin 8192) (g : Fin 4) (d : Fin 52) :
    concatenate S2x8192x4x128 3 [⟨S2x8192x4x64, a0⟩, ⟨S2x8192x4x4, a1⟩, ⟨S2x8192x4x4, a2⟩, ⟨S2x8192x4x4, a3⟩, ⟨S2x8192x4x52, a4⟩]
      concatenates_S2x8192x4x64_S2x8192x4x4_S2x8192x4x4_S2x8192x4x4_S2x8192x4x52_S2x8192x4x128_d3 (ix4 s t g ⟨76 + d.val, by omega⟩) = a4 (ix4 s t g d) :=
  concatenate_apply_piece (t := S2x8192x4x128) 3 _ _ (ix4 s t g ⟨76 + d.val, by omega⟩) 4 (by simp) S2x8192x4x52 a4 rfl rfl 76 rfl (ix4 s t g d)
    (fun b hb => by match b with | ⟨0, _⟩ => rfl | ⟨1, _⟩ => rfl | ⟨2, _⟩ => rfl | ⟨3, _⟩ => exact absurd rfl hb) (rfl)

theorem cat_v0 (a0 : FVec Ideal S2x4x16x64x512 .bf16) (a1 : FVec Ideal S2x4x16x1x512 .bf16) (a2 : FVec Ideal S2x4x16x15x512 .bf16) (s : Fin 2) (g : Fin 4) (b : Fin 16) (d : Fin 64) (j : Fin 512) :
    concatenate S2x4x16x80x512 3 [⟨S2x4x16x64x512, a0⟩, ⟨S2x4x16x1x512, a1⟩, ⟨S2x4x16x15x512, a2⟩]
      concatenates_S2x4x16x64x512_S2x4x16x1x512_S2x4x16x15x512_S2x4x16x80x512_d3 (ix5 s g b ⟨d.val, by omega⟩ j) = a0 (ix5 s g b d j) :=
  concatenate_apply_piece (t := S2x4x16x80x512) 3 _ _ (ix5 s g b ⟨d.val, by omega⟩ j) 0 (by simp) S2x4x16x64x512 a0 rfl rfl 0 rfl (ix5 s g b d j)
    (fun b hb => by match b with | ⟨0, _⟩ => rfl | ⟨1, _⟩ => rfl | ⟨2, _⟩ => rfl | ⟨3, _⟩ => exact absurd rfl hb | ⟨4, _⟩ => rfl) (Nat.zero_add _)

theorem cat_v1 (a0 : FVec Ideal S2x4x16x64x512 .bf16) (a1 : FVec Ideal S2x4x16x1x512 .bf16) (a2 : FVec Ideal S2x4x16x15x512 .bf16) (s : Fin 2) (g : Fin 4) (b : Fin 16) (d : Fin 1) (j : Fin 512) :
    concatenate S2x4x16x80x512 3 [⟨S2x4x16x64x512, a0⟩, ⟨S2x4x16x1x512, a1⟩, ⟨S2x4x16x15x512, a2⟩]
      concatenates_S2x4x16x64x512_S2x4x16x1x512_S2x4x16x15x512_S2x4x16x80x512_d3 (ix5 s g b ⟨64 + d.val, by omega⟩ j) = a1 (ix5 s g b d j) :=
  concatenate_apply_piece (t := S2x4x16x80x512) 3 _ _ (ix5 s g b ⟨64 + d.val, by omega⟩ j) 1 (by simp) S2x4x16x1x512 a1 rfl rfl 64 rfl (ix5 s g b d j)
    (fun b hb => by match b with | ⟨0, _⟩ => rfl | ⟨1, _⟩ => rfl | ⟨2, _⟩ => rfl | ⟨3, _⟩ => exact absurd rfl hb | ⟨4, _⟩ => rfl) (rfl)

variable (m : (ℓ : Loc nD τ sig) → Buf (Elt Ideal) ℓ) (c : Dev nD)

/-- The queries, keys, values and gates the program is run on. -/
abbrev qA : FVec Ideal S2x8192x16x64 .f32 := m (c.tc.loc main_arg0)
abbrev kA : FVec Ideal S2x8192x4x64 .f32 := m (c.tc.loc main_arg1)
abbrev vA : FVec Ideal S2x8192x4x64 .f32 := m (c.tc.loc main_arg2)
abbrev fA : FVec Ideal S2x8192x16 .f32 := m (c.tc.loc main_arg3)

/-- The queries' operand above row 64. -/
theorem Vq_upper (s : Fin 2) (g : Fin 4) (b : Fin 16) (d : Fin 64) (h : Fin 4) (r : Fin 512) :
    V m c main_v21 (ix5 s g b ⟨d.val, by omega⟩ ⟨512 * h.val + r.val, by omega⟩)
      = qA m c (ix4 s ⟨512 * b.val + r.val, by omega⟩ ⟨4 * g.val + h.val, by omega⟩ d)
        * (((1 / 8 : ℝ) : EReal) * ((1 / Real.log 2 : ℝ) : EReal)) := by
  rw [V_q]
  exact (cat_q0 _ _ s g b d _).trans (q_upper _ s g b d h r)

/-- Its rows from 64 on. -/
theorem Vq_lower (s : Fin 2) (g : Fin 4) (b : Fin 16) (d : Fin 64) (h : Fin 4) (r : Fin 512) :
    V m c main_v21 (ix5 s g b ⟨64 + d.val, by omega⟩ ⟨512 * h.val + r.val, by omega⟩)
      = if d.val < 12 ∧ d.val % 4 = h.val then ((-1 : ℝ) : EReal) else 0 := by
  have e := decay_rows d ⟨512 * h.val + r.val, by omega⟩
  rw [show (512 * h.val + r.val) / 512 = h.val by omega] at e
  rw [V_q, ← e]
  refine (cat_q1 _ _ s g b d _).trans ?_
  generalize decayRows = y
  pointwise

/-- The keys' operand is the keys beside their decays, the sequences one after the other under each key head. -/
theorem Vk_cat (s : Fin 2) (t : Fin 8192) (g : Fin 4) (d : Fin 128) :
    V m c main_v39 (ix3 g ⟨8192 * s.val + t.val, by omega⟩ d)
      = concatenate S2x8192x4x128 3
          [⟨S2x8192x4x64, truncf (F := Ideal) .bf16 (kA m c) bitsLt_bf16_f32⟩,
           ⟨S2x8192x4x4, decayCol (hi (fA m c))⟩, ⟨S2x8192x4x4, decayCol (mid (fA m c))⟩, ⟨S2x8192x4x4, decayCol (lo (fA m c))⟩,
           ⟨S2x8192x4x52, broadcastInDim S2x8192x4x52 ![] bcast_S_S2x8192x4x52 (constant (F := Ideal) S_ .bf16 0x0000#16)⟩]
          concatenates_S2x8192x4x64_S2x8192x4x4_S2x8192x4x4_S2x8192x4x4_S2x8192x4x52_S2x8192x4x128_d3 (ix4 s t g d) := by
  rw [V_k]
  generalize concatenate S2x8192x4x128 3 _ _ = y
  refine (transpose_apply [1, 0, 2] _ transposes_S16384x4x128_S4x16384x128_1_0_2 (ix3 g ⟨8192 * s.val + t.val, by omega⟩ d)
    (ix3 ⟨8192 * s.val + t.val, by omega⟩ g d) (fun a => by match a with | ⟨0, _⟩ => rfl | ⟨1, _⟩ => rfl | ⟨2, _⟩ => rfl)).trans ?_
  exact shapeCast_apply _ _ _ (ix4 s t g d) (by
    rw [Shape.rowMajor_val_four, Shape.rowMajor_val_three]
    show ((s.val * 8192 + t.val) * 4 + g.val) * 128 + d.val = ((8192 * s.val + t.val) * 4 + g.val) * 128 + d.val
    omega)

theorem Vk_upper (s : Fin 2) (t : Fin 8192) (g : Fin 4) (d : Fin 64) :
    V m c main_v39 (ix3 g ⟨8192 * s.val + t.val, by omega⟩ ⟨d.val, by omega⟩) = kA m c (ix4 s t g d) := by
  rw [Vk_cat]
  refine (cat_k0 _ _ _ _ _ s t g d).trans ?_
  generalize kA m c = y
  pointwise

theorem Vk_hi (s : Fin 2) (t : Fin 8192) (g h : Fin 4) :
    V m c main_v39 (ix3 g ⟨8192 * s.val + t.val, by omega⟩ ⟨64 + h.val, by omega⟩)
      = hi (fA m c) (ix3 s t ⟨4 * g.val + h.val, by omega⟩) := by
  rw [Vk_cat]
  exact (cat_k1 _ _ _ _ _ s t g h).trans (decay_col _ s t g h)

theorem Vk_mid (s : Fin 2) (t : Fin 8192) (g h : Fin 4) :
    V m c main_v39 (ix3 g ⟨8192 * s.val + t.val, by omega⟩ ⟨68 + h.val, by omega⟩)
      = mid (fA m c) (ix3 s t ⟨4 * g.val + h.val, by omega⟩) := by
  rw [Vk_cat]
  exact (cat_k2 _ _ _ _ _ s t g h).trans (decay_col _ s t g h)

theorem Vk_lo (s : Fin 2) (t : Fin 8192) (g h : Fin 4) :
    V m c main_v39 (ix3 g ⟨8192 * s.val + t.val, by omega⟩ ⟨72 + h.val, by omega⟩)
      = lo (fA m c) (ix3 s t ⟨4 * g.val + h.val, by omega⟩) := by
  rw [Vk_cat]
  exact (cat_k3 _ _ _ _ _ s t g h).trans (decay_col _ s t g h)

theorem Vk_pad (s : Fin 2) (t : Fin 8192) (g : Fin 4) (h : Fin 52) :
    V m c main_v39 (ix3 g ⟨8192 * s.val + t.val, by omega⟩ ⟨76 + h.val, by omega⟩) = (0 : EReal) := by
  rw [Vk_cat]
  refine (cat_k4 _ _ _ _ _ s t g h).trans ?_
  pointwise

theorem Vv_upper (s : Fin 2) (g : Fin 4) (b : Fin 16) (d : Fin 64) (r : Fin 512) :
    V m c main_v45 (ix5 s g b ⟨d.val, by omega⟩ r) = vA m c (ix4 s ⟨512 * b.val + r.val, by omega⟩ g d) := by
  rw [V_v]
  exact (cat_v0 _ _ _ s g b d r).trans (v_upper _ s g b d r)

theorem Vv_one (s : Fin 2) (g : Fin 4) (b : Fin 16) (r : Fin 512) : V m c main_v45 (ix5 s g b ⟨64, by omega⟩ r) = ((1 : ℝ) : EReal) := by
  rw [V_v]
  refine (cat_v1 _ _ _ s g b 0 r).trans ?_
  pointwise
  rfl

end Cert.Proof.Fox
-- ==== Proof.Fox.Logit.lean ====
/-
  The kernel's output at a query and a head's feature: the attention over the logits
  `(q · k) / (8 log 2) − c / log 2`, `c` the running sum of the head's forget gates at the key.
-/
module

public import proofs.«01_k».proof.Proof.Fox.Column
public import proofs.«01_k».proof.Proof.Fox.Blocks
public import proofs.«01_k».proof.Proof.Fox.Operands

@[expose] public section
set_option backward.proofsInPublic true
set_option maxRecDepth 16384
noncomputable section
namespace Cert.Proof.Fox
open Idealize.ShloMosaic Idealize.ShloMosaic.TcCoe Idealize.ShloMosaic.Tactic Cert.Kernel2Ideal Cert.Kernel2Ideal.Gen

/-- Position `k`, of 8192. -/
abbrev pos (k : ℕ) : Fin 8192 := ⟨k % 8192, Nat.mod_lt _ (by decide)⟩

/-- The logit, in powers of two, of key `k` for the query at `i` of sequence `s`'s head `4 g + h`. -/
def logit (q : FVec Ideal S2x8192x16x64 .f32) (kk : FVec Ideal S2x8192x4x64 .f32) (f : FVec Ideal S2x8192x16 .f32)
    (s : Fin 2) (g h : Fin 4) (i : Fin 8192) (k : ℕ) : ℝ :=
  (∑ d : Fin 64, (kk (ix4 s (pos k) g d)).toReal * ((q (ix4 s i ⟨4 * g.val + h.val, by omega⟩ d)).toReal * (1 / 8 * (1 / Real.log 2))))
    + (cum f (ix3 s (pos k) ⟨4 * g.val + h.val, by omega⟩)).toReal * (1 / Real.log 2) * (-1)

/-- Every entry is a real number. -/
def AllReal {s : Shape} {φ : FTy} (x : FVec Ideal s φ) : Prop := ∀ i, ∃ r : ℝ, x i = (r : EReal)

theorem AllReal.eq {s : Shape} {φ : FTy} {x : FVec Ideal s φ} (hx : AllReal x) (i : s.Idx) : x i = (((x i : EReal).toReal : ℝ) : EReal) := by
  obtain ⟨r, hr⟩ := hx i
  rw [hr, EReal.toReal_coe]

variable (m : (ℓ : Loc nD τ sig) → Buf (Elt Ideal) ℓ) (c : Dev nD)

/-- The keys' and the queries' operands. -/
abbrev kOp : FVec Ideal S4x16384x128 .bf16 := V m c main_v39
abbrev qOp : FVec Ideal S2x4x16x128x2048 .bf16 := V m c main_v21

/-- The decays' part of a key's row against a query's column. -/
theorem decay_part (hf : AllReal (fA m c)) (s : Fin 2) (g h : Fin 4) (k : Fin 8192) (b : Fin 16) (r : Fin 512) (e : Fin 64) :
    kOp m c (ix3 g ⟨8192 * s.val + k.val, by omega⟩ ⟨64 + e.val, by omega⟩)
        * qOp m c (ix5 s g b ⟨64 + e.val, by omega⟩ ⟨512 * h.val + r.val, by omega⟩)
      = if e = ⟨h.val, by omega⟩ then
          (((cum (fA m c) (ix3 s k ⟨4 * g.val + h.val, by omega⟩) : EReal).toReal * (1 / Real.log 2) * (-1) : ℝ) : EReal) else 0 := by
  have hc : ∀ h' : Fin 4, cum2 (fA m c) (ix3 s k ⟨4 * g.val + h'.val, by omega⟩)
      = (((cum (fA m c) (ix3 s k ⟨4 * g.val + h'.val, by omega⟩) : EReal).toReal * (1 / Real.log 2) : ℝ) : EReal) := by
    intro h'
    obtain ⟨y, hy⟩ := cum_real (fA m c) hf s k ⟨4 * g.val + h'.val, by omega⟩
    rw [cum2_apply, hy, EReal.toReal_coe, EReal.coe_mul]
  have hz : ∀ h' : Fin 4, cum2 (fA m c) (ix3 s k ⟨4 * g.val + h'.val, by omega⟩) - cum2 (fA m c) (ix3 s k ⟨4 * g.val + h'.val, by omega⟩) = (0 : EReal) := by
    intro h'
    rw [hc, ← EReal.coe_sub, sub_self, EReal.coe_zero]
  rw [show qOp m c (ix5 s g b ⟨64 + e.val, by omega⟩ ⟨512 * h.val + r.val, by omega⟩) = _ from Vq_lower m c s g b e h r]
  by_cases he : e.val < 12 ∧ e.val % 4 = h.val
  · rw [if_pos he]
    rcases (show e.val = h.val ∨ e.val = 4 + h.val ∨ e.val = 8 + h.val by omega) with e1 | e1 | e1
    · obtain ⟨e, he'⟩ := e
      obtain rfl : e = h.val := e1
      rw [if_pos rfl, show kOp m c (ix3 g ⟨8192 * s.val + k.val, by omega⟩ ⟨64 + h.val, by omega⟩) = _ from Vk_hi m c s k g h, hi_apply, hc, ← EReal.coe_mul]
    · obtain ⟨e, he'⟩ := e
      obtain rfl : e = 4 + h.val := e1
      rw [if_neg (by simp [Fin.ext_iff])]
      have : kOp m c (ix3 g ⟨8192 * s.val + k.val, by omega⟩ ⟨68 + h.val, by omega⟩) = _ := Vk_mid m c s k g h
      rw [mid_apply, hz] at this
      rw [show (⟨64 + (4 + h.val), by omega⟩ : Fin 128) = ⟨68 + h.val, by omega⟩ from Fin.ext (by dsimp only; omega), this, zero_mul]
    · obtain ⟨e, he'⟩ := e
      obtain rfl : e = 8 + h.val := e1
      rw [if_neg (by simp [Fin.ext_iff])]
      have : kOp m c (ix3 g ⟨8192 * s.val + k.val, by omega⟩ ⟨72 + h.val, by omega⟩) = _ := Vk_lo m c s k g h
      rw [lo_apply, hz, sub_zero] at this
      rw [show (⟨64 + (8 + h.val), by omega⟩ : Fin 128) = ⟨72 + h.val, by omega⟩ from Fin.ext (by dsimp only; omega), this, zero_mul]
  · rw [if_neg he, mul_zero, if_neg]
    rintro rfl
    exact he ⟨by dsimp only; omega, by dsimp only; omega⟩

/-- A logit of the kernel. -/
theorem kernel_logit (hq : AllReal (qA m c)) (hk : AllReal (kA m c)) (hf : AllReal (fA m c)) (t : Fin cfg0.N) (s : Fin 2) (g : Fin 4) (u : Fin 8)
    (ht : t.val = s.val * 32 + g.val * 8 + u.val) (p : Fin 2) (h : Fin 4) (r : Fin 512) (n : ℕ) (i : Fin 512) :
    k0_pay4 (F := Ideal) (kblk (iblk m c 1 t) n) (qtile (iblk m c 0 t) p) (ix2 i ⟨512 * h.val + r.val, by omega⟩)
      = (logit (qA m c) (kA m c) (fA m c) s g h ⟨512 * (2 * u.val + p.val) + r.val, by omega⟩ (512 * n + i.val) : EReal) := by
  rw [pay4_apply]
  have e : ∀ d : Fin 128, kblk (iblk m c 1 t) n (ix3 0 i d) * qtile (iblk m c 0 t) p (ix5 0 0 0 d ⟨512 * h.val + r.val, by omega⟩)
      = kOp m c (ix3 g ⟨8192 * s.val + (pos (512 * n + i.val)).val, by omega⟩ d)
        * qOp m c (ix5 s g ⟨2 * u.val + p.val, by omega⟩ d ⟨512 * h.val + r.val, by omega⟩) := by
    intro d
    exact congrArg₂ (fun a b : EReal => a * b) (blk1 m c t s g u ht (pos (512 * n + i.val)) d) (blk0 m c t s g u ht p d _)
  rw [Finset.sum_congr rfl fun d _ => e d]
  refine (Fin.sum_univ_add (a := 64) (b := 64) _).trans ?_
  unfold logit
  rw [EReal.coe_add, coe_sum]
  refine congrArg₂ (fun a b : EReal => a + b) (Finset.sum_congr rfl fun d _ => ?_) ?_
  · refine Eq.trans (congrArg₂ (fun a b : EReal => a * b) (Vk_upper m c s (pos (512 * n + i.val)) g d)
      (Vq_upper m c s g ⟨2 * u.val + p.val, by omega⟩ d h r)) ?_
    conv_lhs => rw [hk.eq, hq.eq, ← EReal.coe_mul, ← EReal.coe_mul, ← EReal.coe_mul]
  · refine Eq.trans (Finset.sum_congr rfl fun d _ => decay_part m c hf s g h (pos (512 * n + i.val)) ⟨2 * u.val + p.val, by omega⟩ r d) ?_
    rw [Finset.sum_ite_eq' Finset.univ]
    simp

/-- Feature `d` of the value at key `k`. -/
def value (v : FVec Ideal S2x8192x4x64 .f32) (s : Fin 2) (g : Fin 4) (d : Fin 64) (k : ℕ) : EReal := v (ix4 s (pos k) g d)

theorem vrow_upper (t : Fin cfg0.N) (s : Fin 2) (g : Fin 4) (u : Fin 8) (ht : t.val = s.val * 32 + g.val * 8 + u.val) (d : Fin 64) (k : ℕ) :
    vrow (iblk m c 2 t) ⟨d.val, by omega⟩ k = value (vA m c) s g d k := by
  unfold vrow value
  rw [blk2 m c t s g u ht, Vv_upper]
  congr 2
  exact Fin.ext (by show 512 * (k / 512 % 16) + k % 512 = k % 8192; omega)

theorem vrow_one (t : Fin cfg0.N) (s : Fin 2) (g : Fin 4) (u : Fin 8) (ht : t.val = s.val * 32 + g.val * 8 + u.val) (k : ℕ) :
    vrow (iblk m c 2 t) 64 k = ((1 : ℝ) : EReal) := by
  unfold vrow
  rw [blk2 m c t s g u ht]
  exact Vv_one m c s g _ _

/-- The point's output is its two tiles, one below the other. -/
theorem outv_tile (x3 : Vec Ideal S1x1x2x128x2048 .bf16) (x4 : Vec Ideal S1x8192x128 .bf16) (x5 : Vec Ideal S1x1x16x80x512 .bf16)
    (t : ℕ) (p : Fin 2) (r : Fin 512) (j : Fin 256) :
    outv x3 x4 x5 t (ix2 ⟨512 * p.val + r.val, by omega⟩ j) = tile x3 x4 x5 p (2 * t + p.val) (ix2 r j) := by
  have key : ∀ (y : Vec Ideal S512x256 .f32) (r' : Fin 512), r'.val = r.val → y (ix2 r' j) = y (ix2 r j) := fun y r' e => by rw [Fin.ext e]
  unfold outv
  match p with
  | 0 => exact (dif_pos (by show 512 * 0 + r.val < 512; omega)).trans (key _ _ (by show 512 * 0 + r.val = r.val; omega))
  | 1 => exact (dif_neg (by show ¬ 512 * 1 + r.val < 512; omega)).trans (key _ _ (by show 512 * 1 + r.val - 512 = r.val; omega))

/-- What the point `t` leaves in its block of the output. -/
theorem block_out (hq : AllReal (qA m c)) (hk : AllReal (kA m c)) (hf : AllReal (fA m c)) (t : Fin cfg0.N) (s : Fin 2) (g : Fin 4) (u : Fin 8)
    (ht : t.val = s.val * 32 + g.val * 8 + u.val) (p : Fin 2) (r : Fin 512) (h : Fin 4) (d : Fin 64) :
    oblk m c t (ix2 ⟨512 * p.val + r.val, by omega⟩ ⟨64 * h.val + d.val, by omega⟩)
      = att (logit (qA m c) (kA m c) (fA m c) s g h ⟨512 * (2 * u.val + p.val) + r.val, by omega⟩) (value (vA m c) s g d)
          (512 * (2 * u.val + p.val) + r.val) := by
  have hu : ((grid0.coords t) 2).val = u.val := by rw [pair_of]; omega
  have key := tile_column (iblk m c 0 t) (iblk m c 1 t) (iblk m c 2 t) p h r
    (logit (qA m c) (kA m c) (fA m c) s g h ⟨512 * (2 * u.val + p.val) + r.val, by omega⟩)
    (kernel_logit m c hq hk hf t s g u ht p h r) (2 * u.val + p.val) (vrow_one m c t s g u ht) d
  rw [show vrow (iblk m c 2 t) ⟨d.val, by omega⟩ = value (vA m c) s g d from funext fun k => vrow_upper m c t s g u ht d k] at key
  rw [← key]
  unfold oblk
  rw [hu]
  exact outv_tile _ _ _ u.val p r _

end Cert.Proof.Fox
-- ==== Proof.Fox.Ref.lean ====
/-
  What the reference computes at a query and a head's feature, from real queries, keys and forget gates: the attention over
  the kernel's logits.  The reference's score of key `k` is `log 2` times its logit, plus the query's own running sum; the
  softmax divides that sum and its maximum out again.
-/
module

public import proofs.«01_k».proof.Proof.Fox.Logit
public import proofs.«01_k».proof.Proof.Gen.Reference2Ideal.Read

@[expose] public section
set_option backward.proofsInPublic true
set_option maxRecDepth 16384
noncomputable section
namespace Cert.Proof.Fox.R2
open Idealize.ShloMosaic Cert.Proof.Fox Cert.Reference2Ideal Cert.Reference2Ideal.Gen Cert.Reference2Ideal.Read

variable (q : FVec Ideal S2x8192x16x64 .f32) (kk v : FVec Ideal S2x8192x4x64 .f32) (f : FVec Ideal S2x8192x16 .f32)
variable (s : Fin 2) (g h : Fin 4) (i k : Fin 8192)

/-- Query head `h` of the group `g`. -/
abbrev head (g h : Fin 4) : Fin 16 := ⟨4 * g.val + h.val, by omega⟩

theorem decay_entry : val_main_v3 (F := Ideal) f (ix4 s g h i) = cum f (ix3 s i (head g h)) := by
  rw [val_main_v3_apply, val_main_v2_apply]
  rw [show idx_main_v2 (idx_main_v3 (ix4 s g h i)) = ix3 s i (head g h) from funext fun a => by
    match a with
    | ⟨0, _⟩ => exact Fin.ext (by show (((s.val * 8192 + i.val) * 4 + g.val) * 4 + h.val) / 131072 = s.val; omega)
    | ⟨1, _⟩ => exact Fin.ext (by show (((s.val * 8192 + i.val) * 4 + g.val) * 4 + h.val) / 16 % 8192 = i.val; omega)
    | ⟨2, _⟩ => exact Fin.ext (by show (((s.val * 8192 + i.val) * 4 + g.val) * 4 + h.val) % 16 = 4 * g.val + h.val; omega)]
  rfl

theorem query_entry (d : Fin 64) : val_main_v0 (F := Ideal) q (ix5 s i g h d) = q (ix4 s i (head g h) d) := by
  rw [val_main_v0_apply]
  refine congrArg q (funext fun a => ?_)
  match a with
  | ⟨0, _⟩ => exact Fin.ext (by show ((((s.val * 8192 + i.val) * 4 + g.val) * 4 + h.val) * 64 + d.val) / 8388608 = s.val; omega)
  | ⟨1, _⟩ => exact Fin.ext (by show ((((s.val * 8192 + i.val) * 4 + g.val) * 4 + h.val) * 64 + d.val) / 1024 % 8192 = i.val; omega)
  | ⟨2, _⟩ => exact Fin.ext (by show ((((s.val * 8192 + i.val) * 4 + g.val) * 4 + h.val) * 64 + d.val) / 64 % 16 = 4 * g.val + h.val; omega)
  | ⟨3, _⟩ => exact Fin.ext (by show ((((s.val * 8192 + i.val) * 4 + g.val) * 4 + h.val) * 64 + d.val) % 64 = d.val; omega)

theorem dot_entry : val_main_v5 (F := Ideal) q kk (ix5 s g h i k) = ∑ d : Fin 64, kk (ix4 s k g d) * q (ix4 s i (head g h) d) := by
  rw [val_main_v5_apply, val_main_v4_apply]
  refine Finset.sum_congr rfl fun d _ => ?_
  rw [show lidx_main_v4 (idx_main_v5 (ix5 s g h i k)) d = ix4 s k g d from funext fun a => by
    match a with | ⟨0, _⟩ => rfl | ⟨1, _⟩ => rfl | ⟨2, _⟩ => rfl | ⟨3, _⟩ => rfl]
  rw [show ridx_main_v4 (idx_main_v5 (ix5 s g h i k)) d = ix5 s i g h d from funext fun a => by
    match a with | ⟨0, _⟩ => rfl | ⟨1, _⟩ => rfl | ⟨2, _⟩ => rfl | ⟨3, _⟩ => rfl | ⟨4, _⟩ => rfl]
  rw [query_entry]

variable {q kk f} (hq : AllReal q) (hk : AllReal kk) (hf : AllReal f)
include hq hk hf

/-- An unmasked score. -/
theorem score_entry : val_main_v13 (F := Ideal) q kk f (ix5 s g h i k)
    = ((Real.log 2 * logit q kk f s g h i k.val + (cum f (ix3 s i (head g h))).toReal : ℝ) : EReal) := by
  rw [val_main_v13_apply, val_main_v10_apply, val_main_v7_apply, val_main_v9_apply, val_main_v8_apply, val_main_v12_apply,
    val_main_v11_apply, val_main_v6_apply, val_main_cst_apply, dot_entry]
  rw [show idx_main_v8 (idx_main_v9 (ix5 s g h i k)) = ix4 s g h i from funext fun a => by
    match a with | ⟨0, _⟩ => rfl | ⟨1, _⟩ => rfl | ⟨2, _⟩ => rfl | ⟨3, _⟩ => rfl]
  rw [show idx_main_v11 (idx_main_v12 (ix5 s g h i k)) = ix4 s g h k from funext fun a => by
    match a with | ⟨0, _⟩ => rfl | ⟨1, _⟩ => rfl | ⟨2, _⟩ => rfl | ⟨3, _⟩ => rfl]
  rw [decay_entry, decay_entry]
  obtain ⟨ci, hci⟩ := cum_real f hf s i (head g h)
  obtain ⟨ck, hck⟩ := cum_real f hf s k (head g h)
  have hp : pos k.val = k := Fin.ext (Nat.mod_eq_of_lt k.isLt)
  have hd : ∑ d : Fin 64, kk (ix4 s k g d) * q (ix4 s i (head g h) d)
      = ((∑ d : Fin 64, (kk (ix4 s k g d)).toReal * (q (ix4 s i (head g h) d)).toReal : ℝ) : EReal) := by
    rw [coe_sum]
    refine Finset.sum_congr rfl fun d _ => ?_
    rw [EReal.coe_mul, ← hk.eq, ← hq.eq]
  unfold logit
  rw [hp, hd, hci, hck, EReal.toReal_coe, EReal.toReal_coe]
  show ((_ : ℝ) : EReal) * Ideal.ofBits .f32 0x3E000000#32 + (ci : EReal) - (ck : EReal) = _
  rw [word_eighth, ← EReal.coe_mul, ← EReal.coe_add, ← EReal.coe_sub]
  have hl : Real.log 2 ≠ 0 := (Real.log_pos one_lt_two).ne'
  refine congrArg (fun x : ℝ => (x : EReal)) ?_
  have e : ∀ d : Fin 64, (kk (ix4 s k g d)).toReal * ((q (ix4 s i (head g h) d)).toReal * (1 / 8 * (1 / Real.log 2)))
      = (kk (ix4 s k g d)).toReal * (q (ix4 s i (head g h) d)).toReal * (1 / 8 * (1 / Real.log 2)) := fun d => by ring
  simp only [e]
  rw [← Finset.sum_mul]
  field_simp
  ring

omit hq hk hf in
/-- The mask: keys past the query are cut off. -/
theorem mask_entry : val_main_call1_v1 (F := Ideal) (ix5 s g h i k) = if k.val ≤ i.val then 1#1 else 0#1 := by
  rw [val_main_call1_v1_apply, val_main_v19_apply, val_main_v17_apply, val_main_v18_apply, val_main_v15_apply, val_main_v16_apply,
    val_main_v14_apply, val_main_v14_apply]
  exact sle_small k.val i.val (by omega) (by omega)

/-- A score. -/
theorem masked_entry : val_main_v20 (F := Ideal) q kk f (ix5 s g h i k)
    = if k.val ≤ i.val then ((Real.log 2 * logit q kk f s g h i k.val + (cum f (ix3 s i (head g h))).toReal : ℝ) : EReal) else ⊥ := by
  rw [val_main_v20_apply, mask_entry, score_entry s g h i k hq hk hf, val_main_call1_v2_apply, val_main_call1_v0_apply, val_main_cst_0_apply]
  by_cases hki : k.val ≤ i.val
  · rw [if_pos hki, if_pos hki]; rfl
  · rw [if_neg hki, if_neg hki]; exact word_bot

/-- A row's greatest score is a real number. -/
theorem max_entry : ∃ μ : ℝ, val_main_v23 (F := Ideal) q kk f (ix4 s g h i) = (μ : EReal) := by
  have e : val_main_v21 (F := Ideal) q kk f (ix4 s g h i)
      = Finset.univ.fold max (⊥ : EReal) (fun k : Fin 8192 => val_main_v20 (F := Ideal) q kk f (ix5 s g h i k)) := by
    unfold val_main_v21
    rw [Host.reduce_eq_fold_single FloatOps.maximumf _ _ reducesTo_S2x4x4x8192x8192_S2x4x4x8192_d4 (by decide)]
    rw [show val_main_cst_1 (F := Ideal) (Shape.Idx.first h_S_) = (⊥ : EReal) from word_bot]
    refine congrArg (fun f => Finset.univ.fold max (⊥ : EReal) f) (funext fun k => ?_)
    refine congrArg (val_main_v20 (F := Ideal) q kk f) (funext fun a => ?_)
    match a with | ⟨0, _⟩ => rfl | ⟨1, _⟩ => rfl | ⟨2, _⟩ => rfl | ⟨3, _⟩ => rfl | ⟨4, _⟩ => rfl
  rw [val_main_v23_apply, e, val_main_v22_apply, val_main_cst_2_apply]
  show ∃ μ : ℝ, max (Ideal.ofBits .f32 0xFF800000#32) _ = (μ : EReal)
  rw [word_bot]
  refine max_real (n := 0) ⊥ (Or.inl ⟨rfl, rfl⟩) _ (fun k => ?_) i ?_
  · rw [masked_entry s g h i k hq hk hf]
    split
    · exact EReal.coe_ne_top _
    · exact bot_ne_top
  · rw [masked_entry s g h i i hq hk hf, if_pos le_rfl]
    exact EReal.coe_ne_bot _

/-- The weights before the division. -/
theorem weight_entry (μ : ℝ) (hμ : val_main_v23 (F := Ideal) q kk f (ix4 s g h i) = (μ : EReal)) :
    val_main_v27 (F := Ideal) q kk f (ix5 s g h i k)
      = if k.val ≤ i.val then
          ((Real.exp ((cum f (ix3 s i (head g h))).toReal - μ) * (2 : ℝ) ^ logit q kk f s g h i k.val : ℝ) : EReal) else 0 := by
  rw [val_main_v27_apply, val_main_v26_apply, val_main_v25_apply, val_main_v24_apply, masked_entry s g h i k hq hk hf]
  rw [show idx_main_v24 (idx_main_v25 (ix5 s g h i k)) = ix4 s g h i from funext fun a => by
    match a with | ⟨0, _⟩ => rfl | ⟨1, _⟩ => rfl | ⟨2, _⟩ => rfl | ⟨3, _⟩ => rfl, hμ]
  show Ideal.exp ((if k.val ≤ i.val then _ else _) - (μ : EReal)) = _
  by_cases hki : k.val ≤ i.val
  · rw [if_pos hki, if_pos hki, ← EReal.coe_sub, Ideal.exp_coe]
    refine congrArg (fun x : ℝ => (x : EReal)) ?_
    rw [Real.rpow_def_of_pos two_pos, ← Real.exp_add]
    exact congrArg Real.exp (by ring)
  · rw [if_neg hki, if_neg hki, EReal.bot_sub]
    exact Ideal.exp_bot

/-- The reference's result. -/
theorem out_entry (d : Fin 64) (r : Fin 16384) (j : Fin 1024) (hr : r.val = 8192 * s.val + i.val) (hj : j.val = 256 * g.val + 64 * h.val + d.val) :
    val_main_v34 (F := Ideal) q kk v f (ix2 r j) = att (logit q kk f s g h i) (value v s g d) i.val := by
  rw [val_main_v34_apply, val_main_v33_apply]
  rw [show idx_main_v33 (idx_main_v34 (ix2 r j)) = ix5 s g d h i from funext fun a => by
    match a with
    | ⟨0, _⟩ => exact Fin.ext (by show (r.val * 1024 + j.val) / 8388608 = s.val; omega)
    | ⟨1, _⟩ => exact Fin.ext (by show (r.val * 1024 + j.val) / 256 % 4 = g.val; omega)
    | ⟨2, _⟩ => exact Fin.ext (by show (r.val * 1024 + j.val) % 64 = d.val; omega)
    | ⟨3, _⟩ => exact Fin.ext (by show (r.val * 1024 + j.val) / 64 % 4 = h.val; omega)
    | ⟨4, _⟩ => exact Fin.ext (by show (r.val * 1024 + j.val) / 1024 % 8192 = i.val; omega)]
  rw [val_main_v32_apply]
  obtain ⟨μ, hμ⟩ := max_entry s g h i hq hk hf
  rw [← att_of_softmax (logit q kk f s g h i) (value v s g d) 8192 i.val i.isLt _ (Real.exp_pos _) _
    (fun k => weight_entry s g h i k hq hk hf μ hμ)]
  refine Finset.sum_congr rfl fun k _ => ?_
  rw [show lidx_main_v32 (ix5 s g d h i) k = ix4 s k g d from funext fun a => by
    match a with | ⟨0, _⟩ => rfl | ⟨1, _⟩ => rfl | ⟨2, _⟩ => rfl | ⟨3, _⟩ => rfl]
  rw [show ridx_main_v32 (ix5 s g d h i) k = ix5 s g h i k from funext fun a => by
    match a with | ⟨0, _⟩ => rfl | ⟨1, _⟩ => rfl | ⟨2, _⟩ => rfl | ⟨3, _⟩ => rfl | ⟨4, _⟩ => rfl]
  rw [val_main_v31_apply, val_main_v30_apply, val_main_v29_apply, val_main_v28_apply]
  have e : ∀ k', idx_main_v28 (idx_main_v29 (idx_main_v30 (ix5 s g h i k))) k' = ix5 s g h i k' := fun k' => funext fun a => by
    match a with | ⟨0, _⟩ => rfl | ⟨1, _⟩ => rfl | ⟨2, _⟩ => rfl | ⟨3, _⟩ => rfl | ⟨4, _⟩ => rfl
  simp only [e]
  rw [show val_main_cst_3 (F := Ideal) (Shape.Idx.first h_S_) = (0 : EReal) from Ideal.ofBits_zero_f32, zero_add]
  unfold value
  rw [show pos k.val = k from Fin.ext (Nat.mod_eq_of_lt k.isLt)]
  exact mul_comm _ _

end Cert.Proof.Fox.R2
-- ==== Proof.Fox.Agree.lean ====
/-
  The kernel's result is the reference's, of real queries, keys and forget gates.
-/
module

public import proofs.«01_k».proof.Defs
public import proofs.«01_k».proof.Proof.Gen.Pre_finite
public import proofs.«01_k».proof.Proof.Fox.Array
public import proofs.«01_k».proof.Proof.Fox.Ref
public import Idealize.ShloMosaic.Lib.ReduceAll

@[expose] public section
set_option backward.proofsInPublic true
noncomputable section
namespace Cert.Proof.Fox
open Idealize.ShloMosaic Idealize.ShloMosaic.TcCoe Idealize.SL.Sem

/-! ## The precondition read -/

theorem word_top : (Ideal.ofBits .f32 0x7F800000#32 : EReal) = ⊤ := by
  simp [Ideal.ofBits, Ideal.ieee]

/-- A number whose absolute value is below `∞` is real. -/
theorem real_of_abs (x : EReal) (hx : Ideal.cmp .olt (max x (-x)) (Ideal.ofBits .f32 0x7F800000#32) = 1#1) : ∃ r : ℝ, x = (r : EReal) := by
  rw [word_top] at hx
  have h : max x (-x) < ⊤ := by
    by_contra hn
    simp [Ideal.cmp, hn] at hx
  induction x with
  | bot => simp at h
  | coe r => exact ⟨r, rfl⟩
  | top => simp at h

section
open Cert.Pre_finite Cert.Pre_finite.Gen

theorem finite_read (q : FVec Ideal S2x8192x16x64 .f32) (k v : FVec Ideal S2x8192x4x64 .f32) (f : FVec Ideal S2x8192x16 .f32)
    (h : Pre_finite.fn (F := Ideal) q k v f = fun _ => 1#1) : AllReal q ∧ AllReal k ∧ AllReal f := by
  haveI : Subsingleton S_.Idx := ⟨fun a b => funext fun i => i.elim0⟩
  have h0 := congrFun h (fun a => a.elim0)
  unfold Pre_finite.fn at h0
  obtain ⟨h1, hf⟩ := IntOp.andi_eq_one.1 h0
  obtain ⟨hq, hk⟩ := IntOp.andi_eq_one.1 h1
  exact ⟨fun i => real_of_abs _ (Host.reduce_andi_all _ _ _ _ _ hq i), fun i => real_of_abs _ (Host.reduce_andi_all _ _ _ _ _ hk i),
    fun i => real_of_abs _ (Host.reduce_andi_all _ _ _ _ _ hf i)⟩
end

/-! ## The two results -/

variable (m : (ℓ : Loc Kernel2Ideal.nD Kernel2Ideal.τ Kernel2Ideal.sig) → Buf (Elt Ideal) ℓ) (c : Dev Kernel2Ideal.nD)

theorem agree (hq : AllReal (qA m c)) (hk : AllReal (kA m c)) (hf : AllReal (fA m c)) :
    Reference2Ideal.Read.val_main_v34 (F := Ideal) (qA m c) (kA m c) (vA m c) (fA m c) = result m c := by
  funext i
  have h0 : (i 0).val < 16384 := (i 0).isLt
  have h1 : (i 1).val < 1024 := (i 1).isLt
  let s : Fin 2 := ⟨(i 0).val / 8192, by omega⟩
  let u : Fin 8 := ⟨(i 0).val / 1024 % 8, by omega⟩
  let p : Fin 2 := ⟨(i 0).val / 512 % 2, by omega⟩
  let r : Fin 512 := ⟨(i 0).val % 512, by omega⟩
  let g : Fin 4 := ⟨(i 1).val / 256, by omega⟩
  let h : Fin 4 := ⟨(i 1).val / 64 % 4, by omega⟩
  let d : Fin 64 := ⟨(i 1).val % 64, by omega⟩
  have ei : i = ix2 (i 0) (i 1) := funext fun a => by match a with | ⟨0, _⟩ => rfl | ⟨1, _⟩ => rfl
  have er := R2.out_entry (q := qA m c) (kk := kA m c) (v := vA m c) (f := fA m c) s g h ⟨512 * (2 * u.val + p.val) + r.val, by omega⟩ hq hk hf d (i 0) (i 1)
    (by dsimp only [s, u, p, r]; omega) (by dsimp only [g, h, d]; omega)
  have ek := block_out m c hq hk hf (pointOf i) s g u (by show (i 0).val / 8192 * 32 + (i 1).val / 256 * 8 + (i 0).val / 1024 % 8 = _; rfl) p r h d
  have el : placeOf i = ix2 ⟨512 * p.val + r.val, by omega⟩ ⟨64 * h.val + d.val, by omega⟩ := funext fun a => by
    match a with
    | ⟨0, _⟩ => exact Fin.ext (by show (i 0).val % 1024 = 512 * ((i 0).val / 512 % 2) + (i 0).val % 512; omega)
    | ⟨1, _⟩ => exact Fin.ext (by show (i 1).val % 256 = 64 * ((i 1).val / 64 % 4) + (i 1).val % 64; omega)
  show _ = oblk m c (pointOf i) (placeOf i)
  rw [el, ek, ← er]
  exact congrArg _ ei

/-- The reference's run leaves the arguments alone, and it has no semaphore. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The attention's value claim. -/
theorem value_attention : Cert.algebraic_Kernel2Ideal_Reference2Ideal_pre_finite := by
  intro m ρ m' ρ' hpre hagree
  refine ⟨fun c => result m c, ?_, ?_⟩
  · refine (θ_run Cert.Kernel2Ideal.defs _ _).mono (fun r h c => ⟨h.1 c, h.2.1 c⟩) (θ_run_and (run_result m ρ) (frame m ρ))
  · refine (θ_run Cert.Reference2Ideal.defs _ _).mono (fun r h c => ⟨?_, (h c).2⟩) (Cert.Reference2Ideal.Value.run (F := Ideal) m' ρ')
    obtain ⟨h0, h1, h2, h3⟩ := hagree c
    obtain ⟨hq, hk, hf⟩ := finite_read _ _ _ _ (hpre c)
    refine ((h c).1.trans (Cert.Reference2Ideal.Read.val_main_v34_eq m' c)).trans ?_
    rw [h0, h1, h2, h3]
    exact agree m c hq hk hf

end Cert.Proof.Fox
-- ==== Proof.Proj.Rows.lean ====
/-
  The mathematics of the projections into an attention, one row at a time, over the extended reals: a row is normalised and
  multiplied by the columns of a weight; the queries are scaled by `1 / (8 log 2)`, the forget gates pass a logarithmic
  sigmoid.
-/
module

public import proofs.«01_k».proof.Proof.Pool.Rows

@[expose] public section
noncomputable section
namespace Cert.Proj
open Idealize.ShloMosaic

/-- A normalised row against one column of a weight. -/
def proj (v g w : Fin 1024 → EReal) : EReal := ∑ k, Pool.rms v g k * w k

/-- The scale of the queries: `1 / √64`, in base 2. -/
def base2 : EReal := (((1 / 8) * (Real.log 2)⁻¹ : ℝ) : EReal)

/-- `log σ(x) = -(max(-x, 0) + log(1 + exp(-|x|)))`. -/
def logSigmoid (x : EReal) : EReal := -(max (-x) 0 + Ideal.log1p (Ideal.exp (-(max x (-x)))))

/-- The references' scale: `1 / 8` over the logarithm of 2. -/
theorem scale_word : Ideal.div (Ideal.ofBits .f32 0x3E000000#32) (Ideal.log (Ideal.ofBits .f32 0x40000000#32)) = base2 := by
  have h2 : Real.log 2 ≠ 0 := (Real.log_pos (by norm_num)).ne'
  rw [show (Ideal.ofBits .f32 0x40000000#32 : EReal) = ((2 : ℝ) : EReal) by simp [Ideal.ofBits, Ideal.ieee, -EReal.coe_mul]; norm_num,
    show (Ideal.ofBits .f32 0x3E000000#32 : EReal) = ((1 / 8 : ℝ) : EReal) by simp [Ideal.ofBits, Ideal.ieee, -EReal.coe_mul]; norm_num,
    Ideal.log_coe, if_neg (by norm_num : ¬ (2 : ℝ) ≤ 0)]
  unfold Ideal.div
  rw [if_neg (by exact_mod_cast h2), ← EReal.coe_inv, ← EReal.coe_mul]
  rfl

end Cert.Proj
-- ==== Proof.Proj.Pay4.lean ====
/-
  The vector expressions of the projection into the windowed attention, at an index.
-/
module

public import proofs.«01_k».proof.Proof.Proj.Rows
public import proofs.«01_k».proof.Proof.Gen.Kernel4Ideal.Skeleton

@[expose] public section
set_option maxRecDepth 16384
noncomputable section
namespace Cert.Proj.K4
open Idealize.ShloMosaic Cert.Proj Cert.Kernel4Ideal Cert.Kernel4Ideal.Gen

variable (x : FVec Ideal S512x1024 .f32) (g : FVec Ideal S1x1024 .f32) (r : Fin 512)

theorem pay3_apply (c : Fin 1024) : k0_pay3 (F := Ideal) x g (ix2 r c) = Pool.rms (fun k => x (ix2 r k)) (fun k => g (ix2 0 k)) c := by
  pointwise [k0_pay3]
  rfl

theorem pay4_apply (w : FVec Ideal S1024x1024 .bf16) (c : Fin 1024) : k0_pay4 (F := Ideal) x g w (ix2 r c)
    = proj (fun k => x (ix2 r k)) (fun k => g (ix2 0 k)) (fun k => w (ix2 k c)) := by
  unfold k0_pay4 proj
  simp only [← pay3_apply]
  generalize k0_pay3 (F := Ideal) x g = y
  pointwise []

theorem pay2_apply (w : FVec Ideal S1024x1024 .bf16) (c : Fin 1024) : k0_pay2 (F := Ideal) (k0_pay3 x g) w (ix2 r c)
    = proj (fun k => x (ix2 r k)) (fun k => g (ix2 0 k)) (fun k => w (ix2 k c)) := by
  unfold k0_pay2 proj
  simp only [← pay3_apply]
  generalize k0_pay3 (F := Ideal) x g = y
  pointwise []

theorem pay7_apply (w : FVec Ideal S1024x256 .bf16) (c : Fin 256) : k0_pay7 (F := Ideal) x g w (ix3 0 c r)
    = proj (fun k => x (ix2 r k)) (fun k => g (ix2 0 k)) (fun k => w (ix2 k c)) := by
  unfold k0_pay7 k0_pay5 proj
  simp only [← pay3_apply]
  generalize k0_pay3 (F := Ideal) x g = y
  pointwise []

theorem pay8_apply (w : FVec Ideal S1024x256 .bf16) (c : Fin 256) : k0_pay8 (F := Ideal) x g w (ix3 0 c r)
    = proj (fun k => x (ix2 r k)) (fun k => g (ix2 0 k)) (fun k => w (ix2 k c)) := by
  unfold k0_pay8 k0_pay6 proj
  simp only [← pay3_apply]
  generalize k0_pay3 (F := Ideal) x g = y
  pointwise []

theorem pay9_apply (y : FVec Ideal S512x1024 .f32) (b : Ideal .f32) (c : Fin 1024) : k0_pay9 (F := Ideal) y b (ix2 c r) = y (ix2 r c) * b := by
  pointwise [k0_pay9]

end Cert.Proj.K4
-- ==== Proof.Proj.Query4.lean ====
/-
  The block of queries: the rows of a head's tile are its scaled projections.
-/
module

public import proofs.«01_k».proof.Proof.Proj.Pay4
public import proofs.«01_k».proof.Proof.Gen.Kernel4Ideal.Frame
public import Idealize.ShloMosaic.Lib.Pipeline.ValueKit

@[expose] public section
set_option maxRecDepth 16384
noncomputable section
namespace Cert.Proj.K4
open Idealize.ShloMosaic Cert.Proj Cert.Kernel4Ideal Cert.Kernel4Ideal.Gen

variable (x0 : FVec Ideal S512x1024 .f32) (x1 : FVec Ideal S1x1024 .f32) (x2 : FVec Ideal S1024x2560 .bf16)

theorem ld_x : View.ld (Val := Elt Ideal) (e' := .f32) x0 r0_0 = x0 := View.ld_unit_lit (e := _) _ _ (by decide)
theorem ld_g : View.ld (Val := Elt Ideal) (e' := .f32) x1 r0_1 = x1 := View.ld_unit_lit (e := _) _ _ (by decide)

/-- The entry of the whole weight that the projection at row `r` and column `c` needs. -/
abbrev at_ (r : Fin 512) (c : Fin 2560) : EReal := proj (fun k => x0 (ix2 r k)) (fun k => x1 (ix2 0 k)) (fun k => x2 (ix2 k c))

theorem gate_apply (r : Fin 512) (c : Fin 1024) :
    out0_8 (F := Ideal) x0 x1 x2 (ix2 r c) = at_ x0 x1 x2 r ⟨1536 + c.val, by omega⟩ := by
  unfold out0_8
  rw [View.canon_cons_unit_lit _ _ _ (by decide)]
  rw [pay2_apply, ld_x, ld_g]
  refine congrArg (proj _ _) (funext fun k => congrArg x2 (funext fun a => ?_))
  match a with
  | ⟨0, _⟩ => exact Fin.ext (by simp)
  | ⟨1, _⟩ => exact Fin.ext (by simp)

theorem key_apply (r : Fin 512) (c : Fin 256) :
    out0_5 (F := Ideal) x0 x1 x2 (ix3 0 c r) = at_ x0 x1 x2 r ⟨1024 + c.val, by omega⟩ := by
  unfold out0_5
  rw [View.canon_cons_unit_lit _ _ _ (by decide), pay7_apply, ld_x, ld_g]
  refine congrArg (proj _ _) (funext fun k => congrArg x2 (funext fun a => ?_))
  match a with
  | ⟨0, _⟩ => exact Fin.ext (by simp)
  | ⟨1, _⟩ => exact Fin.ext (by simp)

theorem value_apply (r : Fin 512) (c : Fin 256) :
    out0_6 (F := Ideal) x0 x1 x2 (ix3 0 c r) = at_ x0 x1 x2 r ⟨1280 + c.val, by omega⟩ := by
  unfold out0_6
  rw [View.canon_cons_unit_lit _ _ _ (by decide), pay8_apply, ld_x, ld_g]
  refine congrArg (proj _ _) (funext fun k => congrArg x2 (funext fun a => ?_))
  match a with
  | ⟨0, _⟩ => exact Fin.ext (by simp)
  | ⟨1, _⟩ => exact Fin.ext (by simp)

theorem column_apply (r : Fin 512) (c : Fin 1024) :
    k0_pay4 (F := Ideal) (View.ld x0 r0_0) (View.ld x1 r0_1) (View.ld x2 r0_2) (ix2 r c) = at_ x0 x1 x2 r ⟨c.val, by omega⟩ := by
  rw [pay4_apply, ld_x, ld_g]
  refine congrArg (proj _ _) (funext fun k => congrArg x2 (funext fun a => ?_))
  match a with
  | ⟨0, _⟩ => exact Fin.ext (by simp)
  | ⟨1, _⟩ => exact Fin.ext (by simp)

/-- The tile of the head `4 h + g` is the columns `64 (4 h + g)` on of the product, scaled, in blocks of 128 rows. -/
theorem query_apply (h b g : Fin 4) (d : Fin 64) (l : Fin 128) :
    out0_3 (F := Ideal) x0 x1 x2 (ix5 0 h b d (⟨128 * g.val + l.val, by omega⟩ : Fin 512))
      = at_ x0 x1 x2 ⟨128 * b.val + l.val, by omega⟩ ⟨256 * h.val + 64 * g.val + d.val, by omega⟩ * base2 := by
  canon_tiles x e
  all_goals
    replace e1 : h.val = _ := e1
    replace e2 : b.val = _ := e2
    replace e3 : d.val = _ := e3
    replace e4 : 128 * g.val + l.val = _ := e4
  all_goals try (exfalso; omega)
  all_goals
    have hx : x = ix5 0 0 0 d l := by
      funext a
      match a with
      | ⟨0, _⟩ => exact Fin.ext (by show (x 0).val = 0; omega)
      | ⟨1, _⟩ => exact Fin.ext (by show (x 1).val = 0; omega)
      | ⟨2, _⟩ => exact Fin.ext (by show (x 2).val = 0; omega)
      | ⟨3, _⟩ => exact Fin.ext e3.symm
      | ⟨4, _⟩ => exact Fin.ext (by show (x 4).val = l.val; omega)
    subst hx
    pointwise [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay118, k0_pay115, k0_pay9]
    refine congrArg (· * base2) ((column_apply ..).trans (congrArg₂ (at_ x0 x1 x2) (Fin.ext ?_) (Fin.ext ?_)))
    all_goals
      replace e1 : h.val = _ + 0 := e1
      replace e2 : b.val = _ + 0 := e2
      first | replace e4 : _ = _ + l.val := e4 | replace e4 : _ = l.val := e4
      dsimp only
      omega

end Cert.Proj.K4
-- ==== Proof.Proj.Blocks4.lean ====
/-
  The blocks of the three operands that a point of the grid reads, as entries of the arguments.
-/
module

public import proofs.«01_k».proof.Proof.Proj.Rows
public import proofs.«01_k».proof.Proof.Gen.Kernel4Ideal.Frame
public import Idealize.ShloMosaic.Lib.Pipeline.ValueKit
public import Idealize.ShloMosaic.Lib.StableHlo.RunRead

@[expose] public section
set_option maxRecDepth 16384
noncomputable section
namespace Cert.Proj.K4
open Idealize.ShloMosaic Idealize.ShloMosaic.TcCoe Idealize.ShloMosaic.Tactic Cert.Kernel4Ideal Cert.Kernel4Ideal.Gen

/-- The windows' block indices at the point `t`: sequence `t / 16`, tile `t % 16` of its rows. -/
theorem idx : ∀ t : Fin cfg0.N, win0_0.index t = ![t.val, 0] ∧ win0_1.index t = ![0, 0] ∧ win0_2.index t = ![0, 0] := by decide +kernel

theorem N_eq : cfg0.N = 32 := by decide +kernel

variable (m : (ℓ : Loc nD τ sig) → Buf (Elt Ideal) ℓ) (c : Dev nD)

/-- The arguments. -/
abbrev argX : FVec Ideal S2x8192x1024 .f32 := m (c.tc.loc main_arg0)
abbrev argG : FVec Ideal S1024 .f32 := m (c.tc.loc main_arg1)
abbrev argW : FVec Ideal S1024x2560 .f32 := m (c.tc.loc main_arg2)

theorem V_x : V m c main_v0 = shapeCast S16384x1024 (argX m c) shapeCasts_S2x8192x1024_S16384x1024 := by
  unfold V V0
  simp only [hostOps0, List.flatten_cons, List.flatten_nil, List.append_nil, List.cons_append, List.nil_append]
  after_reads_simp
  rfl

theorem V_g : V m c main_v1 = shapeCast S1x1024 (argG m c) shapeCasts_S1024_S1x1024 := by
  unfold V V0
  simp only [hostOps0, List.flatten_cons, List.flatten_nil, List.append_nil, List.cons_append, List.nil_append]
  after_reads_simp
  rfl

theorem V_w : V m c main_v2 = truncf (F := Ideal) .bf16 (argW m c) bitsLt_bf16_f32 := by
  unfold V V0
  simp only [hostOps0, List.flatten_cons, List.flatten_nil, List.append_nil, List.cons_append, List.nil_append]
  after_reads_simp

variable (s : Fin 2) (u : Fin 16)

/-- The point of tile `u` of sequence `s`. -/
def point : Fin cfg0.N := ⟨16 * s.val + u.val, by rw [N_eq]; omega⟩

theorem blk0 (r : Fin 512) (k : Fin 1024) :
    iblk m c 0 (point s u) (ix2 r k) = argX m c (ix3 s ⟨512 * u.val + r.val, by omega⟩ k) := by
  have hi := (idx (point s u)).1
  rw [show (point s u).val = 16 * s.val + u.val from rfl] at hi
  have he : (win0_0.blk (point s u)).view.emb (ix2 r k) = ix2 (⟨8192 * s.val + (512 * u.val + r.val), by omega⟩ : Fin 16384) k := by blk_ext [hi]
  blk_simp [iblk, hi]
  rw [V_x, he]
  pointwise []
  refine congrArg (argX m c) (funext fun a => ?_)
  match a with
  | ⟨0, _⟩ => rfl
  | ⟨1, _⟩ => exact Fin.ext (by show (8192 * s.val + (512 * u.val + r.val)) % 8192 = 512 * u.val + r.val; omega)
  | ⟨2, _⟩ => rfl

theorem blk1 (t : Fin cfg0.N) (k : Fin 1024) : iblk m c 1 t (ix2 0 k) = argG m c (ix1 k) := by
  have he : (win0_1.blk t).view.emb (ix2 0 k) = ix2 0 k := by blk_ext [idx t]
  blk_simp [iblk, idx t]
  rw [V_g, he]
  pointwise []

theorem blk2 (t : Fin cfg0.N) (k : Fin 1024) (j : Fin 2560) : iblk m c 2 t (ix2 k j) = argW m c (ix2 k j) := by
  have he : (win0_2.blk t).view.emb (ix2 k j) = ix2 k j := by blk_ext [idx t]
  blk_simp [iblk, idx t]
  rw [V_w, he]
  pointwise []

end Cert.Proj.K4
-- ==== Proof.Proj.Array4.lean ====
/-
  The arrays that the launch leaves, at an index: every block is written back by the one point that computes it.
-/
module

public import proofs.«01_k».proof.Proof.Proj.Query4
public import proofs.«01_k».proof.Proof.Proj.Blocks4

@[expose] public section
set_option backward.proofsInPublic true
set_option maxRecDepth 16384
noncomputable section
namespace Cert.Proj.K4
open Idealize.ShloMosaic Idealize.ShloMosaic.TcCoe Idealize.ShloMosaic.Tactic Cert.Kernel4Ideal Cert.Kernel4Ideal.Gen

theorem idx_out : ∀ t : Fin cfg0.N, win0_3.index t = ![t.val / 16, 0, t.val % 16, 0, 0] ∧ win0_5.index t = ![t.val / 16, 0, t.val % 16]
    ∧ win0_6.index t = ![t.val / 16, 0, t.val % 16] ∧ win0_8.index t = ![t.val, 0] := by
  decide +kernel

variable (m : (ℓ : Loc nD τ sig) → Buf (Elt Ideal) ℓ) (c : Dev nD) (s : Fin 2) (u : Fin 16) (r : Fin 512)

/-- Row `t` of sequence `s`, normalised, against column `j` of the weight. -/
def prj (s : Fin 2) (t : Fin 8192) (j : Fin 2560) : EReal :=
  proj (fun k => argX m c (ix3 s t k)) (fun k => argG m c (ix1 k)) (fun k => argW m c (ix2 k j))

/-- Row `r` of tile `u`. -/
abbrev row (u : Fin 16) (r : Fin 512) : Fin 8192 := ⟨512 * u.val + r.val, by omega⟩

theorem point_at (j : Fin 2560) :
    at_ (iblk m c 0 (point s u)) (iblk m c 1 (point s u)) (iblk m c 2 (point s u)) r j = prj m c s (row u r) j := by
  unfold at_ prj
  simp only [blk0, blk1, blk2]

theorem point_div : (point s u).val / 16 = s.val := by show (16 * s.val + u.val) / 16 = _; omega
theorem point_mod : (point s u).val % 16 = u.val := by show (16 * s.val + u.val) % 16 = _; omega

theorem arr_q (h b g : Fin 4) (d : Fin 64) (l : Fin 128) :
    (dats m 0 c).arrAt 3 cfg0.N (ix5 s h (⟨4 * u.val + b.val, by omega⟩ : Fin 64) d (⟨128 * g.val + l.val, by omega⟩ : Fin 512))
      = prj m c s (row u ⟨128 * b.val + l.val, by omega⟩) ⟨256 * h.val + 64 * g.val + d.val, by omega⟩ * base2 := by
  have hi := (idx_out (point s u)).1
  rw [point_div, point_mod] at hi
  have he : (win0_3.blk (point s u)).view.emb (ix5 0 h b d (⟨128 * g.val + l.val, by omega⟩ : Fin 512))
      = ix5 s h (⟨4 * u.val + b.val, by omega⟩ : Fin 64) d (⟨128 * g.val + l.val, by omega⟩ : Fin 512) := by blk_ext [hi]
  have hf := (dats m 0 c).arrAt_emb_eq_flushed 3 (Pipeline.Window.hdisj_of_index_inj _ (by decide +kernel)) (point s u) (flush0_3 _)
    (ix5 0 h b d (⟨128 * g.val + l.val, by omega⟩ : Fin 512))
  rw [← he]
  refine hf.trans ?_
  show (dats m 0 c).after 3 (point s u) (ix5 0 h b d (⟨128 * g.val + l.val, by omega⟩ : Fin 512)) = _
  rw [after0_3]
  refine (query_apply ..).trans ?_
  rw [point_at]

theorem arr_k (j : Fin 256) :
    (dats m 0 c).arrAt 5 cfg0.N (ix3 s j (row u r)) = prj m c s (row u r) ⟨1024 + j.val, by omega⟩ := by
  have hi := (idx_out (point s u)).2.1
  rw [point_div, point_mod] at hi
  have he : (win0_5.blk (point s u)).view.emb (ix3 0 j r) = (ix3 s j (row u r)) := by blk_ext [hi]
  have hf := (dats m 0 c).arrAt_emb_eq_flushed 5 (Pipeline.Window.hdisj_of_index_inj _ (by decide +kernel)) (point s u) (flush0_5 _) (ix3 0 j r)
  rw [← he]
  refine hf.trans ?_
  show (dats m 0 c).after 5 (point s u) (ix3 0 j r) = _
  rw [after0_5]
  refine (key_apply ..).trans ?_
  rw [point_at]

theorem arr_v (j : Fin 256) :
    (dats m 0 c).arrAt 6 cfg0.N (ix3 s j (row u r)) = prj m c s (row u r) ⟨1280 + j.val, by omega⟩ := by
  have hi := (idx_out (point s u)).2.2.1
  rw [point_div, point_mod] at hi
  have he : (win0_6.blk (point s u)).view.emb (ix3 0 j r) = (ix3 s j (row u r)) := by blk_ext [hi]
  have hf := (dats m 0 c).arrAt_emb_eq_flushed 6 (Pipeline.Window.hdisj_of_index_inj _ (by decide +kernel)) (point s u) (flush0_6 _) (ix3 0 j r)
  rw [← he]
  refine hf.trans ?_
  show (dats m 0 c).after 6 (point s u) (ix3 0 j r) = _
  rw [after0_6]
  refine (value_apply ..).trans ?_
  rw [point_at]

theorem arr_gate (j : Fin 1024) :
    (dats m 0 c).arrAt 8 cfg0.N (ix2 (⟨8192 * s.val + (512 * u.val + r.val), by omega⟩ : Fin 16384) j) = prj m c s (row u r) ⟨1536 + j.val, by omega⟩ := by
  have hi := (idx_out (point s u)).2.2.2
  rw [show (point s u).val = 16 * s.val + u.val from rfl] at hi
  have he : (win0_8.blk (point s u)).view.emb (ix2 r j) = (ix2 (⟨8192 * s.val + (512 * u.val + r.val), by omega⟩ : Fin 16384) j) := by blk_ext [hi]
  have hf := (dats m 0 c).arrAt_emb_eq_flushed 8 (Pipeline.Window.hdisj_of_index_inj _ (by decide +kernel)) (point s u) (flush0_8 _) (ix2 r j)
  rw [← he]
  refine hf.trans ?_
  show (dats m 0 c).after 8 (point s u) (ix2 r j) = _
  rw [after0_8]
  refine (gate_apply ..).trans ?_
  rw [point_at]

end Cert.Proj.K4
-- ==== Proof.Proj.Run4.lean ====
/-
  The results of the program: the launch's arrays, laid out by tokens.
-/
module

public import proofs.«01_k».proof.Proof.Proj.Array4

@[expose] public section
set_option backward.proofsInPublic true
set_option maxRecDepth 16384
noncomputable section
namespace Cert.Proj.K4
open Idealize.ShloMosaic Idealize.ShloMosaic.TcCoe Idealize.ShloMosaic.Tactic Idealize.SL.Sem Cert.Kernel4Ideal Cert.Kernel4Ideal.Gen

variable (m : (ℓ : Loc nD τ sig) → Buf (Elt Ideal) ℓ) (c : Dev nD) (ρ : Dev nD → PrngReg)

/-- What the lines after the launch leave. -/
abbrev tail (b : Ref sig .tc) : Buf (Elt Ideal) ((c : Thread nD τ).loc b) := Pipeline.afterTail₀ cfgs (dats m) 0 (V0 m) [hostOps1] c b

theorem tail_q : (tail m c main_v7 : FVec Ideal S2x8192x16x64 .f32) = extf (F := Ideal) .f32
    (shapeCast S2x8192x16x64 (transpose S2x64x128x4x4x64 [0, 2, 5, 1, 4, 3]
      (shapeCast S2x4x64x64x4x128 ((dats m 0 c).arrAt 3 cfg0.N : FVec Ideal S2x4x64x64x512 .bf16) shapeCasts_S2x4x64x64x512_S2x4x64x64x4x128)
      transposes_S2x4x64x64x4x128_S2x64x128x4x4x64_0_2_5_1_4_3)
      shapeCasts_S2x64x128x4x4x64_S2x8192x16x64) bitsLt_bf16_f32 := by
  unfold tail Pipeline.afterTail₀
  simp only [hostOps1, List.flatten_cons, List.flatten_nil, List.append_nil, List.cons_append, List.nil_append]
  after_reads_simp
  rw [show Pipeline.withArrays _ c (V0 m c) _ (Proc.tc.devRef main_v3_0) = _ from
    Pipeline.withArrays_arr (cfgs 0).spec launch0.win.arr_inj c (V0 m c) (fun w => (dats m 0 c).arrAt w (cfgs 0).N) 3]
  rfl

/-- The last 128 rows of the keys' or values' array, by tokens. -/
def last (y : FVec Ideal S2x256x8192 .f32) : FVec Ideal S2x128x4x64 .f32 := transpose S2x128x4x64 [0, 3, 1, 2]
  (shapeCast S2x4x64x128 (extractStridedSlice S2x256x128 ![0, 0, 8064] y slices_S2x256x8192_S2x256x128_0_0_8064) shapeCasts_S2x256x128_S2x4x64x128)
  transposes_S2x4x64x128_S2x128x4x64_0_3_1_2

theorem tail_k : (tail m c main_v10 : FVec Ideal S2x128x4x64 .f32) = last ((dats m 0 c).arrAt 5 cfg0.N : FVec Ideal S2x256x8192 .f32) := by
  unfold tail Pipeline.afterTail₀
  simp only [hostOps1, List.flatten_cons, List.flatten_nil, List.append_nil, List.cons_append, List.nil_append]
  after_reads_simp
  rw [show Pipeline.withArrays _ c (V0 m c) _ (Proc.tc.devRef main_v3_2) = _ from
    Pipeline.withArrays_arr (cfgs 0).spec launch0.win.arr_inj c (V0 m c) (fun w => (dats m 0 c).arrAt w (cfgs 0).N) 5]
  rfl

theorem tail_v : (tail m c main_v13 : FVec Ideal S2x128x4x64 .f32) = last ((dats m 0 c).arrAt 6 cfg0.N : FVec Ideal S2x256x8192 .f32) := by
  unfold tail Pipeline.afterTail₀
  simp only [hostOps1, List.flatten_cons, List.flatten_nil, List.append_nil, List.cons_append, List.nil_append]
  after_reads_simp
  rw [show Pipeline.withArrays _ c (V0 m c) _ (Proc.tc.devRef main_v3_3) = _ from
    Pipeline.withArrays_arr (cfgs 0).spec launch0.win.arr_inj c (V0 m c) (fun w => (dats m 0 c).arrAt w (cfgs 0).N) 6]
  rfl

variable (s : Fin 2) (u : Fin 16)

theorem q_entry (h b g : Fin 4) (d : Fin 64) (l : Fin 128) :
    (tail m c main_v7 : FVec Ideal S2x8192x16x64 .f32) (ix4 s (row u ⟨128 * b.val + l.val, by omega⟩) (⟨4 * h.val + g.val, by omega⟩ : Fin 16) d)
      = prj m c s (row u ⟨128 * b.val + l.val, by omega⟩) ⟨256 * h.val + 64 * g.val + d.val, by omega⟩ * base2 := by
  rw [tail_q, ← arr_q]
  generalize (dats m 0 c).arrAt 3 cfg0.N = y
  change FVec Ideal S2x4x64x64x512 .bf16 at y
  pointwise []
  refine congrArg y (funext fun a => ?_)
  match a with
  | ⟨0, _⟩ => rfl
  | ⟨1, _⟩ => rfl
  | ⟨2, _⟩ => exact Fin.ext (by show (512 * u.val + (128 * b.val + l.val)) / 128 = 4 * u.val + b.val; omega)
  | ⟨3, _⟩ => rfl
  | ⟨4, _⟩ => exact Fin.ext (by show g.val * 128 + (512 * u.val + (128 * b.val + l.val)) % 128 = 128 * g.val + l.val; omega)

theorem last_apply (y : FVec Ideal S2x256x8192 .f32) (s : Fin 2) (l : Fin 128) (h : Fin 4) (d : Fin 64) :
    last y (ix4 s l h d) = y (ix3 s ⟨64 * h.val + d.val, by omega⟩ ⟨8064 + l.val, by omega⟩) := by
  unfold last
  pointwise []
  exact congrArg (fun i => y (ix3 s i ⟨8064 + l.val, by omega⟩)) (Fin.ext (by dsimp only; omega))

/-- The last 128 tokens are the last rows of the last tile. -/
theorem row_last (l : Fin 128) : row 15 ⟨384 + l.val, by omega⟩ = ⟨8064 + l.val, by omega⟩ := Fin.ext (by show 512 * 15 + (384 + l.val) = 8064 + l.val; omega)

theorem k_entry (l : Fin 128) (h : Fin 4) (d : Fin 64) : (tail m c main_v10 : FVec Ideal S2x128x4x64 .f32) (ix4 s l h d)
    = prj m c s ⟨8064 + l.val, by omega⟩ ⟨1024 + (64 * h.val + d.val), by omega⟩ := by
  rw [tail_k]
  refine Eq.trans ?_ ((arr_k m c s 15 ⟨384 + l.val, by omega⟩ ⟨64 * h.val + d.val, by omega⟩).trans (congrArg (fun t => prj m c s t _) (row_last l)))
  rw [row_last]
  generalize (dats m 0 c).arrAt 5 cfg0.N = y
  exact last_apply ..

theorem v_entry (l : Fin 128) (h : Fin 4) (d : Fin 64) : (tail m c main_v13 : FVec Ideal S2x128x4x64 .f32) (ix4 s l h d)
    = prj m c s ⟨8064 + l.val, by omega⟩ ⟨1280 + (64 * h.val + d.val), by omega⟩ := by
  rw [tail_v]
  refine Eq.trans ?_ ((arr_v m c s 15 ⟨384 + l.val, by omega⟩ ⟨64 * h.val + d.val, by omega⟩).trans (congrArg (fun t => prj m c s t _) (row_last l)))
  rw [row_last]
  generalize (dats m 0 c).arrAt 6 cfg0.N = y
  exact last_apply ..

/-- The run's results. -/
theorem run_results : θ_run defs (onTc (τ := τ) (main (F := Ideal))) ⟨m, fun _ => 0, ρ⟩ fun r => ∀ c : Dev nD,
    r.2.mem ((c.tc : Thread nD τ).loc main_v7) = tail m c main_v7 ∧ r.2.mem ((c.tc : Thread nD τ).loc main_v10) = tail m c main_v10
    ∧ r.2.mem ((c.tc : Thread nD τ).loc main_v13) = tail m c main_v13
    ∧ r.2.mem ((c.tc : Thread nD τ).loc main_v3_5) = (dats m 0 c).arrAt 8 cfg0.N :=
  (θ_run defs _ _).mono (fun r h c => ⟨(h c).2 _ (Pipeline.mem_restRefs_of main_v7 (by decide) (by decide)),
    (h c).2 _ (Pipeline.mem_restRefs_of main_v10 (by decide) (by decide)), (h c).2 _ (Pipeline.mem_restRefs_of main_v13 (by decide) (by decide)),
    (h c).1 8⟩) (run_main m ρ)

end Cert.Proj.K4
-- ==== Proof.Proj.Ref4.lean ====
/-
  The reference's results, at an index.
-/
module

public import proofs.«01_k».proof.Proof.Proj.Rows
public import proofs.«01_k».proof.Proof.Gen.Reference4Ideal.Read
public import Idealize.ShloMosaic.Lib.Pipeline.ValueKit

@[expose] public section
set_option maxRecDepth 16384
noncomputable section
namespace Cert.Proj.R4
open Idealize.ShloMosaic Idealize.ShloMosaic.TcCoe Idealize.ShloMosaic.Tactic Cert.Proj Cert.Reference4Ideal Cert.Reference4Ideal.Gen Cert.Reference4Ideal.Read

variable (x : FVec Ideal S2x8192x1024 .f32) (g : FVec Ideal S1024 .f32) (w : FVec Ideal S1024x2560 .f32)

theorem norm_row (s : Fin 2) (t : Fin 8192) (k : Fin 1024) :
    val_main_v12 (F := Ideal) x g (ix3 s t k) = Pool.rms (fun k => x (ix3 s t k)) (fun k => g (ix1 k)) k := by
  rw [val_main_v12_apply, val_main_v11_apply, val_main_v10_apply, val_main_v9_apply, val_main_v8_apply, val_main_v7_apply,
    val_main_v6_apply, val_main_v5_apply, val_main_v4_apply, val_main_v3_apply, val_main_v2_apply, val_main_v1_apply]
  simp only [val_main_v0_apply, val_main_cst_apply, val_main_cst_0_apply, val_main_cst_1_apply]
  have hs : ∀ j : Fin 1024, idx_main_v1 (idx_main_v2 (idx_main_v8 (ix3 s t k))) j = ix3 s t j := fun j => funext fun a => by
    match a with | ⟨0, _⟩ => rfl | ⟨1, _⟩ => rfl | ⟨2, _⟩ => rfl
  simp only [hs]
  rw [show idx_main_v10 (idx_main_v11 (ix3 s t k)) = ix1 k from funext fun a => by match a with | ⟨0, _⟩ => rfl]
  unfold Pool.rms Pool.eps Pool.width1024
  rw [show (FloatOps.ofBits (F := Ideal) .f32 0x00000000#32 : EReal) = 0 from Ideal.ofBits_zero_f32, zero_add]
  rfl

/-- Row `t` of sequence `s`, normalised, against column `j` of the weight. -/
abbrev prj (s : Fin 2) (t : Fin 8192) (j : Fin 2560) : EReal :=
  proj (fun k => x (ix3 s t k)) (fun k => g (ix1 k)) (fun k => w (ix2 k j))

theorem product (s : Fin 2) (t : Fin 8192) (j : Fin 2560) : val_main_v13 (F := Ideal) x g w (ix3 s t j) = prj x g w s t j := by
  unfold val_main_v13 prj proj
  simp only [← norm_row]
  generalize val_main_v12 (F := Ideal) x g = y
  pointwise []

theorem q_entry (s : Fin 2) (t : Fin 8192) (h g' : Fin 4) (d : Fin 64) :
    val_main_v23 (F := Ideal) x g w (ix4 s t (⟨4 * h.val + g'.val, by omega⟩ : Fin 16) d)
      = prj x g w s t ⟨256 * h.val + 64 * g'.val + d.val, by omega⟩ * base2 := by
  rw [← product]
  unfold val_main_v23 val_main_v18 val_main_v14 val_main_v22 val_main_v21 val_main_v20 val_main_v19 val_main_cst_2 val_main_cst_3
  generalize val_main_v13 (F := Ideal) x g w = y
  pointwise []
  exact congrArg₂ (· * ·) (congrArg (fun i => y (ix3 s t i)) (Fin.ext (by dsimp only; omega))) scale_word

theorem k_entry (s : Fin 2) (l : Fin 128) (h : Fin 4) (d : Fin 64) :
    val_main_v25 (F := Ideal) x g w (ix4 s l h d) = prj x g w s ⟨8064 + l.val, by omega⟩ ⟨1024 + (64 * h.val + d.val), by omega⟩ := by
  rw [← product]
  unfold val_main_v25 val_main_v24 val_main_v15
  generalize val_main_v13 (F := Ideal) x g w = y
  pointwise []
  exact congrArg (fun i => y (ix3 s ⟨8064 + l.val, by omega⟩ i)) (Fin.ext (by dsimp only; omega))

theorem v_entry (s : Fin 2) (l : Fin 128) (h : Fin 4) (d : Fin 64) :
    val_main_v27 (F := Ideal) x g w (ix4 s l h d) = prj x g w s ⟨8064 + l.val, by omega⟩ ⟨1280 + (64 * h.val + d.val), by omega⟩ := by
  rw [← product]
  unfold val_main_v27 val_main_v26 val_main_v16
  generalize val_main_v13 (F := Ideal) x g w = y
  pointwise []
  exact congrArg (fun i => y (ix3 s ⟨8064 + l.val, by omega⟩ i)) (Fin.ext (by dsimp only; omega))

theorem gate_entry (s : Fin 2) (t : Fin 8192) (j : Fin 1024) :
    val_main_v28 (F := Ideal) x g w (ix2 (⟨8192 * s.val + t.val, by omega⟩ : Fin 16384) j) = prj x g w s t ⟨1536 + j.val, by omega⟩ := by
  rw [← product]
  unfold val_main_v28 val_main_v17
  generalize val_main_v13 (F := Ideal) x g w = y
  pointwise []

end Cert.Proj.R4
-- ==== Proof.Proj.Agree4.lean ====
/-
  The projection into the windowed attention: the program's results are the reference's.
-/
module

public import proofs.«01_k».proof.Defs
public import proofs.«01_k».proof.Proof.Gen.Kernel4
public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Read
public import proofs.«01_k».proof.Proof.Gen.Reference4Ideal.Run
public import proofs.«01_k».proof.Proof.Proj.Run4
public import proofs.«01_k».proof.Proof.Proj.Ref4

@[expose] public section
set_option backward.proofsInPublic true
noncomputable section
namespace Cert.Proj.K4
open Idealize.ShloMosaic Idealize.ShloMosaic.TcCoe Idealize.SL.Sem

variable (m : (ℓ : Loc Kernel4Ideal.nD Kernel4Ideal.τ Kernel4Ideal.sig) → Buf (Elt Ideal) ℓ) (c : Dev Kernel4Ideal.nD)

/-- A token is a row of a block of 128 of a tile. -/
theorem row_split (t : Fin 8192) :
    t = row (⟨t.val / 512, by omega⟩ : Fin 16) ⟨128 * (t.val % 512 / 128) + t.val % 128, by omega⟩ := Fin.ext (by dsimp only; omega)

theorem agree_q : Reference4Ideal.Read.val_main_v23 (F := Ideal) (argX m c) (argG m c) (argW m c) = tail m c Kernel4Ideal.main_v7 := by
  funext i
  have hh : (i 2).val < 16 := (i 2).isLt
  have ht : (i 1).val < 8192 := (i 1).isLt
  have ei : i = ix4 (i 0) (row (⟨(i 1).val / 512, by omega⟩ : Fin 16) ⟨128 * ((i 1).val % 512 / 128) + (i 1).val % 128, by omega⟩)
      (⟨4 * ((i 2).val / 4) + (i 2).val % 4, by omega⟩ : Fin 16) (i 3) := funext fun a => by
    match a with
    | ⟨0, _⟩ => rfl
    | ⟨1, _⟩ => exact row_split (i 1)
    | ⟨2, _⟩ => exact Fin.ext (by show (i 2).val = 4 * ((i 2).val / 4) + (i 2).val % 4; omega)
    | ⟨3, _⟩ => rfl
  rw [ei]
  exact (R4.q_entry _ _ _ _ _ ⟨(i 2).val / 4, by omega⟩ ⟨(i 2).val % 4, by omega⟩ _).trans
    (q_entry m c _ _ ⟨(i 2).val / 4, by omega⟩ ⟨(i 1).val % 512 / 128, by omega⟩ ⟨(i 2).val % 4, by omega⟩ _ ⟨(i 1).val % 128, by omega⟩).symm

theorem agree_k : Reference4Ideal.Read.val_main_v25 (F := Ideal) (argX m c) (argG m c) (argW m c) = tail m c Kernel4Ideal.main_v10 := by
  funext i
  have ei : i = ix4 (i 0) (i 1) (i 2) (i 3) := funext fun a => by match a with | ⟨0, _⟩ => rfl | ⟨1, _⟩ => rfl | ⟨2, _⟩ => rfl | ⟨3, _⟩ => rfl
  rw [ei]
  exact (R4.k_entry ..).trans (k_entry m c ..).symm

theorem agree_v : Reference4Ideal.Read.val_main_v27 (F := Ideal) (argX m c) (argG m c) (argW m c) = tail m c Kernel4Ideal.main_v13 := by
  funext i
  have ei : i = ix4 (i 0) (i 1) (i 2) (i 3) := funext fun a => by match a with | ⟨0, _⟩ => rfl | ⟨1, _⟩ => rfl | ⟨2, _⟩ => rfl | ⟨3, _⟩ => rfl
  rw [ei]
  exact (R4.v_entry ..).trans (v_entry m c ..).symm

theorem agree_gate : Reference4Ideal.Read.val_main_v28 (F := Ideal) (argX m c) (argG m c) (argW m c)
    = (Kernel4Ideal.Gen.dats m 0 c).arrAt 8 Kernel4Ideal.cfg0.N := by
  funext i
  have h0 : (i 0).val < 16384 := (i 0).isLt
  have ei : i = ix2 (⟨8192 * ((i 0).val / 8192) + (512 * ((i 0).val % 8192 / 512) + (i 0).val % 512), by omega⟩ : Fin 16384) (i 1) := funext fun a => by
    match a with
    | ⟨0, _⟩ => exact Fin.ext (by show (i 0).val = 8192 * ((i 0).val / 8192) + (512 * ((i 0).val % 8192 / 512) + (i 0).val % 512); omega)
    | ⟨1, _⟩ => rfl
  rw [ei]
  exact (R4.gate_entry _ _ _ ⟨(i 0).val / 8192, by omega⟩ (row ⟨(i 0).val % 8192 / 512, by omega⟩ ⟨(i 0).val % 512, by omega⟩) (i 1)).trans
    (arr_gate m c ⟨(i 0).val / 8192, by omega⟩ ⟨(i 0).val % 8192 / 512, by omega⟩ ⟨(i 0).val % 512, by omega⟩ (i 1)).symm

/-- The reference's run leaves the arguments alone, and it has no semaphore. -/
theorem frame_reference : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- The projection's value claim. -/
theorem value_projection : Cert.algebraic_Kernel4Ideal_Reference4Ideal := by
  intro m ρ m' ρ' _ hagree
  refine ⟨fun c => tail m c Kernel4Ideal.main_v7, fun c => tail m c Kernel4Ideal.main_v10, fun c => tail m c Kernel4Ideal.main_v13,
    fun c => (Kernel4Ideal.Gen.dats m 0 c).arrAt 8 Kernel4Ideal.cfg0.N, ?_, ?_⟩
  · refine (θ_run Cert.Kernel4Ideal.defs _ _).mono (fun r h c => ?_) (θ_run_and (run_results m ρ) (Kernel4Ideal.Gen.frame m ρ))
    obtain ⟨hq, hk, hv, hg⟩ := h.1 c
    exact ⟨hq, hk, hv, hg, h.2.1 c⟩
  · refine (θ_run Cert.Reference4Ideal.defs _ _).mono (fun r h c => ?_) (Cert.Reference4Ideal.Value.run (F := Ideal) m' ρ')
    obtain ⟨h0, h1, h2⟩ := hagree c
    obtain ⟨hq, hk, hv, hg, hargs⟩ := h c
    rw [h0, h1, h2] at hq hk hv hg
    exact ⟨hq.trans (agree_q m c), hk.trans (agree_k m c), hv.trans (agree_v m c), hg.trans (agree_gate m c), hargs⟩

end Cert.Proj.K4
-- ==== Proof.Sample.Pay5.lean ====
/-
  The vector expressions of the projection into the forgetting attention, for one new token of every sequence, at an index.
-/
module

public import proofs.«01_k».proof.Proof.Proj.Rows
public import proofs.«01_k».proof.Proof.Gen.Kernel5Ideal.Skeleton

@[expose] public section
set_option maxRecDepth 16384
noncomputable section
namespace Cert.Proj.K5
open Idealize.ShloMosaic Cert.Proj Cert.Kernel5Ideal Cert.Kernel5Ideal.Gen

variable (x : FVec Ideal S128x1024 .f32) (g : FVec Ideal S1x1024 .f32) (r : Fin 128)

theorem pay2_apply (c : Fin 1024) : k0_pay2 (F := Ideal) x g (ix2 r c) = Pool.rms (fun k => x (ix2 r k)) (fun k => g (ix2 0 k)) c := by
  pointwise [k0_pay2]
  rfl

theorem pay3_apply (w : FVec Ideal S1024x1024 .bf16) (c : Fin 1024) : k0_pay3 (F := Ideal) x g w (ix2 r c)
    = proj (fun k => x (ix2 r k)) (fun k => g (ix2 0 k)) (fun k => w (ix2 k c)) := by
  unfold k0_pay3 proj
  simp only [← pay2_apply]
  generalize k0_pay2 (F := Ideal) x g = y
  pointwise []

theorem pay1_apply (w : FVec Ideal S1024x1024 .bf16) (c : Fin 1024) : k0_pay1 (F := Ideal) (k0_pay2 x g) w (ix2 r c)
    = proj (fun k => x (ix2 r k)) (fun k => g (ix2 0 k)) (fun k => w (ix2 k c)) := by
  unfold k0_pay1 proj
  simp only [← pay2_apply]
  generalize k0_pay2 (F := Ideal) x g = y
  pointwise []

theorem pay6_apply (w : FVec Ideal S1024x256 .bf16) (c : Fin 256) : k0_pay6 (F := Ideal) x g w (ix3 0 c r)
    = proj (fun k => x (ix2 r k)) (fun k => g (ix2 0 k)) (fun k => w (ix2 k c)) := by
  unfold k0_pay6 k0_pay4 proj
  simp only [← pay2_apply]
  generalize k0_pay2 (F := Ideal) x g = y
  pointwise []

theorem pay7_apply (w : FVec Ideal S1024x256 .bf16) (c : Fin 256) : k0_pay7 (F := Ideal) x g w (ix3 0 c r)
    = proj (fun k => x (ix2 r k)) (fun k => g (ix2 0 k)) (fun k => w (ix2 k c)) := by
  unfold k0_pay7 k0_pay5 proj
  simp only [← pay2_apply]
  generalize k0_pay2 (F := Ideal) x g = y
  pointwise []

theorem pay9_apply (w : FVec Ideal S1024x128 .bf16) (b : FVec Ideal S1x128 .f32) (c : Fin 16) :
    k0_pay9 (F := Ideal) (k0_pay2 x g) w b (ix3 0 c r)
    = logSigmoid (proj (fun k => x (ix2 r k)) (fun k => g (ix2 0 k)) (fun k => w (ix2 k ⟨c.val, by omega⟩)) + b (ix2 0 ⟨c.val, by omega⟩)) := by
  unfold k0_pay9 k0_pay8 proj
  simp only [← pay2_apply]
  generalize k0_pay2 (F := Ideal) x g = y
  pointwise []
  unfold logSigmoid
  simp only [zero_sub]
  rfl

/-- `1 / √64`, the scale of the queries. -/
def eighth : EReal := Ideal.ofBits .f32 0x3E000000#32

theorem pay10_apply (y : FVec Ideal S128x1024 .f32) (c : Fin 1024) : k0_pay10 (F := Ideal) y (ix2 r c) = y (ix2 r c) * eighth := by
  pointwise [k0_pay10]
  rfl

end Cert.Proj.K5
-- ==== Proof.Sample.Query5.lean ====
/-
  What the point of the grid leaves, at an index.
-/
module

public import proofs.«01_k».proof.Proof.Sample.Pay5
public import proofs.«01_k».proof.Proof.Gen.Kernel5Ideal.Frame
public import Idealize.ShloMosaic.Lib.Pipeline.ValueKit

@[expose] public section
set_option maxRecDepth 16384
noncomputable section
namespace Cert.Proj.K5
open Idealize.ShloMosaic Cert.Proj Cert.Kernel5Ideal Cert.Kernel5Ideal.Gen

variable (x0 : FVec Ideal S128x1024 .f32) (x1 : FVec Ideal S1x1024 .f32) (x2 : FVec Ideal S1024x2560 .bf16)
    (x3 : FVec Ideal S1024x128 .bf16) (x4 : FVec Ideal S1x128 .f32)

theorem ld_x : View.ld (Val := Elt Ideal) (e' := .f32) x0 r0_0 = x0 := View.ld_unit_lit (e := _) _ _ (by decide)
theorem ld_g : View.ld (Val := Elt Ideal) (e' := .f32) x1 r0_1 = x1 := View.ld_unit_lit (e := _) _ _ (by decide)
theorem ld_wf : View.ld (Val := Elt Ideal) (e' := .bf16) x3 r0_6 = x3 := View.ld_unit_lit (e := _) _ _ (by decide)
theorem ld_fb : View.ld (Val := Elt Ideal) (e' := .f32) x4 r0_7 = x4 := View.ld_unit_lit (e := _) _ _ (by decide)

/-- The entry of the whole weight that the projection at row `r` and column `c` needs. -/
abbrev at_ (r : Fin 128) (c : Fin 2560) : EReal := proj (fun k => x0 (ix2 r k)) (fun k => x1 (ix2 0 k)) (fun k => x2 (ix2 k c))

theorem gate_apply (r : Fin 128) (c : Fin 1024) :
    out0_12 (F := Ideal) x0 x1 x2 x3 x4 (ix2 r c) = at_ x0 x1 x2 r ⟨1536 + c.val, by omega⟩ := by
  unfold out0_12
  rw [View.canon_cons_unit_lit _ _ _ (by decide)]
  unfold k0_pay12
  rw [pay1_apply, ld_x, ld_g]
  refine congrArg (proj _ _) (funext fun k => congrArg x2 (funext fun a => ?_))
  match a with
  | ⟨0, _⟩ => exact Fin.ext (by simp)
  | ⟨1, _⟩ => exact Fin.ext (by simp)

theorem key_apply (r : Fin 128) (c : Fin 256) :
    out0_8 (F := Ideal) x0 x1 x2 x3 x4 (ix3 0 c r) = at_ x0 x1 x2 r ⟨1024 + c.val, by omega⟩ := by
  unfold out0_8
  rw [View.canon_cons_unit_lit _ _ _ (by decide), pay6_apply, ld_x, ld_g]
  refine congrArg (proj _ _) (funext fun k => congrArg x2 (funext fun a => ?_))
  match a with
  | ⟨0, _⟩ => exact Fin.ext (by simp)
  | ⟨1, _⟩ => exact Fin.ext (by simp)

theorem value_apply (r : Fin 128) (c : Fin 256) :
    out0_9 (F := Ideal) x0 x1 x2 x3 x4 (ix3 0 c r) = at_ x0 x1 x2 r ⟨1280 + c.val, by omega⟩ := by
  unfold out0_9
  rw [View.canon_cons_unit_lit _ _ _ (by decide), pay7_apply, ld_x, ld_g]
  refine congrArg (proj _ _) (funext fun k => congrArg x2 (funext fun a => ?_))
  match a with
  | ⟨0, _⟩ => exact Fin.ext (by simp)
  | ⟨1, _⟩ => exact Fin.ext (by simp)

theorem forget_apply (r : Fin 128) (c : Fin 16) : out0_11 (F := Ideal) x0 x1 x2 x3 x4 (ix3 0 c r)
    = logSigmoid (proj (fun k => x0 (ix2 r k)) (fun k => x1 (ix2 0 k)) (fun k => x3 (ix2 k ⟨c.val, by omega⟩)) + x4 (ix2 0 ⟨c.val, by omega⟩)) := by
  unfold out0_11
  rw [View.canon_cons_unit_lit _ _ _ (by decide)]
  unfold k0_pay12
  rw [pay9_apply, ld_x, ld_g, ld_wf, ld_fb]

theorem query_apply (r : Fin 128) (c : Fin 1024) :
    out0_5 (F := Ideal) x0 x1 x2 x3 x4 (ix2 r c) = at_ x0 x1 x2 r ⟨c.val, by omega⟩ * eighth := by
  unfold out0_5
  rw [View.canon_cons_unit_lit _ _ _ (by decide), pay10_apply, pay3_apply, ld_x, ld_g]
  refine congrArg (fun w => proj _ _ w * eighth) (funext fun k => congrArg x2 (funext fun a => ?_))
  match a with
  | ⟨0, _⟩ => exact Fin.ext (by simp)
  | ⟨1, _⟩ => exact Fin.ext (by simp)

end Cert.Proj.K5
-- ==== Proof.Sample.Blocks5.lean ====
/-
  The blocks of the five operands that the point of the grid reads, as entries of the arguments.
-/
module

public import proofs.«01_k».proof.Proof.Proj.Rows
public import proofs.«01_k».proof.Proof.Gen.Kernel5Ideal.Frame
public import Idealize.ShloMosaic.Lib.Pipeline.ValueKit
public import Idealize.ShloMosaic.Lib.StableHlo.RunRead

@[expose] public section
set_option maxRecDepth 16384
noncomputable section
namespace Cert.Proj.K5
open Idealize.ShloMosaic Idealize.ShloMosaic.TcCoe Idealize.ShloMosaic.Tactic Cert.Kernel5Ideal Cert.Kernel5Ideal.Gen

/-- The windows' block indices: every operand is one block. -/
theorem idx : ∀ t : Fin cfg0.N, win0_0.index t = ![0, 0] ∧ win0_1.index t = ![0, 0] ∧ win0_2.index t = ![0, 0] ∧ win0_3.index t = ![0, 0]
    ∧ win0_4.index t = ![0, 0] := by decide +kernel

theorem N_eq : cfg0.N = 1 := by decide +kernel

variable (m : (ℓ : Loc nD τ sig) → Buf (Elt Ideal) ℓ) (c : Dev nD)

/-- The arguments. -/
abbrev argX : FVec Ideal S128x1x1024 .f32 := m (c.tc.loc main_arg0)
abbrev argG : FVec Ideal S1024 .f32 := m (c.tc.loc main_arg1)
abbrev argW : FVec Ideal S1024x2576 .f32 := m (c.tc.loc main_arg2)
abbrev argB : FVec Ideal S16 .f32 := m (c.tc.loc main_arg3)

theorem V_x : V m c main_v9 = shapeCast S128x1024 (argX m c) shapeCasts_S128x1x1024_S128x1024 := by
  unfold V V0
  simp only [hostOps0, hostOps0_1, hostOps0_2, hostOps0_3, hostOps0_4, List.flatten_cons, List.flatten_nil, List.append_nil, List.cons_append, List.nil_append]
  after_reads_simp
  rfl

theorem V_g : V m c main_v10 = shapeCast S1x1024 (argG m c) shapeCasts_S1024_S1x1024 := by
  unfold V V0
  simp only [hostOps0, hostOps0_1, hostOps0_2, hostOps0_3, hostOps0_4, List.flatten_cons, List.flatten_nil, List.append_nil, List.cons_append, List.nil_append]
  after_reads_simp
  rfl

theorem V_w : V m c main_v3 = truncf (F := Ideal) .bf16
    (concatenate S1024x2560 1 [⟨S1024x1536, extractStridedSlice S1024x1536 ![0, 0] (argW m c) slices_S1024x2576_S1024x1536_0_0⟩,
        ⟨S1024x1024, extractStridedSlice S1024x1024 ![0, 1552] (argW m c) slices_S1024x2576_S1024x1024_0_1552⟩]
      concatenates_S1024x1536_S1024x1024_S1024x2560_d1) bitsLt_bf16_f32 := by
  unfold V V0
  simp only [hostOps0, hostOps0_1, hostOps0_2, hostOps0_3, hostOps0_4, List.flatten_cons, List.flatten_nil, List.append_nil, List.cons_append, List.nil_append]
  after_reads_simp
  rfl

theorem V_wf : V m c main_v6 = truncf (F := Ideal) .bf16
    (pad S1024x128 ![0, 0] ![0, 112] ![0, 0] (extractStridedSlice S1024x16 ![0, 1536] (argW m c) slices_S1024x2576_S1024x16_0_1536)
      (sitofp (F := Ideal) .f32 (constantI S_ 32 0#32)) pads_S1024x16_S1024x128_000_01120 h_S_) bitsLt_bf16_f32 := by
  unfold V V0
  simp only [hostOps0, hostOps0_1, hostOps0_2, hostOps0_3, hostOps0_4, List.flatten_cons, List.flatten_nil, List.append_nil, List.cons_append, List.nil_append]
  after_reads_simp
  rfl

theorem V_fb : V m c main_v8 = shapeCast S1x128 (pad S128 ![0] ![112] ![0] (argB m c) (sitofp (F := Ideal) .f32 (constantI S_ 32 0#32)) pads_S16_S128_01120 h_S_)
    shapeCasts_S128_S1x128 := by
  unfold V V0
  simp only [hostOps0, hostOps0_1, hostOps0_2, hostOps0_3, hostOps0_4, List.flatten_cons, List.flatten_nil, List.append_nil, List.cons_append, List.nil_append]
  after_reads_simp
  rfl

theorem blk0 (t : Fin cfg0.N) (r : Fin 128) (k : Fin 1024) : iblk m c 0 t (ix2 r k) = argX m c (ix3 r 0 k) := by
  have he : (win0_0.blk t).view.emb (ix2 r k) = ix2 r k := by blk_ext [idx t]
  blk_simp [iblk, idx t]
  rw [V_x, he]
  pointwise []

theorem blk1 (t : Fin cfg0.N) (k : Fin 1024) : iblk m c 1 t (ix2 0 k) = argG m c (ix1 k) := by
  have he : (win0_1.blk t).view.emb (ix2 0 k) = ix2 0 k := by blk_ext [idx t]
  blk_simp [iblk, idx t]
  rw [V_g, he]
  pointwise []

theorem blk2_lo (t : Fin cfg0.N) (k : Fin 1024) (j : Fin 1536) :
    iblk m c 2 t (ix2 k ⟨j.val, by omega⟩) = argW m c (ix2 k ⟨j.val, by omega⟩) := by
  have he : (win0_2.blk t).view.emb (ix2 k (⟨j.val, by omega⟩ : Fin 2560)) = ix2 k ⟨j.val, by omega⟩ := by blk_ext [idx t]
  blk_simp [iblk, idx t]
  rw [V_w, he]
  pointwise []

theorem blk2_hi (t : Fin cfg0.N) (k : Fin 1024) (j : Fin 1024) :
    iblk m c 2 t (ix2 k ⟨1536 + j.val, by omega⟩) = argW m c (ix2 k ⟨1552 + j.val, by omega⟩) := by
  have he : (win0_2.blk t).view.emb (ix2 k (⟨1536 + j.val, by omega⟩ : Fin 2560)) = ix2 k ⟨1536 + j.val, by omega⟩ := by blk_ext [idx t]
  blk_simp [iblk, idx t]
  rw [V_w, he]
  pointwise []

theorem blk3 (t : Fin cfg0.N) (k : Fin 1024) (j : Fin 16) :
    iblk m c 3 t (ix2 k ⟨j.val, by omega⟩) = argW m c (ix2 k ⟨1536 + j.val, by omega⟩) := by
  have he : (win0_3.blk t).view.emb (ix2 k (⟨j.val, by omega⟩ : Fin 128)) = ix2 k ⟨j.val, by omega⟩ := by blk_ext [idx t]
  blk_simp [iblk, idx t]
  rw [V_wf, he]
  pointwise []

theorem blk4 (t : Fin cfg0.N) (j : Fin 16) : iblk m c 4 t (ix2 0 ⟨j.val, by omega⟩) = argB m c (ix1 j) := by
  have he : (win0_4.blk t).view.emb (ix2 0 (⟨j.val, by omega⟩ : Fin 128)) = ix2 0 ⟨j.val, by omega⟩ := by blk_ext [idx t]
  blk_simp [iblk, idx t]
  rw [V_fb, he]
  pointwise []

end Cert.Proj.K5
-- ==== Proof.Sample.Array5.lean ====
/-
  The arrays that the launch leaves, at an index: each is one block, written back by the one point.
-/
module

public import proofs.«01_k».proof.Proof.Sample.Query5
public import proofs.«01_k».proof.Proof.Sample.Blocks5

@[expose] public section
set_option backward.proofsInPublic true
set_option maxRecDepth 16384
noncomputable section
namespace Cert.Proj.K5
open Idealize.ShloMosaic Idealize.ShloMosaic.TcCoe Idealize.ShloMosaic.Tactic Cert.Kernel5Ideal Cert.Kernel5Ideal.Gen

theorem idx_out : ∀ t : Fin cfg0.N, win0_5.index t = ![0, 0] ∧ win0_8.index t = ![0, 0, 0]
    ∧ win0_9.index t = ![0, 0, 0] ∧ win0_11.index t = ![0, 0, 0] ∧ win0_12.index t = ![0, 0] := by
  decide +kernel

variable (m : (ℓ : Loc nD τ sig) → Buf (Elt Ideal) ℓ) (c : Dev nD) (r : Fin 128)

/-- The new token of sequence `r`, normalised, against column `j` of the weight. -/
def prj (r : Fin 128) (j : Fin 2576) : EReal :=
  proj (fun k => argX m c (ix3 r 0 k)) (fun k => argG m c (ix1 k)) (fun k => argW m c (ix2 k j))

theorem point_lo (t : Fin cfg0.N) (j : Fin 2560) (h : j.val < 1536) :
    at_ (iblk m c 0 t) (iblk m c 1 t) (iblk m c 2 t) r j = prj m c r ⟨j.val, by omega⟩ := by
  unfold at_ prj
  simp only [blk0, blk1]
  exact congrArg (proj _ _) (funext fun k => blk2_lo m c t k ⟨j.val, h⟩)

theorem point_hi (t : Fin cfg0.N) (j : Fin 1024) :
    at_ (iblk m c 0 t) (iblk m c 1 t) (iblk m c 2 t) r ⟨1536 + j.val, by omega⟩ = prj m c r ⟨1552 + j.val, by omega⟩ := by
  unfold at_ prj
  simp only [blk0, blk1]
  exact congrArg (proj _ _) (funext fun k => blk2_hi m c t k j)

/-- The one point of the grid. -/
def only : Fin cfg0.N := ⟨0, by rw [N_eq]; omega⟩

theorem arr_q (j : Fin 1024) : (dats m 0 c).arrAt 5 cfg0.N (ix2 r j) = prj m c r ⟨j.val, by omega⟩ * eighth := by
  have he : (win0_5.blk only).view.emb (ix2 r j) = ix2 r j := by blk_ext [(idx_out only).1]
  have hf := (dats m 0 c).arrAt_emb_eq_flushed 5 (Pipeline.Window.hdisj_of_index_inj _ (by decide +kernel)) only (flush0_5 _) (ix2 r j)
  rw [he] at hf
  refine hf.trans ?_
  show (dats m 0 c).after 5 only (ix2 r j) = _
  rw [after0_5]
  refine (query_apply ..).trans ?_
  rw [point_lo m c r _ _ (by dsimp only; omega)]

theorem arr_k (j : Fin 256) : (dats m 0 c).arrAt 8 cfg0.N (ix3 0 j r) = prj m c r ⟨1024 + j.val, by omega⟩ := by
  have he : (win0_8.blk only).view.emb (ix3 0 j r) = ix3 0 j r := by blk_ext [(idx_out only).2.1]
  have hf := (dats m 0 c).arrAt_emb_eq_flushed 8 (Pipeline.Window.hdisj_of_index_inj _ (by decide +kernel)) only (flush0_8 _) (ix3 0 j r)
  rw [he] at hf
  refine hf.trans ?_
  show (dats m 0 c).after 8 only (ix3 0 j r) = _
  rw [after0_8]
  refine (key_apply ..).trans ?_
  rw [point_lo m c r _ _ (by dsimp only; omega)]

theorem arr_v (j : Fin 256) : (dats m 0 c).arrAt 9 cfg0.N (ix3 0 j r) = prj m c r ⟨1280 + j.val, by omega⟩ := by
  have he : (win0_9.blk only).view.emb (ix3 0 j r) = ix3 0 j r := by blk_ext [(idx_out only).2.2.1]
  have hf := (dats m 0 c).arrAt_emb_eq_flushed 9 (Pipeline.Window.hdisj_of_index_inj _ (by decide +kernel)) only (flush0_9 _) (ix3 0 j r)
  rw [he] at hf
  refine hf.trans ?_
  show (dats m 0 c).after 9 only (ix3 0 j r) = _
  rw [after0_9]
  refine (value_apply ..).trans ?_
  rw [point_lo m c r _ _ (by dsimp only; omega)]

theorem arr_f (j : Fin 16) : (dats m 0 c).arrAt 11 cfg0.N (ix3 0 j r) = logSigmoid (prj m c r ⟨1536 + j.val, by omega⟩ + argB m c (ix1 j)) := by
  have he : (win0_11.blk only).view.emb (ix3 0 j r) = ix3 0 j r := by blk_ext [(idx_out only).2.2.2.1]
  have hf := (dats m 0 c).arrAt_emb_eq_flushed 11 (Pipeline.Window.hdisj_of_index_inj _ (by decide +kernel)) only (flush0_11 _) (ix3 0 j r)
  rw [he] at hf
  refine hf.trans ?_
  show (dats m 0 c).after 11 only (ix3 0 j r) = _
  rw [after0_11]
  refine (forget_apply ..).trans ?_
  simp only [blk0, blk1, blk3, blk4]
  rfl

theorem arr_gate (j : Fin 1024) : (dats m 0 c).arrAt 12 cfg0.N (ix2 r j) = prj m c r ⟨1552 + j.val, by omega⟩ := by
  have he : (win0_12.blk only).view.emb (ix2 r j) = ix2 r j := by blk_ext [(idx_out only).2.2.2.2]
  have hf := (dats m 0 c).arrAt_emb_eq_flushed 12 (Pipeline.Window.hdisj_of_index_inj _ (by decide +kernel)) only (flush0_12 _) (ix2 r j)
  rw [he] at hf
  refine hf.trans ?_
  show (dats m 0 c).after 12 only (ix2 r j) = _
  rw [after0_12]
  refine (gate_apply ..).trans ?_
  rw [point_hi]

end Cert.Proj.K5
-- ==== Proof.Sample.Run5.lean ====
/-
  The results of the program: the launch's arrays, laid out by tokens.
-/
module

public import proofs.«01_k».proof.Proof.Sample.Array5

@[expose] public section
set_option backward.proofsInPublic true
set_option maxRecDepth 16384
noncomputable section
namespace Cert.Proj.K5
open Idealize.ShloMosaic Idealize.ShloMosaic.TcCoe Idealize.ShloMosaic.Tactic Idealize.SL.Sem Cert.Kernel5Ideal Cert.Kernel5Ideal.Gen

variable (m : (ℓ : Loc nD τ sig) → Buf (Elt Ideal) ℓ) (c : Dev nD) (ρ : Dev nD → PrngReg)

/-- What the lines after the launch leave. -/
abbrev tail (b : Ref sig .tc) : Buf (Elt Ideal) ((c : Thread nD τ).loc b) := Pipeline.afterTail₀ cfgs (dats m) 0 (V0 m) [hostOps1] c b

theorem tail_q : (tail m c main_v13 : FVec Ideal S128x1x16x64 .f32) = extf (F := Ideal) .f32
    (shapeCast S128x1x16x64 ((dats m 0 c).arrAt 5 cfg0.N : FVec Ideal S128x1024 .bf16) shapeCasts_S128x1024_S128x1x16x64) bitsLt_bf16_f32 := by
  unfold tail Pipeline.afterTail₀
  simp only [hostOps1, List.flatten_cons, List.flatten_nil, List.append_nil, List.cons_append, List.nil_append]
  after_reads_simp
  rw [show Pipeline.withArrays _ c (V0 m c) _ (Proc.tc.devRef main_v11_0) = _ from
    Pipeline.withArrays_arr (cfgs 0).spec launch0.win.arr_inj c (V0 m c) (fun w => (dats m 0 c).arrAt w (cfgs 0).N) 5]
  rfl

theorem tail_k : (tail m c main_v17 : FVec Ideal S128x1x4x64 .f32) = broadcastInDim S128x1x4x64 ![0, 2, 3] bcast_S128x4x64_S128x1x4x64_0_2_3
    (transpose S128x4x64 [2, 0, 1] (shapeCast S4x64x128 (shapeCast S256x128 ((dats m 0 c).arrAt 8 cfg0.N : FVec Ideal S1x256x128 .f32)
      shapeCasts_S1x256x128_S256x128) shapeCasts_S256x128_S4x64x128) transposes_S4x64x128_S128x4x64_2_0_1) := by
  unfold tail Pipeline.afterTail₀
  simp only [hostOps1, List.flatten_cons, List.flatten_nil, List.append_nil, List.cons_append, List.nil_append]
  after_reads_simp
  rw [show Pipeline.withArrays _ c (V0 m c) _ (Proc.tc.devRef main_v11_3) = _ from
    Pipeline.withArrays_arr (cfgs 0).spec launch0.win.arr_inj c (V0 m c) (fun w => (dats m 0 c).arrAt w (cfgs 0).N) 8]
  rfl

theorem tail_v : (tail m c main_v21 : FVec Ideal S128x1x4x64 .f32) = broadcastInDim S128x1x4x64 ![0, 2, 3] bcast_S128x4x64_S128x1x4x64_0_2_3
    (transpose S128x4x64 [2, 0, 1] (shapeCast S4x64x128 (shapeCast S256x128 ((dats m 0 c).arrAt 9 cfg0.N : FVec Ideal S1x256x128 .f32)
      shapeCasts_S1x256x128_S256x128) shapeCasts_S256x128_S4x64x128) transposes_S4x64x128_S128x4x64_2_0_1) := by
  unfold tail Pipeline.afterTail₀
  simp only [hostOps1, List.flatten_cons, List.flatten_nil, List.append_nil, List.cons_append, List.nil_append]
  after_reads_simp
  rw [show Pipeline.withArrays _ c (V0 m c) _ (Proc.tc.devRef main_v11_4) = _ from
    Pipeline.withArrays_arr (cfgs 0).spec launch0.win.arr_inj c (V0 m c) (fun w => (dats m 0 c).arrAt w (cfgs 0).N) 9]
  rfl

theorem tail_f : (tail m c main_v24 : FVec Ideal S128x1x16 .f32) = broadcastInDim S128x1x16 ![0, 2] bcast_S128x16_S128x1x16_0_2
    (transpose S128x16 [1, 0] (shapeCast S16x128 ((dats m 0 c).arrAt 11 cfg0.N : FVec Ideal S1x16x128 .f32)
      shapeCasts_S1x16x128_S16x128) transposes_S16x128_S128x16_1_0) := by
  unfold tail Pipeline.afterTail₀
  simp only [hostOps1, List.flatten_cons, List.flatten_nil, List.append_nil, List.cons_append, List.nil_append]
  after_reads_simp
  rw [show Pipeline.withArrays _ c (V0 m c) _ (Proc.tc.devRef main_v11_6) = _ from
    Pipeline.withArrays_arr (cfgs 0).spec launch0.win.arr_inj c (V0 m c) (fun w => (dats m 0 c).arrAt w (cfgs 0).N) 11]
  rfl

variable (r : Fin 128)

/-- A row of queries, by heads. -/
theorem by_head (y : FVec Ideal S128x1024 .bf16) (r : Fin 128) (h : Fin 16) (d : Fin 64) :
    extf (F := Ideal) .f32 (shapeCast S128x1x16x64 y shapeCasts_S128x1024_S128x1x16x64) bitsLt_bf16_f32 (ix4 r 0 h d)
      = y (ix2 r ⟨64 * h.val + d.val, by omega⟩) := by
  pointwise []
  exact congrArg (fun i => y (ix2 r i)) (Fin.ext (by dsimp only; omega))

theorem q_entry (h : Fin 16) (d : Fin 64) : (tail m c main_v13 : FVec Ideal S128x1x16x64 .f32) (ix4 r 0 h d)
    = prj m c r ⟨64 * h.val + d.val, by omega⟩ * eighth := by
  rw [tail_q]
  refine Eq.trans ?_ (arr_q m c r ⟨64 * h.val + d.val, by omega⟩)
  generalize (dats m 0 c).arrAt 5 cfg0.N = y
  exact by_head ..

/-- The keys' and values' rows, back by tokens. -/
theorem by_token (y : FVec Ideal S1x256x128 .f32) (r : Fin 128) (h : Fin 4) (d : Fin 64) :
    broadcastInDim S128x1x4x64 ![0, 2, 3] bcast_S128x4x64_S128x1x4x64_0_2_3
    (transpose S128x4x64 [2, 0, 1] (shapeCast S4x64x128 (shapeCast S256x128 y
      shapeCasts_S1x256x128_S256x128) shapeCasts_S256x128_S4x64x128) transposes_S4x64x128_S128x4x64_2_0_1) (ix4 r 0 h d)
      = y (ix3 0 ⟨64 * h.val + d.val, by omega⟩ r) := by
  pointwise []
  exact congrArg (fun i => y (ix3 0 i r)) (Fin.ext (by dsimp only; omega))

theorem k_entry (h : Fin 4) (d : Fin 64) : (tail m c main_v17 : FVec Ideal S128x1x4x64 .f32) (ix4 r 0 h d)
    = prj m c r ⟨1024 + (64 * h.val + d.val), by omega⟩ := by
  rw [tail_k]
  refine Eq.trans ?_ (arr_k m c r ⟨64 * h.val + d.val, by omega⟩)
  generalize (dats m 0 c).arrAt 8 cfg0.N = y
  exact by_token ..

theorem v_entry (h : Fin 4) (d : Fin 64) : (tail m c main_v21 : FVec Ideal S128x1x4x64 .f32) (ix4 r 0 h d)
    = prj m c r ⟨1280 + (64 * h.val + d.val), by omega⟩ := by
  rw [tail_v]
  refine Eq.trans ?_ (arr_v m c r ⟨64 * h.val + d.val, by omega⟩)
  generalize (dats m 0 c).arrAt 9 cfg0.N = y
  exact by_token ..

/-- The forget gates' rows, back by tokens. -/
theorem gate_by_token (y : FVec Ideal S1x16x128 .f32) (r : Fin 128) (j : Fin 16) :
    broadcastInDim S128x1x16 ![0, 2] bcast_S128x16_S128x1x16_0_2 (transpose S128x16 [1, 0] (shapeCast S16x128 y
      shapeCasts_S1x16x128_S16x128) transposes_S16x128_S128x16_1_0) (ix3 r 0 j) = y (ix3 0 j r) := by
  pointwise []

theorem f_entry (j : Fin 16) : (tail m c main_v24 : FVec Ideal S128x1x16 .f32) (ix3 r 0 j)
    = logSigmoid (prj m c r ⟨1536 + j.val, by omega⟩ + argB m c (ix1 j)) := by
  rw [tail_f]
  refine Eq.trans ?_ (arr_f m c r j)
  generalize (dats m 0 c).arrAt 11 cfg0.N = y
  exact gate_by_token ..

/-- The run's results. -/
theorem run_results : θ_run defs (onTc (τ := τ) (main (F := Ideal))) ⟨m, fun _ => 0, ρ⟩ fun r => ∀ c : Dev nD,
    r.2.mem ((c.tc : Thread nD τ).loc main_v13) = tail m c main_v13 ∧ r.2.mem ((c.tc : Thread nD τ).loc main_v17) = tail m c main_v17
    ∧ r.2.mem ((c.tc : Thread nD τ).loc main_v21) = tail m c main_v21 ∧ r.2.mem ((c.tc : Thread nD τ).loc main_v24) = tail m c main_v24
    ∧ r.2.mem ((c.tc : Thread nD τ).loc main_v11_7) = (dats m 0 c).arrAt 12 cfg0.N :=
  (θ_run defs _ _).mono (fun r h c => ⟨(h c).2 _ (Pipeline.mem_restRefs_of main_v13 (by decide) (by decide)),
    (h c).2 _ (Pipeline.mem_restRefs_of main_v17 (by decide) (by decide)), (h c).2 _ (Pipeline.mem_restRefs_of main_v21 (by decide) (by decide)),
    (h c).2 _ (Pipeline.mem_restRefs_of main_v24 (by decide) (by decide)), (h c).1 12⟩) (run_main m ρ)

end Cert.Proj.K5
-- ==== Proof.Sample.Ref5.lean ====
/-
  The reference's results, at an index.
-/
module

public import proofs.«01_k».proof.Proof.Sample.Pay5
public import proofs.«01_k».proof.Proof.Gen.Reference5Ideal.Read
public import Idealize.ShloMosaic.Lib.Pipeline.ValueKit

@[expose] public section
set_option maxRecDepth 16384
noncomputable section
namespace Cert.Proj.R5
open Idealize.ShloMosaic Idealize.ShloMosaic.TcCoe Idealize.ShloMosaic.Tactic Cert.Proj Cert.Reference5Ideal Cert.Reference5Ideal.Gen Cert.Reference5Ideal.Read

variable (x : FVec Ideal S128x1x1024 .f32) (g : FVec Ideal S1024 .f32) (w : FVec Ideal S1024x2576 .f32) (b : FVec Ideal S16 .f32)

theorem norm_row (s : Fin 128) (k : Fin 1024) :
    val_main_v12 (F := Ideal) x g (ix3 s 0 k) = Pool.rms (fun k => x (ix3 s 0 k)) (fun k => g (ix1 k)) k := by
  rw [val_main_v12_apply, val_main_v11_apply, val_main_v10_apply, val_main_v9_apply, val_main_v8_apply, val_main_v7_apply,
    val_main_v6_apply, val_main_v5_apply, val_main_v4_apply, val_main_v3_apply, val_main_v2_apply, val_main_v1_apply]
  simp only [val_main_v0_apply, val_main_cst_apply, val_main_cst_0_apply, val_main_cst_1_apply]
  have hs : ∀ j : Fin 1024, idx_main_v1 (idx_main_v2 (idx_main_v8 (ix3 s 0 k))) j = ix3 s 0 j := fun j => funext fun a => by
    match a with | ⟨0, _⟩ => rfl | ⟨1, _⟩ => rfl | ⟨2, _⟩ => rfl
  simp only [hs]
  rw [show idx_main_v10 (idx_main_v11 (ix3 s 0 k)) = ix1 k from funext fun a => by match a with | ⟨0, _⟩ => rfl]
  unfold Pool.rms Pool.eps Pool.width1024
  rw [show (FloatOps.ofBits (F := Ideal) .f32 0x00000000#32 : EReal) = 0 from Ideal.ofBits_zero_f32, zero_add]
  rfl

/-- The new token of sequence `s`, normalised, against column `j` of the weight. -/
abbrev prj (s : Fin 128) (j : Fin 2576) : EReal := proj (fun k => x (ix3 s 0 k)) (fun k => g (ix1 k)) (fun k => w (ix2 k j))

theorem product (s : Fin 128) (j : Fin 2576) : val_main_v13 (F := Ideal) x g w (ix3 s 0 j) = prj x g w s j := by
  unfold val_main_v13 prj proj
  simp only [← norm_row]
  generalize val_main_v12 (F := Ideal) x g = y
  pointwise []

theorem q_entry (s : Fin 128) (h : Fin 16) (d : Fin 64) :
    val_main_v21 (F := Ideal) x g w (ix4 s 0 h d) = prj x g w s ⟨64 * h.val + d.val, by omega⟩ * K5.eighth := by
  rw [← product]
  unfold val_main_v21 val_main_v19 val_main_v14 val_main_v20 val_main_cst_2
  generalize val_main_v13 (F := Ideal) x g w = y
  pointwise []
  exact congrArg (· * K5.eighth) (congrArg (fun i => y (ix3 s 0 i)) (Fin.ext (by dsimp only; omega)))

theorem k_entry (s : Fin 128) (h : Fin 4) (d : Fin 64) :
    val_main_v26 (F := Ideal) x g w (ix4 s 0 h d) = prj x g w s ⟨1024 + (64 * h.val + d.val), by omega⟩ := by
  rw [← product]
  unfold val_main_v26 val_main_v15
  generalize val_main_v13 (F := Ideal) x g w = y
  pointwise []
  exact congrArg (fun i => y (ix3 s 0 i)) (Fin.ext (by dsimp only; omega))

theorem v_entry (s : Fin 128) (h : Fin 4) (d : Fin 64) :
    val_main_v27 (F := Ideal) x g w (ix4 s 0 h d) = prj x g w s ⟨1280 + (64 * h.val + d.val), by omega⟩ := by
  rw [← product]
  unfold val_main_v27 val_main_v16
  generalize val_main_v13 (F := Ideal) x g w = y
  pointwise []
  exact congrArg (fun i => y (ix3 s 0 i)) (Fin.ext (by dsimp only; omega))

theorem f_entry (s : Fin 128) (j : Fin 16) :
    val_main_v25 (F := Ideal) x g w b (ix3 s 0 j) = logSigmoid (prj x g w s ⟨1536 + j.val, by omega⟩ + b (ix1 j)) := by
  rw [← product]
  have hv : val_main_v24 (F := Ideal) x g w b (ix3 s 0 j) = val_main_v13 (F := Ideal) x g w (ix3 s 0 ⟨1536 + j.val, by omega⟩) + b (ix1 j) := by
    unfold val_main_v24 val_main_v17 val_main_v23 val_main_v22
    generalize val_main_v13 (F := Ideal) x g w = y
    pointwise []
  rw [← hv]
  unfold val_main_v25 val_main_call0_v1 val_main_call0_call0_v11 val_main_call0_call0_v10 val_main_call0_call0_v9 val_main_call0_call0_v8
    val_main_call0_call0_v7 val_main_call0_call0_v6 val_main_call0_call0_v5 val_main_call0_call0_v4 val_main_call0_call0_v3 val_main_call0_call0_v2
    val_main_call0_call0_v1 val_main_call0_call0_v0 val_main_call0_v0 val_main_call0_call0_cst
  generalize val_main_v24 (F := Ideal) x g w b = y
  pointwise []
  rw [if_neg (fun h => h rfl)]
  unfold logSigmoid
  rw [show FloatOps.absf (F := Ideal) (φ := .f32) (-y (ix3 s 0 j)) = max (-y (ix3 s 0 j)) (- -y (ix3 s 0 j)) from rfl, neg_neg, max_comm (-y (ix3 s 0 j)) (y (ix3 s 0 j))]

theorem gate_entry (s : Fin 128) (j : Fin 1024) :
    val_main_v28 (F := Ideal) x g w (ix2 s j) = prj x g w s ⟨1552 + j.val, by omega⟩ := by
  rw [← product]
  unfold val_main_v28 val_main_v18
  generalize val_main_v13 (F := Ideal) x g w = y
  pointwise []

end Cert.Proj.R5
-- ==== Proof.Sample.Agree5.lean ====
/-
  The projection into the forgetting attention for one new token of every sequence: the program's results are the reference's.
-/
module

public import proofs.«01_k».proof.Defs
public import proofs.«01_k».proof.Proof.Gen.Kernel5
public import proofs.«01_k».proof.Proof.Gen.Kernel5.Frame
public import proofs.«01_k».proof.Proof.Gen.Kernel5Ideal.Frame
public import proofs.«01_k».proof.Proof.Gen.Reference5Ideal
public import proofs.«01_k».proof.Proof.Gen.Reference5Ideal.Read
public import proofs.«01_k».proof.Proof.Gen.Reference5Ideal.Run
public import proofs.«01_k».proof.Proof.Sample.Run5
public import proofs.«01_k».proof.Proof.Sample.Ref5

@[expose] public section
set_option backward.proofsInPublic true
noncomputable section
namespace Cert.Proj.K5
open Idealize.ShloMosaic Idealize.ShloMosaic.TcCoe Idealize.SL.Sem

variable (m : (ℓ : Loc Kernel5Ideal.nD Kernel5Ideal.τ Kernel5Ideal.sig) → Buf (Elt Ideal) ℓ) (c : Dev Kernel5Ideal.nD)

theorem agree_q : Reference5Ideal.Read.val_main_v21 (F := Ideal) (argX m c) (argG m c) (argW m c) = tail m c Kernel5Ideal.main_v13 := by
  funext i
  have ei : i = ix4 (i 0) 0 (i 2) (i 3) := funext fun a => by
    match a with

    | ⟨0, _⟩ => rfl
    | ⟨1, _⟩ => exact Fin.ext (by have : (i 1).val < 1 := (i 1).isLt; show (i 1).val = 0; omega)
    | ⟨2, _⟩ => rfl
    | ⟨3, _⟩ => rfl
  rw [ei]
  exact (R5.q_entry ..).trans (q_entry m c ..).symm

theorem agree_k : Reference5Ideal.Read.val_main_v26 (F := Ideal) (argX m c) (argG m c) (argW m c) = tail m c Kernel5Ideal.main_v17 := by
  funext i
  have ei : i = ix4 (i 0) 0 (i 2) (i 3) := funext fun a => by
    match a with

    | ⟨0, _⟩ => rfl
    | ⟨1, _⟩ => exact Fin.ext (by have : (i 1).val < 1 := (i 1).isLt; show (i 1).val = 0; omega)
    | ⟨2, _⟩ => rfl
    | ⟨3, _⟩ => rfl
  rw [ei]
  exact (R5.k_entry ..).trans (k_entry m c ..).symm

theorem agree_v : Reference5Ideal.Read.val_main_v27 (F := Ideal) (argX m c) (argG m c) (argW m c) = tail m c Kernel5Ideal.main_v21 := by
  funext i
  have ei : i = ix4 (i 0) 0 (i 2) (i 3) := funext fun a => by
    match a with

    | ⟨0, _⟩ => rfl
    | ⟨1, _⟩ => exact Fin.ext (by have : (i 1).val < 1 := (i 1).isLt; show (i 1).val = 0; omega)
    | ⟨2, _⟩ => rfl
    | ⟨3, _⟩ => rfl
  rw [ei]
  exact (R5.v_entry ..).trans (v_entry m c ..).symm

theorem agree_f : Reference5Ideal.Read.val_main_v25 (F := Ideal) (argX m c) (argG m c) (argW m c) (argB m c) = tail m c Kernel5Ideal.main_v24 := by
  funext i
  have ei : i = ix3 (i 0) 0 (i 2) := funext fun a => by
    match a with

    | ⟨0, _⟩ => rfl
    | ⟨1, _⟩ => exact Fin.ext (by have : (i 1).val < 1 := (i 1).isLt; show (i 1).val = 0; omega)
    | ⟨2, _⟩ => rfl
  rw [ei]
  exact (R5.f_entry ..).trans (f_entry m c ..).symm

theorem agree_gate : Reference5Ideal.Read.val_main_v28 (F := Ideal) (argX m c) (argG m c) (argW m c)
    = (Kernel5Ideal.Gen.dats m 0 c).arrAt 12 Kernel5Ideal.cfg0.N := by
  funext i
  have ei : i = ix2 (i 0) (i 1) := funext fun a => by match a with | ⟨0, _⟩ => rfl | ⟨1, _⟩ => rfl
  rw [ei]
  exact (R5.gate_entry ..).trans (arr_gate m c ..).symm

/-- The reference's run leaves the arguments alone, and it has no semaphore. -/
theorem frame_reference : Cert.quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)

/-- The projection's value claim. -/
theorem value_projection : Cert.algebraic_Kernel5Ideal_Reference5Ideal := by
  intro m ρ m' ρ' _ hagree
  refine ⟨fun c => tail m c Kernel5Ideal.main_v13, fun c => tail m c Kernel5Ideal.main_v17, fun c => tail m c Kernel5Ideal.main_v21,
    fun c => tail m c Kernel5Ideal.main_v24, fun c => (Kernel5Ideal.Gen.dats m 0 c).arrAt 12 Kernel5Ideal.cfg0.N, ?_, ?_⟩
  · refine (θ_run Cert.Kernel5Ideal.defs _ _).mono (fun r h c => ?_) (θ_run_and (run_results m ρ) (Kernel5Ideal.Gen.frame m ρ))
    obtain ⟨hq, hk, hv, hf, hg⟩ := h.1 c
    exact ⟨hq, hk, hv, hf, hg, h.2.1 c⟩
  · refine (θ_run Cert.Reference5Ideal.defs _ _).mono (fun r h c => ?_) (Cert.Reference5Ideal.Value.run (F := Ideal) m' ρ')
    obtain ⟨h0, h1, h2, h3⟩ := hagree c
    obtain ⟨hq, hk, hv, hf, hg, hargs⟩ := h c
    replace hf := hf.trans (Cert.Reference5Ideal.Read.val_main_v25_eq m' c)
    rw [h0, h1, h2] at hq hk hv hg
    rw [h0, h1, h2, h3] at hf
    exact ⟨hq.trans (agree_q m c), hk.trans (agree_k m c), hv.trans (agree_v m c), hf.trans (agree_f m c), hg.trans (agree_gate m c), hargs⟩

end Cert.Proj.K5
-- ==== Proof.Sample.Rows.lean ====
/-
  The pooling layer for one new token, a row at a time: its windows end in the token and reach back into the fifteen value
  rows kept of the sequence.
-/
module

public import proofs.«01_k».proof.Proof.Pool.Rows

@[expose] public section
noncomputable section
namespace Cert.Pool
open Idealize.ShloMosaic

/-- A column of the sixteen latest value rows: fifteen kept ones, then the new one. -/
def lastRows (st : Fin 15 → Fin 1024 → EReal) (u : Fin 1024 → EReal) (c : Fin 1024) (i : ℕ) : EReal :=
  if h : i < 15 then st ⟨i, h⟩ c else u c

theorem lastRows_new (st : Fin 15 → Fin 1024 → EReal) (u : Fin 1024 → EReal) (c : Fin 1024) : lastRows st u c 15 = u c := dif_neg (by decide)

/-- The new token's pooled row: each column's window mean minus the column. -/
def tokenPool (st : Fin 15 → Fin 1024 → EReal) (u : Fin 1024 → EReal) (c : Fin 1024) : EReal :=
  wmean (window (c.val / 256)) (lastRows st u c) 15 - u c

/-- The layer's output row for a token with residual row `x`. -/
def token (W : Weights) (st : Fin 15 → Fin 1024 → EReal) (x : Fin 1024 → EReal) : Fin 1024 → EReal :=
  branch x (gateRow W x) (tokenPool st (uRow W x)) W.mix W.sc W.wOut

/-- The pooled row in group `g`. -/
theorem tokenPool_group (st : Fin 15 → Fin 1024 → EReal) (u : Fin 1024 → EReal) (g : ℕ) (c : Fin 1024) (hc : c.val / 256 = g) :
    tokenPool st u c = wmean (window g) (lastRows st u c) 15 - u c := by
  subst hc
  rfl

/-- The last `w` of the sixteen rows, summed forwards. -/
theorem sum_lastRows (w : ℕ) (hw : w ≤ 16) (U : ℕ → EReal) : ∑ j ∈ Finset.range w, U (16 - w + j) = wsum w U 15 := by
  unfold wsum
  rw [← Finset.sum_range_reflect]
  refine Finset.sum_congr rfl fun j hj => ?_
  have hj := Finset.mem_range.mp hj
  rw [if_pos (by omega)]
  congr 1
  omega

end Cert.Pool
-- ==== Proof.Sample.Pay6.lean ====
/-
  The vector expressions of the pooling layer for one new token of every sequence, at an index.
-/
module

public import proofs.«01_k».proof.Proof.Pool.Rows
public import proofs.«01_k».proof.Proof.Gen.Kernel6Ideal.Skeleton

@[expose] public section
set_option maxRecDepth 16384
noncomputable section
namespace Cert.Pool.K6
open Idealize.ShloMosaic Cert.Pool Cert.Kernel6Ideal Cert.Kernel6Ideal.Gen

variable (x : FVec Ideal S128x1024 .f32) (g : FVec Ideal S1x1024 .f32) (r : Fin 128)

theorem pay2_eq : k0_pay2 (F := Ideal) x = x := by
  funext i
  have ei : i = ix2 (i 0) (i 1) := funext fun a => by match a with | ⟨0, _⟩ => rfl | ⟨1, _⟩ => rfl
  rw [ei]
  pointwise [k0_pay2]

theorem pay3_apply (c : Fin 1024) : k0_pay3 (F := Ideal) x g (ix2 r c) = rms (fun k => x (ix2 r k)) (fun k => g (ix2 0 k)) c := by
  pointwise [k0_pay3]
  rw [pay2_eq]
  rfl

theorem pay4_apply (w : FVec Ideal S1024x1024 .bf16) (c : Fin 1024) : k0_pay4 (F := Ideal) x g w (ix2 r c)
    = ∑ k, rms (fun k => x (ix2 r k)) (fun k => g (ix2 0 k)) k * w (ix2 k c) := by
  unfold k0_pay4
  simp only [← pay3_apply]
  generalize k0_pay3 (F := Ideal) x g = y
  pointwise []

theorem pay5_apply (w : FVec Ideal S1024x1024 .bf16) (c : Fin 1024) : k0_pay5 (F := Ideal) x g w (ix2 r c)
    = ∑ k, rms (fun k => x (ix2 r k)) (fun k => g (ix2 0 k)) k * w (ix2 k c) := by
  unfold k0_pay5
  simp only [← pay3_apply]
  generalize k0_pay3 (F := Ideal) x g = y
  pointwise []

/-- The four divisors. -/
theorem count_two : Ideal.ofBits .f32 0x40000000#32 = count 2 15 := by
  simp [Ideal.ofBits, Ideal.ieee, count, -EReal.coe_mul]; norm_num
theorem count_four : Ideal.ofBits .f32 0x40800000#32 = count 4 15 := by
  simp [Ideal.ofBits, Ideal.ieee, count, -EReal.coe_mul]; norm_num
theorem count_eight : Ideal.ofBits .f32 0x41000000#32 = count 8 15 := by
  simp [Ideal.ofBits, Ideal.ieee, count, -EReal.coe_mul]; norm_num
theorem count_sixteen : Ideal.ofBits .f32 0x41800000#32 = count 16 15 := by
  simp [Ideal.ofBits, Ideal.ieee, count, -EReal.coe_mul]; norm_num

variable (u : FVec Ideal S128x1024 .f32) (d : Fin 256) (U : ℕ → EReal) (v : Fin 15 → FVec Ideal S1x128x256 .f32)

/-- The mean over 2 rows, the new one and the last of the state. -/
theorem mean2 (h15 : u (ix2 r ⟨d.val, by omega⟩) = U 15) (h : ∀ j : Fin 15, v j (ix3 0 r d) = U j.val) :
    k0_pay21 (F := Ideal) u (v 14) (ix2 r d) = wmean 2 U 15 := by
  pointwise [k0_pay21]
  rw [h15, h, count_two]
  unfold wmean wsum
  simp only [Finset.sum_range_succ, Finset.sum_range_zero, zero_add]
  rfl

theorem mean4 (h15 : u (ix2 r ⟨256 + d.val, by omega⟩) = U 15) (h : ∀ j : Fin 15, v j (ix3 0 r d) = U j.val) :
    k0_pay24 (F := Ideal) (k0_pay22 u (v 14) (v 13)) (k0_pay23 (v 12)) (ix2 r d) = wmean 4 U 15 := by
  pointwise [k0_pay24, k0_pay22, k0_pay23]
  simp only [h15, h, count_four]
  unfold wmean wsum
  simp only [Finset.sum_range_succ, Finset.sum_range_zero, zero_add]
  rfl

theorem mean8 (h15 : u (ix2 r ⟨512 + d.val, by omega⟩) = U 15) (h : ∀ j : Fin 15, v j (ix3 0 r d) = U j.val) :
    k0_pay25 (F := Ideal) u (v 14) (v 13) (v 12) (v 11) (v 10) (v 9) (v 8) (ix2 r d) = wmean 8 U 15 := by
  pointwise [k0_pay25]
  simp only [h15, h, count_eight]
  unfold wmean wsum
  simp only [Finset.sum_range_succ, Finset.sum_range_zero, zero_add]
  rfl

/-- The mean over all 16 rows minus the new one. -/
theorem mean16 (h15 : u (ix2 r ⟨768 + d.val, by omega⟩) = U 15) (h : ∀ j : Fin 15, v j (ix3 0 r d) = U j.val) :
    k0_pay31 (F := Ideal) u (k0_pay27 (k0_pay26 u (v 14)) (v 13) (v 12) (v 11) (v 10) (v 9) (v 8) (v 7) (v 6) (v 5) (v 4)) (v 3) (v 2) (v 1) (v 0)
      (ix2 r d) = wmean 16 U 15 - U 15 := by
  pointwise [k0_pay31, k0_pay27, k0_pay26]
  simp only [h15, h, count_sixteen]
  unfold wmean wsum
  simp only [Finset.sum_range_succ, Finset.sum_range_zero, zero_add]
  rfl

variable (p : FVec Ideal S128x256 .f32) (m : FVec Ideal S1x256x256 .bf16)

/-- A group's means minus the new row, against the group's matrix. -/
theorem mix0 : k0_pay28 (F := Ideal) u p m (ix2 r d) = ∑ k : Fin 256, (p (ix2 r k) - u (ix2 r ⟨k.val, by omega⟩)) * m (ix3 0 k d) := by
  pointwise [k0_pay28]

theorem mix1 : k0_pay29 (F := Ideal) u p m (ix2 r d) = ∑ k : Fin 256, (p (ix2 r k) - u (ix2 r ⟨256 + k.val, by omega⟩)) * m (ix3 0 k d) := by
  pointwise [k0_pay29]

theorem mix2 : k0_pay30 (F := Ideal) u p m (ix2 r d) = ∑ k : Fin 256, (p (ix2 r k) - u (ix2 r ⟨512 + k.val, by omega⟩)) * m (ix3 0 k d) := by
  pointwise [k0_pay30]

/-- The mixed groups side by side, scaled and gated. -/
def gated (gate : FVec Ideal S128x1024 .f32) (a0 a1 a2 : FVec Ideal S128x256 .f32) (p3 : FVec Ideal S128x256 .bf16)
    (m3 : FVec Ideal S1x256x256 .bf16) (sc : FVec Ideal S1x1024 .f32) : FVec Ideal S128x1024 .bf16 :=
  truncf .bf16 (mulf (mulf (concatenate S128x1024 1 [⟨S128x256, a0⟩, ⟨S128x256, a1⟩, ⟨S128x256, a2⟩,
      ⟨S128x256, matmul dot_S128x256_S256x256_S128x256_1_0_0_1_n_n none p3 (shapeCast S256x256 m3 shapeCasts_S1x256x256_S256x256)
        (constant S128x256 .f32 0x00000000#32)⟩] concatenates_S128x256_S128x256_S128x256_S128x256_S128x1024_d1)
    (broadcastTo S128x1024 (shapeCast S1x1024 sc shapeCasts_S1x1024_S1x1024) broadcasts_S1x1024_S128x1024))
    (mulf gate (logistic gate))) bitsLt_bf16_f32

/-- The output row and its final norm. -/
def finish (z : FVec Ideal S128x1024 .bf16) (w : FVec Ideal S1024x1024 .bf16) (fg : FVec Ideal S1x1024 .f32) : FVec Ideal S128x1024 .f32 :=
  let y := addf x (matmul dot_S128x1024_S1024x1024_S128x1024_1_0_0_1_n_n none z (shapeCast S1024x1024 w shapeCasts_S1024x1024_S1024x1024)
    (constant S128x1024 .f32 0x00000000#32))
  mulf (mulf y (broadcastTo S128x1024 (rsqrt (addf (divf (shapeCast S128x1 (multiReduction .add [1] S128 (mulf y y) 0x00000000#32
      reduces_S128x1024_S128 (.inl rfl) rfl) shapeCasts_S128_S128x1) (broadcast S128x1 (Scalar.ofBits .f32 0x44800000#32)))
      (broadcast S128x1 (Scalar.ofBits .f32 0x358637BD#32)))) broadcasts_S128x1_S128x1024))
    (broadcastTo S128x1024 (shapeCast S1x1024 fg shapeCasts_S1x1024_S1x1024) broadcasts_S1x1024_S128x1024)

theorem pay1_eq (gate : FVec Ideal S128x1024 .f32) (a0 a1 a2 : FVec Ideal S128x256 .f32) (p3 : FVec Ideal S128x256 .bf16)
    (m3 : FVec Ideal S1x256x256 .bf16) (sc : FVec Ideal S1x1024 .f32) (w : FVec Ideal S1024x1024 .bf16) (fg : FVec Ideal S1x1024 .f32) :
    k0_pay1 (F := Ideal) x gate a0 a1 a2 p3 m3 sc w fg = finish x (gated gate a0 a1 a2 p3 m3 sc) w fg := rfl

theorem finish_apply (z : FVec Ideal S128x1024 .bf16) (w : FVec Ideal S1024x1024 .bf16) (fg : FVec Ideal S1x1024 .f32) (c : Fin 1024) :
    finish x z w fg (ix2 r c) = rms (fun c => x (ix2 r c) + ∑ k, z (ix2 r k) * w (ix2 k c)) (fun k => fg (ix2 0 k)) c := by
  pointwise [finish]
  rfl

theorem gated_apply (gate : FVec Ideal S128x1024 .f32) (a0 a1 a2 : FVec Ideal S128x256 .f32) (p3 : FVec Ideal S128x256 .bf16)
    (m3 : FVec Ideal S1x256x256 .bf16) (sc : FVec Ideal S1x1024 .f32) (P : Fin 1024 → EReal) (M : Fin 4 → Fin 256 → Fin 256 → EReal)
    (h0 : ∀ d, a0 (ix2 r d) = ∑ k : Fin 256, P ⟨k.val, by omega⟩ * M 0 k d)
    (h1 : ∀ d, a1 (ix2 r d) = ∑ k : Fin 256, P ⟨256 + k.val, by omega⟩ * M 1 k d)
    (h2 : ∀ d, a2 (ix2 r d) = ∑ k : Fin 256, P ⟨512 + k.val, by omega⟩ * M 2 k d)
    (h3 : ∀ k, p3 (ix2 r k) = P ⟨768 + k.val, by omega⟩) (h3' : ∀ k d, m3 (ix3 0 k d) = M 3 k d) (c : Fin 1024) :
    gated gate a0 a1 a2 p3 m3 sc (ix2 r c) = mixRow P M c * sc (ix2 0 c) * silu (gate (ix2 r c)) := by
  pointwise [gated]
  unfold silu
  congr 2
  unfold mixRow
  have key : ∀ (g : ℕ) (hg : g < 4) (hc : c.val / 256 = g) (e : Fin 256), e.val = c.val - 256 * g →
      ∑ k : Fin 256, P ⟨256 * g + k.val, by omega⟩ * M ⟨g, hg⟩ k e
        = ∑ k : Fin 256, P ⟨256 * (c.val / 256) + k.val, by omega⟩ * M ⟨c.val / 256, by omega⟩ k ⟨c.val % 256, by omega⟩ := by
    intro g hg hc e he
    subst hc
    rw [show e = ⟨c.val % 256, by omega⟩ from Fin.ext (by show e.val = c.val % 256; omega)]
  by_cases b0 : c.val < 256
  · rw [dif_pos b0, h0]
    refine Eq.trans ?_ (key 0 (by omega) (by omega) ⟨c.val, b0⟩ (by simp))
    simp only [Nat.mul_zero, Nat.zero_add]
    rfl
  rw [dif_neg b0]
  by_cases b1 : c.val - 256 < 256
  · rw [dif_pos b1, h1]
    exact key 1 (by omega) (by omega) _ (by simp)
  rw [dif_neg b1]
  by_cases b2 : c.val - 256 - 256 < 256
  · rw [dif_pos b2, h2]
    exact key 2 (by omega) (by omega) _ (by simp; omega)
  rw [dif_neg b2]
  simp only [h3, h3']
  exact key 3 (by omega) (by omega) _ (by simp; omega)

end Cert.Pool.K6
-- ==== Proof.Sample.Block6.lean ====
/-
  What the point of the grid leaves, at an index: the final norm of the layer's rows, and the kept value rows moved on by one.
-/
module

public import proofs.«01_k».proof.Proof.Sample.Rows
public import proofs.«01_k».proof.Proof.Sample.Pay6
public import proofs.«01_k».proof.Proof.Gen.Kernel6Ideal.Frame
public import Idealize.ShloMosaic.Lib.Pipeline.ValueKit

@[expose] public section
set_option maxRecDepth 16384
noncomputable section
namespace Cert.Pool.K6
open Idealize.ShloMosaic Cert.Pool Cert.Kernel6Ideal Cert.Kernel6Ideal.Gen

variable (x0 : FVec Ideal S128x1024 .f32) (x1 : FVec Ideal S15x128x1024 .f32) (x2 : FVec Ideal S1x1024 .f32) (x3 : FVec Ideal S1024x2048 .bf16)
  (x4 : FVec Ideal S4x256x256 .bf16) (x5 : FVec Ideal S1x1024 .f32) (x6 : FVec Ideal S1024x1024 .bf16) (x7 : FVec Ideal S1x1024 .f32)

theorem ld_x : View.ld (Val := Elt Ideal) (e' := .f32) x0 r0_0 = x0 := View.ld_unit_lit (e := _) _ _ (by decide)
theorem ld_g : View.ld (Val := Elt Ideal) (e' := .f32) x2 r0_1 = x2 := View.ld_unit_lit (e := _) _ _ (by decide)
theorem ld_w : View.ld (Val := Elt Ideal) (e' := .bf16) x6 r0_49 = x6 := View.ld_unit_lit (e := _) _ _ (by decide)

/-- The layer's weights, as the kernel holds them. -/
def held : Weights where
  g k := x2 (ix2 0 k)
  wIn k c := x3 (ix2 k c)
  mix a k d := x4 (ix3 a k d)
  sc k := x5 (ix2 0 k)
  wOut k c := x6 (ix2 k c)

/-- Sequence `r`'s kept rows and new row. -/
abbrev kept (r : Fin 128) (i : Fin 15) (c : Fin 1024) : EReal := x1 (ix3 i r c)
abbrev new (r : Fin 128) (c : Fin 1024) : EReal := x0 (ix2 r c)

theorem ld_lo (k c : Fin 1024) : View.ld (Val := Elt Ideal) (e' := .bf16) x3 r0_2 (ix2 k c) = x3 (ix2 k ⟨c.val, by omega⟩) :=
  congrArg x3 (funext fun a => by
    match a with
    | ⟨0, _⟩ => exact Fin.ext (by simp)
    | ⟨1, _⟩ => exact Fin.ext (by simp))

theorem ld_hi (k c : Fin 1024) : View.ld (Val := Elt Ideal) (e' := .bf16) x3 r0_3 (ix2 k c) = x3 (ix2 k ⟨1024 + c.val, by omega⟩) :=
  congrArg x3 (funext fun a => by
    match a with
    | ⟨0, _⟩ => exact Fin.ext (by simp)
    | ⟨1, _⟩ => exact Fin.ext (by simp))

theorem value_row (r : Fin 128) (c : Fin 1024) : k0_pay32 (F := Ideal) x0 x1 x2 x3 x4 x5 x6 x7 (ix2 r c) = uRow (held x2 x3 x4 x5 x6) (new x0 r) c := by
  unfold k0_pay32
  rw [pay4_apply, ld_x, ld_g]
  exact Finset.sum_congr rfl fun k _ => congrArg (rms (new x0 r) (fun k => x2 (ix2 0 k)) k * ·) (ld_lo x3 k c)

theorem gate_row (r : Fin 128) (c : Fin 1024) : k0_pay5 (F := Ideal) (View.ld x0 r0_0) (View.ld x2 r0_1) (View.ld x3 r0_3) (ix2 r c)
    = gateRow (held x2 x3 x4 x5 x6) (new x0 r) c := by
  rw [pay5_apply, ld_x, ld_g]
  exact Finset.sum_congr rfl fun k _ => congrArg (rms (new x0 r) (fun k => x2 (ix2 0 k)) k * ·) (ld_hi x3 k c)

/-- The columns of group `g` of kept row `j`. -/
abbrev group (g : Fin 4) (j : Fin 15) : Rect S15x128x1024 := Rect.unit (s := S15x128x1024) ![j.val, 0, 256 * g.val] S1x128x256.size
  (fun a => by
    match a with
    | ⟨0, _⟩ => show j.val + 1 ≤ 15; omega
    | ⟨1, _⟩ => show 0 + 128 ≤ 128; omega
    | ⟨2, _⟩ => show 256 * g.val + 256 ≤ 1024; omega)

/-- Those columns, read. -/
def read (g : Fin 4) (j : Fin 15) : FVec Ideal S1x128x256 .f32 := View.ld (Val := Elt Ideal) (e' := .f32) x1 (group g j)

theorem ld_group (g : Fin 4) (j : Fin 15) (r : Fin 128) (d : Fin 256) :
    read x1 g j (ix3 0 r d) = x1 (ix3 j r ⟨256 * g.val + d.val, by omega⟩) :=
  congrArg x1 (funext fun a => by
    match a with
    | ⟨0, _⟩ => exact Fin.ext (by simp)
    | ⟨1, _⟩ => exact Fin.ext (by simp)
    | ⟨2, _⟩ => exact Fin.ext (by simp))

/-- The matrix of group `g`. -/
abbrev mixRect (g : Fin 4) : Rect S4x256x256 := Rect.unit (s := S4x256x256) ![g.val, 0, 0] S1x256x256.size
  (fun a => by
    match a with
    | ⟨0, _⟩ => show g.val + 1 ≤ 4; omega
    | ⟨1, _⟩ => show 0 + 256 ≤ 256; omega
    | ⟨2, _⟩ => show 0 + 256 ≤ 256; omega)

/-- That matrix, read. -/
def readMix (g : Fin 4) : FVec Ideal S1x256x256 .bf16 := View.ld (Val := Elt Ideal) (e' := .bf16) x4 (mixRect g)

theorem ld_mix (g : Fin 4) (k d : Fin 256) :
    readMix x4 g (ix3 0 k d) = x4 (ix3 g k d) :=
  congrArg x4 (funext fun a => by
    match a with
    | ⟨0, _⟩ => exact Fin.ext (by simp)
    | ⟨1, _⟩ => exact Fin.ext (by simp)
    | ⟨2, _⟩ => exact Fin.ext (by simp))

/-- The sixteen latest rows at a column of group `g`, as the kernel reads them. -/
theorem read_back (g : Fin 4) (r : Fin 128) (d : Fin 256) (u : Fin 1024 → EReal) (j : Fin 15) :
    read x1 g j (ix3 0 r d)
      = lastRows (kept x1 r) u ⟨256 * g.val + d.val, by omega⟩ j.val := by
  rw [ld_group]
  unfold lastRows
  rw [dif_pos j.isLt]

variable (u : FVec Ideal S128x1024 .f32) (r : Fin 128)

/-- A column of the sixteen latest rows of sequence `r`. -/
abbrev col (c : Fin 1024) : ℕ → EReal := lastRows (kept x1 r) (fun c => u (ix2 r c)) c

theorem col_new (c : Fin 1024) : u (ix2 r c) = col x1 u r c 15 := (lastRows_new (kept x1 r) (fun c => u (ix2 r c)) c).symm

theorem group0 (d : Fin 256) : k0_pay28 (F := Ideal) u (k0_pay21 u (read x1 0 14)) (readMix x4 0) (ix2 r d)
    = ∑ k : Fin 256, tokenPool (kept x1 r) (fun c => u (ix2 r c)) ⟨k.val, by omega⟩ * x4 (ix3 0 k d) := by
  rw [mix0]
  refine Finset.sum_congr rfl fun k _ => congrArg₂ (· * ·) ?_ (ld_mix x4 0 k d)
  rw [tokenPool_group _ _ 0 _ (by dsimp only; omega)]
  refine congrArg (· - u (ix2 r ⟨k.val, by omega⟩)) ?_
  exact mean2 r u k (col x1 u r ⟨k.val, by omega⟩) (read x1 0) (col_new ..)
    (fun j => (read_back x1 0 r k (fun c => u (ix2 r c)) j).trans
      (congrArg (fun c => lastRows (kept x1 r) (fun c => u (ix2 r c)) c j.val) (Fin.ext (show 256 * 0 + k.val = k.val by omega))))

theorem group1 (d : Fin 256) : k0_pay29 (F := Ideal) u (k0_pay24 (k0_pay22 u (read x1 1 14) (read x1 1 13))
      (k0_pay23 (read x1 1 12))) (readMix x4 1) (ix2 r d)
    = ∑ k : Fin 256, tokenPool (kept x1 r) (fun c => u (ix2 r c)) ⟨256 + k.val, by omega⟩ * x4 (ix3 1 k d) := by
  rw [mix1]
  refine Finset.sum_congr rfl fun k _ => congrArg₂ (· * ·) ?_ (ld_mix x4 1 k d)
  rw [tokenPool_group _ _ 1 _ (by dsimp only; omega)]
  refine congrArg (· - u (ix2 r ⟨256 + k.val, by omega⟩)) ?_
  exact mean4 r u k (col x1 u r ⟨256 + k.val, by omega⟩) (read x1 1) (col_new ..) (read_back x1 1 r k (fun c => u (ix2 r c)))

theorem group2 (d : Fin 256) : k0_pay30 (F := Ideal) u (k0_pay25 u (read x1 2 14) (read x1 2 13) (read x1 2 12)
      (read x1 2 11) (read x1 2 10) (read x1 2 9) (read x1 2 8)) (readMix x4 2) (ix2 r d)
    = ∑ k : Fin 256, tokenPool (kept x1 r) (fun c => u (ix2 r c)) ⟨512 + k.val, by omega⟩ * x4 (ix3 2 k d) := by
  rw [mix2]
  refine Finset.sum_congr rfl fun k _ => congrArg₂ (· * ·) ?_ (ld_mix x4 2 k d)
  rw [tokenPool_group _ _ 2 _ (by dsimp only; omega)]
  refine congrArg (· - u (ix2 r ⟨512 + k.val, by omega⟩)) ?_
  exact mean8 r u k (col x1 u r ⟨512 + k.val, by omega⟩) (read x1 2) (col_new ..) (read_back x1 2 r k (fun c => u (ix2 r c)))

theorem group3 (k : Fin 256) : k0_pay31 (F := Ideal) u (k0_pay27 (k0_pay26 u (read x1 3 14)) (read x1 3 13)
      (read x1 3 12) (read x1 3 11) (read x1 3 10) (read x1 3 9) (read x1 3 8)
      (read x1 3 7) (read x1 3 6) (read x1 3 5) (read x1 3 4)) (read x1 3 3)
      (read x1 3 2) (read x1 3 1) (read x1 3 0) (ix2 r k)
    = tokenPool (kept x1 r) (fun c => u (ix2 r c)) ⟨768 + k.val, by omega⟩ := by
  rw [tokenPool_group _ _ 3 _ (by dsimp only; omega)]
  refine (mean16 r u k (col x1 u r ⟨768 + k.val, by omega⟩) (read x1 3) (col_new ..)
    (read_back x1 3 r k (fun c => u (ix2 r c)))).trans ?_
  rw [← col_new]
  rfl

theorem row_apply (c : Fin 1024) : out0_8 (F := Ideal) x0 x1 x2 x3 x4 x5 x6 x7 (ix2 r c)
    = rms (token (held x2 x3 x4 x5 x6) (kept x1 r) (new x0 r)) (fun k => x7 (ix2 0 k)) c := by
  unfold out0_8
  rw [View.canon_cons_unit_lit _ _ _ (by decide), pay1_eq, pay2_eq, finish_apply, ld_w, ld_g x7]
  have hu := value_row x0 x1 x2 x3 x4 x5 x6 x7 r
  have hg := gate_row x0 x2 x3 x4 x5 x6 r
  rw [ld_x] at hg ⊢
  generalize k0_pay32 (F := Ideal) x0 x1 x2 x3 x4 x5 x6 x7 = u at hu ⊢
  refine congrArg (fun y => rms y (fun k => x7 (ix2 0 k)) c) (funext fun e => ?_)
  unfold token branch
  refine congrArg (x0 (ix2 r e) + ·) (Finset.sum_congr rfl fun k _ => congrArg (· * x6 (ix2 k e)) ?_)
  refine (gated_apply r _ _ _ _ _ _ _ (tokenPool (kept x1 r) (fun c => u (ix2 r c))) (fun a k d => x4 (ix3 a k d))
    (group0 x1 x4 u r) (group1 x1 x4 u r) (group2 x1 x4 u r) (group3 x1 u r) (ld_mix x4 3) k).trans ?_
  rw [hg, ld_g x5, funext hu]
  rfl

/-- The kept rows move on by one; the new value row is the last. -/
theorem state_apply (i : Fin 15) (c : Fin 1024) : out0_9 (F := Ideal) x0 x1 x2 x3 x4 x5 x6 x7 (ix3 i r c)
    = lastRows (kept x1 r) (uRow (held x2 x3 x4 x5 x6) (new x0 r)) c (i.val + 1) := by
  rw [← funext (value_row x0 x1 x2 x3 x4 x5 x6 x7 r)]
  canon_tiles x e
  all_goals
    replace e0 : i.val = _ := e0
    have hx : x = ix3 0 r c := by
      funext a
      match a with
      | ⟨0, _⟩ => exact Fin.ext (by show (x 0).val = 0; omega)
      | ⟨1, _⟩ => exact Fin.ext e1.symm
      | ⟨2, _⟩ => exact Fin.ext e2.symm
    subst hx
    replace e0 : i.val = _ + 0 := e0
    pointwise [k0_pay6, k0_pay7, k0_pay8, k0_pay9, k0_pay10, k0_pay11, k0_pay12, k0_pay13, k0_pay14, k0_pay15, k0_pay16, k0_pay17, k0_pay18, k0_pay19, k0_pay20]
    unfold lastRows
    first
      | rw [dif_neg (by omega)]
      | rw [dif_pos (by omega)]
        refine congrArg x1 (funext fun a => ?_)
        match a with
        | ⟨0, _⟩ => exact Fin.ext (by simp; omega)
        | ⟨1, _⟩ => exact Fin.ext (by simp)
        | ⟨2, _⟩ => exact Fin.ext (by simp)

end Cert.Pool.K6
-- ==== Proof.Sample.Blocks6.lean ====
/-
  The blocks of the eight operands that the point of the grid reads, as entries of the arguments.
-/
module

public import proofs.«01_k».proof.Proof.Sample.Rows
public import proofs.«01_k».proof.Proof.Gen.Kernel6Ideal.Frame
public import Idealize.ShloMosaic.Lib.Pipeline.ValueKit
public import Idealize.ShloMosaic.Lib.StableHlo.RunRead

@[expose] public section
set_option maxRecDepth 16384
noncomputable section
namespace Cert.Pool.K6
open Idealize.ShloMosaic Idealize.ShloMosaic.TcCoe Idealize.ShloMosaic.Tactic Cert.Kernel6Ideal Cert.Kernel6Ideal.Gen

/-- The windows' block indices: every operand is one block. -/
theorem idx : ∀ t : Fin cfg0.N, win0_0.index t = ![0, 0] ∧ win0_1.index t = ![0, 0, 0] ∧ win0_2.index t = ![0, 0] ∧ win0_3.index t = ![0, 0]
    ∧ win0_4.index t = ![0, 0, 0] ∧ win0_5.index t = ![0, 0] ∧ win0_6.index t = ![0, 0] ∧ win0_7.index t = ![0, 0] := by decide +kernel

theorem N_eq : cfg0.N = 1 := by decide +kernel

variable (m : (ℓ : Loc nD τ sig) → Buf (Elt Ideal) ℓ) (c : Dev nD)

/-- The arguments. -/
abbrev argX : FVec Ideal S128x1x1024 .f32 := m (c.tc.loc main_arg0)
abbrev argS : FVec Ideal S128x15x1024 .f32 := m (c.tc.loc main_arg1)
abbrev argG : FVec Ideal S1024 .f32 := m (c.tc.loc main_arg2)
abbrev argW : FVec Ideal S1024x2048 .f32 := m (c.tc.loc main_arg3)
abbrev argM : FVec Ideal S4x256x256 .f32 := m (c.tc.loc main_arg4)
abbrev argC : FVec Ideal S1024 .f32 := m (c.tc.loc main_arg5)
abbrev argO : FVec Ideal S1024x1024 .f32 := m (c.tc.loc main_arg6)
abbrev argF : FVec Ideal S1024 .f32 := m (c.tc.loc main_arg7)

theorem V_v0 : V m c main_v0 = shapeCast S128x1024 (argX m c) shapeCasts_S128x1x1024_S128x1024 := by
  unfold V V0
  simp only [hostOps0, List.flatten_cons, List.flatten_nil, List.append_nil, List.cons_append, List.nil_append]
  after_reads_simp
  rfl

theorem V_v1 : V m c main_v1 = transpose S15x128x1024 [1, 0, 2] (argS m c) transposes_S128x15x1024_S15x128x1024_1_0_2 := by
  unfold V V0
  simp only [hostOps0, List.flatten_cons, List.flatten_nil, List.append_nil, List.cons_append, List.nil_append]
  after_reads_simp

theorem V_v2 : V m c main_v2 = shapeCast S1x1024 (argG m c) shapeCasts_S1024_S1x1024 := by
  unfold V V0
  simp only [hostOps0, List.flatten_cons, List.flatten_nil, List.append_nil, List.cons_append, List.nil_append]
  after_reads_simp
  rfl

theorem V_v3 : V m c main_v3 = truncf (F := Ideal) .bf16 (argW m c) bitsLt_bf16_f32 := by
  unfold V V0
  simp only [hostOps0, List.flatten_cons, List.flatten_nil, List.append_nil, List.cons_append, List.nil_append]
  after_reads_simp

theorem V_v4 : V m c main_v4 = truncf (F := Ideal) .bf16 (argM m c) bitsLt_bf16_f32 := by
  unfold V V0
  simp only [hostOps0, List.flatten_cons, List.flatten_nil, List.append_nil, List.cons_append, List.nil_append]
  after_reads_simp

theorem V_v5 : V m c main_v5 = shapeCast S1x1024 (argC m c) shapeCasts_S1024_S1x1024 := by
  unfold V V0
  simp only [hostOps0, List.flatten_cons, List.flatten_nil, List.append_nil, List.cons_append, List.nil_append]
  after_reads_simp
  rfl

theorem V_v6 : V m c main_v6 = truncf (F := Ideal) .bf16 (argO m c) bitsLt_bf16_f32 := by
  unfold V V0
  simp only [hostOps0, List.flatten_cons, List.flatten_nil, List.append_nil, List.cons_append, List.nil_append]
  after_reads_simp

theorem V_v7 : V m c main_v7 = shapeCast S1x1024 (argF m c) shapeCasts_S1024_S1x1024 := by
  unfold V V0
  simp only [hostOps0, List.flatten_cons, List.flatten_nil, List.append_nil, List.cons_append, List.nil_append]
  after_reads_simp
  rfl

theorem blk0 (t : Fin cfg0.N) (r : Fin 128) (k : Fin 1024) : iblk m c 0 t (ix2 r k) = argX m c (ix3 r 0 k) := by
  have he : (win0_0.blk t).view.emb (ix2 r k) = ix2 r k := by blk_ext [idx t]
  blk_simp [iblk, idx t]
  rw [V_v0, he]
  pointwise []

theorem blk1 (t : Fin cfg0.N) (i : Fin 15) (r : Fin 128) (k : Fin 1024) : iblk m c 1 t (ix3 i r k) = argS m c (ix3 r i k) := by
  have he : (win0_1.blk t).view.emb (ix3 i r k) = ix3 i r k := by blk_ext [idx t]
  blk_simp [iblk, idx t]
  rw [V_v1, he]
  pointwise []

theorem blk2 (t : Fin cfg0.N) (k : Fin 1024) : iblk m c 2 t (ix2 0 k) = argG m c (ix1 k) := by
  have he : (win0_2.blk t).view.emb (ix2 0 k) = ix2 0 k := by blk_ext [idx t]
  blk_simp [iblk, idx t]
  rw [V_v2, he]
  pointwise []

theorem blk3 (t : Fin cfg0.N) (k : Fin 1024) (j : Fin 2048) : iblk m c 3 t (ix2 k j) = argW m c (ix2 k j) := by
  have he : (win0_3.blk t).view.emb (ix2 k j) = ix2 k j := by blk_ext [idx t]
  blk_simp [iblk, idx t]
  rw [V_v3, he]
  pointwise []

theorem blk4 (t : Fin cfg0.N) (a : Fin 4) (k d : Fin 256) : iblk m c 4 t (ix3 a k d) = argM m c (ix3 a k d) := by
  have he : (win0_4.blk t).view.emb (ix3 a k d) = ix3 a k d := by blk_ext [idx t]
  blk_simp [iblk, idx t]
  rw [V_v4, he]
  pointwise []

theorem blk5 (t : Fin cfg0.N) (k : Fin 1024) : iblk m c 5 t (ix2 0 k) = argC m c (ix1 k) := by
  have he : (win0_5.blk t).view.emb (ix2 0 k) = ix2 0 k := by blk_ext [idx t]
  blk_simp [iblk, idx t]
  rw [V_v5, he]
  pointwise []

theorem blk6 (t : Fin cfg0.N) (k j : Fin 1024) : iblk m c 6 t (ix2 k j) = argO m c (ix2 k j) := by
  have he : (win0_6.blk t).view.emb (ix2 k j) = ix2 k j := by blk_ext [idx t]
  blk_simp [iblk, idx t]
  rw [V_v6, he]
  pointwise []

theorem blk7 (t : Fin cfg0.N) (k : Fin 1024) : iblk m c 7 t (ix2 0 k) = argF m c (ix1 k) := by
  have he : (win0_7.blk t).view.emb (ix2 0 k) = ix2 0 k := by blk_ext [idx t]
  blk_simp [iblk, idx t]
  rw [V_v7, he]
  pointwise []

end Cert.Pool.K6
-- ==== Proof.Sample.Run6.lean ====
/-
  The results of the program: the launch's arrays, the kept rows laid out by sequences.
-/
module

public import proofs.«01_k».proof.Proof.Sample.Block6
public import proofs.«01_k».proof.Proof.Sample.Blocks6

@[expose] public section
set_option backward.proofsInPublic true
set_option maxRecDepth 16384
noncomputable section
namespace Cert.Pool.K6
open Idealize.ShloMosaic Idealize.ShloMosaic.TcCoe Idealize.ShloMosaic.Tactic Idealize.SL.Sem Cert.Kernel6Ideal Cert.Kernel6Ideal.Gen

variable (m : (ℓ : Loc nD τ sig) → Buf (Elt Ideal) ℓ) (c : Dev nD) (ρ : Dev nD → PrngReg)

/-- The layer's weights, read off the arguments. -/
abbrev W : Weights := weights (argG m c) (argW m c) (argM m c) (argC m c) (argO m c)
/-- Sequence `r`'s kept rows and new row. -/
abbrev keptRows (r : Fin 128) (i : Fin 15) (k : Fin 1024) : EReal := argS m c (ix3 r i k)
abbrev newRow (r : Fin 128) (k : Fin 1024) : EReal := argX m c (ix3 r 0 k)

theorem held_eq (t : Fin cfg0.N) : held (iblk m c 2 t) (iblk m c 3 t) (iblk m c 4 t) (iblk m c 5 t) (iblk m c 6 t) = W m c := by
  unfold held W weights
  simp only [blk2, blk3, blk4, blk5, blk6]

theorem kept_eq (t : Fin cfg0.N) (r : Fin 128) : kept (iblk m c 1 t) r = keptRows m c r := funext fun i => funext fun k => blk1 m c t i r k

theorem new_eq (t : Fin cfg0.N) (r : Fin 128) : new (iblk m c 0 t) r = newRow m c r := funext fun k => blk0 m c t r k

theorem idx_out : ∀ t : Fin cfg0.N, win0_8.index t = ![0, 0] ∧ win0_9.index t = ![0, 0, 0] := by decide +kernel

/-- The one point of the grid. -/
def only : Fin cfg0.N := ⟨0, by rw [N_eq]; omega⟩

theorem arr_y (r : Fin 128) (j : Fin 1024) : (dats m 0 c).arrAt 8 cfg0.N (ix2 r j)
    = rms (token (W m c) (keptRows m c r) (newRow m c r)) (fun k => argF m c (ix1 k)) j := by
  have he : (win0_8.blk only).view.emb (ix2 r j) = ix2 r j := by blk_ext [(idx_out only).1]
  have hf := (dats m 0 c).arrAt_emb_eq_flushed 8 (Pipeline.Window.hdisj_of_index_inj _ (by decide +kernel)) only (flush0_8 _) (ix2 r j)
  rw [he] at hf
  refine hf.trans ?_
  show (dats m 0 c).after 8 only (ix2 r j) = _
  rw [after0_8]
  refine (row_apply ..).trans ?_
  rw [held_eq, kept_eq, new_eq]
  simp only [blk7]

theorem arr_state (i : Fin 15) (r : Fin 128) (j : Fin 1024) : (dats m 0 c).arrAt 9 cfg0.N (ix3 i r j)
    = lastRows (keptRows m c r) (uRow (W m c) (newRow m c r)) j (i.val + 1) := by
  have he : (win0_9.blk only).view.emb (ix3 i r j) = ix3 i r j := by blk_ext [(idx_out only).2]
  have hf := (dats m 0 c).arrAt_emb_eq_flushed 9 (Pipeline.Window.hdisj_of_index_inj _ (by decide +kernel)) only (flush0_9 _) (ix3 i r j)
  rw [he] at hf
  refine hf.trans ?_
  show (dats m 0 c).after 9 only (ix3 i r j) = _
  rw [after0_9]
  refine (state_apply ..).trans ?_
  rw [held_eq, kept_eq, new_eq]

/-- What the line after the launch leaves. -/
abbrev tail (b : Ref sig .tc) : Buf (Elt Ideal) ((c : Thread nD τ).loc b) := Pipeline.afterTail₀ cfgs (dats m) 0 (V0 m) [hostOps1] c b

theorem tail_state : (tail m c main_v9 : FVec Ideal S128x15x1024 .f32) = transpose S128x15x1024 [1, 0, 2]
    ((dats m 0 c).arrAt 9 cfg0.N : FVec Ideal S15x128x1024 .f32) transposes_S15x128x1024_S128x15x1024_1_0_2 := by
  unfold tail Pipeline.afterTail₀
  simp only [hostOps1, List.flatten_cons, List.flatten_nil, List.append_nil, List.cons_append, List.nil_append]
  after_reads_simp
  rw [show Pipeline.withArrays _ c (V0 m c) _ (Proc.tc.devRef main_v8_1) = _ from
    Pipeline.withArrays_arr (cfgs 0).spec launch0.win.arr_inj c (V0 m c) (fun w => (dats m 0 c).arrAt w (cfgs 0).N) 9]

theorem by_sequence (y : FVec Ideal S15x128x1024 .f32) (r : Fin 128) (i : Fin 15) (j : Fin 1024) :
    transpose S128x15x1024 [1, 0, 2] y transposes_S15x128x1024_S128x15x1024_1_0_2 (ix3 r i j) = y (ix3 i r j) := by
  pointwise []

theorem state_entry (r : Fin 128) (i : Fin 15) (j : Fin 1024) : (tail m c main_v9 : FVec Ideal S128x15x1024 .f32) (ix3 r i j)
    = lastRows (keptRows m c r) (uRow (W m c) (newRow m c r)) j (i.val + 1) := by
  rw [tail_state]
  exact (by_sequence ..).trans (arr_state m c i r j)

/-- The run's results. -/
theorem run_results : θ_run defs (onTc (τ := τ) (main (F := Ideal))) ⟨m, fun _ => 0, ρ⟩ fun r => ∀ c : Dev nD,
    r.2.mem ((c.tc : Thread nD τ).loc main_v8_0) = (dats m 0 c).arrAt 8 cfg0.N ∧ r.2.mem ((c.tc : Thread nD τ).loc main_v9) = tail m c main_v9 :=
  (θ_run defs _ _).mono (fun r h c => ⟨(h c).1 8, (h c).2 _ (Pipeline.mem_restRefs_of main_v9 (by decide) (by decide))⟩) (run_main m ρ)

end Cert.Pool.K6
-- ==== Proof.Sample.Ref6.lean ====
/-
  The reference's results, at an index.
-/
module

public import proofs.«01_k».proof.Proof.Sample.Rows
public import proofs.«01_k».proof.Proof.Sample.Pay6
public import proofs.«01_k».proof.Proof.Pool.Ref
public import proofs.«01_k».proof.Proof.Gen.Reference6Ideal.Read
public import Idealize.ShloMosaic.Lib.Pipeline.ValueKit

@[expose] public section
set_option maxRecDepth 16384
noncomputable section
namespace Cert.Pool.R6
open Idealize.ShloMosaic Idealize.ShloMosaic.TcCoe Idealize.ShloMosaic.Tactic Cert.Pool Cert.Reference6Ideal Cert.Reference6Ideal.Gen Cert.Reference6Ideal.Read

variable (x : FVec Ideal S128x1x1024 .f32) (st : FVec Ideal S128x15x1024 .f32) (g : FVec Ideal S1024 .f32) (wIn : FVec Ideal S1024x2048 .f32)
  (mix : FVec Ideal S4x256x256 .f32) (sc : FVec Ideal S1024 .f32) (wOut : FVec Ideal S1024x1024 .f32) (fg : FVec Ideal S1024 .f32)

/-- Sequence `s`'s new row and kept rows. -/
abbrev new (s : Fin 128) (k : Fin 1024) : EReal := x (ix3 s 0 k)
abbrev kept (s : Fin 128) (i : Fin 15) (k : Fin 1024) : EReal := st (ix3 s i k)

theorem norm_row (s : Fin 128) (k : Fin 1024) :
    val_main_v12 (F := Ideal) x g (ix3 s 0 k) = rms (fun k => x (ix3 s 0 k)) (fun k => g (ix1 k)) k := by
  rw [val_main_v12_apply, val_main_v11_apply, val_main_v10_apply, val_main_v9_apply, val_main_v8_apply, val_main_v7_apply,
    val_main_v6_apply, val_main_v5_apply, val_main_v4_apply, val_main_v3_apply, val_main_v2_apply, val_main_v1_apply]
  simp only [val_main_v0_apply, val_main_cst_apply, val_main_cst_0_apply, val_main_cst_1_apply]
  have hs : ∀ j : Fin 1024, idx_main_v1 (idx_main_v2 (idx_main_v8 (ix3 s 0 k))) j = ix3 s 0 j := fun j => funext fun a => by
    match a with | ⟨0, _⟩ => rfl | ⟨1, _⟩ => rfl | ⟨2, _⟩ => rfl
  simp only [hs]
  rw [show idx_main_v10 (idx_main_v11 (ix3 s 0 k)) = ix1 k from funext fun a => by match a with | ⟨0, _⟩ => rfl]
  unfold rms eps width1024
  rw [show (FloatOps.ofBits (F := Ideal) .f32 0x00000000#32 : EReal) = 0 from Ideal.ofBits_zero_f32, zero_add]
  rfl

theorem product (s : Fin 128) (j : Fin 2048) : val_main_v13 (F := Ideal) x g wIn (ix3 s 0 j)
    = ∑ k, rms (new x s) (fun k => g (ix1 k)) k * wIn (ix2 k j) := by
  unfold val_main_v13
  simp only [← norm_row]
  generalize val_main_v12 (F := Ideal) x g = y
  pointwise []

theorem value_row (s : Fin 128) (c : Fin 1024) : val_main_v14 (F := Ideal) x g wIn (ix3 s 0 c) = uRow (weights g wIn mix sc wOut) (new x s) c := by
  refine Eq.trans ?_ (product x g wIn s ⟨c.val, by omega⟩)
  unfold val_main_v14
  generalize val_main_v13 (F := Ideal) x g wIn = y
  pointwise []

theorem gate_row (s : Fin 128) (c : Fin 1024) : val_main_v15 (F := Ideal) x g wIn (ix3 s 0 c) = gateRow (weights g wIn mix sc wOut) (new x s) c := by
  refine Eq.trans ?_ (product x g wIn s ⟨1024 + c.val, by omega⟩)
  unfold val_main_v15
  generalize val_main_v13 (F := Ideal) x g wIn = y
  pointwise []

/-- The sixteen latest value rows. -/
theorem rows (s : Fin 128) (i : Fin 16) (c : Fin 1024) : val_main_v16 (F := Ideal) x st g wIn (ix3 s i c)
    = lastRows (kept st s) (uRow (weights g wIn mix sc wOut) (new x s)) c i.val := by
  rw [← funext (value_row x g wIn mix sc wOut s)]
  unfold val_main_v16
  generalize val_main_v14 (F := Ideal) x g wIn = y
  pointwise []
  unfold lastRows
  by_cases h : i.val < 15
  · rw [dif_pos h, dif_pos h]
  · rw [dif_neg h, dif_neg h]
    exact congrArg (fun i => y (ix3 s i c)) (Fin.ext (by dsimp only; omega))

theorem mean0 (s : Fin 128) (d : Fin 256) (c : Fin 1024) (hc : 0 + d.val = c.val) :
    val_main_v21 (F := Ideal) x st g wIn (ix3 s 0 d)
      = wmean (window 0) (lastRows (kept st s) (uRow (weights g wIn mix sc wOut) (new x s)) c) 15 := by
  have h := fun i : Fin 16 => rows x st g wIn mix sc wOut s i c
  generalize lastRows (kept st s) (uRow (weights g wIn mix sc wOut) (new x s)) c = U at h ⊢
  unfold val_main_v21 val_main_v19 val_main_v18 val_main_v17 val_main_v20 val_main_cst_2 val_main_cst_3
  generalize val_main_v16 (F := Ideal) x st g wIn = y at h ⊢
  pointwise []
  unfold wmean
  rw [show window 0 = 2 from rfl, ← K6.count_two, ← sum_lastRows 2 (by omega) U, Finset.sum_range]
  refine congrArg (Ideal.div · _) (Finset.sum_congr rfl fun j _ => Eq.trans ?_ (h ⟨14 + j.val, by omega⟩))
  exact congrArg₂ (fun i c => y (ix3 s i c)) rfl (Fin.ext (by dsimp only; omega))

theorem mean1 (s : Fin 128) (d : Fin 256) (c : Fin 1024) (hc : 256 + d.val = c.val) :
    val_main_v26 (F := Ideal) x st g wIn (ix3 s 0 d)
      = wmean (window 1) (lastRows (kept st s) (uRow (weights g wIn mix sc wOut) (new x s)) c) 15 := by
  have h := fun i : Fin 16 => rows x st g wIn mix sc wOut s i c
  generalize lastRows (kept st s) (uRow (weights g wIn mix sc wOut) (new x s)) c = U at h ⊢
  unfold val_main_v26 val_main_v24 val_main_v23 val_main_v22 val_main_v25 val_main_cst_4 val_main_cst_5
  generalize val_main_v16 (F := Ideal) x st g wIn = y at h ⊢
  pointwise []
  unfold wmean
  rw [show window 1 = 4 from rfl, ← K6.count_four, ← sum_lastRows 4 (by omega) U, Finset.sum_range]
  refine congrArg (Ideal.div · _) (Finset.sum_congr rfl fun j _ => Eq.trans ?_ (h ⟨12 + j.val, by omega⟩))
  exact congrArg₂ (fun i c => y (ix3 s i c)) rfl (Fin.ext (by dsimp only; omega))

theorem mean2 (s : Fin 128) (d : Fin 256) (c : Fin 1024) (hc : 512 + d.val = c.val) :
    val_main_v31 (F := Ideal) x st g wIn (ix3 s 0 d)
      = wmean (window 2) (lastRows (kept st s) (uRow (weights g wIn mix sc wOut) (new x s)) c) 15 := by
  have h := fun i : Fin 16 => rows x st g wIn mix sc wOut s i c
  generalize lastRows (kept st s) (uRow (weights g wIn mix sc wOut) (new x s)) c = U at h ⊢
  unfold val_main_v31 val_main_v29 val_main_v28 val_main_v27 val_main_v30 val_main_cst_6 val_main_cst_7
  generalize val_main_v16 (F := Ideal) x st g wIn = y at h ⊢
  pointwise []
  unfold wmean
  rw [show window 2 = 8 from rfl, ← K6.count_eight, ← sum_lastRows 8 (by omega) U, Finset.sum_range]
  refine congrArg (Ideal.div · _) (Finset.sum_congr rfl fun j _ => Eq.trans ?_ (h ⟨8 + j.val, by omega⟩))
  exact congrArg₂ (fun i c => y (ix3 s i c)) rfl (Fin.ext (by dsimp only; omega))

theorem mean3 (s : Fin 128) (d : Fin 256) (c : Fin 1024) (hc : 768 + d.val = c.val) :
    val_main_v36 (F := Ideal) x st g wIn (ix3 s 0 d)
      = wmean (window 3) (lastRows (kept st s) (uRow (weights g wIn mix sc wOut) (new x s)) c) 15 := by
  have h := fun i : Fin 16 => rows x st g wIn mix sc wOut s i c
  generalize lastRows (kept st s) (uRow (weights g wIn mix sc wOut) (new x s)) c = U at h ⊢
  unfold val_main_v36 val_main_v34 val_main_v33 val_main_v32 val_main_v35 val_main_cst_8 val_main_cst_9
  generalize val_main_v16 (F := Ideal) x st g wIn = y at h ⊢
  pointwise []
  unfold wmean
  rw [show window 3 = 16 from rfl, ← K6.count_sixteen, ← sum_lastRows 16 (by omega) U, Finset.sum_range]
  refine congrArg (Ideal.div · _) (Finset.sum_congr rfl fun j _ => Eq.trans ?_ (h ⟨0 + j.val, by omega⟩))
  exact congrArg₂ (fun i c => y (ix3 s i c)) (Fin.ext (by dsimp only; omega)) (Fin.ext (by dsimp only; omega))

/-- The pooled row: the means of the four groups side by side, minus the new row. -/
theorem mean_row (s : Fin 128) (c : Fin 1024) : val_main_v37 (F := Ideal) x st g wIn (ix3 s 0 c)
    = wmean (window (c.val / 256)) (lastRows (kept st s) (uRow (weights g wIn mix sc wOut) (new x s)) c) 15 := by
  have hc := c.isLt
  unfold val_main_v37
  rcases (show c.val / 256 = 0 ∨ c.val / 256 = 1 ∨ c.val / 256 = 2 ∨ c.val / 256 = 3 by omega) with h | h | h | h
  · rw [h, ← mean0 x st g wIn mix sc wOut s ⟨c.val - 0, by omega⟩ c (by show 0 + (c.val - 0) = c.val; omega)]
    exact concatenate_apply_piece 2 _ _ (ix3 s 0 c) 0 (by simp) S128x1x256 (val_main_v21 (F := Ideal) x st g wIn) rfl rfl 0 rfl
      (ix3 s 0 ⟨c.val - 0, by omega⟩) (fun b hb => by match b with | ⟨0, _⟩ => rfl | ⟨1, _⟩ => rfl | ⟨2, _⟩ => exact absurd rfl hb)
      (by show 0 + (c.val - 0) = c.val; omega)
  · rw [h, ← mean1 x st g wIn mix sc wOut s ⟨c.val - 256, by omega⟩ c (by show 256 + (c.val - 256) = c.val; omega)]
    exact concatenate_apply_piece 2 _ _ (ix3 s 0 c) 1 (by simp) S128x1x256 (val_main_v26 (F := Ideal) x st g wIn) rfl rfl 256 rfl
      (ix3 s 0 ⟨c.val - 256, by omega⟩) (fun b hb => by match b with | ⟨0, _⟩ => rfl | ⟨1, _⟩ => rfl | ⟨2, _⟩ => exact absurd rfl hb)
      (by show 256 + (c.val - 256) = c.val; omega)
  · rw [h, ← mean2 x st g wIn mix sc wOut s ⟨c.val - 512, by omega⟩ c (by show 512 + (c.val - 512) = c.val; omega)]
    exact concatenate_apply_piece 2 _ _ (ix3 s 0 c) 2 (by simp) S128x1x256 (val_main_v31 (F := Ideal) x st g wIn) rfl rfl 512 rfl
      (ix3 s 0 ⟨c.val - 512, by omega⟩) (fun b hb => by match b with | ⟨0, _⟩ => rfl | ⟨1, _⟩ => rfl | ⟨2, _⟩ => exact absurd rfl hb)
      (by show 512 + (c.val - 512) = c.val; omega)
  · rw [h, ← mean3 x st g wIn mix sc wOut s ⟨c.val - 768, by omega⟩ c (by show 768 + (c.val - 768) = c.val; omega)]
    exact concatenate_apply_piece 2 _ _ (ix3 s 0 c) 3 (by simp) S128x1x256 (val_main_v36 (F := Ideal) x st g wIn) rfl rfl 768 rfl
      (ix3 s 0 ⟨c.val - 768, by omega⟩) (fun b hb => by match b with | ⟨0, _⟩ => rfl | ⟨1, _⟩ => rfl | ⟨2, _⟩ => exact absurd rfl hb)
      (by show 768 + (c.val - 768) = c.val; omega)

theorem pool_row (s : Fin 128) (c : Fin 1024) : val_main_v38 (F := Ideal) x st g wIn (ix3 s 0 c)
    = tokenPool (kept st s) (uRow (weights g wIn mix sc wOut) (new x s)) c := by
  rw [val_main_v38_apply, mean_row x st g wIn mix sc wOut, value_row x g wIn mix sc wOut]
  rfl

/-- The mixing of each group's columns. -/
theorem mixed_row (s : Fin 128) (c : Fin 1024) : val_main_v42 (F := Ideal) x st g wIn mix (ix3 s 0 c)
    = mixRow (tokenPool (kept st s) (uRow (weights g wIn mix sc wOut) (new x s))) (weights g wIn mix sc wOut).mix c := by
  rw [← funext (pool_row x st g wIn mix sc wOut s)]
  unfold val_main_v42 val_main_v41 val_main_v40 val_main_v39
  generalize val_main_v38 (F := Ideal) x st g wIn = y
  pointwise []
  unfold mixRow
  refine Finset.sum_congr rfl fun k _ => (mul_comm _ _).trans ?_
  exact congrArg (fun j => y (ix3 s 0 j) * mix (ix3 ⟨c.val / 256, by omega⟩ k ⟨c.val % 256, by omega⟩)) (Fin.ext (by dsimp only; omega))

theorem gated_row (s : Fin 128) (c : Fin 1024) : val_main_v47 (F := Ideal) x st g wIn mix sc (ix3 s 0 c)
    = mixRow (tokenPool (kept st s) (uRow (weights g wIn mix sc wOut) (new x s))) (weights g wIn mix sc wOut).mix c * sc (ix1 c)
      * silu (gateRow (weights g wIn mix sc wOut) (new x s) c) := by
  rw [val_main_v47_apply, val_main_v45_apply, val_main_v44_apply, val_main_v43_apply, mixed_row x st g wIn mix sc wOut,
    show val_main_v46 (F := Ideal) x g wIn (ix3 s 0 c) = silu (val_main_v15 (F := Ideal) x g wIn (ix3 s 0 c)) from
      congrArg (val_main_v15 (F := Ideal) x g wIn (ix3 s 0 c) * ·) (Pool.R1.host_logistic _), gate_row x g wIn mix sc wOut,
    show idx_main_v43 (idx_main_v44 (ix3 s 0 c)) = ix1 c from funext fun a => by match a with | ⟨0, _⟩ => rfl]
  rfl

/-- The layer's row: the residual row and the mixed pooled row, scaled, gated and projected. -/
theorem layer_row (s : Fin 128) (c : Fin 1024) : val_main_v49 (F := Ideal) x st g wIn mix sc wOut (ix3 s 0 c)
    = token (weights g wIn mix sc wOut) (kept st s) (new x s) c := by
  unfold token branch
  simp only [show ∀ k, (weights g wIn mix sc wOut).sc k = sc (ix1 k) from fun _ => rfl, ← gated_row]
  unfold val_main_v49 val_main_v48
  generalize val_main_v47 (F := Ideal) x st g wIn mix sc = y
  pointwise []
  rfl

theorem final_row (s : Fin 128) (c : Fin 1024) : val_main_v63 (F := Ideal) x st g wIn mix sc wOut fg (ix2 s c)
    = rms (token (weights g wIn mix sc wOut) (kept st s) (new x s)) (fun k => fg (ix1 k)) c := by
  refine Eq.trans (b := val_main_v62 (F := Ideal) x st g wIn mix sc wOut fg (ix3 s 0 c)) ?_ ?_
  · unfold val_main_v63
    generalize val_main_v62 (F := Ideal) x st g wIn mix sc wOut fg = y
    pointwise []
  rw [val_main_v62_apply, val_main_v61_apply, val_main_v60_apply, val_main_v59_apply, val_main_v58_apply, val_main_v57_apply,
    val_main_v56_apply, val_main_v55_apply, val_main_v54_apply, val_main_v53_apply, val_main_v52_apply, val_main_v51_apply]
  simp only [val_main_v50_apply, val_main_cst_10_apply, val_main_cst_11_apply, val_main_cst_12_apply]
  have hs : ∀ j : Fin 1024, idx_main_v51 (idx_main_v52 (idx_main_v58 (ix3 s 0 c))) j = ix3 s 0 j := fun j => funext fun a => by
    match a with | ⟨0, _⟩ => rfl | ⟨1, _⟩ => rfl | ⟨2, _⟩ => rfl
  simp only [hs, layer_row]
  rw [show idx_main_v60 (idx_main_v61 (ix3 s 0 c)) = ix1 c from funext fun a => by match a with | ⟨0, _⟩ => rfl]
  unfold rms eps width1024
  rw [show (FloatOps.ofBits (F := Ideal) .f32 0x00000000#32 : EReal) = 0 from Ideal.ofBits_zero_f32, zero_add]
  rfl

/-- The kept rows: all but the oldest of the sixteen. -/
theorem state_entry (s : Fin 128) (i : Fin 15) (c : Fin 1024) : val_main_v64 (F := Ideal) x st g wIn (ix3 s i c)
    = lastRows (kept st s) (uRow (weights g wIn mix sc wOut) (new x s)) c (i.val + 1) := by
  refine Eq.trans ?_ (rows x st g wIn mix sc wOut s ⟨i.val + 1, by omega⟩ c)
  unfold val_main_v64
  generalize val_main_v16 (F := Ideal) x st g wIn = y
  pointwise []
  exact congrArg (fun i => y (ix3 s i c)) (Fin.ext (by dsimp only; omega))

end Cert.Pool.R6
-- ==== Proof.Sample.Agree6.lean ====
/-
  The pooling layer for one new token of every sequence: the program's results are the reference's.
-/
module

public import proofs.«01_k».proof.Defs
public import proofs.«01_k».proof.Proof.Gen.Kernel6
public import proofs.«01_k».proof.Proof.Gen.Kernel6.Frame
public import proofs.«01_k».proof.Proof.Gen.Kernel6Ideal.Frame
public import proofs.«01_k».proof.Proof.Gen.Reference6Ideal
public import proofs.«01_k».proof.Proof.Gen.Reference6Ideal.Read
public import proofs.«01_k».proof.Proof.Gen.Reference6Ideal.Run
public import proofs.«01_k».proof.Proof.Sample.Run6
public import proofs.«01_k».proof.Proof.Sample.Ref6

@[expose] public section
set_option backward.proofsInPublic true
noncomputable section
namespace Cert.Pool.K6
open Idealize.ShloMosaic Idealize.ShloMosaic.TcCoe Idealize.SL.Sem

variable (m : (ℓ : Loc Kernel6Ideal.nD Kernel6Ideal.τ Kernel6Ideal.sig) → Buf (Elt Ideal) ℓ) (c : Dev Kernel6Ideal.nD)

theorem agree_row : Reference6Ideal.Read.val_main_v63 (F := Ideal) (argX m c) (argS m c) (argG m c) (argW m c) (argM m c) (argC m c) (argO m c) (argF m c)
    = (Kernel6Ideal.Gen.dats m 0 c).arrAt 8 Kernel6Ideal.cfg0.N := by
  funext i
  have ei : i = ix2 (i 0) (i 1) := funext fun a => by match a with | ⟨0, _⟩ => rfl | ⟨1, _⟩ => rfl
  rw [ei]
  exact (R6.final_row ..).trans (arr_y m c ..).symm

theorem agree_state : Reference6Ideal.Read.val_main_v64 (F := Ideal) (argX m c) (argS m c) (argG m c) (argW m c) = tail m c Kernel6Ideal.main_v9 := by
  funext i
  have ei : i = ix3 (i 0) (i 1) (i 2) := funext fun a => by match a with | ⟨0, _⟩ => rfl | ⟨1, _⟩ => rfl | ⟨2, _⟩ => rfl
  rw [ei]
  exact (R6.state_entry _ _ _ _ (argM m c) (argC m c) (argO m c) ..).trans (state_entry m c ..).symm

/-- The reference's run leaves the arguments alone, and it has no semaphore. -/
theorem frame_reference : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The pooling layer's value claim. -/
theorem value_pooling : Cert.algebraic_Kernel6Ideal_Reference6Ideal := by
  intro m ρ m' ρ' _ hagree
  refine ⟨fun c => (Kernel6Ideal.Gen.dats m 0 c).arrAt 8 Kernel6Ideal.cfg0.N, fun c => tail m c Kernel6Ideal.main_v9, ?_, ?_⟩
  · refine (θ_run Cert.Kernel6Ideal.defs _ _).mono (fun r h c => ?_) (θ_run_and (run_results m ρ) (Kernel6Ideal.Gen.frame m ρ))
    obtain ⟨hy, hs⟩ := h.1 c
    exact ⟨hy, hs, h.2.1 c⟩
  · refine (θ_run Cert.Reference6Ideal.defs _ _).mono (fun r h c => ?_) (Cert.Reference6Ideal.Value.run (F := Ideal) m' ρ')
    obtain ⟨h0, h1, h2, h3, h4, h5, h6, h7⟩ := hagree c
    obtain ⟨hy, hs, hargs⟩ := h c
    replace hy := hy.trans (Cert.Reference6Ideal.Read.val_main_v63_eq m' c)
    rw [h0, h1, h2, h3, h4, h5, h6, h7] at hy
    rw [h0, h1, h2, h3] at hs
    exact ⟨hy.trans (agree_row m c), hs.trans (agree_state m c), hargs⟩

end Cert.Pool.K6
-- ==== Proof.Sample.Window.lean ====
/-
  The layer's own idea: attention over the last keys and a sink. One query sees 128 kept keys with logits `s`, the new key with logit
  `n`, and a sink with logit `k` that takes weight and gives nothing.
-/
module

public import Idealize.ShloMosaic.Lib.ValueIdx
public import Idealize.ShloMosaic.Lib.Pipeline.ValueKit

@[expose] public section
noncomputable section
namespace Cert.Swa
open Idealize.ShloMosaic

/-- The largest logit, the sink's among them. -/
def peak (s : Fin 128 → EReal) (n k : EReal) : EReal := max (max (Finset.univ.fold max ⊥ s) n) k

/-- The weight that is shared out. -/
def mass (s : Fin 128 → EReal) (n k : EReal) : EReal :=
  (∑ j, Ideal.exp (s j - peak s n k)) + Ideal.exp (n - peak s n k) + Ideal.exp (k - peak s n k)

/-- The values, each at its share of the weight. -/
def mean (s : Fin 128 → EReal) (n k : EReal) (v : Fin 128 → EReal) (w : EReal) : EReal :=
  (∑ j, Ideal.div (Ideal.exp (s j - peak s n k)) (mass s n k) * v j) + Ideal.div (Ideal.exp (n - peak s n k)) (mass s n k) * w

/-- A fold of the maximum over one more entry. -/
theorem fold_last (f : Fin 129 → EReal) : Finset.univ.fold max ⊥ f = max (Finset.univ.fold max ⊥ fun j : Fin 128 => f j.castSucc) (f (Fin.last 128)) := by
  rw [Fin.univ_castSuccEmb, Finset.fold_cons, Finset.fold_map, max_comm]
  rfl

end Cert.Swa
-- ==== Proof.Sample.Host7.lean ====
/-
  The launch's operands, as the lines before it make them from the arguments.
-/
module

public import proofs.«01_k».proof.Proof.Sample.Window
public import proofs.«01_k».proof.Proof.Gen.Kernel7Ideal.Frame
public import Idealize.ShloMosaic.Lib.Pipeline.ValueKit
public import Idealize.ShloMosaic.Lib.StableHlo.RunRead

@[expose] public section
set_option maxRecDepth 16384
noncomputable section
namespace Cert.Swa.K7
open Idealize.ShloMosaic Idealize.ShloMosaic.TcCoe Idealize.ShloMosaic.Tactic Cert.Swa Cert.Kernel7Ideal Cert.Kernel7Ideal.Gen

variable (m : (ℓ : Loc nD τ sig) → Buf (Elt Ideal) ℓ) (c : Dev nD)

/-- The arguments. -/
abbrev argQ : FVec Ideal S128x1x16x64 .f32 := m (c.tc.loc main_arg0)
abbrev argK : FVec Ideal S128x1x4x64 .f32 := m (c.tc.loc main_arg1)
abbrev argV : FVec Ideal S128x1x4x64 .f32 := m (c.tc.loc main_arg2)
abbrev argCK : FVec Ideal S128x128x4x64 .f32 := m (c.tc.loc main_arg3)
abbrev argCV : FVec Ideal S128x128x4x64 .f32 := m (c.tc.loc main_arg4)
abbrev argS : FVec Ideal S16 .f32 := m (c.tc.loc main_arg5)
abbrev argR : FVec Ideal S32x16 .f32 := m (c.tc.loc main_arg6)

theorem V_v31 : V m c main_v31 = shapeCast S128x256x128 (transpose S128x4x64x128 [0, 2, 3, 1] (argCK m c) transposes_S128x128x4x64_S128x4x64x128_0_2_3_1) shapeCasts_S128x4x64x128_S128x256x128 := by
  unfold V V0
  simp only [hostOps0, hostOps0_1, hostOps0_2, List.flatten_cons, List.flatten_nil, List.append_nil, List.cons_append, List.nil_append]
  after_reads_simp
  rfl

theorem V_v33 : V m c main_v33 = shapeCast S128x256x128 (transpose S128x4x64x128 [0, 2, 3, 1] (argCV m c) transposes_S128x128x4x64_S128x4x64x128_0_2_3_1) shapeCasts_S128x4x64x128_S128x256x128 := by
  unfold V V0
  simp only [hostOps0, hostOps0_1, hostOps0_2, List.flatten_cons, List.flatten_nil, List.append_nil, List.cons_append, List.nil_append]
  after_reads_simp
  rfl

theorem V_v34 : V m c main_v34 = broadcastInDim S128x1x256 ![0, 2] bcast_S128x256_S128x1x256_0_2 (shapeCast S128x256 (argK m c) shapeCasts_S128x1x4x64_S128x256) := by
  unfold V V0
  simp only [hostOps0, hostOps0_1, hostOps0_2, List.flatten_cons, List.flatten_nil, List.append_nil, List.cons_append, List.nil_append]
  after_reads_simp
  rfl

theorem V_v36 : V m c main_v36 = transpose S256x128 [1, 0] (shapeCast S128x256 (argK m c) shapeCasts_S128x1x4x64_S128x256) transposes_S128x256_S256x128_1_0 := by
  unfold V V0
  simp only [hostOps0, hostOps0_1, hostOps0_2, List.flatten_cons, List.flatten_nil, List.append_nil, List.cons_append, List.nil_append]
  after_reads_simp
  rfl

theorem V_v35 : V m c main_v35 = broadcastInDim S128x1x256 ![0, 2] bcast_S128x256_S128x1x256_0_2 (shapeCast S128x256 (argV m c) shapeCasts_S128x1x4x64_S128x256) := by
  unfold V V0
  simp only [hostOps0, hostOps0_1, hostOps0_2, List.flatten_cons, List.flatten_nil, List.append_nil, List.cons_append, List.nil_append]
  after_reads_simp
  rfl

theorem V_v37 : V m c main_v37 = transpose S256x128 [1, 0] (shapeCast S128x256 (argV m c) shapeCasts_S128x1x4x64_S128x256) transposes_S128x256_S256x128_1_0 := by
  unfold V V0
  simp only [hostOps0, hostOps0_1, hostOps0_2, List.flatten_cons, List.flatten_nil, List.append_nil, List.cons_append, List.nil_append]
  after_reads_simp
  rfl

theorem V_v38 : V m c main_v38 = shapeCast S16x1 (argS m c) shapeCasts_S16_S16x1 := by
  unfold V V0
  simp only [hostOps0, hostOps0_1, hostOps0_2, List.flatten_cons, List.flatten_nil, List.append_nil, List.cons_append, List.nil_append]
  after_reads_simp
  rfl

theorem V_v10 : V m c main_v10 = shapeCast S16x1 (shapeCast S16 (extractStridedSlice S1x16 ![0, 0] (argR m c) slices_S32x16_S1x16_0_0) shapeCasts_S1x16_S16) shapeCasts_S16_S16x1 := by
  unfold V V0
  simp only [hostOps0, hostOps0_1, hostOps0_2, List.flatten_cons, List.flatten_nil, List.append_nil, List.cons_append, List.nil_append]
  after_reads_simp
  rfl

/-- The query heads' rows, each with its 64 columns at its key head's place and zeros elsewhere. -/
def placed (x : FVec Ideal S128x1x16x64 .f32) : FVec Ideal S128x16x256 .bf16 :=
  shapeCast S128x16x256 (mulf (F := Ideal)
    (broadcastInDim S128x4x4x4x64 ![0, 1, 2, 3, 4] bcast_S128x4x4x1x64_S128x4x4x4x64_0_1_2_3_4
      (broadcastInDim S128x4x4x1x64 ![0, 1, 2, 4] bcast_S128x4x4x64_S128x4x4x1x64_0_1_2_4
        (shapeCast S128x4x4x64 (truncf (F := Ideal) .bf16 (mulf (shapeCast S128x1024 x shapeCasts_S128x1x16x64_S128x1024)
          (broadcastInDim S128x1024 ![] bcast_S_S128x1024 (constant (F := Ideal) S_ .f32 0x3E000000#32))) bitsLt_bf16_f32)
          shapeCasts_S128x1024_S128x4x4x64)))
    (broadcastInDim S128x4x4x4x64 ![0, 1, 2, 3, 4] bcast_S1x4x1x4x1_S128x4x4x4x64_0_1_2_3_4
      (broadcastInDim S1x4x1x4x1 ![1, 3] bcast_S4x4_S1x4x1x4x1_1_3
        (uitofp (F := Ideal) .bf16 (cmpi .eq (addi (iotaInDim S4x4 32 0) (broadcastInDim S4x4 ![] bcast_S_S4x4 (constantI S_ 32 0#32)))
          (iotaInDim S4x4 32 1)))))) shapeCasts_S128x4x4x4x64_S128x16x256

/-- The buckets of the kept keys' distances, as the kernel's table lists them. -/
def table : IVec S128x1 32 :=
  broadcastInDim S128x1 ![0] bcast_S128_S128x1_0 (select (constantI S128 1 0#1)
    (addi (fun i => lit0 (S128.rowMajor i)) (broadcastInDim S128 ![] bcast_S_S128 (constantI S_ 32 32#32))) fun i => lit0 (S128.rowMajor i))

/-- The kept keys' biases, by query heads: the oldest key is outside the window. -/
def biases (x : FVec Ideal S32x16 .f32) : FVec Ideal S16x128 .f32 :=
  select (broadcastInDim S16x128 ![0, 1] bcast_S1x128_S16x128_0_1 (broadcastInDim S1x128 ![1] bcast_S128_S1x128_1 fun i => lit1 (S128.rowMajor i)))
    (transpose S16x128 [1, 0] (Host.gather gather_S32x16_S128x1_S128x16_1_0_n_n_0_1_116 x table) transposes_S128x16_S16x128_1_0)
    (broadcastInDim S16x128 ![] bcast_S_S16x128 (constant (F := Ideal) S_ .f32 0xFF800000#32))

theorem V_v29 : V m c main_v29 = placed (argQ m c) := by
  unfold V V0
  simp only [hostOps0, hostOps0_1, hostOps0_2, List.flatten_cons, List.flatten_nil, List.append_nil, List.cons_append, List.nil_append]
  after_reads_simp
  rfl

theorem V_v7 : V m c main_v7 = biases (argR m c) := by
  unfold V V0
  simp only [hostOps0, hostOps0_1, hostOps0_2, List.flatten_cons, List.flatten_nil, List.append_nil, List.cons_append, List.nil_append]
  after_reads_simp
  rfl

end Cert.Swa.K7
-- ==== Proof.Sample.Gather.lean ====
/-
  A table of 32 rows, gathered by an array of row numbers, at an index.
-/
module

public import Idealize.ShloMosaic.Lib.ValueIdx
public import Idealize.ShloMosaic.Lib.Pipeline.ValueKit

@[expose] public section
noncomputable section
namespace Cert.Swa
open Idealize.ShloMosaic

/-- Whole rows of a table of 32 rows by 16, one for each of `n` row numbers. -/
abbrev rowsOf (n : ℕ) (wf : GatherDims.WF ⟨2, ![32, 16]⟩ ⟨2, ![n, 1]⟩ ⟨2, ![n, 16]⟩ [1] [0] [] [0] [] 1 ![1, 16]) :
    GatherDims ⟨2, ![32, 16]⟩ ⟨2, ![n, 1]⟩ ⟨2, ![n, 16]⟩ where
  offsetDims := [1]
  collapsedSliceDims := [0]
  operandBatchingDims := []
  startIndicesBatchingDims := []
  startIndexMap := [0]
  indexVectorDim := 1
  sliceSizes := ![1, 16]
  wf := wf

theorem gather_rowsOf {n : ℕ} (wf : GatherDims.WF ⟨2, ![32, 16]⟩ ⟨2, ![n, 1]⟩ ⟨2, ![n, 16]⟩ [1] [0] [] [0] [] 1 ![1, 16])
    (x : (⟨2, ![32, 16]⟩ : Shape).Idx → EReal) (w : IVec ⟨2, ![n, 1]⟩ 32) (j : Fin n) (h : Fin 16) :
    Host.gather (rowsOf n wf) x w (ix2 j h) = x (ix2 ⟨min (w (ix2 j 0)).toInt.toNat 31, by omega⟩ h) := by
  refine congrArg x (funext fun a => Fin.ext ?_)
  show (rowsOf n wf).start (ix2 j h) w a + (rowsOf n wf).batchCoord (ix2 j h) a + (rowsOf n wf).offCoord (ix2 j h) a = _
  rw [GatherDims.batchCoord_eq_zero _ _ _ List.not_mem_nil]
  match a with
  | ⟨0, _⟩ =>
    have ho : (rowsOf n wf).offCoord (ix2 j h) (0 : Fin 2) = 0 :=
      GatherDims.offCoord_eq_zero _ _ _ fun hm => ((GatherDims.mem_sKept _ _).mp hm).1 (List.mem_singleton.mpr rfl)
    have hs : (rowsOf n wf).start (ix2 j h) w (0 : Fin 2) = min (w (ix2 j 0)).toInt.toNat 31 := by
      unfold GatherDims.start
      rw [dif_pos (show (0 : Fin 2) ∈ (rowsOf n wf).startIndexMap from List.mem_singleton.mpr rfl)]
      refine congrArg (fun i => min (w i).toInt.toNat 31) (funext fun b => Fin.ext ?_)
      match b with
      | ⟨0, _⟩ => rfl
      | ⟨1, _⟩ => rfl
    exact (congrArg₂ (· + 0 + ·) hs ho)
  | ⟨1, _⟩ =>
    have hs : (rowsOf n wf).start (ix2 j h) w (1 : Fin 2) = 0 := by
      unfold GatherDims.start
      rw [dif_neg (show (1 : Fin 2) ∉ ([0] : List (Fin 2)) by decide)]
    have ho : (rowsOf n wf).offCoord (ix2 j h) (1 : Fin 2) = h.val := by
      unfold GatherDims.offCoord
      rw [dif_pos ((GatherDims.mem_sKept _ _).mpr ⟨show (1 : Fin 2) ∉ ([0] : List (Fin 2)) by decide, List.not_mem_nil⟩)]
      rfl
    refine (congrArg₂ (· + 0 + ·) hs ho).trans ?_
    show 0 + 0 + h.val = h.val
    omega

/-- The same, where the row's number is known. -/
theorem gather_row {n : ℕ} (wf : GatherDims.WF ⟨2, ![32, 16]⟩ ⟨2, ![n, 1]⟩ ⟨2, ![n, 16]⟩ [1] [0] [] [0] [] 1 ![1, 16])
    (x : (⟨2, ![32, 16]⟩ : Shape).Idx → EReal) (w : IVec ⟨2, ![n, 1]⟩ 32) (j : Fin n) (h : Fin 16) (v : BitVec 32) (hv : w (ix2 j 0) = v) :
    Host.gather (rowsOf n wf) x w (ix2 j h) = x (ix2 ⟨min v.toInt.toNat 31, by omega⟩ h) := by
  subst hv
  exact gather_rowsOf wf x w j h

end Cert.Swa
-- ==== Proof.Sample.Pay7.lean ====
/-
  The vector expressions of the windowed attention for one new token, at an index.
-/
module

public import proofs.«01_k».proof.Proof.Sample.Window
public import proofs.«01_k».proof.Proof.Gen.Kernel7Ideal.Skeleton
public import Idealize.ShloMosaic.Lib.KernelVsHost

@[expose] public section
set_option maxRecDepth 16384
noncomputable section
namespace Cert.Swa.K7
open Idealize.ShloMosaic Cert.Swa Cert.Kernel7Ideal Cert.Kernel7Ideal.Gen

theorem word_bot : (Ideal.ofBits .f32 0xFF800000#32 : EReal) = ⊥ := by
  simp [Ideal.ofBits, Ideal.ieee]

/-- The numbers of the lanes. -/
abbrev lanes : IVec S256x128 32 := iota .tc S256x128 32 [1] iota_S256x128_d1_w32

theorem rotate_apply (y : FVec Ideal S256x128 .f32) (s : Fin 256) (t : Fin 128) (ht : t.val < 127) :
    dynamicRotate 1 127#32 none y rotates_S256x128_d1 (ix2 s t) = y (ix2 s ⟨t.val + 1, by omega⟩) := by
  refine Idealize.ShloMosaic.dynamicRotate_apply (s := S256x128) _ _ _ _ _ _ fun a => ?_
  match a with
  | ⟨0, _⟩ => rfl
  | ⟨1, _⟩ =>
    show t.val + 1 = (t.val + 128 - 127 % 128) % 128
    omega

theorem lane_eq (a b : Fin 128) : IntOp.cmpi CmpIPredicate.eq (BitVec.ofNat 32 a.val) (BitVec.ofNat 32 b.val) = if a = b then 1#1 else 0#1 := by
  revert a b; decide +kernel

/-- One cache block moved on by a token: the last column is column `b` of the new tokens. -/
theorem pay95_apply (b : Fin 128) (x : FVec Ideal S1x256x128 .f32) (w : FVec Ideal S256x128 .f32) (s : Fin 256) (t : Fin 128) :
    k0_pay95 (F := Ideal) lanes (BitVec.ofNat 32 b.val) (k0_pay85 x) w (ix3 0 s t)
      = if h : t.val < 127 then x (ix3 0 s ⟨t.val + 1, by omega⟩) else w (ix2 s b) := by
  have hx : ∀ j, k0_pay85 (F := Ideal) x (ix2 s j) = x (ix3 0 s j) := fun j => by pointwise [k0_pay85]
  generalize k0_pay85 (F := Ideal) x = y at hx
  have hr := rotate_apply y s t
  unfold k0_pay95
  generalize dynamicRotate 1 127#32 none y rotates_S256x128_d1 = z at hr
  pointwise
  rw [lane_eq t ⟨127, by omega⟩]
  simp only [lane_eq]
  by_cases ht : t.val < 127
  · rw [dif_pos ht, if_neg (fun e => by rw [e] at ht; exact absurd ht (by decide)), ← hx, ← hr ht]
    rfl
  · rw [dif_neg ht, if_pos (Fin.ext (by dsimp only; omega))]
    show (∑ j : Fin 128, Scalar.select (if j = b then 1#1 else 0#1) (w (ix2 s j)) 0) = _
    refine (Finset.sum_eq_single (M := EReal) b (fun j _ hj => ?_) (fun hb => absurd (Finset.mem_univ b) hb)).trans ?_
    · rw [if_neg hj]; rfl
    · rw [if_pos rfl]; rfl

theorem pay96_apply (b : Fin 128) (x : FVec Ideal S1x256x128 .f32) (w : FVec Ideal S256x128 .f32) (s : Fin 256) (t : Fin 128) :
    k0_pay96 (F := Ideal) lanes (BitVec.ofNat 32 b.val) (k0_pay86 x) w (ix3 0 s t)
      = if h : t.val < 127 then x (ix3 0 s ⟨t.val + 1, by omega⟩) else w (ix2 s b) := pay95_apply b x w s t

/-- A kept key's logit. -/
theorem pay88_apply (x : FVec Ideal S1x256x128 .f32) (q : FVec Ideal S1x16x256 .bf16) (b : FVec Ideal S16x128 .f32) (h : Fin 16) (j : Fin 128) :
    k0_pay88 (F := Ideal) x q b (ix2 h j) = (∑ c : Fin 256, q (ix3 0 h c) * x (ix3 0 c j)) + b (ix2 h j) := by
  pointwise [k0_pay88, k0_pay85, k0_pay87]

theorem pay89_apply (q : FVec Ideal S1x16x256 .bf16) (h : Fin 16) (c : Fin 256) : k0_pay89 (F := Ideal) q (ix2 h c) = q (ix3 0 h c) := by
  pointwise [k0_pay89, k0_pay87]

/-- A row's maximum over the kept keys. -/
theorem rowmax (y : FVec Ideal S16x128 .f32) (h : Fin 16) :
    shapeCast S16x1 (multiReduction (F := Ideal) .maximumf [1] S16 y 0xFF800000#32 reduces_S16x128_S16 (.inl rfl) rfl)
      shapeCasts_S16_S16x1 (ix2 h 0) = Finset.univ.fold max ⊥ fun j : Fin 128 => y (ix2 h j) := by
  rw [shapeCast_apply _ _ _ (ix1 h) (by rw [Shape.rowMajor_val_one, Shape.rowMajor_val_two]; show h.val = h.val * 1 + 0; omega)]
  refine (Ideal.multiReduction_maximumf_single y _ reduces_S16x128_S16 _ _ (ix1 h)).trans ?_
  show Finset.univ.fold max (Ideal.ofBits .f32 0xFF800000#32) _ = _
  rw [word_bot]
  refine congrArg (fun f => Finset.univ.fold max ⊥ f) (funext fun j : Fin 128 => ?_)
  refine congrArg y (funext fun a => Fin.ext ?_)
  match a with
  | ⟨0, _⟩ => rfl
  | ⟨1, _⟩ => rfl

theorem pay90_apply (k : FVec Ideal S16x1 .f32) (v : FVec Ideal S1x256x128 .f32) (l : FVec Ideal S16x128 .f32) (q : FVec Ideal S16x256 .f32)
    (kn : FVec Ideal S1x1x256 .f32) (b : FVec Ideal S16x1 .f32) (vn : FVec Ideal S1x1x256 .f32) (h : Fin 16) (c : Fin 256) :
    k0_pay90 (F := Ideal) (k0_pay3 k) (k0_pay86 v) l q kn b vn (ix2 h c)
      = mean (fun j => l (ix2 h j)) ((∑ c : Fin 256, q (ix2 h c) * kn (ix3 0 0 c)) + b (ix2 h 0)) (k (ix2 h 0))
          (fun j => v (ix3 0 c j)) (vn (ix3 0 0 c)) := by
  have hm := rowmax l h
  unfold k0_pay90 mean mass peak
  rw [← hm]
  generalize multiReduction (F := Ideal) .maximumf [1] S16 l 0xFF800000#32 reduces_S16x128_S16 (.inl rfl) rfl = z
  pointwise [k0_pay3, k0_pay86]

/-- The quotient by four, rounded down, as the kernel takes it. -/
def quarter (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 4#32 0#32)) (Scalar.extui (Scalar.cmpi CmpIPredicate.slt 4#32 0#32))))
      (IntOp.cmpi CmpIPredicate.ne (IntOp.remsi ArithUnit.vector w 4#32) 0#32))
    (IntOp.subi (IntOp.divsi ArithUnit.vector w 4#32) 1#32)
    (IntOp.divsi ArithUnit.vector w 4#32)

theorem quarter_eq : ∀ g r : Fin 4, quarter (BitVec.ofNat 32 (4 * g.val + r.val)) = BitVec.ofNat 32 g.val := by decide +kernel

theorem pick (f : Fin 256 → EReal) (g : Fin 4) (d : Fin 64) :
    Scalar.select (IntOp.cmpi CmpIPredicate.eq (BitVec.ofNat 32 g.val) 0#32) (f ⟨d.val, by omega⟩) 0
      + Scalar.select (IntOp.cmpi CmpIPredicate.eq (BitVec.ofNat 32 g.val) 1#32) (f ⟨64 + d.val, by omega⟩) 0
      + Scalar.select (IntOp.cmpi CmpIPredicate.eq (BitVec.ofNat 32 g.val) 2#32) (f ⟨128 + d.val, by omega⟩) 0
      + Scalar.select (IntOp.cmpi CmpIPredicate.eq (BitVec.ofNat 32 g.val) 3#32) (f ⟨192 + d.val, by omega⟩) 0
      = f ⟨64 * g.val + d.val, by omega⟩ := by
  match g with
  | 0 =>
    show f _ + 0 + 0 + 0 = f _
    simp only [add_zero]
    exact congrArg f (Fin.ext (show d.val = 64 * 0 + d.val by omega))
  | 1 =>
    show 0 + f _ + 0 + 0 = f _
    simp only [add_zero, zero_add]
    rfl
  | 2 =>
    show 0 + 0 + f _ + 0 = f _
    simp only [add_zero, zero_add]
    rfl
  | 3 =>
    show 0 + 0 + 0 + f _ = f _
    simp only [add_zero, zero_add]
    rfl

/-- A query head keeps the columns of its key head. -/
theorem pay93_apply (y : FVec Ideal S16x256 .f32) (g r : Fin 4) (d : Fin 64) :
    k0_pay94 (F := Ideal) (k0_pay93 y (k0_pay91 (F := Ideal)) (iota .tc S16x64 32 [0] iota_S16x64_d0_w32) 4#32 k0_pay92 0#32)
        (ix3 0 ⟨4 * g.val + r.val, by omega⟩ d)
      = y (ix2 ⟨4 * g.val + r.val, by omega⟩ ⟨64 * g.val + d.val, by omega⟩) := by
  have hq := quarter_eq g r
  pointwise [k0_pay94, k0_pay93, k0_pay91, k0_pay92]
  unfold quarter at hq
  simp only [hq]
  exact pick (fun c => y (ix2 ⟨4 * g.val + r.val, by omega⟩ c)) g d

/-- One sequence's output block, from the blocks it is read from. -/
def attn (x : FVec Ideal S1x256x128 .f32) (v : FVec Ideal S1x256x128 .f32) (q : FVec Ideal S1x16x256 .bf16) (kn vn : FVec Ideal S1x1x256 .f32)
    (bias : FVec Ideal S16x128 .f32) (b k : FVec Ideal S16x1 .f32) : FVec Ideal S1x16x64 .f32 :=
  k0_pay94 (F := Ideal) (k0_pay93 (k0_pay90 (k0_pay3 k) (k0_pay86 v) (k0_pay88 x q bias) (k0_pay89 q) kn b vn) (k0_pay91 (F := Ideal))
    (iota .tc S16x64 32 [0] iota_S16x64_d0_w32) 4#32 k0_pay92 0#32)

theorem attn_apply (x v : FVec Ideal S1x256x128 .f32) (q : FVec Ideal S1x16x256 .bf16) (kn vn : FVec Ideal S1x1x256 .f32)
    (bias : FVec Ideal S16x128 .f32) (b k : FVec Ideal S16x1 .f32) (g r : Fin 4) (d : Fin 64) :
    attn x v q kn vn bias b k (ix3 0 ⟨4 * g.val + r.val, by omega⟩ d)
      = mean (fun j => (∑ c : Fin 256, q (ix3 0 ⟨4 * g.val + r.val, by omega⟩ c) * x (ix3 0 c j)) + bias (ix2 ⟨4 * g.val + r.val, by omega⟩ j))
          ((∑ c : Fin 256, q (ix3 0 ⟨4 * g.val + r.val, by omega⟩ c) * kn (ix3 0 0 c)) + b (ix2 ⟨4 * g.val + r.val, by omega⟩ 0))
          (k (ix2 ⟨4 * g.val + r.val, by omega⟩ 0)) (fun j => v (ix3 0 ⟨64 * g.val + d.val, by omega⟩ j)) (vn (ix3 0 0 ⟨64 * g.val + d.val, by omega⟩)) := by
  unfold attn
  rw [pay93_apply, pay90_apply]
  simp only [pay88_apply, pay89_apply]

end Cert.Swa.K7
-- ==== Proof.Sample.Placed7.lean ====
/-
  The queries' rows and the biases' rows, at an index.
-/
module

public import proofs.«01_k».proof.Proof.Sample.Host7
public import proofs.«01_k».proof.Proof.Sample.Gather
public import proofs.«01_k».proof.Proof.Sample.Pay7
public import proofs.«01_k».proof.Proof.Gen.Kernel7Ideal.Frame
public import Idealize.ShloMosaic.Lib.Pipeline.ValueKit
public import Idealize.ShloMosaic.Lib.StableHlo.RunRead

@[expose] public section
set_option maxRecDepth 16384
noncomputable section
namespace Cert.Swa.K7
open Idealize.ShloMosaic Idealize.ShloMosaic.TcCoe Idealize.ShloMosaic.Tactic Cert.Swa Cert.Kernel7Ideal Cert.Kernel7Ideal.Gen

theorem mask_bits : ∀ j : Fin 128, lit1 j = if j.val = 0 then 0#1 else 1#1 := by decide +kernel

theorem same_head : ∀ g g' : Fin 4, IntOp.cmpi CmpIPredicate.eq (IntOp.addi (BitVec.ofNat 32 g.val) 0#32) (BitVec.ofNat 32 g'.val)
    = if g = g' then 1#1 else 0#1 := by decide +kernel

theorem one_word : (FloatOps.uitofp (F := Ideal) FTy.bf16 1#1 : EReal) = 1 := by
  simp [FloatOps.uitofp]

theorem zero_word : (FloatOps.uitofp (F := Ideal) FTy.bf16 0#1 : EReal) = 0 := by
  simp [FloatOps.uitofp]

theorem placed_apply (x : FVec Ideal S128x1x16x64 .f32) (b : Fin 128) (g r g' : Fin 4) (d : Fin 64) :
    placed x (ix3 b ⟨4 * g.val + r.val, by omega⟩ ⟨64 * g'.val + d.val, by omega⟩)
      = (x (ix4 b 0 ⟨4 * g.val + r.val, by omega⟩ d) * Ideal.ofBits .f32 0x3E000000#32) * (if g = g' then 1 else 0) := by
  unfold placed
  pointwise []
  have hi : (x (ix4 b 0 ⟨(g.val * 256 + r.val * 64 + d.val) / 64, by omega⟩ d) : EReal) = x (ix4 b 0 ⟨4 * g.val + r.val, by omega⟩ d) :=
    congrArg (fun h => x (ix4 b 0 h d)) (Fin.ext (by dsimp only; omega))
  have hw : (FloatOps.uitofp (F := Ideal) FTy.bf16 (IntOp.cmpi CmpIPredicate.eq (IntOp.addi (BitVec.ofNat 32 g.val) 0#32) (BitVec.ofNat 32 g'.val)) : EReal)
      = if g = g' then 1 else 0 := by
    rw [same_head]
    split
    · exact one_word
    · exact zero_word
  exact congrArg₂ (· * ·) (congrArg (· * _) hi) hw

/-- A kept key's bias is its bucket's row of the table, and −∞ for the oldest key. -/
theorem biases_apply (x : FVec Ideal S32x16 .f32) (h : Fin 16) (j : Fin 128) :
    biases x (ix2 h j) = if j.val = 0 then ⊥ else x (ix2 ⟨min (lit0 j).toInt.toNat 31, by omega⟩ h) := by
  unfold biases
  pointwise []
  have hr : S128.rowMajor (ix1 j) = j := Fin.ext (Shape.rowMajor_val_one _)
  have ht : table (ix2 j 0) = lit0 j := by
    unfold table
    pointwise []
    rw [hr]
  have hg := gather_row gather_S32x16_S128x1_S128x16_1_0_n_n_0_1_116_wf x table j h _ ht
  rw [hr, show Host.gather gather_S32x16_S128x1_S128x16_1_0_n_n_0_1_116 x table (ix2 j h) = _ from hg, mask_bits, word_bot]
  unfold Scalar.select
  split <;> rfl

end Cert.Swa.K7
-- ==== Proof.Sample.Head7.lean ====
/-
  A logit over all the key heads' columns is the logit over its own head's.
-/
module

public import proofs.«01_k».proof.Proof.Sample.Placed7

@[expose] public section
set_option maxRecDepth 16384
noncomputable section
namespace Cert.Swa.K7
open Idealize.ShloMosaic Idealize.ShloMosaic.TcCoe Idealize.ShloMosaic.Tactic Cert.Swa Cert.Kernel7Ideal Cert.Kernel7Ideal.Gen

theorem word_scale : (Ideal.ofBits .f32 0x3E000000#32 : EReal) = ((1 / 8 : ℝ) : EReal) := by
  simp [Ideal.ofBits, Ideal.ieee, -EReal.coe_mul]; norm_num

/-- A sum over the columns, head by head. -/
theorem sum_columns (f : Fin 256 → EReal) : ∑ c', f c' = ∑ g' : Fin 4, ∑ d : Fin 64, f ⟨64 * g'.val + d.val, by omega⟩ := by
  rw [← Fintype.sum_prod_type' (fun (g' : Fin 4) (d : Fin 64) => f ⟨64 * g'.val + d.val, by omega⟩)]
  refine (Fintype.sum_equiv (finProdFinEquiv (m := 4) (n := 64)) _ f fun p => congrArg f (Fin.ext ?_)).symm
  show 64 * p.1.val + p.2.val = p.2.val + 64 * p.1.val
  omega

/-- A nonnegative real factor comes out of a sum. -/
theorem sum_times {n : ℕ} (f : Fin n → EReal) (w : ℝ) (hw : 0 ≤ w) : ∑ d, f d * (w : EReal) = (∑ d, f d) * (w : EReal) := by
  induction n with
  | zero => simp
  | succ n ih =>
    rw [Fin.sum_univ_castSucc, Fin.sum_univ_castSucc, ih,
      EReal.right_distrib_of_nonneg_of_ne_top (by exact_mod_cast hw) (EReal.coe_ne_top w)]

theorem own_head (x : FVec Ideal S128x1x16x64 .f32) (K : Fin 4 → Fin 64 → EReal) (b : Fin 128) (g r : Fin 4) :
    (∑ c' : Fin 256, placed x (ix3 b ⟨4 * g.val + r.val, by omega⟩ c') * K ⟨c'.val / 64, by omega⟩ ⟨c'.val % 64, by omega⟩)
      = (∑ d : Fin 64, x (ix4 b 0 ⟨4 * g.val + r.val, by omega⟩ d) * K g d) * Ideal.ofBits .f32 0x3E000000#32 := by
  have hK : ∀ (g' : Fin 4) (d : Fin 64), K ⟨(64 * g'.val + d.val) / 64, by omega⟩ ⟨(64 * g'.val + d.val) % 64, by omega⟩ = K g' d := fun g' d =>
    congrArg₂ K (Fin.ext (by dsimp only; omega)) (Fin.ext (by dsimp only; omega))
  rw [sum_columns]
  simp only [placed_apply, hK]
  rw [Finset.sum_eq_single g]
  · rw [word_scale, ← sum_times _ _ (by norm_num)]
    refine Finset.sum_congr rfl fun d _ => ?_
    rw [if_pos rfl, mul_one, mul_right_comm]
  · intro g' _ hg
    refine Finset.sum_eq_zero fun d _ => ?_
    rw [if_neg (Ne.symm hg), mul_zero, zero_mul]
  · exact fun h => absurd (Finset.mem_univ g) h

end Cert.Swa.K7
-- ==== Proof.Sample.Block7.lean ====
/-
  What a point of the grid leaves, at an index: eight sequences' attention and their two caches, moved on by a token.
-/
module

public import proofs.«01_k».proof.Proof.Sample.Pay7
public import proofs.«01_k».proof.Proof.Gen.Kernel7Ideal.Frame
public import Idealize.ShloMosaic.Lib.Pipeline.ValueKit

@[expose] public section
set_option maxRecDepth 16384
noncomputable section
namespace Cert.Swa.K7
open Idealize.ShloMosaic Cert.Swa Cert.Kernel7Ideal Cert.Kernel7Ideal.Gen

variable (i : grid0.Coords) (x0 : FVec Ideal S8x16x256 .bf16) (x1 x2 : FVec Ideal S8x256x128 .f32) (x3 x4 : FVec Ideal S8x1x256 .f32)
  (x5 x6 : FVec Ideal S256x128 .f32) (x7 : FVec Ideal S16x128 .f32) (x8 x9 : FVec Ideal S16x1 .f32)

/-- The rows of sequence `e` of a block of eight. -/
abbrev rect1 (e : Fin 8) : Rect S8x256x128 := Rect.unit (s := S8x256x128) ![e.val, 0, 0] S1x256x128.size
  (fun a => by
    match a with
    | ⟨0, _⟩ => show e.val + 1 ≤ 8; omega
    | ⟨1, _⟩ => show 0 + 256 ≤ 256; omega
    | ⟨2, _⟩ => show 0 + 128 ≤ 128; omega)
abbrev rect2 (e : Fin 8) : Rect S8x16x256 := Rect.unit (s := S8x16x256) ![e.val, 0, 0] S1x16x256.size
  (fun a => by
    match a with
    | ⟨0, _⟩ => show e.val + 1 ≤ 8; omega
    | ⟨1, _⟩ => show 0 + 16 ≤ 16; omega
    | ⟨2, _⟩ => show 0 + 256 ≤ 256; omega)
abbrev rect3 (e : Fin 8) : Rect S8x1x256 := Rect.unit (s := S8x1x256) ![e.val, 0, 0] S1x1x256.size
  (fun a => by
    match a with
    | ⟨0, _⟩ => show e.val + 1 ≤ 8; omega
    | ⟨1, _⟩ => show 0 + 1 ≤ 1; omega
    | ⟨2, _⟩ => show 0 + 256 ≤ 256; omega)

theorem lane_word : ∀ t : Fin 16, ∀ e : Fin 8, Scalar.addi (Scalar.muli (BitVec.ofNat 32 t.val) 8#32) (BitVec.ofNat 32 e.val)
    = BitVec.ofNat 32 (8 * t.val + e.val) := by decide +kernel

theorem ld_new (x : FVec Ideal S256x128 .f32) : View.ld (Val := Elt Ideal) (e' := .f32) x r0_6 = x := View.ld_unit_lit (e := _) _ _ (by decide)
theorem ld_bias : View.ld (Val := Elt Ideal) (e' := .f32) x7 r0_3 = x7 := View.ld_unit_lit (e := _) _ _ (by decide)
theorem ld_col (x : FVec Ideal S16x1 .f32) : View.ld (Val := Elt Ideal) (e' := .f32) x r0_0 = x := View.ld_unit_lit (e := _) _ _ (by decide)

theorem ld_cache (x : FVec Ideal S8x256x128 .f32) (e : Fin 8) (s : Fin 256) (t : Fin 128) :
    View.ld (Val := Elt Ideal) (e' := .f32) x (rect1 e) (ix3 0 s t) = x (ix3 e s t) :=
  congrArg x (funext fun a => by
    match a with
    | ⟨0, _⟩ => exact Fin.ext (by simp)
    | ⟨1, _⟩ => exact Fin.ext (by simp)
    | ⟨2, _⟩ => exact Fin.ext (by simp))

theorem ld_query (x : FVec Ideal S8x16x256 .bf16) (e : Fin 8) (s : Fin 16) (t : Fin 256) :
    View.ld (Val := Elt Ideal) (e' := .bf16) x (rect2 e) (ix3 0 s t) = x (ix3 e s t) :=
  congrArg x (funext fun a => by
    match a with
    | ⟨0, _⟩ => exact Fin.ext (by simp)
    | ⟨1, _⟩ => exact Fin.ext (by simp)
    | ⟨2, _⟩ => exact Fin.ext (by simp))

theorem ld_token (x : FVec Ideal S8x1x256 .f32) (e : Fin 8) (t : Fin 256) :
    View.ld (Val := Elt Ideal) (e' := .f32) x (rect3 e) (ix3 0 0 t) = x (ix3 e 0 t) :=
  congrArg x (funext fun a => by
    match a with
    | ⟨0, _⟩ => exact Fin.ext (by simp)
    | ⟨1, _⟩ => exact Fin.ext (by simp)
    | ⟨2, _⟩ => exact Fin.ext (by simp))

theorem seq_lt (e : Fin 8) : 8 * (i 0).val + e.val < 128 := by
  have := (i 0).isLt
  dsimp at this
  omega

/-- A piece of the first or the second cache's block. -/
theorem roll_piece (x : FVec Ideal S8x256x128 .f32) (w : FVec Ideal S256x128 .f32) (e : Fin 8) (s : Fin 256) (t : Fin 128) :
    k0_pay95 (F := Ideal) lanes (Scalar.addi (Scalar.muli (BitVec.ofNat 32 (i 0).val) 8#32) (BitVec.ofNat 32 e.val))
        (k0_pay85 (View.ld (Val := Elt Ideal) (e' := .f32) x (rect1 e))) (View.ld (Val := Elt Ideal) (e' := .f32) w r0_6) (ix3 0 s t)
      = if h : t.val < 127 then x (ix3 e s ⟨t.val + 1, by omega⟩) else w (ix2 s ⟨8 * (i 0).val + e.val, seq_lt i e⟩) := by
  rw [show Scalar.addi _ _ = _ from lane_word (i 0) e, ld_new]
  refine (pay95_apply ⟨8 * (i 0).val + e.val, seq_lt i e⟩ _ w s t).trans ?_
  split
  · exact ld_cache x e s _
  · rfl

theorem at_zero {n m : ℕ} (s : Fin n) (t : Fin m) (x : (⟨3, ![1, n, m]⟩ : Shape).Idx) (h0 : (x 0).val < 1) (h1 : s.val = (x 1).val) (h2 : t.val = (x 2).val) :
    x = ix3 0 s t := by
  funext a
  match a with
  | ⟨0, _⟩ => exact Fin.ext (by show (x 0).val = 0; omega)
  | ⟨1, _⟩ => exact Fin.ext h1.symm
  | ⟨2, _⟩ => exact Fin.ext h2.symm

set_option maxHeartbeats 2000000 in
theorem keys_apply (e : Fin 8) (s : Fin 256) (t : Fin 128) :
    out0_11 (F := Ideal) i x0 x1 x2 x3 x4 x5 x6 x7 x8 x9 (ix3 e s t)
      = if h : t.val < 127 then x1 (ix3 e s ⟨t.val + 1, by omega⟩) else x5 (ix2 s ⟨8 * (i 0).val + e.val, seq_lt i e⟩) := by
  canon_tiles x e
  all_goals
    replace e0 : e.val = _ := e0
    obtain rfl := at_zero s t x x0_lt e1 e2
  · obtain rfl : e = 7 := Fin.ext e0
    exact roll_piece i x1 x5 7 s t
  · obtain rfl : e = 6 := Fin.ext e0
    exact roll_piece i x1 x5 6 s t
  · obtain rfl : e = 5 := Fin.ext e0
    exact roll_piece i x1 x5 5 s t
  · obtain rfl : e = 4 := Fin.ext e0
    exact roll_piece i x1 x5 4 s t
  · obtain rfl : e = 3 := Fin.ext e0
    exact roll_piece i x1 x5 3 s t
  · obtain rfl : e = 2 := Fin.ext e0
    exact roll_piece i x1 x5 2 s t
  · obtain rfl : e = 1 := Fin.ext e0
    exact roll_piece i x1 x5 1 s t
  · obtain rfl : e = 0 := Fin.ext (by omega)
    exact roll_piece i x1 x5 0 s t

set_option maxHeartbeats 2000000 in
theorem values_apply (e : Fin 8) (s : Fin 256) (t : Fin 128) :
    out0_12 (F := Ideal) i x0 x1 x2 x3 x4 x5 x6 x7 x8 x9 (ix3 e s t)
      = if h : t.val < 127 then x2 (ix3 e s ⟨t.val + 1, by omega⟩) else x6 (ix2 s ⟨8 * (i 0).val + e.val, seq_lt i e⟩) := by
  canon_tiles x e
  all_goals
    replace e0 : e.val = _ := e0
    obtain rfl := at_zero s t x x0_lt e1 e2
  · obtain rfl : e = 7 := Fin.ext e0
    exact roll_piece i x2 x6 7 s t
  · obtain rfl : e = 6 := Fin.ext e0
    exact roll_piece i x2 x6 6 s t
  · obtain rfl : e = 5 := Fin.ext e0
    exact roll_piece i x2 x6 5 s t
  · obtain rfl : e = 4 := Fin.ext e0
    exact roll_piece i x2 x6 4 s t
  · obtain rfl : e = 3 := Fin.ext e0
    exact roll_piece i x2 x6 3 s t
  · obtain rfl : e = 2 := Fin.ext e0
    exact roll_piece i x2 x6 2 s t
  · obtain rfl : e = 1 := Fin.ext e0
    exact roll_piece i x2 x6 1 s t
  · obtain rfl : e = 0 := Fin.ext (by omega)
    exact roll_piece i x2 x6 0 s t

theorem attn_of (x v : FVec Ideal S1x256x128 .f32) (q : FVec Ideal S1x16x256 .bf16) (kn vn : FVec Ideal S1x1x256 .f32)
    (bias : FVec Ideal S16x128 .f32) (b k : FVec Ideal S16x1 .f32) (x' v' : Fin 256 → Fin 128 → EReal) (q' : Fin 16 → Fin 256 → EReal)
    (kn' vn' : Fin 256 → EReal) (hx : ∀ s t, x (ix3 0 s t) = x' s t) (hv : ∀ s t, v (ix3 0 s t) = v' s t) (hq : ∀ s t, q (ix3 0 s t) = q' s t)
    (hkn : ∀ t, kn (ix3 0 0 t) = kn' t) (hvn : ∀ t, vn (ix3 0 0 t) = vn' t) (g r : Fin 4) (d : Fin 64) :
    attn x v q kn vn bias b k (ix3 0 ⟨4 * g.val + r.val, by omega⟩ d)
      = mean (fun j => (∑ c : Fin 256, q' ⟨4 * g.val + r.val, by omega⟩ c * x' c j) + bias (ix2 ⟨4 * g.val + r.val, by omega⟩ j))
          ((∑ c : Fin 256, q' ⟨4 * g.val + r.val, by omega⟩ c * kn' c) + b (ix2 ⟨4 * g.val + r.val, by omega⟩ 0))
          (k (ix2 ⟨4 * g.val + r.val, by omega⟩ 0)) (fun j => v' ⟨64 * g.val + d.val, by omega⟩ j) (vn' ⟨64 * g.val + d.val, by omega⟩) := by
  rw [attn_apply]
  simp only [hx, hv, hq, hkn, hvn]

/-- A piece of the output's block. -/
theorem attn_piece (e : Fin 8) (g r : Fin 4) (d : Fin 64) :
    attn (View.ld (Val := Elt Ideal) (e' := .f32) x1 (rect1 e)) (View.ld (Val := Elt Ideal) (e' := .f32) x2 (rect1 e))
        (View.ld (Val := Elt Ideal) (e' := .bf16) x0 (rect2 e)) (View.ld (Val := Elt Ideal) (e' := .f32) x3 (rect3 e))
        (View.ld (Val := Elt Ideal) (e' := .f32) x4 (rect3 e)) (View.ld (Val := Elt Ideal) (e' := .f32) x7 r0_3)
        (View.ld (Val := Elt Ideal) (e' := .f32) x8 r0_0) (View.ld (Val := Elt Ideal) (e' := .f32) x9 r0_0) (ix3 0 ⟨4 * g.val + r.val, by omega⟩ d)
      = mean (fun j => (∑ c : Fin 256, x0 (ix3 e ⟨4 * g.val + r.val, by omega⟩ c) * x1 (ix3 e c j)) + x7 (ix2 ⟨4 * g.val + r.val, by omega⟩ j))
          ((∑ c : Fin 256, x0 (ix3 e ⟨4 * g.val + r.val, by omega⟩ c) * x3 (ix3 e 0 c)) + x8 (ix2 ⟨4 * g.val + r.val, by omega⟩ 0))
          (x9 (ix2 ⟨4 * g.val + r.val, by omega⟩ 0)) (fun j => x2 (ix3 e ⟨64 * g.val + d.val, by omega⟩ j)) (x4 (ix3 e 0 ⟨64 * g.val + d.val, by omega⟩)) := by
  rw [ld_bias, ld_col, ld_col]
  exact attn_of _ _ _ _ _ x7 x8 x9 (fun s t => x1 (ix3 e s t)) (fun s t => x2 (ix3 e s t)) (fun s t => x0 (ix3 e s t))
    (fun t => x3 (ix3 e 0 t)) (fun t => x4 (ix3 e 0 t)) (ld_cache x1 e) (ld_cache x2 e) (ld_query x0 e) (ld_token x3 e) (ld_token x4 e) g r d

set_option maxHeartbeats 4000000 in
theorem out_apply (e : Fin 8) (g r : Fin 4) (d : Fin 64) :
    out0_10 (F := Ideal) i x0 x1 x2 x3 x4 x5 x6 x7 x8 x9 (ix3 e ⟨4 * g.val + r.val, by omega⟩ d)
      = mean (fun j => (∑ c : Fin 256, x0 (ix3 e ⟨4 * g.val + r.val, by omega⟩ c) * x1 (ix3 e c j)) + x7 (ix2 ⟨4 * g.val + r.val, by omega⟩ j))
          ((∑ c : Fin 256, x0 (ix3 e ⟨4 * g.val + r.val, by omega⟩ c) * x3 (ix3 e 0 c)) + x8 (ix2 ⟨4 * g.val + r.val, by omega⟩ 0))
          (x9 (ix2 ⟨4 * g.val + r.val, by omega⟩ 0)) (fun j => x2 (ix3 e ⟨64 * g.val + d.val, by omega⟩ j)) (x4 (ix3 e 0 ⟨64 * g.val + d.val, by omega⟩)) := by
  have hn : 4 * g.val + r.val < 16 := by omega
  canon_tiles x e
  all_goals
    replace e0 : e.val = _ := e0
    obtain rfl := at_zero ⟨4 * g.val + r.val, hn⟩ d x x0_lt e1 e2
  · obtain rfl : e = 7 := Fin.ext e0
    exact attn_piece x0 x1 x2 x3 x4 x7 x8 x9 7 g r d
  · obtain rfl : e = 6 := Fin.ext e0
    exact attn_piece x0 x1 x2 x3 x4 x7 x8 x9 6 g r d
  · obtain rfl : e = 5 := Fin.ext e0
    exact attn_piece x0 x1 x2 x3 x4 x7 x8 x9 5 g r d
  · obtain rfl : e = 4 := Fin.ext e0
    exact attn_piece x0 x1 x2 x3 x4 x7 x8 x9 4 g r d
  · obtain rfl : e = 3 := Fin.ext e0
    exact attn_piece x0 x1 x2 x3 x4 x7 x8 x9 3 g r d
  · obtain rfl : e = 2 := Fin.ext e0
    exact attn_piece x0 x1 x2 x3 x4 x7 x8 x9 2 g r d
  · obtain rfl : e = 1 := Fin.ext e0
    exact attn_piece x0 x1 x2 x3 x4 x7 x8 x9 1 g r d
  · obtain rfl : e = 0 := Fin.ext (by omega)
    exact attn_piece x0 x1 x2 x3 x4 x7 x8 x9 0 g r d
-- ==== Proof.Sample.Blocks7.lean ====
/-
  The blocks of the ten operands that a point of the grid reads, as entries of the arguments.
-/
module

public import proofs.«01_k».proof.Proof.Sample.Host7
public import proofs.«01_k».proof.Proof.Gen.Kernel7Ideal.Frame
public import Idealize.ShloMosaic.Lib.Pipeline.ValueKit
public import Idealize.ShloMosaic.Lib.StableHlo.RunRead

@[expose] public section
set_option maxRecDepth 16384
noncomputable section
namespace Cert.Swa.K7
open Idealize.ShloMosaic Idealize.ShloMosaic.TcCoe Idealize.ShloMosaic.Tactic Cert.Swa Cert.Kernel7Ideal Cert.Kernel7Ideal.Gen

/-- The windows' block indices: eight sequences at a time, or the whole operand. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![0, 0] ∧ win0_6.index t = ![0, 0]
    ∧ win0_7.index t = ![0, 0] ∧ win0_8.index t = ![0, 0] ∧ win0_9.index t = ![0, 0] := by decide +kernel

theorem coord : ∀ t : Fin cfg0.N, (grid0.coords t 0).val = t.val := by decide +kernel

theorem N_eq : cfg0.N = 16 := by decide +kernel

/-- A cache by columns of its keys' width, at an index. -/
theorem columns (y : FVec Ideal S128x128x4x64 .f32) (b : Fin 128) (g : Fin 4) (d : Fin 64) (j : Fin 128) :
    shapeCast S128x256x128 (transpose S128x4x64x128 [0, 2, 3, 1] y transposes_S128x128x4x64_S128x4x64x128_0_2_3_1) shapeCasts_S128x4x64x128_S128x256x128
      (ix3 b ⟨64 * g.val + d.val, by omega⟩ j) = y (ix4 b j g d) := by
  pointwise []

theorem token (y : FVec Ideal S128x1x4x64 .f32) (b : Fin 128) (g : Fin 4) (d : Fin 64) :
    broadcastInDim S128x1x256 ![0, 2] bcast_S128x256_S128x1x256_0_2 (shapeCast S128x256 y shapeCasts_S128x1x4x64_S128x256)
      (ix3 b 0 ⟨64 * g.val + d.val, by omega⟩) = y (ix4 b 0 g d) := by
  pointwise []

theorem token_col (y : FVec Ideal S128x1x4x64 .f32) (b : Fin 128) (g : Fin 4) (d : Fin 64) :
    transpose S256x128 [1, 0] (shapeCast S128x256 y shapeCasts_S128x1x4x64_S128x256) transposes_S128x256_S256x128_1_0
      (ix2 ⟨64 * g.val + d.val, by omega⟩ b) = y (ix4 b 0 g d) := by
  pointwise []

variable (m : (ℓ : Loc nD τ sig) → Buf (Elt Ideal) ℓ) (c : Dev nD)

/-- Sequence `e` of point `t`. -/
abbrev seqOf (t : Fin cfg0.N) (e : Fin 8) : Fin 128 := ⟨8 * t.val + e.val, by have := t.isLt.trans_eq N_eq; omega⟩

theorem blk0 (t : Fin cfg0.N) (e : Fin 8) (h : Fin 16) (k : Fin 256) : iblk m c 0 t (ix3 e h k) = placed (argQ m c) (ix3 (seqOf t e) h k) := by
  have hi := (idx t).1
  have he : (win0_0.blk t).view.emb (ix3 e h k) = ix3 (seqOf t e) h k := by blk_ext [hi]
  blk_simp [iblk, hi]
  rw [V_v29, he]

theorem blk1 (t : Fin cfg0.N) (e : Fin 8) (g : Fin 4) (d : Fin 64) (j : Fin 128) : iblk m c 1 t (ix3 e ⟨64 * g.val + d.val, by omega⟩ j) = argCK m c (ix4 (seqOf t e) j g d) := by
  have hi := (idx t).2.1
  have he : (win0_1.blk t).view.emb (ix3 e ⟨64 * g.val + d.val, by omega⟩ j) = ix3 (seqOf t e) ⟨64 * g.val + d.val, by omega⟩ j := by blk_ext [hi]
  blk_simp [iblk, hi]
  rw [V_v31, he]
  exact columns ..

theorem blk2 (t : Fin cfg0.N) (e : Fin 8) (g : Fin 4) (d : Fin 64) (j : Fin 128) : iblk m c 2 t (ix3 e ⟨64 * g.val + d.val, by omega⟩ j) = argCV m c (ix4 (seqOf t e) j g d) := by
  have hi := (idx t).2.2.1
  have he : (win0_2.blk t).view.emb (ix3 e ⟨64 * g.val + d.val, by omega⟩ j) = ix3 (seqOf t e) ⟨64 * g.val + d.val, by omega⟩ j := by blk_ext [hi]
  blk_simp [iblk, hi]
  rw [V_v33, he]
  exact columns ..

theorem blk3 (t : Fin cfg0.N) (e : Fin 8) (g : Fin 4) (d : Fin 64) : iblk m c 3 t (ix3 e 0 ⟨64 * g.val + d.val, by omega⟩) = argK m c (ix4 (seqOf t e) 0 g d) := by
  have hi := (idx t).2.2.2.1
  have he : (win0_3.blk t).view.emb (ix3 e 0 ⟨64 * g.val + d.val, by omega⟩) = ix3 (seqOf t e) 0 ⟨64 * g.val + d.val, by omega⟩ := by blk_ext [hi]
  blk_simp [iblk, hi]
  rw [V_v34, he]
  exact token ..

theorem blk4 (t : Fin cfg0.N) (e : Fin 8) (g : Fin 4) (d : Fin 64) : iblk m c 4 t (ix3 e 0 ⟨64 * g.val + d.val, by omega⟩) = argV m c (ix4 (seqOf t e) 0 g d) := by
  have hi := (idx t).2.2.2.2.1
  have he : (win0_4.blk t).view.emb (ix3 e 0 ⟨64 * g.val + d.val, by omega⟩) = ix3 (seqOf t e) 0 ⟨64 * g.val + d.val, by omega⟩ := by blk_ext [hi]
  blk_simp [iblk, hi]
  rw [V_v35, he]
  exact token ..

theorem blk5 (t : Fin cfg0.N) (b : Fin 128) (g : Fin 4) (d : Fin 64) : iblk m c 5 t (ix2 ⟨64 * g.val + d.val, by omega⟩ b) = argK m c (ix4 b 0 g d) := by
  have he : (win0_5.blk t).view.emb (ix2 ⟨64 * g.val + d.val, by omega⟩ b) = ix2 ⟨64 * g.val + d.val, by omega⟩ b := by blk_ext [idx t]
  blk_simp [iblk, idx t]
  rw [V_v36, he]
  exact token_col ..

theorem blk6 (t : Fin cfg0.N) (b : Fin 128) (g : Fin 4) (d : Fin 64) : iblk m c 6 t (ix2 ⟨64 * g.val + d.val, by omega⟩ b) = argV m c (ix4 b 0 g d) := by
  have he : (win0_6.blk t).view.emb (ix2 ⟨64 * g.val + d.val, by omega⟩ b) = ix2 ⟨64 * g.val + d.val, by omega⟩ b := by blk_ext [idx t]
  blk_simp [iblk, idx t]
  rw [V_v37, he]
  exact token_col ..

theorem blk7 (t : Fin cfg0.N) (h : Fin 16) (j : Fin 128) : iblk m c 7 t (ix2 h j) = biases (argR m c) (ix2 h j) := by
  have he : (win0_7.blk t).view.emb (ix2 h j) = ix2 h j := by blk_ext [idx t]
  blk_simp [iblk, idx t]
  rw [V_v7, he]

theorem blk8 (t : Fin cfg0.N) (h : Fin 16) : iblk m c 8 t (ix2 h 0) = argR m c (ix2 0 h) := by
  have he : (win0_8.blk t).view.emb (ix2 h 0) = ix2 h 0 := by blk_ext [idx t]
  blk_simp [iblk, idx t]
  rw [V_v10, he]
  pointwise []

theorem blk9 (t : Fin cfg0.N) (h : Fin 16) : iblk m c 9 t (ix2 h 0) = argS m c (ix1 h) := by
  have he : (win0_9.blk t).view.emb (ix2 h 0) = ix2 h 0 := by blk_ext [idx t]
  blk_simp [iblk, idx t]
  rw [V_v38, he]
  pointwise []

end Cert.Swa.K7
-- ==== Proof.Sample.Run7.lean ====
/-
  The results of the program: the launch's arrays, the caches laid out by tokens.
-/
module

public import proofs.«01_k».proof.Proof.Sample.Block7
public import proofs.«01_k».proof.Proof.Sample.Blocks7
public import proofs.«01_k».proof.Proof.Sample.Placed7

@[expose] public section
set_option backward.proofsInPublic true
set_option maxRecDepth 16384
noncomputable section
namespace Cert.Swa.K7
open Idealize.ShloMosaic Idealize.ShloMosaic.TcCoe Idealize.ShloMosaic.Tactic Idealize.SL.Sem Cert.Swa Cert.Kernel7Ideal Cert.Kernel7Ideal.Gen

variable (m : (ℓ : Loc nD τ sig) → Buf (Elt Ideal) ℓ) (c : Dev nD) (ρ : Dev nD → PrngReg)

theorem idx_out : ∀ t : Fin cfg0.N, win0_10.index t = ![t.val, 0, 0] ∧ win0_11.index t = ![t.val, 0, 0] ∧ win0_12.index t = ![t.val, 0, 0] := by
  decide +kernel

/-- The point that holds sequence `b`, and the place of `b` among its eight. -/
def pointOf (b : Fin 128) : Fin cfg0.N := ⟨b.val / 8, by rw [N_eq]; omega⟩
abbrev placeOf (b : Fin 128) : Fin 8 := ⟨b.val % 8, by omega⟩

theorem seq_of (b : Fin 128) : seqOf (pointOf b) (placeOf b) = b := Fin.ext (show 8 * (b.val / 8) + b.val % 8 = b.val by omega)

/-- Sequence `b`'s logits against the kept keys, its logit against the new one, for query head `4 g + r`. -/
def logit (b : Fin 128) (g r : Fin 4) (j : Fin 128) : EReal :=
  (∑ c' : Fin 256, placed (argQ m c) (ix3 b ⟨4 * g.val + r.val, by omega⟩ c') * argCK m c (ix4 b j ⟨c'.val / 64, by omega⟩ ⟨c'.val % 64, by omega⟩))
    + biases (argR m c) (ix2 ⟨4 * g.val + r.val, by omega⟩ j)
def logitNew (b : Fin 128) (g r : Fin 4) : EReal :=
  (∑ c' : Fin 256, placed (argQ m c) (ix3 b ⟨4 * g.val + r.val, by omega⟩ c') * argK m c (ix4 b 0 ⟨c'.val / 64, by omega⟩ ⟨c'.val % 64, by omega⟩))
    + argR m c (ix2 0 ⟨4 * g.val + r.val, by omega⟩)

/-- A column by its key head and its place in it. -/
theorem col_eq (c' : Fin 256) : c' = ⟨64 * (c'.val / 64) + c'.val % 64, by omega⟩ := Fin.ext (by dsimp only; omega)

theorem blk1' (t : Fin cfg0.N) (e : Fin 8) (c' : Fin 256) (j : Fin 128) :
    iblk m c 1 t (ix3 e c' j) = argCK m c (ix4 (seqOf t e) j ⟨c'.val / 64, by omega⟩ ⟨c'.val % 64, by omega⟩) := by
  exact (congrArg (fun x => iblk m c 1 t (ix3 e x j)) (col_eq c')).trans (blk1 m c t e ⟨c'.val / 64, by omega⟩ ⟨c'.val % 64, by omega⟩ j)

theorem blk3' (t : Fin cfg0.N) (e : Fin 8) (c' : Fin 256) :
    iblk m c 3 t (ix3 e 0 c') = argK m c (ix4 (seqOf t e) 0 ⟨c'.val / 64, by omega⟩ ⟨c'.val % 64, by omega⟩) := by
  exact (congrArg (fun x => iblk m c 3 t (ix3 e 0 x)) (col_eq c')).trans (blk3 m c t e ⟨c'.val / 64, by omega⟩ ⟨c'.val % 64, by omega⟩)

theorem arr_o (b : Fin 128) (g r : Fin 4) (d : Fin 64) : (dats m 0 c).arrAt 10 cfg0.N (ix3 b ⟨4 * g.val + r.val, by omega⟩ d)
    = mean (logit m c b g r) (logitNew m c b g r) (argS m c (ix1 ⟨4 * g.val + r.val, by omega⟩))
        (fun j => argCV m c (ix4 b j g d)) (argV m c (ix4 b 0 g d)) := by
  have hi := (idx_out (pointOf b)).1
  have hn : 4 * g.val + r.val < 16 := by omega
  have he : (win0_10.blk (pointOf b)).view.emb (ix3 (placeOf b) (⟨4 * g.val + r.val, hn⟩ : Fin 16) d)
      = ix3 (seqOf (pointOf b) (placeOf b)) (⟨4 * g.val + r.val, hn⟩ : Fin 16) d := by blk_ext [hi]
  rw [seq_of] at he
  have hf := (dats m 0 c).arrAt_emb_eq_flushed 10 (Pipeline.Window.hdisj_of_index_inj _ (by decide +kernel)) (pointOf b) (flush0_10 _)
    (ix3 (placeOf b) (⟨4 * g.val + r.val, hn⟩ : Fin 16) d)
  rw [he] at hf
  refine hf.trans ?_
  show (dats m 0 c).after 10 (pointOf b) (ix3 (placeOf b) (⟨4 * g.val + r.val, hn⟩ : Fin 16) d) = _
  rw [after0_10]
  refine (out_apply ..).trans ?_
  simp only [blk0, blk1', blk2, blk3', blk4, blk7, blk8, blk9, seq_of]
  rfl

theorem arr_k (b : Fin 128) (g : Fin 4) (d : Fin 64) (t : Fin 128) : (dats m 0 c).arrAt 11 cfg0.N (ix3 b ⟨64 * g.val + d.val, by omega⟩ t)
    = if h : t.val < 127 then argCK m c (ix4 b ⟨t.val + 1, by omega⟩ g d) else argK m c (ix4 b 0 g d) := by
  have hi := (idx_out (pointOf b)).2.1
  have hn : 64 * g.val + d.val < 256 := by omega
  have he : (win0_11.blk (pointOf b)).view.emb (ix3 (placeOf b) (⟨64 * g.val + d.val, hn⟩ : Fin 256) t)
      = ix3 (seqOf (pointOf b) (placeOf b)) (⟨64 * g.val + d.val, hn⟩ : Fin 256) t := by blk_ext [hi]
  rw [seq_of] at he
  have hf := (dats m 0 c).arrAt_emb_eq_flushed 11 (Pipeline.Window.hdisj_of_index_inj _ (by decide +kernel)) (pointOf b) (flush0_11 _)
    (ix3 (placeOf b) (⟨64 * g.val + d.val, hn⟩ : Fin 256) t)
  rw [he] at hf
  refine hf.trans ?_
  show (dats m 0 c).after 11 (pointOf b) (ix3 (placeOf b) (⟨64 * g.val + d.val, hn⟩ : Fin 256) t) = _
  rw [after0_11]
  refine (keys_apply ..).trans ?_
  split
  · refine (blk1 ..).trans ?_
    rw [seq_of]
  · refine (blk5 ..).trans ?_
    exact congrArg (fun b => argK m c (ix4 b 0 g d)) (Fin.ext (by show 8 * ((grid0.coords (pointOf b)) 0).val + b.val % 8 = b.val; rw [coord]; show 8 * (b.val / 8) + b.val % 8 = b.val; omega))

theorem arr_v (b : Fin 128) (g : Fin 4) (d : Fin 64) (t : Fin 128) : (dats m 0 c).arrAt 12 cfg0.N (ix3 b ⟨64 * g.val + d.val, by omega⟩ t)
    = if h : t.val < 127 then argCV m c (ix4 b ⟨t.val + 1, by omega⟩ g d) else argV m c (ix4 b 0 g d) := by
  have hi := (idx_out (pointOf b)).2.2
  have hn : 64 * g.val + d.val < 256 := by omega
  have he : (win0_12.blk (pointOf b)).view.emb (ix3 (placeOf b) (⟨64 * g.val + d.val, hn⟩ : Fin 256) t)
      = ix3 (seqOf (pointOf b) (placeOf b)) (⟨64 * g.val + d.val, hn⟩ : Fin 256) t := by blk_ext [hi]
  rw [seq_of] at he
  have hf := (dats m 0 c).arrAt_emb_eq_flushed 12 (Pipeline.Window.hdisj_of_index_inj _ (by decide +kernel)) (pointOf b) (flush0_12 _)
    (ix3 (placeOf b) (⟨64 * g.val + d.val, hn⟩ : Fin 256) t)
  rw [he] at hf
  refine hf.trans ?_
  show (dats m 0 c).after 12 (pointOf b) (ix3 (placeOf b) (⟨64 * g.val + d.val, hn⟩ : Fin 256) t) = _
  rw [after0_12]
  refine (values_apply ..).trans ?_
  split
  · refine (blk2 ..).trans ?_
    rw [seq_of]
  · refine (blk6 ..).trans ?_
    exact congrArg (fun b => argV m c (ix4 b 0 g d)) (Fin.ext (by show 8 * ((grid0.coords (pointOf b)) 0).val + b.val % 8 = b.val; rw [coord]; show 8 * (b.val / 8) + b.val % 8 = b.val; omega))

/-- What the lines after the launch leave. -/
abbrev tail (b : Ref sig .tc) : Buf (Elt Ideal) ((c : Thread nD τ).loc b) := Pipeline.afterTail₀ cfgs (dats m) 0 (V0 m) [hostOps1] c b

/-- A cache back by tokens. -/
abbrev byToken (y : FVec Ideal S128x256x128 .f32) : FVec Ideal S128x128x4x64 .f32 :=
  transpose S128x128x4x64 [0, 3, 1, 2] (shapeCast S128x4x64x128 y shapeCasts_S128x256x128_S128x4x64x128) transposes_S128x4x64x128_S128x128x4x64_0_3_1_2

theorem tail_k : (tail m c main_v41 : FVec Ideal S128x128x4x64 .f32) = byToken ((dats m 0 c).arrAt 11 cfg0.N : FVec Ideal S128x256x128 .f32) := by
  unfold tail Pipeline.afterTail₀
  simp only [hostOps1, List.flatten_cons, List.flatten_nil, List.append_nil, List.cons_append, List.nil_append]
  after_reads_simp
  rw [show Pipeline.withArrays _ c (V0 m c) _ (Proc.tc.devRef main_v39_1) = _ from
    Pipeline.withArrays_arr (cfgs 0).spec launch0.win.arr_inj c (V0 m c) (fun w => (dats m 0 c).arrAt w (cfgs 0).N) 11]
  rfl

theorem tail_v : (tail m c main_v43 : FVec Ideal S128x128x4x64 .f32) = byToken ((dats m 0 c).arrAt 12 cfg0.N : FVec Ideal S128x256x128 .f32) := by
  unfold tail Pipeline.afterTail₀
  simp only [hostOps1, List.flatten_cons, List.flatten_nil, List.append_nil, List.cons_append, List.nil_append]
  after_reads_simp
  rw [show Pipeline.withArrays _ c (V0 m c) _ (Proc.tc.devRef main_v39_2) = _ from
    Pipeline.withArrays_arr (cfgs 0).spec launch0.win.arr_inj c (V0 m c) (fun w => (dats m 0 c).arrAt w (cfgs 0).N) 12]
  rfl

theorem by_token (y : FVec Ideal S128x256x128 .f32) (b t : Fin 128) (g : Fin 4) (d : Fin 64) :
    byToken y (ix4 b t g d) = y (ix3 b ⟨64 * g.val + d.val, by omega⟩ t) := by
  unfold byToken
  have e : (⟨64 * g.val + d.val, by omega⟩ : Fin 256) = ⟨g.val * 64 + d.val, by omega⟩ := Fin.ext (by dsimp only; omega)
  rw [e]
  pointwise []

theorem k_entry (b t : Fin 128) (g : Fin 4) (d : Fin 64) : (tail m c main_v41 : FVec Ideal S128x128x4x64 .f32) (ix4 b t g d)
    = if h : t.val < 127 then argCK m c (ix4 b ⟨t.val + 1, by omega⟩ g d) else argK m c (ix4 b 0 g d) := by
  rw [tail_k]
  exact (by_token ..).trans (arr_k m c b g d t)

theorem v_entry (b t : Fin 128) (g : Fin 4) (d : Fin 64) : (tail m c main_v43 : FVec Ideal S128x128x4x64 .f32) (ix4 b t g d)
    = if h : t.val < 127 then argCV m c (ix4 b ⟨t.val + 1, by omega⟩ g d) else argV m c (ix4 b 0 g d) := by
  rw [tail_v]
  exact (by_token ..).trans (arr_v m c b g d t)

/-- The run's results. -/
theorem run_results : θ_run defs (onTc (τ := τ) (main (F := Ideal))) ⟨m, fun _ => 0, ρ⟩ fun r => ∀ c : Dev nD,
    r.2.mem ((c.tc : Thread nD τ).loc main_v39_0) = (dats m 0 c).arrAt 10 cfg0.N ∧ r.2.mem ((c.tc : Thread nD τ).loc main_v41) = tail m c main_v41
    ∧ r.2.mem ((c.tc : Thread nD τ).loc main_v43) = tail m c main_v43 :=
  (θ_run defs _ _).mono (fun r h c => ⟨(h c).1 10, (h c).2 _ (Pipeline.mem_restRefs_of main_v41 (by decide) (by decide)),
    (h c).2 _ (Pipeline.mem_restRefs_of main_v43 (by decide) (by decide))⟩) (run_main m ρ)

end Cert.Swa.K7
-- ==== Proof.Sample.Bucket.lean ====
/-
  The buckets of the distances: the logarithm's rule gives the table the program holds.
-/
module

public import proofs.«01_k».proof.Kernel7Ideal
public import Idealize.ShloMosaic.Lib.Pipeline.ValueKit

@[expose] public section
set_option maxRecDepth 16384
noncomputable section
namespace Cert.Swa
open Idealize.ShloMosaic Idealize.ShloMosaic.TcCoe

/-- The rational number that stands for `log 8`. -/
def ln8 : ℝ := 4360905 / 2097152

theorem word_ln8 : (Ideal.ofBits .f32 0x40051592#32 : EReal) = (ln8 : EReal) := by
  unfold ln8
  simp [Ideal.ofBits, Ideal.ieee, -EReal.coe_mul]; norm_num

theorem word_sixteen : (Ideal.ofBits .f32 0x41800000#32 : EReal) = ((16 : ℝ) : EReal) := by
  simp [Ideal.ofBits, Ideal.ieee, -EReal.coe_mul]; norm_num

theorem ln8_pos : 0 < ln8 := by unfold ln8; norm_num

theorem log_eight : Real.log 8 = 3 * Real.log 2 := by
  rw [show (8 : ℝ) = 2 ^ 3 by norm_num, Real.log_pow]; norm_num

theorem log_two_low : (693 / 1000 : ℝ) ≤ Real.log 2 := by
  rw [Real.le_log_iff_exp_le (by norm_num)]
  refine (Real.exp_bound' (by norm_num) (by norm_num) (n := 7) (by norm_num)).trans ?_
  norm_num [Finset.sum_range_succ, Nat.factorial]

theorem log_two_high : Real.log 2 ≤ (6933 / 10000 : ℝ) := by
  rw [Real.log_le_iff_le_exp (by norm_num)]
  refine le_trans ?_ (Real.sum_le_exp_of_nonneg (by norm_num) 7)
  norm_num [Finset.sum_range_succ, Nat.factorial]

/-- The word is within a thousandth of `log 8`. -/
theorem ln8_bounds : Real.log 8 - 1 / 1000 ≤ ln8 ∧ ln8 ≤ Real.log 8 + 1 / 1000 := by
  have h1 := log_two_low
  have h2 := log_two_high
  rw [log_eight]
  unfold ln8
  constructor <;> linarith

/-- A distance's power against those of eight places its logarithm among the sixteenths of `log 8`. -/
theorem place (n k : ℕ) (hn : 16 ≤ n) (hk : k ≤ 15) (lo : k = 0 ∨ 8 ^ k * 51 * 16 ^ 16 ≤ n ^ 16 * 50) (hi : n ^ 16 * 51 ≤ 8 ^ (k + 1) * 50 * 16 ^ 16) :
    (k : ℝ) ≤ Real.log (n * (1 / 16)) * (1 / ln8) * 16 ∧ Real.log (n * (1 / 16)) * (1 / ln8) * 16 < k + 1 := by
  have hn' : (16 : ℝ) ≤ n := by exact_mod_cast hn
  have hx : (1 : ℝ) ≤ n * (1 / 16) := by linarith
  have hp : ((n : ℝ) * (1 / 16)) ^ 16 = (n : ℝ) ^ 16 / 16 ^ 16 := by rw [mul_pow, one_div, inv_pow, div_eq_mul_inv]
  have hl : Real.log (((n : ℝ) * (1 / 16)) ^ 16) = 16 * Real.log (n * (1 / 16)) := by rw [Real.log_pow]; norm_num
  have hw : Real.log (n * (1 / 16)) * (1 / ln8) * 16 = 16 * Real.log (n * (1 / 16)) / ln8 := by ring
  obtain ⟨b1, b2⟩ := ln8_bounds
  rw [hw, le_div_iff₀ ln8_pos, div_lt_iff₀ ln8_pos]
  constructor
  · rcases lo with rfl | lo
    · have := Real.log_nonneg hx
      push_cast
      linarith
    · have lo' : (8 : ℝ) ^ k * 51 * 16 ^ 16 ≤ (n : ℝ) ^ 16 * 50 := by exact_mod_cast lo
      have h : (8 : ℝ) ^ k * (51 / 50) ≤ ((n : ℝ) * (1 / 16)) ^ 16 := by
        rw [hp, le_div_iff₀ (by positivity)]
        linarith
      have h' := Real.log_le_log (by positivity) h
      rw [hl, Real.log_mul (by positivity) (by norm_num), Real.log_pow] at h'
      have hs := Real.one_sub_inv_le_log_of_pos (show (0 : ℝ) < 51 / 50 by norm_num)
      have hk' : (k : ℝ) ≤ 15 := by exact_mod_cast hk
      have hd : (k : ℝ) * (ln8 - Real.log 8) ≤ 15 * (1 / 1000) :=
        (mul_le_mul_of_nonneg_left (by linarith) (Nat.cast_nonneg k)).trans (mul_le_mul_of_nonneg_right hk' (by norm_num))
      norm_num at hs
      nlinarith
  · have hi' : (n : ℝ) ^ 16 * 51 ≤ 8 ^ (k + 1) * 50 * 16 ^ 16 := by exact_mod_cast hi
    have h : ((n : ℝ) * (1 / 16)) ^ 16 * (51 / 50) ≤ 8 ^ (k + 1) := by
      rw [hp, div_mul_eq_mul_div, div_le_iff₀ (by positivity)]
      linarith
    have h' := Real.log_le_log (by positivity) h
    rw [Real.log_mul (by positivity) (by norm_num), hl, Real.log_pow] at h'
    have hs := Real.one_sub_inv_le_log_of_pos (show (0 : ℝ) < 51 / 50 by norm_num)
    have hk' : (k : ℝ) ≤ 15 := by exact_mod_cast hk
    have hd : ((k : ℝ) + 1) * (Real.log 8 - ln8) ≤ 16 * (1 / 1000) :=
      (mul_le_mul_of_nonneg_left (by linarith) (by positivity)).trans (mul_le_mul_of_nonneg_right (by linarith) (by norm_num))
    push_cast at h'
    norm_num at hs
    nlinarith

/-- The count of whole sixteenths, as a word. -/
theorem count_word (n k : ℕ) (hn : 16 ≤ n) (hk : k ≤ 15) (lo : k = 0 ∨ 8 ^ k * 51 * 16 ^ 16 ≤ n ^ 16 * 50) (hi : n ^ 16 * 51 ≤ 8 ^ (k + 1) * 50 * 16 ^ 16) :
    Ideal.fptosi 32 (Ideal.div (Ideal.log (Ideal.div ((n : ℝ) : EReal) (Ideal.ofBits .f32 0x41800000#32))) (Ideal.ofBits .f32 0x40051592#32)
      * Ideal.ofBits .f32 0x41800000#32) = BitVec.ofNat 32 k := by
  have hn' : (16 : ℝ) ≤ n := by exact_mod_cast hn
  obtain ⟨h1, h2⟩ := place n k hn hk lo hi
  rw [word_sixteen, word_ln8, Ideal.div_coe (show (16 : ℝ) ≠ 0 by norm_num), ← EReal.coe_mul, Ideal.log_coe, if_neg (by linarith), Ideal.div_coe ln8_pos.ne',
    ← EReal.coe_mul, ← EReal.coe_mul]
  unfold Ideal.fptosi
  have hf : ⌊Real.log (n * (1 / 16)) * (1 / ln8) * 16⌋ = (k : ℤ) := Int.floor_eq_iff.mpr ⟨by exact_mod_cast h1, by exact_mod_cast h2⟩
  have h0 : (0 : ℝ) ≤ Real.log (n * (1 / 16)) * (1 / ln8) * 16 := le_trans (Nat.cast_nonneg k) h1
  rw [Ideal.toIntClamped_coe, if_pos h0, hf]
  have hmin : min (((2 ^ (32 - 1) : ℕ) : ℤ) - 1) (k : ℤ) = k := min_eq_right (by norm_num; omega)
  have hmax : max (-((2 ^ (32 - 1) : ℕ) : ℤ)) (k : ℤ) = k := max_eq_right (by norm_num)
  rw [hmin, hmax, BitVec.ofInt_natCast]

/-- The distance of a key from the new token, as a word. -/
def distance (j : Fin 129) : BitVec 32 := IntOp.maxsi (IntOp.subi 128#32 (BitVec.ofNat 32 j.val)) 0#32

/-- A bucket from a distance and the count of whole sixteenths. -/
def choose (D w : BitVec 32) : BitVec 32 := Scalar.select (IntOp.cmpi CmpIPredicate.slt D 16#32) D (IntOp.minsi (IntOp.addi 16#32 w) 31#32)
def wrap (v : BitVec 32) : BitVec 32 := Scalar.select (IntOp.cmpi CmpIPredicate.slt v 0#32) (IntOp.addi v 32#32) v

theorem distance_float : ∀ j : Fin 128, (IntOp.maxsi (distance j.castSucc) 1#32).toInt = ((128 - j.val : ℕ) : ℤ) := by decide +kernel

theorem near : ∀ j : Fin 128, 112 < j.val → IntOp.cmpi CmpIPredicate.slt (distance j.castSucc) 16#32 = 1#1
    ∧ wrap (distance j.castSucc) = Kernel7Ideal.lit0 j := by decide +kernel

theorem far : ∀ j : Fin 128, 0 < j.val → j.val ≤ 112 →
    wrap (choose (distance j.castSucc) (BitVec.ofNat 32 ((Kernel7Ideal.lit0 j).toNat - 16))) = Kernel7Ideal.lit0 j := by decide +kernel

theorem powers : ∀ j : Fin 128, 0 < j.val → j.val ≤ 112 → (Kernel7Ideal.lit0 j).toNat - 16 ≤ 15
    ∧ ((Kernel7Ideal.lit0 j).toNat - 16 = 0 ∨ 8 ^ ((Kernel7Ideal.lit0 j).toNat - 16) * 51 * 16 ^ 16 ≤ (128 - j.val) ^ 16 * 50)
    ∧ (128 - j.val) ^ 16 * 51 ≤ 8 ^ ((Kernel7Ideal.lit0 j).toNat - 16 + 1) * 50 * 16 ^ 16 := by decide +kernel

/-- The logarithm's rule, as a word. -/
def rule (j : Fin 129) : BitVec 32 := choose (distance j)
  (Ideal.fptosi 32 (Ideal.div (Ideal.log (Ideal.div (((IntOp.maxsi (distance j) 1#32).toInt : ℝ) : EReal) (Ideal.ofBits .f32 0x41800000#32)))
    (Ideal.ofBits .f32 0x40051592#32) * Ideal.ofBits .f32 0x41800000#32))

/-- The table holds the rule's buckets. -/
theorem rule_eq (j : Fin 128) (hj : j.val ≠ 0) : wrap (rule j.castSucc) = Kernel7Ideal.lit0 j := by
  unfold rule
  rw [distance_float]
  by_cases h : j.val ≤ 112
  · obtain ⟨h1, h2, h3⟩ := powers j (by omega) h
    have hc := count_word (128 - j.val) _ (by omega) h1 h2 h3
    rw [show ((((128 - j.val : ℕ) : ℤ) : ℝ) : EReal) = (((128 - j.val : ℕ) : ℝ) : EReal) by rw [Int.cast_natCast], hc]
    exact far j (by omega) h
  · obtain ⟨h1, h2⟩ := near j (by omega)
    unfold choose
    rw [h1]
    exact h2

/-- The new token's own bucket is the first. -/
theorem rule_last : wrap (rule (Fin.last 128)) = 0#32 := by
  unfold rule choose
  rw [show IntOp.cmpi CmpIPredicate.slt (distance (Fin.last 128)) 16#32 = 1#1 by decide]
  show wrap (distance (Fin.last 128)) = 0#32
  decide

end Cert.Swa
-- ==== Proof.Sample.Ref7.lean ====
/-
  The reference's results, at an index.
-/
module

public import proofs.«01_k».proof.Proof.Sample.Window
public import proofs.«01_k».proof.Proof.Sample.Gather
public import proofs.«01_k».proof.Proof.Sample.Pay7
public import proofs.«01_k».proof.Proof.Sample.Bucket
public import proofs.«01_k».proof.Proof.Gen.Reference7Ideal.Read
public import Idealize.ShloMosaic.Lib.Pipeline.ValueKit

@[expose] public section
set_option maxRecDepth 16384
noncomputable section
namespace Cert.Swa.R7
open Idealize.ShloMosaic Idealize.ShloMosaic.TcCoe Idealize.ShloMosaic.Tactic Cert.Swa Cert.Reference7Ideal Cert.Reference7Ideal.Gen Cert.Reference7Ideal.Read

variable (q : FVec Ideal S128x1x16x64 .f32) (nk nv : FVec Ideal S128x1x4x64 .f32) (ck cv : FVec Ideal S128x128x4x64 .f32)
  (sink : FVec Ideal S16 .f32) (rel : FVec Ideal S32x16 .f32)

/-- The window with the new row behind it. -/
theorem joined (x : FVec Ideal S128x1x4x64 .f32) (y : FVec Ideal S128x128x4x64 .f32) (b : Fin 128) (j : Fin 129) (g : Fin 4) (d : Fin 64) :
    val_main_v0 (F := Ideal) x y (ix4 b j g d) = if h : j.val < 128 then y (ix4 b ⟨j.val, h⟩ g d) else x (ix4 b 0 g d) := by
  unfold val_main_v0
  pointwise []
  by_cases h : j.val < 128
  · rw [dif_pos h, dif_pos h]
  · rw [dif_neg h, dif_neg h]
    exact congrArg (fun i => x (ix4 b i g d)) (Fin.ext (by dsimp only; omega))

theorem kept_row (x : FVec Ideal S128x1x4x64 .f32) (y : FVec Ideal S128x128x4x64 .f32) (b j : Fin 128) (g : Fin 4) (d : Fin 64) :
    val_main_v0 (F := Ideal) x y (ix4 b j.castSucc g d) = y (ix4 b j g d) := by
  rw [joined, dif_pos (show j.castSucc.val < 128 from j.isLt)]
  rfl

theorem new_row (x : FVec Ideal S128x1x4x64 .f32) (y : FVec Ideal S128x128x4x64 .f32) (b : Fin 128) (g : Fin 4) (d : Fin 64) :
    val_main_v0 (F := Ideal) x y (ix4 b (Fin.last 128) g d) = x (ix4 b 0 g d) := by
  rw [joined, dif_neg (show ¬ (Fin.last 128).val < 128 from by decide)]

/-- The caches that are left. -/
theorem state_entry (x : FVec Ideal S128x1x4x64 .f32) (y : FVec Ideal S128x128x4x64 .f32) (b t : Fin 128) (g : Fin 4) (d : Fin 64) :
    val_main_v64 (F := Ideal) x y (ix4 b t g d) = if h : t.val < 127 then y (ix4 b ⟨t.val + 1, by omega⟩ g d) else x (ix4 b 0 g d) := by
  have hj := joined x y b ⟨t.val + 1, by omega⟩ g d
  refine Eq.trans ?_ (hj.trans ?_)
  · rw [val_main_v64_apply]
    refine congrArg (val_main_v0 (F := Ideal) x y) (funext fun a => ?_)
    match a with | ⟨0, _⟩ => rfl | ⟨1, _⟩ => exact Fin.ext (Nat.add_comm ..) | ⟨2, _⟩ => rfl | ⟨3, _⟩ => rfl
  · by_cases h : t.val < 127
    · rw [dif_pos h, dif_pos (show (⟨t.val + 1, by omega⟩ : Fin 129).val < 128 by dsimp only; omega)]
    · rw [dif_neg h, dif_neg (show ¬ (⟨t.val + 1, by omega⟩ : Fin 129).val < 128 by dsimp only; omega)]

/-- The masked logits. -/
abbrev masked : FVec Ideal S128x4x4x129 .f32 := val_main_v43 (F := Ideal) q nk ck rel

theorem sink_entry (g r : Fin 4) : val_main_v44 (F := Ideal) sink (ix3 g r 0) = sink (ix1 ⟨4 * g.val + r.val, by omega⟩) := by
  rw [val_main_v44_apply]
  refine congrArg sink (funext fun a => ?_)
  match a with | ⟨0, _⟩ => exact Fin.ext (show (g.val * 4 + r.val) * 1 + 0 = 4 * g.val + r.val by omega)

theorem peak_entry (b : Fin 128) (g r : Fin 4) : val_main_v49 (F := Ideal) q nk ck sink rel (ix4 b g r 0)
    = peak (fun j => masked q nk ck rel (ix4 b g r j.castSucc)) (masked q nk ck rel (ix4 b g r (Fin.last 128))) (sink (ix1 ⟨4 * g.val + r.val, by omega⟩)) := by
  have e : val_main_v45 (F := Ideal) q nk ck rel (ix3 b g r)
      = Finset.univ.fold max (⊥ : EReal) (fun j : Fin 129 => masked q nk ck rel (ix4 b g r j)) := by
    unfold val_main_v45
    rw [Host.reduce_eq_fold_single FloatOps.maximumf _ _ reducesTo_S128x4x4x129_S128x4x4_d3 (by decide)]
    rw [show val_main_cst_12 (F := Ideal) (Shape.Idx.first h_S_) = (⊥ : EReal) from K7.word_bot]
    refine congrArg (fun f => Finset.univ.fold max (⊥ : EReal) f) (funext fun k => ?_)
    refine congrArg (masked q nk ck rel) (funext fun a => ?_)
    match a with | ⟨0, _⟩ => rfl | ⟨1, _⟩ => rfl | ⟨2, _⟩ => rfl | ⟨3, _⟩ => rfl
  rw [val_main_v49_apply, val_main_v46_apply, val_main_v48_apply, val_main_v47_apply]
  rw [show idx_main_v46 (ix4 b g r 0) = ix3 b g r from funext fun a => by match a with | ⟨0, _⟩ => rfl | ⟨1, _⟩ => rfl | ⟨2, _⟩ => rfl,
    show idx_main_v47 (idx_main_v48 (ix4 b g r 0)) = ix3 g r 0 from funext fun a => by match a with | ⟨0, _⟩ => rfl | ⟨1, _⟩ => rfl | ⟨2, _⟩ => rfl,
    sink_entry, e, fold_last]
  rfl

theorem weight_entry (b : Fin 128) (g r : Fin 4) (j : Fin 129) : val_main_v52 (F := Ideal) q nk ck sink rel (ix4 b g r j)
    = Ideal.exp (masked q nk ck rel (ix4 b g r j) - peak (fun j => masked q nk ck rel (ix4 b g r j.castSucc)) (masked q nk ck rel (ix4 b g r (Fin.last 128)))
        (sink (ix1 ⟨4 * g.val + r.val, by omega⟩))) := by
  rw [val_main_v52_apply, val_main_v51_apply, val_main_v50_apply]
  rw [show idx_main_v50 (ix4 b g r j) = ix4 b g r 0 from funext fun a => by
    match a with | ⟨0, _⟩ => rfl | ⟨1, _⟩ => rfl | ⟨2, _⟩ => rfl | ⟨3, _⟩ => rfl, peak_entry]
  rfl

theorem mass_entry (b : Fin 128) (g r : Fin 4) : val_main_v59 (F := Ideal) q nk ck sink rel (ix4 b g r 0)
    = mass (fun j => masked q nk ck rel (ix4 b g r j.castSucc)) (masked q nk ck rel (ix4 b g r (Fin.last 128))) (sink (ix1 ⟨4 * g.val + r.val, by omega⟩)) := by
  rw [val_main_v59_apply, val_main_v54_apply, val_main_v53_apply, val_main_v58_apply, val_main_v57_apply, val_main_v56_apply, val_main_v55_apply, peak_entry]
  rw [show idx_main_v55 (idx_main_v56 (ix4 b g r 0)) = ix3 g r 0 from funext fun a => by match a with | ⟨0, _⟩ => rfl | ⟨1, _⟩ => rfl | ⟨2, _⟩ => rfl,
    sink_entry]
  have hk : ∀ j : Fin 129, idx_main_v53 (idx_main_v54 (ix4 b g r 0)) j = ix4 b g r j := fun j => funext fun a => by
    match a with | ⟨0, _⟩ => rfl | ⟨1, _⟩ => rfl | ⟨2, _⟩ => rfl | ⟨3, _⟩ => rfl
  simp only [hk, weight_entry]
  rw [show val_main_cst_13 (F := Ideal) (Shape.Idx.first h_S_) = (0 : EReal) from Ideal.ofBits_zero_f32, zero_add, Fin.sum_univ_castSucc]
  rfl

/-- The attention's result is the mean of the values. -/
theorem out_entry (b : Fin 128) (g r : Fin 4) (d : Fin 64) : val_main_v63 (F := Ideal) q nk nv ck cv sink rel (ix3 b ⟨4 * g.val + r.val, by omega⟩ d)
    = mean (fun j => masked q nk ck rel (ix4 b g r j.castSucc)) (masked q nk ck rel (ix4 b g r (Fin.last 128))) (sink (ix1 ⟨4 * g.val + r.val, by omega⟩))
        (fun j => cv (ix4 b j g d)) (nv (ix4 b 0 g d)) := by
  rw [val_main_v63_apply]
  rw [show idx_main_v63 (ix3 b (⟨4 * g.val + r.val, by omega⟩ : Fin 16) d) = ix4 b g r d from funext fun a => by
    match a with
    | ⟨0, _⟩ => exact Fin.ext (show ((b.val * 16 + (4 * g.val + r.val)) * 64 + d.val) / 1024 = b.val by omega)
    | ⟨1, _⟩ => exact Fin.ext (show ((b.val * 16 + (4 * g.val + r.val)) * 64 + d.val) / 256 % 4 = g.val by omega)
    | ⟨2, _⟩ => exact Fin.ext (show ((b.val * 16 + (4 * g.val + r.val)) * 64 + d.val) / 64 % 4 = r.val by omega)
    | ⟨3, _⟩ => exact Fin.ext (show ((b.val * 16 + (4 * g.val + r.val)) * 64 + d.val) % 64 = d.val by omega)]
  rw [val_main_v62_apply]
  have hl : ∀ j : Fin 129, lidx_main_v62 (ix4 b g r d) j = ix4 b g r j := fun j => funext fun a => by
    match a with | ⟨0, _⟩ => rfl | ⟨1, _⟩ => rfl | ⟨2, _⟩ => rfl | ⟨3, _⟩ => rfl
  have hr : ∀ j : Fin 129, ridx_main_v62 (ix4 b g r d) j = ix4 b j g d := fun j => funext fun a => by
    match a with | ⟨0, _⟩ => rfl | ⟨1, _⟩ => rfl | ⟨2, _⟩ => rfl | ⟨3, _⟩ => rfl
  have h60 : ∀ j : Fin 129, idx_main_v60 (ix4 b g r j) = ix4 b g r 0 := fun j => funext fun a => by
    match a with | ⟨0, _⟩ => rfl | ⟨1, _⟩ => rfl | ⟨2, _⟩ => rfl | ⟨3, _⟩ => rfl
  simp only [hl, hr, val_main_v61_apply, val_main_v60_apply, h60, mass_entry, weight_entry]
  rw [Fin.sum_univ_castSucc, show val_main_v1 (F := Ideal) nv cv = val_main_v0 (F := Ideal) nv cv from rfl, new_row]
  simp only [kept_row]
  rfl

/-- The distances and the buckets, as words. -/
theorem distance_entry (j : Fin 129) : val_main_v6 (F := Ideal) (ix1 j) = distance j := by
  simp only [val_main_v6_apply, val_main_v5_apply, val_main_v4_apply, val_main_v3_apply, val_main_v2_apply, val_main_c_apply, val_main_c_0_apply]
  rfl

theorem bucket_entry (j : Fin 129) : val_main_v29 (F := Ideal) (ix1 j) = wrap (rule j) := by
  simp only [val_main_v29_apply, val_main_v28_apply, val_main_v27_apply, val_main_v26_apply, val_main_v25_apply, val_main_v24_apply, val_main_v23_apply,
    val_main_v22_apply, val_main_v21_apply, val_main_v20_apply, val_main_v19_apply, val_main_v18_apply, val_main_v17_apply, val_main_v16_apply,
    val_main_v15_apply, val_main_v14_apply, val_main_v13_apply, val_main_v12_apply, val_main_v11_apply, val_main_v10_apply, val_main_v9_apply,
    val_main_v8_apply, val_main_v7_apply, val_main_c_1_apply, val_main_c_4_apply, val_main_c_5_apply, val_main_c_6_apply, val_main_c_7_apply,
    val_main_c_8_apply, val_main_cst_apply, val_main_cst_2_apply, val_main_cst_3_apply, distance_entry]
  rfl

theorem bias_entry (g r : Fin 4) (j : Fin 129) (v : BitVec 32) (hv : wrap (rule j) = v) : val_main_v33 (F := Ideal) rel (ix3 g r j)
    = rel (ix2 ⟨min v.toInt.toNat 31, by omega⟩ ⟨4 * g.val + r.val, by omega⟩) := by
  have hw : val_main_v30 (F := Ideal) (ix2 j 0) = v := by
    rw [val_main_v30_apply, ← hv, ← bucket_entry]
    exact congrArg (val_main_v29 (F := Ideal)) (funext fun a => by match a with | ⟨0, _⟩ => rfl)
  rw [val_main_v33_apply, val_main_v32_apply]
  rw [show idx_main_v32 (idx_main_v33 (ix3 g r j)) = ix2 j (⟨4 * g.val + r.val, by omega⟩ : Fin 16) from funext fun a => by
    match a with
    | ⟨0, _⟩ => exact Fin.ext (show ((g.val * 4 + r.val) * 129 + j.val) % 129 = j.val by omega)
    | ⟨1, _⟩ => exact Fin.ext (show ((g.val * 4 + r.val) * 129 + j.val) / 129 = 4 * g.val + r.val by omega)]
  unfold val_main_v31
  exact gather_row gather_S32x16_S129x1_S129x16_1_0_n_n_0_1_116_wf rel _ j ⟨4 * g.val + r.val, by omega⟩ v hw

/-- A key's logit before the mask. -/
theorem plain_entry (b : Fin 128) (g r : Fin 4) (j : Fin 129) (v : BitVec 32) (hv : wrap (rule j) = v) :
    val_main_v40 (F := Ideal) q nk ck rel (ix4 b g r j)
      = (∑ d : Fin 64, q (ix4 b 0 ⟨4 * g.val + r.val, by omega⟩ d) * val_main_v0 (F := Ideal) nk ck (ix4 b j g d)) * Ideal.ofBits .f32 0x3E000000#32
        + rel (ix2 ⟨min v.toInt.toNat 31, by omega⟩ ⟨4 * g.val + r.val, by omega⟩) := by
  rw [val_main_v40_apply, val_main_v39_apply, val_main_v38_apply, val_main_v37_apply, val_main_v36_apply, val_main_cst_9_apply, val_main_v35_apply]
  rw [show idx_main_v38 (idx_main_v39 (ix4 b g r j)) = ix3 g r j from funext fun a => by match a with | ⟨0, _⟩ => rfl | ⟨1, _⟩ => rfl | ⟨2, _⟩ => rfl,
    bias_entry rel g r j v hv]
  have hl : ∀ d : Fin 64, val_main_v34 (F := Ideal) q (lidx_main_v35 (ix4 b g r j) d) = q (ix4 b 0 ⟨4 * g.val + r.val, by omega⟩ d) := fun d => by
    rw [val_main_v34_apply]
    refine congrArg q (funext fun a => ?_)
    match a with
    | ⟨0, _⟩ => exact Fin.ext (show (((b.val * 4 + g.val) * 4 + r.val) * 64 + d.val) / 1024 = b.val by omega)
    | ⟨1, _⟩ => rfl
    | ⟨2, _⟩ => exact Fin.ext (show (((b.val * 4 + g.val) * 4 + r.val) * 64 + d.val) / 64 % 16 = 4 * g.val + r.val by omega)
    | ⟨3, _⟩ => exact Fin.ext (show (((b.val * 4 + g.val) * 4 + r.val) * 64 + d.val) % 64 = d.val by omega)
  have hr : ∀ d : Fin 64, ridx_main_v35 (ix4 b g r j) d = ix4 b j g d := fun d => funext fun a => by
    match a with | ⟨0, _⟩ => rfl | ⟨1, _⟩ => rfl | ⟨2, _⟩ => rfl | ⟨3, _⟩ => rfl
  simp only [hl, hr]
  rfl

theorem inside : ∀ j : Fin 129, IntOp.cmpi CmpIPredicate.slt (IntOp.subi 128#32 (BitVec.ofNat 32 j.val)) 128#32 = if j.val = 0 then 0#1 else 1#1 := by
  decide +kernel

theorem masked_entry (b : Fin 128) (g r : Fin 4) (j : Fin 129) : masked q nk ck rel (ix4 b g r j)
    = if j.val = 0 then ⊥ else val_main_v40 (F := Ideal) q nk ck rel (ix4 b g r j) := by
  unfold masked
  rw [val_main_v43_apply, val_main_call1_v1_apply, val_main_call1_v2_apply, val_main_call1_v0_apply, val_main_cst_11_apply, val_main_v42_apply,
    val_main_v41_apply, val_main_v4_apply, val_main_v3_apply, val_main_v2_apply, val_main_c_apply, val_main_c_10_apply]
  have h := inside j
  rw [show IntOp.cmpi CmpIPredicate.slt (IntOp.subi 128#32 (BitVec.ofNat 32 (idx_main_call1_v1 (ix4 b g r j) 0).val)) 128#32 = _ from h,
    show (FloatOps.ofBits (F := Ideal) .f32 0xFF800000#32 : EReal) = ⊥ from K7.word_bot]
  unfold Scalar.select
  split <;> rfl

end Cert.Swa.R7
-- ==== Proof.Sample.Agree7.lean ====
/-
  The sliding window's attention for one new token of every sequence: the program's results are the reference's.
-/
module

public import proofs.«01_k».proof.Defs
public import proofs.«01_k».proof.Proof.Gen.Kernel7
public import proofs.«01_k».proof.Proof.Gen.Kernel7.Frame
public import proofs.«01_k».proof.Proof.Gen.Kernel7Ideal.Frame
public import proofs.«01_k».proof.Proof.Gen.Reference7Ideal
public import proofs.«01_k».proof.Proof.Gen.Reference7Ideal.Read
public import proofs.«01_k».proof.Proof.Gen.Reference7Ideal.Run
public import proofs.«01_k».proof.Proof.Sample.Head7
public import proofs.«01_k».proof.Proof.Sample.Run7
public import proofs.«01_k».proof.Proof.Sample.Ref7

@[expose] public section
set_option backward.proofsInPublic true
noncomputable section
namespace Cert.Swa.K7
open Idealize.ShloMosaic Idealize.ShloMosaic.TcCoe Idealize.SL.Sem

variable (m : (ℓ : Loc Kernel7Ideal.nD Kernel7Ideal.τ Kernel7Ideal.sig) → Buf (Elt Ideal) ℓ) (c : Dev Kernel7Ideal.nD)

theorem logit_eq (b : Fin 128) (g r : Fin 4) (j : Fin 128) :
    R7.masked (argQ m c) (argK m c) (argCK m c) (argR m c) (ix4 b g r j.castSucc) = logit m c b g r j := by
  rw [R7.masked_entry]
  unfold logit
  rw [own_head (argQ m c) (fun g d => argCK m c (ix4 b j g d)), biases_apply]
  by_cases hj : j.val = 0
  · rw [if_pos hj, if_pos (show j.castSucc.val = 0 from hj), EReal.add_bot]
  · rw [if_neg hj, if_neg (show ¬ j.castSucc.val = 0 from hj), R7.plain_entry _ _ _ _ b g r j.castSucc _ (rule_eq j hj)]
    simp only [R7.kept_row]

theorem logitNew_eq (b : Fin 128) (g r : Fin 4) :
    R7.masked (argQ m c) (argK m c) (argCK m c) (argR m c) (ix4 b g r (Fin.last 128)) = logitNew m c b g r := by
  rw [R7.masked_entry]
  unfold logitNew
  rw [own_head (argQ m c) (fun g d => argK m c (ix4 b 0 g d)), if_neg (show ¬ (Fin.last 128).val = 0 by decide),
    R7.plain_entry _ _ _ _ b g r (Fin.last 128) _ rule_last]
  simp only [R7.new_row]
  rfl

theorem agree_at (b : Fin 128) (g r : Fin 4) (d : Fin 64) :
    Reference7Ideal.Read.val_main_v63 (F := Ideal) (argQ m c) (argK m c) (argV m c) (argCK m c) (argCV m c) (argS m c) (argR m c)
        (ix3 b ⟨4 * g.val + r.val, by omega⟩ d)
      = (Kernel7Ideal.Gen.dats m 0 c).arrAt 10 Kernel7Ideal.cfg0.N (ix3 b ⟨4 * g.val + r.val, by omega⟩ d) := by
  have hs : (fun j : Fin 128 => R7.masked (argQ m c) (argK m c) (argCK m c) (argR m c) (ix4 b g r j.castSucc)) = logit m c b g r :=
    funext fun j => logit_eq m c b g r j
  refine (R7.out_entry ..).trans (Eq.trans ?_ (arr_o m c b g r d).symm)
  rw [hs, logitNew_eq]

theorem agree_o : Reference7Ideal.Read.val_main_v63 (F := Ideal) (argQ m c) (argK m c) (argV m c) (argCK m c) (argCV m c) (argS m c) (argR m c)
    = (Kernel7Ideal.Gen.dats m 0 c).arrAt 10 Kernel7Ideal.cfg0.N := by
  funext i
  have h1 : (i 1).val < 16 := (i 1).isLt
  have ei : i = ix3 (i 0) (⟨4 * ((⟨(i 1).val / 4, by omega⟩ : Fin 4)).val + (⟨(i 1).val % 4, by omega⟩ : Fin 4).val, by dsimp only; omega⟩ : Fin 16) (i 2) :=
    funext fun a => by
      match a with
      | ⟨0, _⟩ => rfl
      | ⟨1, _⟩ => exact Fin.ext (show (i 1).val = 4 * ((i 1).val / 4) + (i 1).val % 4 by omega)
      | ⟨2, _⟩ => rfl
  rw [ei]
  exact agree_at m c (i 0) ⟨(i 1).val / 4, by omega⟩ ⟨(i 1).val % 4, by omega⟩ (i 2)

theorem agree_k : Reference7Ideal.Read.val_main_v64 (F := Ideal) (argK m c) (argCK m c) = tail m c Kernel7Ideal.main_v41 := by
  funext i
  have ei : i = ix4 (i 0) (i 1) (i 2) (i 3) := funext fun a => by match a with | ⟨0, _⟩ => rfl | ⟨1, _⟩ => rfl | ⟨2, _⟩ => rfl | ⟨3, _⟩ => rfl
  rw [ei]
  exact (R7.state_entry ..).trans (k_entry m c ..).symm

theorem agree_v : Reference7Ideal.Read.val_main_v65 (F := Ideal) (argV m c) (argCV m c) = tail m c Kernel7Ideal.main_v43 := by
  funext i
  have ei : i = ix4 (i 0) (i 1) (i 2) (i 3) := funext fun a => by match a with | ⟨0, _⟩ => rfl | ⟨1, _⟩ => rfl | ⟨2, _⟩ => rfl | ⟨3, _⟩ => rfl
  rw [ei]
  exact (R7.state_entry ..).trans (v_entry m c ..).symm

/-- The reference's run leaves the arguments alone, and it has no semaphore. -/
theorem frame_reference : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- The window's value claim. -/
theorem value_window : Cert.algebraic_Kernel7Ideal_Reference7Ideal := by
  intro m ρ m' ρ' _ hagree
  refine ⟨fun c => (Kernel7Ideal.Gen.dats m 0 c).arrAt 10 Kernel7Ideal.cfg0.N, fun c => tail m c Kernel7Ideal.main_v41,
    fun c => tail m c Kernel7Ideal.main_v43, ?_, ?_⟩
  · refine (θ_run Cert.Kernel7Ideal.defs _ _).mono (fun r h c => ?_) (θ_run_and (run_results m ρ) (Kernel7Ideal.Gen.frame m ρ))
    obtain ⟨ho, hk, hv⟩ := h.1 c
    exact ⟨ho, hk, hv, h.2.1 c⟩
  · refine (θ_run Cert.Reference7Ideal.defs _ _).mono (fun r h c => ?_) (Cert.Reference7Ideal.Value.run (F := Ideal) m' ρ')
    obtain ⟨h0, h1, h2, h3, h4, h5, h6⟩ := hagree c
    obtain ⟨ho, hk, hv, hargs⟩ := h c
    replace ho := ho.trans (Cert.Reference7Ideal.Read.val_main_v63_eq m' c)
    rw [h0, h1, h2, h3, h4, h5, h6] at ho
    rw [h1, h3] at hk
    rw [h2, h4] at hv
    exact ⟨ho.trans (agree_o m c), hk.trans (agree_k m c), hv.trans (agree_v m c), hargs⟩

end Cert.Swa.K7
-- ==== Proof.Proj.Pay3.lean ====
/-
  The vector expressions of the projection into the forgetting attention, at an index.
-/
module

public import proofs.«01_k».proof.Proof.Proj.Rows
public import proofs.«01_k».proof.Proof.Gen.Kernel3Ideal.Skeleton

@[expose] public section
set_option maxRecDepth 16384
noncomputable section
namespace Cert.Proj.K3
open Idealize.ShloMosaic Cert.Proj Cert.Kernel3Ideal Cert.Kernel3Ideal.Gen

variable (x : FVec Ideal S512x1024 .f32) (g : FVec Ideal S1x1024 .f32) (r : Fin 512)

theorem pay3_apply (c : Fin 1024) : k0_pay3 (F := Ideal) x g (ix2 r c) = Pool.rms (fun k => x (ix2 r k)) (fun k => g (ix2 0 k)) c := by
  pointwise [k0_pay3]
  rfl

theorem pay4_apply (w : FVec Ideal S1024x1024 .bf16) (c : Fin 1024) : k0_pay4 (F := Ideal) x g w (ix2 r c)
    = proj (fun k => x (ix2 r k)) (fun k => g (ix2 0 k)) (fun k => w (ix2 k c)) := by
  unfold k0_pay4 proj
  simp only [← pay3_apply]
  generalize k0_pay3 (F := Ideal) x g = y
  pointwise []

theorem pay2_apply (w : FVec Ideal S1024x1024 .bf16) (c : Fin 1024) : k0_pay2 (F := Ideal) (k0_pay3 x g) w (ix2 r c)
    = proj (fun k => x (ix2 r k)) (fun k => g (ix2 0 k)) (fun k => w (ix2 k c)) := by
  unfold k0_pay2 proj
  simp only [← pay3_apply]
  generalize k0_pay3 (F := Ideal) x g = y
  pointwise []

theorem pay7_apply (w : FVec Ideal S1024x256 .bf16) (c : Fin 256) : k0_pay7 (F := Ideal) x g w (ix3 0 c r)
    = proj (fun k => x (ix2 r k)) (fun k => g (ix2 0 k)) (fun k => w (ix2 k c)) := by
  unfold k0_pay7 k0_pay5 proj
  simp only [← pay3_apply]
  generalize k0_pay3 (F := Ideal) x g = y
  pointwise []

theorem pay8_apply (w : FVec Ideal S1024x256 .bf16) (c : Fin 256) : k0_pay8 (F := Ideal) x g w (ix3 0 c r)
    = proj (fun k => x (ix2 r k)) (fun k => g (ix2 0 k)) (fun k => w (ix2 k c)) := by
  unfold k0_pay8 k0_pay6 proj
  simp only [← pay3_apply]
  generalize k0_pay3 (F := Ideal) x g = y
  pointwise []

theorem pay9_apply (w : FVec Ideal S1024x128 .bf16) (b : FVec Ideal S1x128 .f32) (c : Fin 16) :
    k0_pay9 (F := Ideal) (k0_pay3 x g) w b (ix3 0 c r)
    = logSigmoid (proj (fun k => x (ix2 r k)) (fun k => g (ix2 0 k)) (fun k => w (ix2 k ⟨c.val, by omega⟩)) + b (ix2 0 ⟨c.val, by omega⟩)) := by
  unfold k0_pay9 proj
  simp only [← pay3_apply]
  generalize k0_pay3 (F := Ideal) x g = y
  pointwise []
  unfold logSigmoid
  simp only [zero_sub]
  rfl

theorem pay10_apply (y : FVec Ideal S512x1024 .f32) (c : Fin 1024) : k0_pay10 (F := Ideal) y (ix2 c r) = y (ix2 r c) * base2 := by
  pointwise [k0_pay10]
  rfl

end Cert.Proj.K3
-- ==== Proof.Proj.Query3.lean ====
/-
  The block of queries: the rows of a head's tile are its scaled projections.
-/
module

public import proofs.«01_k».proof.Proof.Proj.Pay3
public import proofs.«01_k».proof.Proof.Gen.Kernel3Ideal.Frame
public import Idealize.ShloMosaic.Lib.Pipeline.ValueKit

@[expose] public section
set_option maxRecDepth 16384
noncomputable section
namespace Cert.Proj.K3
open Idealize.ShloMosaic Cert.Proj Cert.Kernel3Ideal Cert.Kernel3Ideal.Gen

variable (x0 : FVec Ideal S512x1024 .f32) (x1 : FVec Ideal S1x1024 .f32) (x2 : FVec Ideal S1024x2560 .bf16)
    (x3 : FVec Ideal S1024x128 .bf16) (x4 : FVec Ideal S1x128 .f32)

theorem ld_x : View.ld (Val := Elt Ideal) (e' := .f32) x0 r0_0 = x0 := View.ld_unit_lit (e := _) _ _ (by decide)
theorem ld_g : View.ld (Val := Elt Ideal) (e' := .f32) x1 r0_1 = x1 := View.ld_unit_lit (e := _) _ _ (by decide)
theorem ld_wf : View.ld (Val := Elt Ideal) (e' := .bf16) x3 r0_6 = x3 := View.ld_unit_lit (e := _) _ _ (by decide)
theorem ld_fb : View.ld (Val := Elt Ideal) (e' := .f32) x4 r0_7 = x4 := View.ld_unit_lit (e := _) _ _ (by decide)

/-- The entry of the whole weight that the projection at row `r` and column `c` needs. -/
abbrev at_ (r : Fin 512) (c : Fin 2560) : EReal := proj (fun k => x0 (ix2 r k)) (fun k => x1 (ix2 0 k)) (fun k => x2 (ix2 k c))

theorem gate_apply (r : Fin 512) (c : Fin 1024) :
    out0_11 (F := Ideal) x0 x1 x2 x3 x4 (ix2 r c) = at_ x0 x1 x2 r ⟨1536 + c.val, by omega⟩ := by
  unfold out0_11
  rw [View.canon_cons_unit_lit _ _ _ (by decide)]
  unfold k0_pay68
  rw [pay2_apply, ld_x, ld_g]
  refine congrArg (proj _ _) (funext fun k => congrArg x2 (funext fun a => ?_))
  match a with
  | ⟨0, _⟩ => exact Fin.ext (by simp)
  | ⟨1, _⟩ => exact Fin.ext (by simp)

theorem key_apply (r : Fin 512) (c : Fin 256) :
    out0_6 (F := Ideal) x0 x1 x2 x3 x4 (ix3 0 c r) = at_ x0 x1 x2 r ⟨1024 + c.val, by omega⟩ := by
  unfold out0_6
  rw [View.canon_cons_unit_lit _ _ _ (by decide), pay7_apply, ld_x, ld_g]
  refine congrArg (proj _ _) (funext fun k => congrArg x2 (funext fun a => ?_))
  match a with
  | ⟨0, _⟩ => exact Fin.ext (by simp)
  | ⟨1, _⟩ => exact Fin.ext (by simp)

theorem value_apply (r : Fin 512) (c : Fin 256) :
    out0_7 (F := Ideal) x0 x1 x2 x3 x4 (ix3 0 c r) = at_ x0 x1 x2 r ⟨1280 + c.val, by omega⟩ := by
  unfold out0_7
  rw [View.canon_cons_unit_lit _ _ _ (by decide), pay8_apply, ld_x, ld_g]
  refine congrArg (proj _ _) (funext fun k => congrArg x2 (funext fun a => ?_))
  match a with
  | ⟨0, _⟩ => exact Fin.ext (by simp)
  | ⟨1, _⟩ => exact Fin.ext (by simp)

theorem forget_apply (r : Fin 512) (c : Fin 16) : out0_10 (F := Ideal) x0 x1 x2 x3 x4 (ix3 0 c r)
    = logSigmoid (proj (fun k => x0 (ix2 r k)) (fun k => x1 (ix2 0 k)) (fun k => x3 (ix2 k ⟨c.val, by omega⟩)) + x4 (ix2 0 ⟨c.val, by omega⟩)) := by
  unfold out0_10
  rw [View.canon_cons_unit_lit _ _ _ (by decide)]
  unfold k0_pay68
  rw [pay9_apply, ld_x, ld_g, ld_wf, ld_fb]

theorem column_apply (r : Fin 512) (c : Fin 1024) :
    k0_pay4 (F := Ideal) (View.ld x0 r0_0) (View.ld x1 r0_1) (View.ld x2 r0_2) (ix2 r c) = at_ x0 x1 x2 r ⟨c.val, by omega⟩ := by
  rw [pay4_apply, ld_x, ld_g]
  refine congrArg (proj _ _) (funext fun k => congrArg x2 (funext fun a => ?_))
  match a with
  | ⟨0, _⟩ => exact Fin.ext (by simp)
  | ⟨1, _⟩ => exact Fin.ext (by simp)

/-- The tile of the head `4 h + g` is the columns `64 (4 h + g)` on of the product, scaled. -/
theorem query_apply (h g : Fin 4) (d : Fin 64) (r : Fin 512) :
    out0_5 (F := Ideal) x0 x1 x2 x3 x4 (ix5 0 h 0 (⟨d.val, by omega⟩ : Fin 128) (⟨512 * g.val + r.val, by omega⟩ : Fin 2048))
      = at_ x0 x1 x2 r ⟨256 * h.val + 64 * g.val + d.val, by omega⟩ * base2 := by
  canon_tiles x e
  all_goals
    replace e1 : h.val = _ := e1
    replace e3 : d.val = _ := e3
    replace e4 : 512 * g.val + r.val = _ := e4
  all_goals try (exfalso; omega)
  all_goals
    have hx : x = ix5 0 0 0 d r := by
      funext a
      match a with
      | ⟨0, _⟩ => exact Fin.ext (by show (x 0).val = 0; omega)
      | ⟨1, _⟩ => exact Fin.ext (by show (x 1).val = 0; omega)
      | ⟨2, _⟩ => exact Fin.ext (by show (x 2).val = 0; omega)
      | ⟨3, _⟩ => exact Fin.ext e3.symm
      | ⟨4, _⟩ => exact Fin.ext (by show (x 4).val = r.val; omega)
    subst hx
    pointwise [k0_pay11, k0_pay16, k0_pay19, k0_pay18, k0_pay21, k0_pay24, k0_pay26, k0_pay30, k0_pay32, k0_pay35, k0_pay38, k0_pay37, k0_pay40, k0_pay43, k0_pay45, k0_pay50, k0_pay53, k0_pay52, k0_pay55, k0_pay73, k0_pay69, k0_pay10]
    refine congrArg (· * base2) ((column_apply ..).trans (congrArg (at_ x0 x1 x2 r) (Fin.ext ?_)))
    replace e1 : h.val = _ + 0 := e1
    first | replace e4 : _ = _ + r.val := e4 | replace e4 : _ = r.val := e4
    dsimp only
    omega

end Cert.Proj.K3
-- ==== Proof.Proj.Blocks3.lean ====
/-
  The blocks of the five operands that a point of the grid reads, as entries of the arguments.
-/
module

public import proofs.«01_k».proof.Proof.Proj.Rows
public import proofs.«01_k».proof.Proof.Gen.Kernel3Ideal.Frame
public import Idealize.ShloMosaic.Lib.Pipeline.ValueKit
public import Idealize.ShloMosaic.Lib.StableHlo.RunRead

@[expose] public section
set_option maxRecDepth 16384
noncomputable section
namespace Cert.Proj.K3
open Idealize.ShloMosaic Idealize.ShloMosaic.TcCoe Idealize.ShloMosaic.Tactic Cert.Kernel3Ideal Cert.Kernel3Ideal.Gen

/-- The windows' block indices at the point `t`: sequence `t / 16`, tile `t % 16` of its rows. -/
theorem idx : ∀ t : Fin cfg0.N, win0_0.index t = ![t.val, 0] ∧ win0_1.index t = ![0, 0] ∧ win0_2.index t = ![0, 0] ∧ win0_3.index t = ![0, 0]
    ∧ win0_4.index t = ![0, 0] := by decide +kernel

theorem N_eq : cfg0.N = 32 := by decide +kernel

variable (m : (ℓ : Loc nD τ sig) → Buf (Elt Ideal) ℓ) (c : Dev nD)

/-- The arguments. -/
abbrev argX : FVec Ideal S2x8192x1024 .f32 := m (c.tc.loc main_arg0)
abbrev argG : FVec Ideal S1024 .f32 := m (c.tc.loc main_arg1)
abbrev argW : FVec Ideal S1024x2576 .f32 := m (c.tc.loc main_arg2)
abbrev argB : FVec Ideal S16 .f32 := m (c.tc.loc main_arg3)

theorem V_x : V m c main_v9 = shapeCast S16384x1024 (argX m c) shapeCasts_S2x8192x1024_S16384x1024 := by
  unfold V V0
  simp only [hostOps0, hostOps0_1, hostOps0_2, hostOps0_3, hostOps0_4, List.flatten_cons, List.flatten_nil, List.append_nil, List.cons_append, List.nil_append]
  after_reads_simp
  rfl

theorem V_g : V m c main_v10 = shapeCast S1x1024 (argG m c) shapeCasts_S1024_S1x1024 := by
  unfold V V0
  simp only [hostOps0, hostOps0_1, hostOps0_2, hostOps0_3, hostOps0_4, List.flatten_cons, List.flatten_nil, List.append_nil, List.cons_append, List.nil_append]
  after_reads_simp
  rfl

theorem V_w : V m c main_v3 = truncf (F := Ideal) .bf16
    (concatenate S1024x2560 1 [⟨S1024x1536, extractStridedSlice S1024x1536 ![0, 0] (argW m c) slices_S1024x2576_S1024x1536_0_0⟩,
        ⟨S1024x1024, extractStridedSlice S1024x1024 ![0, 1552] (argW m c) slices_S1024x2576_S1024x1024_0_1552⟩]
      concatenates_S1024x1536_S1024x1024_S1024x2560_d1) bitsLt_bf16_f32 := by
  unfold V V0
  simp only [hostOps0, hostOps0_1, hostOps0_2, hostOps0_3, hostOps0_4, List.flatten_cons, List.flatten_nil, List.append_nil, List.cons_append, List.nil_append]
  after_reads_simp
  rfl

theorem V_wf : V m c main_v6 = truncf (F := Ideal) .bf16
    (pad S1024x128 ![0, 0] ![0, 112] ![0, 0] (extractStridedSlice S1024x16 ![0, 1536] (argW m c) slices_S1024x2576_S1024x16_0_1536)
      (sitofp (F := Ideal) .f32 (constantI S_ 32 0#32)) pads_S1024x16_S1024x128_000_01120 h_S_) bitsLt_bf16_f32 := by
  unfold V V0
  simp only [hostOps0, hostOps0_1, hostOps0_2, hostOps0_3, hostOps0_4, List.flatten_cons, List.flatten_nil, List.append_nil, List.cons_append, List.nil_append]
  after_reads_simp
  rfl

theorem V_fb : V m c main_v8 = shapeCast S1x128 (pad S128 ![0] ![112] ![0] (argB m c) (sitofp (F := Ideal) .f32 (constantI S_ 32 0#32)) pads_S16_S128_01120 h_S_)
    shapeCasts_S128_S1x128 := by
  unfold V V0
  simp only [hostOps0, hostOps0_1, hostOps0_2, hostOps0_3, hostOps0_4, List.flatten_cons, List.flatten_nil, List.append_nil, List.cons_append, List.nil_append]
  after_reads_simp
  rfl

variable (s : Fin 2) (u : Fin 16)

/-- The point of tile `u` of sequence `s`. -/
def point : Fin cfg0.N := ⟨16 * s.val + u.val, by rw [N_eq]; omega⟩

theorem blk0 (r : Fin 512) (k : Fin 1024) :
    iblk m c 0 (point s u) (ix2 r k) = argX m c (ix3 s ⟨512 * u.val + r.val, by omega⟩ k) := by
  have hi := (idx (point s u)).1
  rw [show (point s u).val = 16 * s.val + u.val from rfl] at hi
  have he : (win0_0.blk (point s u)).view.emb (ix2 r k) = ix2 (⟨8192 * s.val + (512 * u.val + r.val), by omega⟩ : Fin 16384) k := by blk_ext [hi]
  blk_simp [iblk, hi]
  rw [V_x, he]
  pointwise []
  refine congrArg (argX m c) (funext fun a => ?_)
  match a with
  | ⟨0, _⟩ => rfl
  | ⟨1, _⟩ => exact Fin.ext (by show (8192 * s.val + (512 * u.val + r.val)) % 8192 = 512 * u.val + r.val; omega)
  | ⟨2, _⟩ => rfl

theorem blk1 (t : Fin cfg0.N) (k : Fin 1024) : iblk m c 1 t (ix2 0 k) = argG m c (ix1 k) := by
  have he : (win0_1.blk t).view.emb (ix2 0 k) = ix2 0 k := by blk_ext [idx t]
  blk_simp [iblk, idx t]
  rw [V_g, he]
  pointwise []

theorem blk2_lo (t : Fin cfg0.N) (k : Fin 1024) (j : Fin 1536) :
    iblk m c 2 t (ix2 k ⟨j.val, by omega⟩) = argW m c (ix2 k ⟨j.val, by omega⟩) := by
  have he : (win0_2.blk t).view.emb (ix2 k (⟨j.val, by omega⟩ : Fin 2560)) = ix2 k ⟨j.val, by omega⟩ := by blk_ext [idx t]
  blk_simp [iblk, idx t]
  rw [V_w, he]
  pointwise []

theorem blk2_hi (t : Fin cfg0.N) (k : Fin 1024) (j : Fin 1024) :
    iblk m c 2 t (ix2 k ⟨1536 + j.val, by omega⟩) = argW m c (ix2 k ⟨1552 + j.val, by omega⟩) := by
  have he : (win0_2.blk t).view.emb (ix2 k (⟨1536 + j.val, by omega⟩ : Fin 2560)) = ix2 k ⟨1536 + j.val, by omega⟩ := by blk_ext [idx t]
  blk_simp [iblk, idx t]
  rw [V_w, he]
  pointwise []

theorem blk3 (t : Fin cfg0.N) (k : Fin 1024) (j : Fin 16) :
    iblk m c 3 t (ix2 k ⟨j.val, by omega⟩) = argW m c (ix2 k ⟨1536 + j.val, by omega⟩) := by
  have he : (win0_3.blk t).view.emb (ix2 k (⟨j.val, by omega⟩ : Fin 128)) = ix2 k ⟨j.val, by omega⟩ := by blk_ext [idx t]
  blk_simp [iblk, idx t]
  rw [V_wf, he]
  pointwise []

theorem blk4 (t : Fin cfg0.N) (j : Fin 16) : iblk m c 4 t (ix2 0 ⟨j.val, by omega⟩) = argB m c (ix1 j) := by
  have he : (win0_4.blk t).view.emb (ix2 0 (⟨j.val, by omega⟩ : Fin 128)) = ix2 0 ⟨j.val, by omega⟩ := by blk_ext [idx t]
  blk_simp [iblk, idx t]
  rw [V_fb, he]
  pointwise []

end Cert.Proj.K3
-- ==== Proof.Proj.Array3.lean ====
/-
  The arrays that the launch leaves, at an index: every block is written back by the one point that computes it.
-/
module

public import proofs.«01_k».proof.Proof.Proj.Query3
public import proofs.«01_k».proof.Proof.Proj.Blocks3

@[expose] public section
set_option backward.proofsInPublic true
set_option maxRecDepth 16384
noncomputable section
namespace Cert.Proj.K3
open Idealize.ShloMosaic Idealize.ShloMosaic.TcCoe Idealize.ShloMosaic.Tactic Cert.Kernel3Ideal Cert.Kernel3Ideal.Gen

theorem idx_out : ∀ t : Fin cfg0.N, win0_5.index t = ![t.val / 16, 0, t.val % 16, 0, 0] ∧ win0_6.index t = ![t.val / 16, 0, t.val % 16]
    ∧ win0_7.index t = ![t.val / 16, 0, t.val % 16] ∧ win0_10.index t = ![t.val / 16, 0, t.val % 16] ∧ win0_11.index t = ![t.val, 0] := by
  decide +kernel

variable (m : (ℓ : Loc nD τ sig) → Buf (Elt Ideal) ℓ) (c : Dev nD) (s : Fin 2) (u : Fin 16) (r : Fin 512)

/-- Row `t` of sequence `s`, normalised, against column `j` of the weight. -/
def prj (s : Fin 2) (t : Fin 8192) (j : Fin 2576) : EReal :=
  proj (fun k => argX m c (ix3 s t k)) (fun k => argG m c (ix1 k)) (fun k => argW m c (ix2 k j))

/-- Row `r` of tile `u`. -/
abbrev row (u : Fin 16) (r : Fin 512) : Fin 8192 := ⟨512 * u.val + r.val, by omega⟩

theorem point_lo (j : Fin 2560) (h : j.val < 1536) :
    at_ (iblk m c 0 (point s u)) (iblk m c 1 (point s u)) (iblk m c 2 (point s u)) r j = prj m c s (row u r) ⟨j.val, by omega⟩ := by
  unfold at_ prj
  simp only [blk0, blk1]
  exact congrArg (proj _ _) (funext fun k => blk2_lo m c (point s u) k ⟨j.val, h⟩)

theorem point_hi (j : Fin 1024) :
    at_ (iblk m c 0 (point s u)) (iblk m c 1 (point s u)) (iblk m c 2 (point s u)) r ⟨1536 + j.val, by omega⟩ = prj m c s (row u r) ⟨1552 + j.val, by omega⟩ := by
  unfold at_ prj
  simp only [blk0, blk1]
  exact congrArg (proj _ _) (funext fun k => blk2_hi m c (point s u) k j)

theorem point_div : (point s u).val / 16 = s.val := by show (16 * s.val + u.val) / 16 = _; omega
theorem point_mod : (point s u).val % 16 = u.val := by show (16 * s.val + u.val) % 16 = _; omega

theorem arr_q (h g : Fin 4) (d : Fin 64) :
    (dats m 0 c).arrAt 5 cfg0.N (ix5 s h u (⟨d.val, by omega⟩ : Fin 128) (⟨512 * g.val + r.val, by omega⟩ : Fin 2048))
      = prj m c s (row u r) ⟨256 * h.val + 64 * g.val + d.val, by omega⟩ * base2 := by
  have hi := (idx_out (point s u)).1
  rw [point_div, point_mod] at hi
  have he : (win0_5.blk (point s u)).view.emb (ix5 0 h 0 (⟨d.val, by omega⟩ : Fin 128) (⟨512 * g.val + r.val, by omega⟩ : Fin 2048))
      = ix5 s h u (⟨d.val, by omega⟩ : Fin 128) (⟨512 * g.val + r.val, by omega⟩ : Fin 2048) := by blk_ext [hi]
  have hf := (dats m 0 c).arrAt_emb_eq_flushed 5 (Pipeline.Window.hdisj_of_index_inj _ (by decide +kernel)) (point s u) (flush0_5 _)
    (ix5 0 h 0 (⟨d.val, by omega⟩ : Fin 128) (⟨512 * g.val + r.val, by omega⟩ : Fin 2048))
  rw [← he]
  refine hf.trans ?_
  show (dats m 0 c).after 5 (point s u) (ix5 0 h 0 (⟨d.val, by omega⟩ : Fin 128) (⟨512 * g.val + r.val, by omega⟩ : Fin 2048)) = _
  rw [after0_5]
  refine (query_apply ..).trans ?_
  rw [point_lo m c s u r _ (by dsimp only; omega)]

theorem arr_k (j : Fin 256) :
    (dats m 0 c).arrAt 6 cfg0.N (ix3 s j (row u r)) = prj m c s (row u r) ⟨1024 + j.val, by omega⟩ := by
  have hi := (idx_out (point s u)).2.1
  rw [point_div, point_mod] at hi
  have he : (win0_6.blk (point s u)).view.emb (ix3 0 j r) = (ix3 s j (row u r)) := by blk_ext [hi]
  have hf := (dats m 0 c).arrAt_emb_eq_flushed 6 (Pipeline.Window.hdisj_of_index_inj _ (by decide +kernel)) (point s u) (flush0_6 _) (ix3 0 j r)
  rw [← he]
  refine hf.trans ?_
  show (dats m 0 c).after 6 (point s u) (ix3 0 j r) = _
  rw [after0_6]
  refine (key_apply ..).trans ?_
  rw [point_lo m c s u r _ (by dsimp only; omega)]

theorem arr_v (j : Fin 256) :
    (dats m 0 c).arrAt 7 cfg0.N (ix3 s j (row u r)) = prj m c s (row u r) ⟨1280 + j.val, by omega⟩ := by
  have hi := (idx_out (point s u)).2.2.1
  rw [point_div, point_mod] at hi
  have he : (win0_7.blk (point s u)).view.emb (ix3 0 j r) = (ix3 s j (row u r)) := by blk_ext [hi]
  have hf := (dats m 0 c).arrAt_emb_eq_flushed 7 (Pipeline.Window.hdisj_of_index_inj _ (by decide +kernel)) (point s u) (flush0_7 _) (ix3 0 j r)
  rw [← he]
  refine hf.trans ?_
  show (dats m 0 c).after 7 (point s u) (ix3 0 j r) = _
  rw [after0_7]
  refine (value_apply ..).trans ?_
  rw [point_lo m c s u r _ (by dsimp only; omega)]

theorem arr_f (j : Fin 16) :
    (dats m 0 c).arrAt 10 cfg0.N (ix3 s j (row u r)) = logSigmoid (prj m c s (row u r) ⟨1536 + j.val, by omega⟩ + argB m c (ix1 j)) := by
  have hi := (idx_out (point s u)).2.2.2.1
  rw [point_div, point_mod] at hi
  have he : (win0_10.blk (point s u)).view.emb (ix3 0 j r) = (ix3 s j (row u r)) := by blk_ext [hi]
  have hf := (dats m 0 c).arrAt_emb_eq_flushed 10 (Pipeline.Window.hdisj_of_index_inj _ (by decide +kernel)) (point s u) (flush0_10 _) (ix3 0 j r)
  rw [← he]
  refine hf.trans ?_
  show (dats m 0 c).after 10 (point s u) (ix3 0 j r) = _
  rw [after0_10]
  refine (forget_apply ..).trans ?_
  simp only [blk0, blk1, blk3, blk4]
  rfl

theorem arr_gate (j : Fin 1024) :
    (dats m 0 c).arrAt 11 cfg0.N (ix2 (⟨8192 * s.val + (512 * u.val + r.val), by omega⟩ : Fin 16384) j) = prj m c s (row u r) ⟨1552 + j.val, by omega⟩ := by
  have hi := (idx_out (point s u)).2.2.2.2
  rw [show (point s u).val = 16 * s.val + u.val from rfl] at hi
  have he : (win0_11.blk (point s u)).view.emb (ix2 r j) = (ix2 (⟨8192 * s.val + (512 * u.val + r.val), by omega⟩ : Fin 16384) j) := by blk_ext [hi]
  have hf := (dats m 0 c).arrAt_emb_eq_flushed 11 (Pipeline.Window.hdisj_of_index_inj _ (by decide +kernel)) (point s u) (flush0_11 _) (ix2 r j)
  rw [← he]
  refine hf.trans ?_
  show (dats m 0 c).after 11 (point s u) (ix2 r j) = _
  rw [after0_11]
  refine (gate_apply ..).trans ?_
  rw [point_hi]

end Cert.Proj.K3
-- ==== Proof.Proj.Run3.lean ====
/-
  The results of the program: the launch's arrays, laid out by tokens.
-/
module

public import proofs.«01_k».proof.Proof.Proj.Array3

@[expose] public section
set_option backward.proofsInPublic true
set_option maxRecDepth 16384
noncomputable section
namespace Cert.Proj.K3
open Idealize.ShloMosaic Idealize.ShloMosaic.TcCoe Idealize.ShloMosaic.Tactic Idealize.SL.Sem Cert.Kernel3Ideal Cert.Kernel3Ideal.Gen

variable (m : (ℓ : Loc nD τ sig) → Buf (Elt Ideal) ℓ) (c : Dev nD) (ρ : Dev nD → PrngReg)

/-- What the lines after the launch leave. -/
abbrev tail (b : Ref sig .tc) : Buf (Elt Ideal) ((c : Thread nD τ).loc b) := Pipeline.afterTail₀ cfgs (dats m) 0 (V0 m) [hostOps1] c b

theorem tail_q : (tail m c main_v16 : FVec Ideal S2x8192x16x64 .f32) = extf (F := Ideal) .f32
    (shapeCast S2x8192x16x64 (transpose S2x16x512x4x4x64 [0, 2, 5, 1, 4, 3]
      (shapeCast S2x4x16x64x4x512 (extractStridedSlice S2x4x16x64x2048 ![0, 0, 0, 0, 0]
        ((dats m 0 c).arrAt 5 cfg0.N : FVec Ideal S2x4x16x128x2048 .bf16) slices_S2x4x16x128x2048_S2x4x16x64x2048_0_0_0_0_0)
        shapeCasts_S2x4x16x64x2048_S2x4x16x64x4x512) transposes_S2x4x16x64x4x512_S2x16x512x4x4x64_0_2_5_1_4_3)
      shapeCasts_S2x16x512x4x4x64_S2x8192x16x64) bitsLt_bf16_f32 := by
  unfold tail Pipeline.afterTail₀
  simp only [hostOps1, List.flatten_cons, List.flatten_nil, List.append_nil, List.cons_append, List.nil_append]
  after_reads_simp
  rw [show Pipeline.withArrays _ c (V0 m c) _ (Proc.tc.devRef main_v11_0) = _ from
    Pipeline.withArrays_arr (cfgs 0).spec launch0.win.arr_inj c (V0 m c) (fun w => (dats m 0 c).arrAt w (cfgs 0).N) 5]
  rfl

theorem tail_k : (tail m c main_v18 : FVec Ideal S2x8192x4x64 .f32) = transpose S2x8192x4x64 [0, 3, 1, 2]
    (shapeCast S2x4x64x8192 ((dats m 0 c).arrAt 6 cfg0.N : FVec Ideal S2x256x8192 .f32) shapeCasts_S2x256x8192_S2x4x64x8192)
    transposes_S2x4x64x8192_S2x8192x4x64_0_3_1_2 := by
  unfold tail Pipeline.afterTail₀
  simp only [hostOps1, List.flatten_cons, List.flatten_nil, List.append_nil, List.cons_append, List.nil_append]
  after_reads_simp
  rw [show Pipeline.withArrays _ c (V0 m c) _ (Proc.tc.devRef main_v11_1) = _ from
    Pipeline.withArrays_arr (cfgs 0).spec launch0.win.arr_inj c (V0 m c) (fun w => (dats m 0 c).arrAt w (cfgs 0).N) 6]
  rfl

theorem tail_v : (tail m c main_v20 : FVec Ideal S2x8192x4x64 .f32) = transpose S2x8192x4x64 [0, 3, 1, 2]
    (shapeCast S2x4x64x8192 ((dats m 0 c).arrAt 7 cfg0.N : FVec Ideal S2x256x8192 .f32) shapeCasts_S2x256x8192_S2x4x64x8192)
    transposes_S2x4x64x8192_S2x8192x4x64_0_3_1_2 := by
  unfold tail Pipeline.afterTail₀
  simp only [hostOps1, List.flatten_cons, List.flatten_nil, List.append_nil, List.cons_append, List.nil_append]
  after_reads_simp
  rw [show Pipeline.withArrays _ c (V0 m c) _ (Proc.tc.devRef main_v11_2) = _ from
    Pipeline.withArrays_arr (cfgs 0).spec launch0.win.arr_inj c (V0 m c) (fun w => (dats m 0 c).arrAt w (cfgs 0).N) 7]
  rfl

theorem tail_f : (tail m c main_v21 : FVec Ideal S2x8192x16 .f32) = transpose S2x8192x16 [0, 2, 1]
    ((dats m 0 c).arrAt 10 cfg0.N : FVec Ideal S2x16x8192 .f32) transposes_S2x16x8192_S2x8192x16_0_2_1 := by
  unfold tail Pipeline.afterTail₀
  simp only [hostOps1, List.flatten_cons, List.flatten_nil, List.append_nil, List.cons_append, List.nil_append]
  after_reads_simp
  rw [show Pipeline.withArrays _ c (V0 m c) _ (Proc.tc.devRef main_v11_5) = _ from
    Pipeline.withArrays_arr (cfgs 0).spec launch0.win.arr_inj c (V0 m c) (fun w => (dats m 0 c).arrAt w (cfgs 0).N) 10]

variable (s : Fin 2) (u : Fin 16) (r : Fin 512)

theorem q_entry (h g : Fin 4) (d : Fin 64) :
    (tail m c main_v16 : FVec Ideal S2x8192x16x64 .f32) (ix4 s (row u r) (⟨4 * h.val + g.val, by omega⟩ : Fin 16) d)
      = prj m c s (row u r) ⟨256 * h.val + 64 * g.val + d.val, by omega⟩ * base2 := by
  rw [tail_q, ← arr_q]
  generalize (dats m 0 c).arrAt 5 cfg0.N = y
  change FVec Ideal S2x4x16x128x2048 .bf16 at y
  pointwise []
  refine congrArg y (funext fun a => ?_)
  match a with
  | ⟨0, _⟩ => rfl
  | ⟨1, _⟩ => rfl
  | ⟨2, _⟩ => exact Fin.ext (by show (512 * u.val + r.val) / 512 = u.val; omega)
  | ⟨3, _⟩ => rfl
  | ⟨4, _⟩ => exact Fin.ext (by show g.val * 512 + (512 * u.val + r.val) % 512 = 512 * g.val + r.val; omega)

/-- The keys' and values' rows, back by tokens. -/
theorem by_token (y : FVec Ideal S2x256x8192 .f32) (s : Fin 2) (t : Fin 8192) (h : Fin 4) (d : Fin 64) :
    transpose S2x8192x4x64 [0, 3, 1, 2] (shapeCast S2x4x64x8192 y shapeCasts_S2x256x8192_S2x4x64x8192)
      transposes_S2x4x64x8192_S2x8192x4x64_0_3_1_2 (ix4 s t h d) = y (ix3 s ⟨64 * h.val + d.val, by omega⟩ t) := by
  pointwise []
  exact congrArg (fun i => y (ix3 s i t)) (Fin.ext (by dsimp only; omega))

theorem k_entry (h : Fin 4) (d : Fin 64) : (tail m c main_v18 : FVec Ideal S2x8192x4x64 .f32) (ix4 s (row u r) h d)
    = prj m c s (row u r) ⟨1024 + (64 * h.val + d.val), by omega⟩ := by
  rw [tail_k]
  refine Eq.trans ?_ (arr_k m c s u r ⟨64 * h.val + d.val, by omega⟩)
  generalize (dats m 0 c).arrAt 6 cfg0.N = y
  exact by_token ..

theorem v_entry (h : Fin 4) (d : Fin 64) : (tail m c main_v20 : FVec Ideal S2x8192x4x64 .f32) (ix4 s (row u r) h d)
    = prj m c s (row u r) ⟨1280 + (64 * h.val + d.val), by omega⟩ := by
  rw [tail_v]
  refine Eq.trans ?_ (arr_v m c s u r ⟨64 * h.val + d.val, by omega⟩)
  generalize (dats m 0 c).arrAt 7 cfg0.N = y
  exact by_token ..

theorem f_entry (j : Fin 16) : (tail m c main_v21 : FVec Ideal S2x8192x16 .f32) (ix3 s (row u r) j)
    = logSigmoid (prj m c s (row u r) ⟨1536 + j.val, by omega⟩ + argB m c (ix1 j)) := by
  rw [tail_f]
  refine Eq.trans ?_ (arr_f m c s u r j)
  generalize (dats m 0 c).arrAt 10 cfg0.N = y
  change FVec Ideal S2x16x8192 .f32 at y
  pointwise []

/-- The run's results. -/
theorem run_results : θ_run defs (onTc (τ := τ) (main (F := Ideal))) ⟨m, fun _ => 0, ρ⟩ fun r => ∀ c : Dev nD,
    r.2.mem ((c.tc : Thread nD τ).loc main_v16) = tail m c main_v16 ∧ r.2.mem ((c.tc : Thread nD τ).loc main_v18) = tail m c main_v18
    ∧ r.2.mem ((c.tc : Thread nD τ).loc main_v20) = tail m c main_v20 ∧ r.2.mem ((c.tc : Thread nD τ).loc main_v21) = tail m c main_v21
    ∧ r.2.mem ((c.tc : Thread nD τ).loc main_v11_6) = (dats m 0 c).arrAt 11 cfg0.N :=
  (θ_run defs _ _).mono (fun r h c => ⟨(h c).2 _ (Pipeline.mem_restRefs_of main_v16 (by decide) (by decide)),
    (h c).2 _ (Pipeline.mem_restRefs_of main_v18 (by decide) (by decide)), (h c).2 _ (Pipeline.mem_restRefs_of main_v20 (by decide) (by decide)),
    (h c).2 _ (Pipeline.mem_restRefs_of main_v21 (by decide) (by decide)), (h c).1 11⟩) (run_main m ρ)

end Cert.Proj.K3
-- ==== Proof.Proj.Ref3.lean ====
/-
  The reference's results, at an index.
-/
module

public import proofs.«01_k».proof.Proof.Proj.Rows
public import proofs.«01_k».proof.Proof.Gen.Reference3Ideal.Read
public import Idealize.ShloMosaic.Lib.Pipeline.ValueKit

@[expose] public section
set_option maxRecDepth 16384
noncomputable section
namespace Cert.Proj.R3
open Idealize.ShloMosaic Idealize.ShloMosaic.TcCoe Idealize.ShloMosaic.Tactic Cert.Proj Cert.Reference3Ideal Cert.Reference3Ideal.Gen Cert.Reference3Ideal.Read

variable (x : FVec Ideal S2x8192x1024 .f32) (g : FVec Ideal S1024 .f32) (w : FVec Ideal S1024x2576 .f32) (b : FVec Ideal S16 .f32)

theorem norm_row (s : Fin 2) (t : Fin 8192) (k : Fin 1024) :
    val_main_v12 (F := Ideal) x g (ix3 s t k) = Pool.rms (fun k => x (ix3 s t k)) (fun k => g (ix1 k)) k := by
  rw [val_main_v12_apply, val_main_v11_apply, val_main_v10_apply, val_main_v9_apply, val_main_v8_apply, val_main_v7_apply,
    val_main_v6_apply, val_main_v5_apply, val_main_v4_apply, val_main_v3_apply, val_main_v2_apply, val_main_v1_apply]
  simp only [val_main_v0_apply, val_main_cst_apply, val_main_cst_0_apply, val_main_cst_1_apply]
  have hs : ∀ j : Fin 1024, idx_main_v1 (idx_main_v2 (idx_main_v8 (ix3 s t k))) j = ix3 s t j := fun j => funext fun a => by
    match a with | ⟨0, _⟩ => rfl | ⟨1, _⟩ => rfl | ⟨2, _⟩ => rfl
  simp only [hs]
  rw [show idx_main_v10 (idx_main_v11 (ix3 s t k)) = ix1 k from funext fun a => by match a with | ⟨0, _⟩ => rfl]
  unfold Pool.rms Pool.eps Pool.width1024
  rw [show (FloatOps.ofBits (F := Ideal) .f32 0x00000000#32 : EReal) = 0 from Ideal.ofBits_zero_f32, zero_add]
  rfl

/-- Row `t` of sequence `s`, normalised, against column `j` of the weight. -/
abbrev prj (s : Fin 2) (t : Fin 8192) (j : Fin 2576) : EReal :=
  proj (fun k => x (ix3 s t k)) (fun k => g (ix1 k)) (fun k => w (ix2 k j))

theorem product (s : Fin 2) (t : Fin 8192) (j : Fin 2576) : val_main_v13 (F := Ideal) x g w (ix3 s t j) = prj x g w s t j := by
  unfold val_main_v13 prj proj
  simp only [← norm_row]
  generalize val_main_v12 (F := Ideal) x g = y
  pointwise []

theorem q_entry (s : Fin 2) (t : Fin 8192) (h g' : Fin 4) (d : Fin 64) :
    val_main_v24 (F := Ideal) x g w (ix4 s t (⟨4 * h.val + g'.val, by omega⟩ : Fin 16) d)
      = prj x g w s t ⟨256 * h.val + 64 * g'.val + d.val, by omega⟩ * base2 := by
  rw [← product]
  unfold val_main_v24 val_main_v19 val_main_v14 val_main_v23 val_main_v22 val_main_v21 val_main_v20 val_main_cst_2 val_main_cst_3
  generalize val_main_v13 (F := Ideal) x g w = y
  pointwise []
  exact congrArg₂ (· * ·) (congrArg (fun i => y (ix3 s t i)) (Fin.ext (by dsimp only; omega))) scale_word

theorem k_entry (s : Fin 2) (t : Fin 8192) (h : Fin 4) (d : Fin 64) :
    val_main_v29 (F := Ideal) x g w (ix4 s t h d) = prj x g w s t ⟨1024 + (64 * h.val + d.val), by omega⟩ := by
  rw [← product]
  unfold val_main_v29 val_main_v15
  generalize val_main_v13 (F := Ideal) x g w = y
  pointwise []
  exact congrArg (fun i => y (ix3 s t i)) (Fin.ext (by dsimp only; omega))

theorem v_entry (s : Fin 2) (t : Fin 8192) (h : Fin 4) (d : Fin 64) :
    val_main_v30 (F := Ideal) x g w (ix4 s t h d) = prj x g w s t ⟨1280 + (64 * h.val + d.val), by omega⟩ := by
  rw [← product]
  unfold val_main_v30 val_main_v16
  generalize val_main_v13 (F := Ideal) x g w = y
  pointwise []
  exact congrArg (fun i => y (ix3 s t i)) (Fin.ext (by dsimp only; omega))

theorem f_entry (s : Fin 2) (t : Fin 8192) (j : Fin 16) :
    val_main_v28 (F := Ideal) x g w b (ix3 s t j) = logSigmoid (prj x g w s t ⟨1536 + j.val, by omega⟩ + b (ix1 j)) := by
  rw [← product]
  have hv : val_main_v27 (F := Ideal) x g w b (ix3 s t j) = val_main_v13 (F := Ideal) x g w (ix3 s t ⟨1536 + j.val, by omega⟩) + b (ix1 j) := by
    unfold val_main_v27 val_main_v17 val_main_v26 val_main_v25
    generalize val_main_v13 (F := Ideal) x g w = y
    pointwise []
  rw [← hv]
  unfold val_main_v28 val_main_call0_v1 val_main_call0_call0_v11 val_main_call0_call0_v10 val_main_call0_call0_v9 val_main_call0_call0_v8
    val_main_call0_call0_v7 val_main_call0_call0_v6 val_main_call0_call0_v5 val_main_call0_call0_v4 val_main_call0_call0_v3 val_main_call0_call0_v2
    val_main_call0_call0_v1 val_main_call0_call0_v0 val_main_call0_v0 val_main_call0_call0_cst
  generalize val_main_v27 (F := Ideal) x g w b = y
  pointwise []
  rw [if_neg (fun h => h rfl)]
  unfold logSigmoid
  rw [show FloatOps.absf (F := Ideal) (φ := .f32) (-y (ix3 s t j)) = max (-y (ix3 s t j)) (- -y (ix3 s t j)) from rfl, neg_neg, max_comm (-y (ix3 s t j)) (y (ix3 s t j))]

theorem gate_entry (s : Fin 2) (t : Fin 8192) (j : Fin 1024) :
    val_main_v31 (F := Ideal) x g w (ix2 (⟨8192 * s.val + t.val, by omega⟩ : Fin 16384) j) = prj x g w s t ⟨1552 + j.val, by omega⟩ := by
  rw [← product]
  unfold val_main_v31 val_main_v18
  generalize val_main_v13 (F := Ideal) x g w = y
  pointwise []

end Cert.Proj.R3
-- ==== Proof.Proj.Agree3.lean ====
/-
  The projection into the forgetting attention: the program's results are the reference's.
-/
module

public import proofs.«01_k».proof.Defs
public import proofs.«01_k».proof.Proof.Gen.Kernel3
public import proofs.«01_k».proof.Proof.Gen.Kernel3.Frame
public import proofs.«01_k».proof.Proof.Gen.Kernel3Ideal.Frame
public import proofs.«01_k».proof.Proof.Gen.Reference3Ideal
public import proofs.«01_k».proof.Proof.Gen.Reference3Ideal.Read
public import proofs.«01_k».proof.Proof.Gen.Reference3Ideal.Run
public import proofs.«01_k».proof.Proof.Proj.Run3
public import proofs.«01_k».proof.Proof.Proj.Ref3

@[expose] public section
set_option backward.proofsInPublic true
noncomputable section
namespace Cert.Proj.K3
open Idealize.ShloMosaic Idealize.ShloMosaic.TcCoe Idealize.SL.Sem

variable (m : (ℓ : Loc Kernel3Ideal.nD Kernel3Ideal.τ Kernel3Ideal.sig) → Buf (Elt Ideal) ℓ) (c : Dev Kernel3Ideal.nD)

/-- A token is a row of a tile. -/
theorem row_split (t : Fin 8192) : t = row (⟨t.val / 512, by omega⟩ : Fin 16) ⟨t.val % 512, by omega⟩ := Fin.ext (by dsimp only; omega)

theorem agree_q : Reference3Ideal.Read.val_main_v24 (F := Ideal) (argX m c) (argG m c) (argW m c) = tail m c Kernel3Ideal.main_v16 := by
  funext i
  have hh : (i 2).val < 16 := (i 2).isLt
  have ei : i = ix4 (i 0) (row (⟨(i 1).val / 512, by have : (i 1).val < 8192 := (i 1).isLt; omega⟩ : Fin 16) ⟨(i 1).val % 512, by omega⟩)
      (⟨4 * ((i 2).val / 4) + (i 2).val % 4, by omega⟩ : Fin 16) (i 3) := funext fun a => by
    match a with
    | ⟨0, _⟩ => rfl
    | ⟨1, _⟩ => exact row_split (i 1)
    | ⟨2, _⟩ => exact Fin.ext (by show (i 2).val = 4 * ((i 2).val / 4) + (i 2).val % 4; omega)
    | ⟨3, _⟩ => rfl
  rw [ei]
  exact (R3.q_entry _ _ _ _ _ ⟨(i 2).val / 4, by omega⟩ ⟨(i 2).val % 4, by omega⟩ _).trans
    (q_entry m c _ _ _ ⟨(i 2).val / 4, by omega⟩ ⟨(i 2).val % 4, by omega⟩ _).symm

theorem agree_k : Reference3Ideal.Read.val_main_v29 (F := Ideal) (argX m c) (argG m c) (argW m c) = tail m c Kernel3Ideal.main_v18 := by
  funext i
  have ei : i = ix4 (i 0) (row (⟨(i 1).val / 512, by have : (i 1).val < 8192 := (i 1).isLt; omega⟩ : Fin 16) ⟨(i 1).val % 512, by omega⟩) (i 2) (i 3) :=
    funext fun a => by match a with | ⟨0, _⟩ => rfl | ⟨1, _⟩ => exact row_split (i 1) | ⟨2, _⟩ => rfl | ⟨3, _⟩ => rfl
  rw [ei]
  exact (R3.k_entry ..).trans (k_entry m c ..).symm

theorem agree_v : Reference3Ideal.Read.val_main_v30 (F := Ideal) (argX m c) (argG m c) (argW m c) = tail m c Kernel3Ideal.main_v20 := by
  funext i
  have ei : i = ix4 (i 0) (row (⟨(i 1).val / 512, by have : (i 1).val < 8192 := (i 1).isLt; omega⟩ : Fin 16) ⟨(i 1).val % 512, by omega⟩) (i 2) (i 3) :=
    funext fun a => by match a with | ⟨0, _⟩ => rfl | ⟨1, _⟩ => exact row_split (i 1) | ⟨2, _⟩ => rfl | ⟨3, _⟩ => rfl
  rw [ei]
  exact (R3.v_entry ..).trans (v_entry m c ..).symm

theorem agree_f : Reference3Ideal.Read.val_main_v28 (F := Ideal) (argX m c) (argG m c) (argW m c) (argB m c) = tail m c Kernel3Ideal.main_v21 := by
  funext i
  have ei : i = ix3 (i 0) (row (⟨(i 1).val / 512, by have : (i 1).val < 8192 := (i 1).isLt; omega⟩ : Fin 16) ⟨(i 1).val % 512, by omega⟩) (i 2) :=
    funext fun a => by match a with | ⟨0, _⟩ => rfl | ⟨1, _⟩ => exact row_split (i 1) | ⟨2, _⟩ => rfl
  rw [ei]
  exact (R3.f_entry ..).trans (f_entry m c ..).symm

theorem agree_gate : Reference3Ideal.Read.val_main_v31 (F := Ideal) (argX m c) (argG m c) (argW m c)
    = (Kernel3Ideal.Gen.dats m 0 c).arrAt 11 Kernel3Ideal.cfg0.N := by
  funext i
  have h0 : (i 0).val < 16384 := (i 0).isLt
  have ei : i = ix2 (⟨8192 * ((i 0).val / 8192) + (512 * ((i 0).val % 8192 / 512) + (i 0).val % 512), by omega⟩ : Fin 16384) (i 1) := funext fun a => by
    match a with
    | ⟨0, _⟩ => exact Fin.ext (by show (i 0).val = 8192 * ((i 0).val / 8192) + (512 * ((i 0).val % 8192 / 512) + (i 0).val % 512); omega)
    | ⟨1, _⟩ => rfl
  rw [ei]
  exact (R3.gate_entry _ _ _ ⟨(i 0).val / 8192, by omega⟩ (row ⟨(i 0).val % 8192 / 512, by omega⟩ ⟨(i 0).val % 512, by omega⟩) (i 1)).trans
    (arr_gate m c ⟨(i 0).val / 8192, by omega⟩ ⟨(i 0).val % 8192 / 512, by omega⟩ ⟨(i 0).val % 512, by omega⟩ (i 1)).symm

/-- The reference's run leaves the arguments alone, and it has no semaphore. -/
theorem frame_reference : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

/-- The projection's value claim. -/
theorem value_projection : Cert.algebraic_Kernel3Ideal_Reference3Ideal := by
  intro m ρ m' ρ' _ hagree
  refine ⟨fun c => tail m c Kernel3Ideal.main_v16, fun c => tail m c Kernel3Ideal.main_v18, fun c => tail m c Kernel3Ideal.main_v20,
    fun c => tail m c Kernel3Ideal.main_v21, fun c => (Kernel3Ideal.Gen.dats m 0 c).arrAt 11 Kernel3Ideal.cfg0.N, ?_, ?_⟩
  · refine (θ_run Cert.Kernel3Ideal.defs _ _).mono (fun r h c => ?_) (θ_run_and (run_results m ρ) (Kernel3Ideal.Gen.frame m ρ))
    obtain ⟨hq, hk, hv, hf, hg⟩ := h.1 c
    exact ⟨hq, hk, hv, hf, hg, h.2.1 c⟩
  · refine (θ_run Cert.Reference3Ideal.defs _ _).mono (fun r h c => ?_) (Cert.Reference3Ideal.Value.run (F := Ideal) m' ρ')
    obtain ⟨h0, h1, h2, h3⟩ := hagree c
    obtain ⟨hq, hk, hv, hf, hg, hargs⟩ := h c
    replace hf := hf.trans (Cert.Reference3Ideal.Read.val_main_v28_eq m' c)
    rw [h0, h1, h2] at hq hk hv hg
    rw [h0, h1, h2, h3] at hf
    exact ⟨hq.trans (agree_q m c), hk.trans (agree_k m c), hv.trans (agree_v m c), hf.trans (agree_f m c), hg.trans (agree_gate m c), hargs⟩

end Cert.Proj.K3
-- ==== Proof.lean ====
/-
  The certificate.  Of the pooling layer, the forgetting attention and the projections into the two attentions over the prompt,
  and of the projection, the pooling layer and the windowed attention for one new token of every sequence: the kernel's and the reference's runs without
  fault, the kernel read over the extended reals, and the equality of their results there (the modules Agree).
-/
module

public import proofs.«01_k».proof.Defs
public import proofs.«01_k».proof.Proof.Gen.Kernel
public import proofs.«01_k».proof.Proof.Gen.Kernel.Frame
public import proofs.«01_k».proof.Proof.Pool.Agree
public import proofs.«01_k».proof.Proof.FoxBits.Frame
public import proofs.«01_k».proof.Proof.Fox.Agree
public import proofs.«01_k».proof.Proof.Proj.Agree4
public import proofs.«01_k».proof.Proof.Sample.Agree5
public import proofs.«01_k».proof.Proof.Sample.Agree6
public import proofs.«01_k».proof.Proof.Sample.Agree7
public import proofs.«01_k».proof.Proof.Proj.Agree3
public import Idealize.ShloMosaic.Adequacy
public import Idealize.ShloMosaic.Init

@[expose] public section

noncomputable section

namespace Cert.Proof

open Idealize.ShloMosaic Idealize.SL.Sem

/-- The pooling layer's reference: its run leaves the arguments alone, and it has no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The pooling layer's value claim. -/
theorem value_pool : Cert.algebraic_KernelIdeal_ReferenceIdeal := by
  intro m ρ m' ρ' _ hagree
  refine ⟨fun c => Cert.KernelIdeal.Value.G10 m c, fun c => Cert.KernelIdeal.Value.G11 m c, Cert.KernelIdeal.Value.run (F := Ideal) m ρ, ?_⟩
  refine (θ_run Cert.ReferenceIdeal.defs _ _).mono (fun r h c => ?_) (Cert.ReferenceIdeal.Value.run (F := Ideal) m' ρ')
  obtain ⟨h0, h1, h2, h3, h4, h5, h6, h7, h8, h9⟩ := hagree c
  refine ⟨((h c).1.trans (Cert.ReferenceIdeal.Read.val_main_v91_eq m' c)).trans ?_,
    ((h c).2.1.trans (Cert.ReferenceIdeal.Read.val_main_v92_eq _ _ _ _ _ _)).trans ?_, (h c).2.2⟩
  · rw [h0, h1, h2, h3, h4, h5, h6, h7, h8, h9]
    exact Cert.Pool.out_agree m c
  · rw [h0, h1, h2, h3, h4, h5]
    exact Cert.Pool.tail_agree m c

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite.Gen.facts,
  fun m ρ _ => Cert.Kernel.Gen.frame m ρ, fun m ρ _ => Cert.KernelIdeal.Gen.frame m ρ, frame_reference,
  fun m ρ _ => FoxBits.frame m ρ, fun m ρ _ => Fox.frame m ρ, fun m ρ _ => Fox.frame m ρ,
  Fox.frame_reference, fun m ρ _ => Fox.frame_reference m ρ trivial,
  fun m ρ _ => Cert.Kernel3.Gen.frame m ρ, fun m ρ _ => Cert.Kernel3Ideal.Gen.frame m ρ, Proj.K3.frame_reference,
  fun m ρ _ => Cert.Kernel4.Gen.frame m ρ, fun m ρ _ => Cert.Kernel4Ideal.Gen.frame m ρ, Proj.K4.frame_reference,
  fun m ρ _ => Cert.Kernel5.Gen.frame m ρ, fun m ρ _ => Cert.Kernel5Ideal.Gen.frame m ρ, Proj.K5.frame_reference,
  fun m ρ _ => Cert.Kernel6.Gen.frame m ρ, fun m ρ _ => Cert.Kernel6Ideal.Gen.frame m ρ, Pool.K6.frame_reference,
  fun m ρ _ => Cert.Kernel7.Gen.frame m ρ, fun m ρ _ => Cert.Kernel7Ideal.Gen.frame m ρ, Swa.K7.frame_reference,
  trivial, value_pool, IdealRules.named_const.statement _ _ _ _ _ rfl, Fox.value_attention,
  IdealRules.named_const.statement _ _ _ _ _ rfl, Proj.K3.value_projection,
  IdealRules.named_const.statement _ _ _ _ _ rfl, Proj.K4.value_projection,
  trivial, Proj.K5.value_projection, trivial, Pool.K6.value_pooling,
  trivial, Swa.K7.value_window⟩

end Cert.Proof

end
